-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6)
      ∧ r.2.mem ((c.tc : Thread Cert.Kernel10.nD Cert.Kernel10.τ).loc Cert.Kernel10.main_arg7) = m ((c.tc : Thread Cert.Kernel10.nD Cert.Kernel10.τ).loc Cert.Kernel10.main_arg7))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
      ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6)
      ∧ r.2.mem ((c.tc : Thread Cert.Reference10Ideal.nD Cert.Reference10Ideal.τ).loc Cert.Reference10Ideal.main_arg7) = m ((c.tc : Thread Cert.Reference10Ideal.nD Cert.Reference10Ideal.τ).loc Cert.Reference10Ideal.main_arg7))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4))
      ∧ r.2.sem = fun _ => 0)

def preserves_Kernel_KernelIdeal : Prop :=
  IdealRules.named_const.Statement Cert.KernelIdeal.κ "inv_sqrt2" .f32 0x3F3504F3#32 (((Real.sqrt 2)⁻¹ : ℝ) : EReal)
  ∧ IdealRules.named_const.Statement Cert.KernelIdeal.κ "inv_sqrt_2pi" .f32 0x3ECC422A#32 (((Real.sqrt (2 * Real.pi))⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_v5_2)) (v3 : (c : Dev Cert.KernelIdeal.nD) → Buf (Elt Ideal) ((c.tc : Thread Cert.KernelIdeal.nD Cert.KernelIdeal.τ).loc Cert.KernelIdeal.main_v5_3)) (v4 : (c : Dev Cert.KernelIdeal.nD) → Buf (Elt Ideal) ((c.tc : Thread Cert.KernelIdeal.nD Cert.KernelIdeal.τ).loc Cert.KernelIdeal.main_v5_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_v5_2) = v2 c
          ∧ r.2.mem ((c.tc : Thread Cert.KernelIdeal.nD Cert.KernelIdeal.τ).loc Cert.KernelIdeal.main_v5_3) = v3 c
          ∧ r.2.mem ((c.tc : Thread Cert.KernelIdeal.nD Cert.KernelIdeal.τ).loc Cert.KernelIdeal.main_v5_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v112) = v0 c
          ∧ r.2.mem ((c.tc : Thread Cert.ReferenceIdeal.nD Cert.ReferenceIdeal.τ).loc Cert.ReferenceIdeal.main_v113) = v1 c
          ∧ r.2.mem ((c.tc : Thread Cert.ReferenceIdeal.nD Cert.ReferenceIdeal.τ).loc Cert.ReferenceIdeal.main_v114) = v2 c
          ∧ r.2.mem ((c.tc : Thread Cert.ReferenceIdeal.nD Cert.ReferenceIdeal.τ).loc Cert.ReferenceIdeal.main_v77) = v3 c
          ∧ r.2.mem ((c.tc : Thread Cert.ReferenceIdeal.nD Cert.ReferenceIdeal.τ).loc Cert.ReferenceIdeal.main_v115) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v1_0)) (v1 : (c : Dev Cert.Kernel2Ideal.nD) → Buf (Elt Ideal) ((c.tc : Thread Cert.Kernel2Ideal.nD Cert.Kernel2Ideal.τ).loc Cert.Kernel2Ideal.main_v1_1)) (v2 : (c : Dev Cert.Kernel2Ideal.nD) → Buf (Elt Ideal) ((c.tc : Thread Cert.Kernel2Ideal.nD Cert.Kernel2Ideal.τ).loc Cert.Kernel2Ideal.main_v1_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1_0) = v0 c
          ∧ r.2.mem ((c.tc : Thread Cert.Kernel2Ideal.nD Cert.Kernel2Ideal.τ).loc Cert.Kernel2Ideal.main_v1_1) = v1 c
          ∧ r.2.mem ((c.tc : Thread Cert.Kernel2Ideal.nD Cert.Kernel2Ideal.τ).loc Cert.Kernel2Ideal.main_v1_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v42) = v0 c
          ∧ r.2.mem ((c.tc : Thread Cert.Reference2Ideal.nD Cert.Reference2Ideal.τ).loc Cert.Reference2Ideal.main_v43) = v1 c
          ∧ r.2.mem ((c.tc : Thread Cert.Reference2Ideal.nD Cert.Reference2Ideal.τ).loc Cert.Reference2Ideal.main_v44) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v8) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)) →
    ∃ (v0 : (c : Dev Cert.Kernel6Ideal.nD) → Buf (Elt Ideal) ((c.tc : Thread Cert.Kernel6Ideal.nD Cert.Kernel6Ideal.τ).loc Cert.Kernel6Ideal.main_v1_0)) (v1 : (c : Dev Cert.Kernel6Ideal.nD) → Buf (Elt Ideal) ((c.tc : Thread Cert.Kernel6Ideal.nD Cert.Kernel6Ideal.τ).loc Cert.Kernel6Ideal.main_v1_1)) (v2 : (c : Dev Cert.Kernel6Ideal.nD) → Buf (Elt Ideal) ((c.tc : Thread Cert.Kernel6Ideal.nD Cert.Kernel6Ideal.τ).loc Cert.Kernel6Ideal.main_v1_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1_0) = v0 c
          ∧ r.2.mem ((c.tc : Thread Cert.Kernel6Ideal.nD Cert.Kernel6Ideal.τ).loc Cert.Kernel6Ideal.main_v1_1) = v1 c
          ∧ r.2.mem ((c.tc : Thread Cert.Kernel6Ideal.nD Cert.Kernel6Ideal.τ).loc Cert.Kernel6Ideal.main_v1_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v45) = v0 c
          ∧ r.2.mem ((c.tc : Thread Cert.Reference6Ideal.nD Cert.Reference6Ideal.τ).loc Cert.Reference6Ideal.main_v46) = v1 c
          ∧ r.2.mem ((c.tc : Thread Cert.Reference6Ideal.nD Cert.Reference6Ideal.τ).loc Cert.Reference6Ideal.main_v47) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v11) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v5) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v7) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)
      ∧ m' ((c.tc : Thread Cert.Reference10Ideal.nD Cert.Reference10Ideal.τ).loc Cert.Reference10Ideal.main_arg7) = m ((c.tc : Thread Cert.Kernel10Ideal.nD Cert.Kernel10Ideal.τ).loc Cert.Kernel10Ideal.main_arg7)) →
    ∃ (v0 : (c : Dev Cert.Kernel10Ideal.nD) → Buf (Elt Ideal) ((c.tc : Thread Cert.Kernel10Ideal.nD Cert.Kernel10Ideal.τ).loc Cert.Kernel10Ideal.main_v1_0)) (v1 : (c : Dev Cert.Kernel10Ideal.nD) → Buf (Elt Ideal) ((c.tc : Thread Cert.Kernel10Ideal.nD Cert.Kernel10Ideal.τ).loc Cert.Kernel10Ideal.main_v1_1)) (v2 : (c : Dev Cert.Kernel10Ideal.nD) → Buf (Elt Ideal) ((c.tc : Thread Cert.Kernel10Ideal.nD Cert.Kernel10Ideal.τ).loc Cert.Kernel10Ideal.main_v1_2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v1_0) = v0 c
          ∧ r.2.mem ((c.tc : Thread Cert.Kernel10Ideal.nD Cert.Kernel10Ideal.τ).loc Cert.Kernel10Ideal.main_v1_1) = v1 c
          ∧ r.2.mem ((c.tc : Thread Cert.Kernel10Ideal.nD Cert.Kernel10Ideal.τ).loc Cert.Kernel10Ideal.main_v1_2) = v2 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
          ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v4) = v0 c
          ∧ r.2.mem ((c.tc : Thread Cert.Reference10Ideal.nD Cert.Reference10Ideal.τ).loc Cert.Reference10Ideal.main_v21) = v1 c
          ∧ r.2.mem ((c.tc : Thread Cert.Reference10Ideal.nD Cert.Reference10Ideal.τ).loc Cert.Reference10Ideal.main_v22) = v2 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6)
          ∧ r.2.mem ((c.tc : Thread Cert.Reference10Ideal.nD Cert.Reference10Ideal.τ).loc Cert.Reference10Ideal.main_arg7) = m' ((c.tc : Thread Cert.Reference10Ideal.nD Cert.Reference10Ideal.τ).loc Cert.Reference10Ideal.main_arg7))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v1_0)) (v1 : (c : Dev Cert.Kernel11Ideal.nD) → Buf (Elt Ideal) ((c.tc : Thread Cert.Kernel11Ideal.nD Cert.Kernel11Ideal.τ).loc Cert.Kernel11Ideal.main_v1_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v1_0) = v0 c
          ∧ r.2.mem ((c.tc : Thread Cert.Kernel11Ideal.nD Cert.Kernel11Ideal.τ).loc Cert.Kernel11Ideal.main_v1_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v16) = v0 c
          ∧ r.2.mem ((c.tc : Thread Cert.Reference11Ideal.nD Cert.Reference11Ideal.τ).loc Cert.Reference11Ideal.main_v17) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v3) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)) →
    ∃ (v0 : (c : Dev Cert.Kernel13Ideal.nD) → Buf (Elt Ideal) ((c.tc : Thread Cert.Kernel13Ideal.nD Cert.Kernel13Ideal.τ).loc Cert.Kernel13Ideal.main_v1_0)) (v1 : (c : Dev Cert.Kernel13Ideal.nD) → Buf (Elt Ideal) ((c.tc : Thread Cert.Kernel13Ideal.nD Cert.Kernel13Ideal.τ).loc Cert.Kernel13Ideal.main_v1_1)) (v2 : (c : Dev Cert.Kernel13Ideal.nD) → Buf (Elt Ideal) ((c.tc : Thread Cert.Kernel13Ideal.nD Cert.Kernel13Ideal.τ).loc Cert.Kernel13Ideal.main_v1_2)) (v3 : (c : Dev Cert.Kernel13Ideal.nD) → Buf (Elt Ideal) ((c.tc : Thread Cert.Kernel13Ideal.nD Cert.Kernel13Ideal.τ).loc Cert.Kernel13Ideal.main_v1_3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v1_0) = v0 c
          ∧ r.2.mem ((c.tc : Thread Cert.Kernel13Ideal.nD Cert.Kernel13Ideal.τ).loc Cert.Kernel13Ideal.main_v1_1) = v1 c
          ∧ r.2.mem ((c.tc : Thread Cert.Kernel13Ideal.nD Cert.Kernel13Ideal.τ).loc Cert.Kernel13Ideal.main_v1_2) = v2 c
          ∧ r.2.mem ((c.tc : Thread Cert.Kernel13Ideal.nD Cert.Kernel13Ideal.τ).loc Cert.Kernel13Ideal.main_v1_3) = v3 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v54) = v0 c
          ∧ r.2.mem ((c.tc : Thread Cert.Reference13Ideal.nD Cert.Reference13Ideal.τ).loc Cert.Reference13Ideal.main_v55) = v1 c
          ∧ r.2.mem ((c.tc : Thread Cert.Reference13Ideal.nD Cert.Reference13Ideal.τ).loc Cert.Reference13Ideal.main_v56) = v2 c
          ∧ r.2.mem ((c.tc : Thread Cert.Reference13Ideal.nD Cert.Reference13Ideal.τ).loc Cert.Reference13Ideal.main_v57) = v3 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v75) = v0 c
          ∧ r.2.mem ((c.tc : Thread Cert.Reference14Ideal.nD Cert.Reference14Ideal.τ).loc Cert.Reference14Ideal.main_v68) = v1 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v56) = v0 c
          ∧ r.2.mem ((c.tc : Thread Cert.Reference15Ideal.nD Cert.Reference15Ideal.τ).loc Cert.Reference15Ideal.main_v58) = v1 c
          ∧ r.2.mem ((c.tc : Thread Cert.Reference15Ideal.nD Cert.Reference15Ideal.τ).loc Cert.Reference15Ideal.main_v60) = v2 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v33) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  IdealRules.named_const.Statement Cert.Kernel17Ideal.κ "inv_sqrt2" .f32 0x3F3504F3#32 (((Real.sqrt 2)⁻¹ : ℝ) : EReal)

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)
      ∧ m' ((c.tc : Thread Cert.Reference17Ideal.nD Cert.Reference17Ideal.τ).loc Cert.Reference17Ideal.main_arg4) = m ((c.tc : Thread Cert.Kernel17Ideal.nD Cert.Kernel17Ideal.τ).loc Cert.Kernel17Ideal.main_arg4)) →
    ∃ (v0 : (c : Dev Cert.Kernel17Ideal.nD) → Buf (Elt Ideal) ((c.tc : Thread Cert.Kernel17Ideal.nD Cert.Kernel17Ideal.τ).loc Cert.Kernel17Ideal.main_v5)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v5) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v49) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3)
          ∧ r.2.mem ((c.tc : Thread Cert.Reference17Ideal.nD Cert.Reference17Ideal.τ).loc Cert.Reference17Ideal.main_arg4) = m' ((c.tc : Thread Cert.Reference17Ideal.nD Cert.Reference17Ideal.τ).loc Cert.Reference17Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
-- ==== Pre_finite.lean ====
abbrev S8192x2560 : Shape := ⟨2, ![8192, 2560]⟩
abbrev S256 : Shape := ⟨1, ![256]⟩
abbrev S4x128x128 : Shape := ⟨3, ![4, 128, 128]⟩
abbrev S4x128 : Shape := ⟨2, ![4, 128]⟩
abbrev S8192x1024 : Shape := ⟨2, ![8192, 1024]⟩
abbrev S_ : Shape := ⟨0, ![]⟩

class Facts : Prop where
  bitsLt_bf16_f32 : FTy.bits .bf16 < FTy.bits .f32
  bcast_S_S8192x2560 : S_.BroadcastsInDim S8192x2560 (![] : Fin 0 → Fin S8192x2560.rank)
  reducesTo_S8192x2560_S_d0_1 : S8192x2560.ReducesTo [0, 1] S_
  h_S_ : 0 < S_.numel
  bcast_S_S256 : S_.BroadcastsInDim S256 (![] : Fin 0 → Fin S256.rank)
  reducesTo_S256_S_d0 : S256.ReducesTo [0] S_
  bcast_S_S4x128x128 : S_.BroadcastsInDim S4x128x128 (![] : Fin 0 → Fin S4x128x128.rank)
  reducesTo_S4x128x128_S_d0_1_2 : S4x128x128.ReducesTo [0, 1, 2] S_
  bcast_S_S4x128 : S_.BroadcastsInDim S4x128 (![] : Fin 0 → Fin S4x128.rank)
  reducesTo_S4x128_S_d0_1 : S4x128.ReducesTo [0, 1] S_
  bcast_S_S8192x1024 : S_.BroadcastsInDim S8192x1024 (![] : Fin 0 → Fin S8192x1024.rank)
  reducesTo_S8192x1024_S_d0_1 : S8192x1024.ReducesTo [0, 1] S_

variable [Facts]

def fn_part1 {F : FTy → Type} [FloatOps F] (main_arg4 : FVec F S4x128 .f32) (main_arg5 : FVec F S8192x1024 .bf16) (main_v14 : IVec S_ 1) (main_v15 : FVec F S4x128x128 .f32) (main_v16 : FVec F S4x128x128 .f32) : IVec S_ 1 :=
  let main_v17 : IVec S4x128x128 1 := cmpf .olt main_v15 main_v16
  let main_c_5 : IVec S_ 1 := constantI S_ 1 1#1
  let main_v18 : IVec S_ 1 := (fun x v => Host.reduce IntOp.andi x v reducesTo_S4x128x128_S_d0_1_2 h_S_) main_v17 main_c_5
  let main_v19 : IVec S_ 1 := andi main_v14 main_v18
  let main_v20 : FVec F S4x128 .f32 := Host.absf main_arg4
  let main_cst_6 : FVec F S_ .f32 := constant S_ .f32 0x7F800000#32
  let main_v21 : FVec F S4x128 .f32 := broadcastInDim S4x128 ![] bcast_S_S4x128 main_cst_6
  let main_v22 : IVec S4x128 1 := cmpf .olt main_v20 main_v21
  let main_c_7 : IVec S_ 1 := constantI S_ 1 1#1
  let main_v23 : IVec S_ 1 := (fun x v => Host.reduce IntOp.andi x v reducesTo_S4x128_S_d0_1 h_S_) main_v22 main_c_7
  let main_v24 : IVec S_ 1 := andi main_v19 main_v23
  let main_v25 : FVec F S8192x1024 .f32 := (extf .f32 · bitsLt_bf16_f32) main_arg5
  let main_v26 : FVec F S8192x1024 .f32 := Host.absf main_v25
  let main_cst_8 : FVec F S_ .f32 := constant S_ .f32 0x7F800000#32
  let main_v27 : FVec F S8192x1024 .f32 := broadcastInDim S8192x1024 ![] bcast_S_S8192x1024 main_cst_8
  let main_v28 : IVec S8192x1024 1 := cmpf .olt main_v26 main_v27
  let main_c_9 : IVec S_ 1 := constantI S_ 1 1#1
  let main_v29 : IVec S_ 1 := (fun x v => Host.reduce IntOp.andi x v reducesTo_S8192x1024_S_d0_1 h_S_) main_v28 main_c_9
  let main_v30 : IVec S_ 1 := andi main_v24 main_v29
  main_v30

def fn {F : FTy → Type} [FloatOps F] (main_arg0 : FVec F S8192x2560 .bf16) (main_arg1 : FVec F S256 .f32) (main_arg2 : FVec F S256 .f32) (main_arg3 : FVec F S4x128x128 .f32) (main_arg4 : FVec F S4x128 .f32) (main_arg5 : FVec F S8192x1024 .bf16) : IVec S_ 1 :=
  let main_v0 : FVec F S8192x2560 .f32 := (extf .f32 · bitsLt_bf16_f32) main_arg0
  let main_v1 : FVec F S8192x2560 .f32 := Host.absf main_v0
  let main_cst : FVec F S_ .f32 := constant S_ .f32 0x7F800000#32
  let main_v2 : FVec F S8192x2560 .f32 := broadcastInDim S8192x2560 ![] bcast_S_S8192x2560 main_cst
  let main_v3 : IVec S8192x2560 1 := cmpf .olt main_v1 main_v2
  let main_c : IVec S_ 1 := constantI S_ 1 1#1
  let main_v4 : IVec S_ 1 := (fun x v => Host.reduce IntOp.andi x v reducesTo_S8192x2560_S_d0_1 h_S_) main_v3 main_c
  let main_v5 : FVec F S256 .f32 := Host.absf main_arg1
  let main_cst_0 : FVec F S_ .f32 := constant S_ .f32 0x7F800000#32
  let main_v6 : FVec F S256 .f32 := broadcastInDim S256 ![] bcast_S_S256 main_cst_0
  let main_v7 : IVec S256 1 := cmpf .olt main_v5 main_v6
  let main_c_1 : IVec S_ 1 := constantI S_ 1 1#1
  let main_v8 : IVec S_ 1 := (fun x v => Host.reduce IntOp.andi x v reducesTo_S256_S_d0 h_S_) main_v7 main_c_1
  let main_v9 : IVec S_ 1 := andi main_v4 main_v8
  let main_v10 : FVec F S256 .f32 := Host.absf main_arg2
  let main_cst_2 : FVec F S_ .f32 := constant S_ .f32 0x7F800000#32
  let main_v11 : FVec F S256 .f32 := broadcastInDim S256 ![] bcast_S_S256 main_cst_2
  let main_v12 : IVec S256 1 := cmpf .olt main_v10 main_v11
  let main_c_3 : IVec S_ 1 := constantI S_ 1 1#1
  let main_v13 : IVec S_ 1 := (fun x v => Host.reduce IntOp.andi x v reducesTo_S256_S_d0 h_S_) main_v12 main_c_3
  let main_v14 : IVec S_ 1 := andi main_v9 main_v13
  let main_v15 : FVec F S4x128x128 .f32 := Host.absf main_arg3
  let main_cst_4 : FVec F S_ .f32 := constant S_ .f32 0x7F800000#32
  let main_v16 : FVec F S4x128x128 .f32 := broadcastInDim S4x128x128 ![] bcast_S_S4x128x128 main_cst_4
  fn_part1 (F := F) main_arg4 main_arg5 main_v14 main_v15 main_v16
-- ==== Kernel.lean ====
abbrev S8192x2560 : Shape := ⟨2, ![8192, 2560]⟩
abbrev S256 : Shape := ⟨1, ![256]⟩
abbrev S4x128x128 : Shape := ⟨3, ![4, 128, 128]⟩
abbrev S4x128 : Shape := ⟨2, ![4, 128]⟩
abbrev S8192x1024 : Shape := ⟨2, ![8192, 1024]⟩
abbrev S128x4 : Shape := ⟨2, ![128, 4]⟩
abbrev S128x4x64 : Shape := ⟨3, ![128, 4, 64]⟩
abbrev S128x256 : Shape := ⟨2, ![128, 256]⟩
abbrev S1x256 : Shape := ⟨2, ![1, 256]⟩
abbrev S8192x512 : Shape := ⟨2, ![8192, 512]⟩
abbrev S2048x256 : Shape := ⟨2, ![2048, 256]⟩
abbrev S2048x512 : Shape := ⟨2, ![2048, 512]⟩
abbrev S2048 : Shape := ⟨1, ![2048]⟩
abbrev S2048x1 : Shape := ⟨2, ![2048, 1]⟩
abbrev S16x128x256 : Shape := ⟨3, ![16, 128, 256]⟩
abbrev S128x128 : Shape := ⟨2, ![128, 128]⟩
abbrev S1x128x128 : Shape := ⟨3, ![1, 128, 128]⟩
abbrev S16x128x128 : Shape := ⟨3, ![16, 128, 128]⟩
abbrev S1x1x256 : Shape := ⟨3, ![1, 1, 256]⟩
abbrev S1x128x256 : Shape := ⟨3, ![1, 128, 256]⟩
abbrev S128x1 : Shape := ⟨2, ![128, 1]⟩
abbrev S128 : Shape := ⟨1, ![128]⟩

abbrev nBuf : Space → Nat
  | .hbm => 16
  | .vmem => 16
  | .smem => 0
  | _ => 0

abbrev bufTy : (tb : Table) → Fin (tcTables nBuf tb) → BufTy
  | .hbm, ⟨0, _⟩ => ⟨S8192x2560, .bf16⟩
  | .hbm, ⟨1, _⟩ => ⟨S256, .f32⟩
  | .hbm, ⟨2, _⟩ => ⟨S256, .f32⟩
  | .hbm, ⟨3, _⟩ => ⟨S4x128x128, .f32⟩
  | .hbm, ⟨4, _⟩ => ⟨S4x128, .f32⟩
  | .hbm, ⟨5, _⟩ => ⟨S8192x1024, .bf16⟩
  | .hbm, ⟨6, _⟩ => ⟨S128x4, .f32⟩
  | .hbm, ⟨7, _⟩ => ⟨S128x4x64, .f32⟩
  | .hbm, ⟨8, _⟩ => ⟨S128x256, .f32⟩
  | .hbm, ⟨9, _⟩ => ⟨S1x256, .f32⟩
  | .hbm, ⟨10, _⟩ => ⟨S1x256, .f32⟩
  | .hbm, ⟨11, _⟩ => ⟨S8192x512, .bf16⟩
  | .hbm, ⟨12, _⟩ => ⟨S1x256, .f32⟩
  | .hbm, ⟨13, _⟩ => ⟨S1x256, .f32⟩
  | .hbm, ⟨14, _⟩ => ⟨S4x128x128, .f32⟩
  | .hbm, ⟨15, _⟩ => ⟨S128x4, .f32⟩
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S1x256, .f32⟩
  | .local _ .vmem, ⟨5, _⟩ => ⟨S1x256, .f32⟩
  | .local _ .vmem, ⟨6, _⟩ => ⟨S4x128x128, .f32⟩
  | .local _ .vmem, ⟨7, _⟩ => ⟨S128x256, .f32⟩
  | .local _ .vmem, ⟨8, _⟩ => ⟨S2048x256, .bf16⟩
  | .local _ .vmem, ⟨9, _⟩ => ⟨S2048x256, .bf16⟩
  | .local _ .vmem, ⟨10, _⟩ => ⟨S2048x512, .bf16⟩
  | .local _ .vmem, ⟨11, _⟩ => ⟨S2048x512, .bf16⟩
  | .local _ .vmem, ⟨12, _⟩ => ⟨S1x256, .f32⟩
  | .local _ .vmem, ⟨13, _⟩ => ⟨S1x256, .f32⟩
  | .local _ .vmem, ⟨14, _⟩ => ⟨S4x128x128, .f32⟩
  | .local _ .vmem, ⟨15, _⟩ => ⟨S128x4, .f32⟩
  | _, _ => ⟨S8192x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev main_v5_3 : Ref sig .tc := ⟨.hbm, 14, rfl⟩
abbrev main_v5_4 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem9_0 : DmaSem sig := 13
abbrev cc0_sem10_0 : DmaSem sig := 14
abbrev cc0_sem11_0 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_1 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4x128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x4 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== KernelIdeal.lean ====
variable {F : FTy → Type} [FloatOps F] [Named F]
def κ : String → Option EReal := fun
  | "inv_sqrt2" => some (((Real.sqrt 2)⁻¹ : ℝ) : EReal)
  | "inv_sqrt_2pi" => some (((Real.sqrt (2 * Real.pi))⁻¹ : ℝ) : EReal)
  | _ => none
-- ==== ReferenceIdeal.lean ====
abbrev S8192x2560 : Shape := ⟨2, ![8192, 2560]⟩
abbrev S256 : Shape := ⟨1, ![256]⟩
abbrev S4x128x128 : Shape := ⟨3, ![4, 128, 128]⟩
abbrev S4x128 : Shape := ⟨2, ![4, 128]⟩
abbrev S8192x1024 : Shape := ⟨2, ![8192, 1024]⟩
abbrev S8192x512 : Shape := ⟨2, ![8192, 512]⟩
abbrev S8192x256 : Shape := ⟨2, ![8192, 256]⟩
abbrev S_ : Shape := ⟨0, ![]⟩
abbrev S128x128 : Shape := ⟨2, ![128, 128]⟩
abbrev S8192 : Shape := ⟨1, ![8192]⟩
abbrev S8192x1 : Shape := ⟨2, ![8192, 1]⟩
abbrev S1x256 : Shape := ⟨2, ![1, 256]⟩
abbrev S4x16x128x4x64 : Shape := ⟨5, ![4, 16, 128, 4, 64]⟩
abbrev S1x128x128 : Shape := ⟨3, ![1, 128, 128]⟩
abbrev S4x4x16x64x128 : Shape := ⟨5, ![4, 4, 16, 64, 128]⟩
abbrev S128x4 : Shape := ⟨2, ![128, 4]⟩
abbrev S1x1x128x4x1 : Shape := ⟨5, ![1, 1, 128, 4, 1]⟩

abbrev nBuf : Space → Nat
  | .hbm => 155
  | .vmem => 0
  | .smem => 0
  | _ => 0

abbrev hbmTy0_0 (i : Nat) : BufTy := match i % 128 with
  | 0 => ⟨S8192x2560, .bf16⟩
  | 1 => ⟨S256, .f32⟩
  | 2 => ⟨S256, .f32⟩
  | 3 => ⟨S4x128x128, .f32⟩
  | 4 => ⟨S4x128, .f32⟩
  | 5 => ⟨S8192x1024, .bf16⟩
  | 6 => ⟨S8192x512, .bf16⟩
  | 7 => ⟨S8192x512, .f32⟩
  | 8 => ⟨S8192x256, .bf16⟩
  | 9 => ⟨S8192x256, .f32⟩
  | 10 => ⟨S_, .f32⟩
  | 11 => ⟨S128x128, .f32⟩
  | 12 => ⟨S128x128, .i32⟩
  | 13 => ⟨S_, .i32⟩
  | 14 => ⟨S128x128, .i32⟩
  | 15 => ⟨S128x128, .i32⟩
  | 16 => ⟨S128x128, .i32⟩
  | 17 => ⟨S128x128, .i1⟩
  | 18 => ⟨S_, .f32⟩
  | 19 => ⟨S128x128, .f32⟩
  | 20 => ⟨S128x128, .f32⟩
  | 21 => ⟨S_, .f32⟩
  | 22 => ⟨S_, .f32⟩
  | 23 => ⟨S8192x512, .f32⟩
  | 24 => ⟨S8192x512, .f32⟩
  | 25 => ⟨S8192x512, .f32⟩
  | 26 => ⟨S_, .f32⟩
  | 27 => ⟨S8192x512, .f32⟩
  | 28 => ⟨S8192x512, .f32⟩
  | 29 => ⟨S_, .f32⟩
  | 30 => ⟨S8192x512, .f32⟩
  | 31 => ⟨S8192x512, .f32⟩
  | 32 => ⟨S_, .f32⟩
  | 33 => ⟨S8192x512, .f32⟩
  | 34 => ⟨S8192x512, .f32⟩
  | 35 => ⟨S8192x512, .f32⟩
  | 36 => ⟨S8192x512, .f32⟩
  | 37 => ⟨S_, .f32⟩
  | 38 => ⟨S_, .f32⟩
  | 39 => ⟨S_, .f32⟩
  | 40 => ⟨S_, .f32⟩
  | 41 => ⟨S_, .f32⟩
  | 42 => ⟨S8192x512, .f32⟩
  | 43 => ⟨S8192x512, .f32⟩
  | 44 => ⟨S8192x512, .f32⟩
  | 45 => ⟨S8192x512, .f32⟩
  | 46 => ⟨S8192x512, .f32⟩
  | 47 => ⟨S8192x256, .f32⟩
  | 48 => ⟨S8192x256, .f32⟩
  | 49 => ⟨S_, .f32⟩
  | 50 => ⟨S8192, .f32⟩
  | 51 => ⟨S8192x1, .f32⟩
  | 52 => ⟨S_, .f32⟩
  | 53 => ⟨S8192x1, .f32⟩
  | 54 => ⟨S8192x1, .f32⟩
  | 55 => ⟨S8192x256, .f32⟩
  | 56 => ⟨S8192x256, .f32⟩
  | 57 => ⟨S8192x256, .f32⟩
  | 58 => ⟨S_, .f32⟩
  | 59 => ⟨S8192, .f32⟩
  | 60 => ⟨S8192x1, .f32⟩
  | 61 => ⟨S_, .f32⟩
  | 62 => ⟨S8192x1, .f32⟩
  | 63 => ⟨S8192x1, .f32⟩
  | 64 => ⟨S_, .f32⟩
  | 65 => ⟨S8192x1, .f32⟩
  | 66 => ⟨S8192x1, .f32⟩
  | 67 => ⟨S8192x1, .f32⟩
  | 68 => ⟨S8192x1, .f32⟩
  | 69 => ⟨S_, .f32⟩
  | 70 => ⟨S8192x1, .f32⟩
  | 71 => ⟨S8192x1, .f32⟩
  | 72 => ⟨S8192x256, .f32⟩
  | 73 => ⟨S8192x256, .f32⟩
  | 74 => ⟨S1x256, .f32⟩
  | 75 => ⟨S8192x256, .f32⟩
  | 76 => ⟨S8192x256, .f32⟩
  | 77 => ⟨S1x256, .f32⟩
  | 78 => ⟨S8192x256, .f32⟩
  | 79 => ⟨S8192x256, .f32⟩
  | 80 => ⟨S4x16x128x4x64, .f32⟩
  | 81 => ⟨S1x128x128, .f32⟩
  | 82 => ⟨S4x128x128, .f32⟩
  | 83 => ⟨S4x128x128, .f32⟩
  | 84 => ⟨S4x4x16x64x128, .f32⟩
  | 85 => ⟨S4x16x128x4x64, .f32⟩
  | 86 => ⟨S128x4, .f32⟩
  | 87 => ⟨S1x1x128x4x1, .f32⟩
  | 88 => ⟨S4x16x128x4x64, .f32⟩
  | 89 => ⟨S4x16x128x4x64, .f32⟩
  | 90 => ⟨S8192x256, .f32⟩
  | 91 => ⟨S8192x256, .f32⟩
  | 92 => ⟨S8192x256, .f32⟩
  | 93 => ⟨S8192x256, .f32⟩
  | 94 => ⟨S4x16x128x4x64, .f32⟩
  | 95 => ⟨S_, .f32⟩
  | 96 => ⟨S128x4, .f32⟩
  | 97 => ⟨S1x1x128x4x1, .f32⟩
  | 98 => ⟨S_, .f32⟩
  | 99 => ⟨S128x4, .f32⟩
  | 100 => ⟨S4x128, .f32⟩
  | 101 => ⟨S4x4x16x64x128, .f32⟩
  | 102 => ⟨S4x128x128, .f32⟩
  | 103 => ⟨S4x4x16x64x128, .f32⟩
  | 104 => ⟨S4x16x128x4x64, .f32⟩
  | 105 => ⟨S4x128x128, .f32⟩
  | 106 => ⟨S4x128x128, .f32⟩
  | 107 => ⟨S8192x256, .f32⟩
  | 108 => ⟨S_, .f32⟩
  | 109 => ⟨S256, .f32⟩
  | 110 => ⟨S1x256, .f32⟩
  | 111 => ⟨S_, .f32⟩
  | 112 => ⟨S256, .f32⟩
  | 113 => ⟨S8192x256, .f32⟩
  | 114 => ⟨S_, .f32⟩
  | 115 => ⟨S256, .f32⟩
  | 116 => ⟨S1x256, .f32⟩
  | 117 => ⟨S8192x256, .f32⟩
  | 118 => ⟨S8192x256, .f32⟩
  | 119 => ⟨S_, .f32⟩
  | 120 => ⟨S256, .f32⟩
  | 121 => ⟨S8192x256, .f32⟩
  | 122 => ⟨S_, .f32⟩
  | 123 => ⟨S8192, .f32⟩
  | 124 => ⟨S8192x1, .f32⟩
  | 125 => ⟨S8192x256, .f32⟩
  | 126 => ⟨S8192x256, .f32⟩
  | 127 => ⟨S8192x1, .f32⟩
  | _ => ⟨S8192x2560, .bf16⟩

abbrev hbmTy0_1 (i : Nat) : BufTy := match i % 128 with
  | 0 => ⟨S_, .f32⟩
  | 1 => ⟨S8192x1, .f32⟩
  | 2 => ⟨S8192x1, .f32⟩
  | 3 => ⟨S_, .f32⟩
  | 4 => ⟨S8192, .f32⟩
  | 5 => ⟨S8192x256, .f32⟩
  | 6 => ⟨S8192x256, .f32⟩
  | 7 => ⟨S8192x256, .f32⟩
  | 8 => ⟨S8192x256, .f32⟩
  | 9 => ⟨S8192x256, .f32⟩
  | 10 => ⟨S8192x256, .f32⟩
  | 11 => ⟨S_, .f32⟩
  | 12 => ⟨S8192, .f32⟩
  | 13 => ⟨S8192x1, .f32⟩
  | 14 => ⟨S_, .f32⟩
  | 15 => ⟨S8192x1, .f32⟩
  | 16 => ⟨S8192x1, .f32⟩
  | 17 => ⟨S_, .f32⟩
  | 18 => ⟨S8192, .f32⟩
  | 19 => ⟨S8192x256, .f32⟩
  | 20 => ⟨S8192x256, .f32⟩
  | 21 => ⟨S8192x512, .f32⟩
  | 22 => ⟨S8192x512, .f32⟩
  | 23 => ⟨S8192x512, .bf16⟩
  | 24 => ⟨S1x256, .f32⟩
  | 25 => ⟨S1x256, .f32⟩
  | 26 => ⟨S128x4, .f32⟩
  | _ => ⟨S8192x2560, .bf16⟩

abbrev hbmTy (i : Nat) : BufTy := match i / 128 with
  | 0 => hbmTy0_0 i
  | 1 => hbmTy0_1 i
  | _ => ⟨S8192x2560, .bf16⟩

abbrev bufTy : (tb : Table) → Fin (tcTables nBuf tb) → BufTy
  | .hbm, ⟨i, _⟩ => hbmTy i
  | _, _ => ⟨S8192x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_call0_v0 : Ref sig .tc := ⟨.hbm, 12, rfl⟩
abbrev main_call0_c : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_cst : Ref sig .tc := ⟨.hbm, 18, rfl⟩
abbrev main_call0_v5 : Ref sig .tc := ⟨.hbm, 19, rfl⟩
abbrev main_v5 : Ref sig .tc := ⟨.hbm, 20, rfl⟩
abbrev main_cst_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst_1 : Ref sig .tc := ⟨.hbm, 26, rfl⟩
abbrev main_v10 : Ref sig .tc := ⟨.hbm, 27, rfl⟩
abbrev main_v11 : Ref sig .tc := ⟨.hbm, 28, rfl⟩
abbrev main_cst_2 : Ref sig .tc := ⟨.hbm, 29, rfl⟩
abbrev main_v12 : Ref sig .tc := ⟨.hbm, 30, rfl⟩
abbrev main_v13 : Ref sig .tc := ⟨.hbm, 31, rfl⟩
abbrev main_cst_3 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst_4 : Ref sig .tc := ⟨.hbm, 37, rfl⟩
abbrev main_v18 : Ref sig .tc := ⟨.hbm, 38, rfl⟩
abbrev main_cst_5 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst_6 : Ref sig .tc := ⟨.hbm, 49, rfl⟩
abbrev main_v28 : Ref sig .tc := ⟨.hbm, 50, rfl⟩
abbrev main_v29 : Ref sig .tc := ⟨.hbm, 51, rfl⟩
abbrev main_cst_7 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_8 : Ref sig .tc := ⟨.hbm, 58, rfl⟩
abbrev main_v35 : Ref sig .tc := ⟨.hbm, 59, rfl⟩
abbrev main_v36 : Ref sig .tc := ⟨.hbm, 60, rfl⟩
abbrev main_cst_9 : Ref sig .tc := ⟨.hbm, 61, rfl⟩
abbrev main_v37 : Ref sig .tc := ⟨.hbm, 62, rfl⟩
abbrev main_v38 : Ref sig .tc := ⟨.hbm, 63, rfl⟩
abbrev main_cst_10 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_cst_11 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_cst_12 : Ref sig .tc := ⟨.hbm, 95, rfl⟩
abbrev main_v68 : Ref sig .tc := ⟨.hbm, 96, rfl⟩
abbrev main_v69 : Ref sig .tc := ⟨.hbm, 97, rfl⟩
abbrev main_cst_13 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_cst_14 : Ref sig .tc := ⟨.hbm, 108, rfl⟩
abbrev main_v79 : Ref sig .tc := ⟨.hbm, 109, rfl⟩
abbrev main_v80 : Ref sig .tc := ⟨.hbm, 110, rfl⟩
abbrev main_cst_15 : Ref sig .tc := ⟨.hbm, 111, rfl⟩
abbrev main_v81 : Ref sig .tc := ⟨.hbm, 112, rfl⟩
abbrev main_v82 : Ref sig .tc := ⟨.hbm, 113, rfl⟩
abbrev main_cst_16 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_cst_17 : Ref sig .tc := ⟨.hbm, 119, rfl⟩
abbrev main_v87 : Ref sig .tc := ⟨.hbm, 120, rfl⟩
abbrev main_v88 : Ref sig .tc := ⟨.hbm, 121, rfl⟩
abbrev main_cst_18 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_cst_19 : Ref sig .tc := ⟨.hbm, 128, rfl⟩
abbrev main_v94 : Ref sig .tc := ⟨.hbm, 129, rfl⟩
abbrev main_v95 : Ref sig .tc := ⟨.hbm, 130, rfl⟩
abbrev main_cst_20 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_cst_21 : Ref sig .tc := ⟨.hbm, 139, rfl⟩
abbrev main_v103 : Ref sig .tc := ⟨.hbm, 140, rfl⟩
abbrev main_v104 : Ref sig .tc := ⟨.hbm, 141, rfl⟩
abbrev main_cst_22 : Ref sig .tc := ⟨.hbm, 142, rfl⟩
abbrev main_v105 : Ref sig .tc := ⟨.hbm, 143, rfl⟩
abbrev main_v106 : Ref sig .tc := ⟨.hbm, 144, rfl⟩
abbrev main_cst_23 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩

abbrev nD : Nat := 1
abbrev τ : Topo := Topo.v7x

variable {F : FTy → Type} [FloatOps F]
-- ==== Kernel2.lean ====
abbrev S8192x2816 : Shape := ⟨2, ![8192, 2816]⟩
abbrev S5632x1024 : Shape := ⟨2, ![5632, 1024]⟩
abbrev S8192x1024 : Shape := ⟨2, ![8192, 1024]⟩
abbrev S1024 : Shape := ⟨1, ![1024]⟩
abbrev S1x1024 : Shape := ⟨2, ![1, 1024]⟩
abbrev S512x2816 : Shape := ⟨2, ![512, 2816]⟩
abbrev S512x1024 : Shape := ⟨2, ![512, 1024]⟩
abbrev S2816x1024 : Shape := ⟨2, ![2816, 1024]⟩
abbrev S512 : Shape := ⟨1, ![512]⟩
abbrev S512x1 : Shape := ⟨2, ![512, 1]⟩

abbrev nBuf : Space → Nat
  | .hbm => 10
  | .vmem => 15
  | .smem => 0
  | _ => 0

abbrev bufTy : (tb : Table) → Fin (tcTables nBuf tb) → BufTy
  | .hbm, ⟨0, _⟩ => ⟨S8192x2816, .bf16⟩
  | .hbm, ⟨1, _⟩ => ⟨S8192x2816, .bf16⟩
  | .hbm, ⟨2, _⟩ => ⟨S5632x1024, .bf16⟩
  | .hbm, ⟨3, _⟩ => ⟨S8192x1024, .f32⟩
  | .hbm, ⟨4, _⟩ => ⟨S1024, .f32⟩
  | .hbm, ⟨5, _⟩ => ⟨S8192x1024, .f32⟩
  | .hbm, ⟨6, _⟩ => ⟨S1x1024, .f32⟩
  | .hbm, ⟨7, _⟩ => ⟨S8192x1024, .f32⟩
  | .hbm, ⟨8, _⟩ => ⟨S8192x1024, .bf16⟩
  | .hbm, ⟨9, _⟩ => ⟨S1x1024, .f32⟩
  | .local _ .vmem, ⟨0, _⟩ => ⟨S512x2816, .bf16⟩
  | .local _ .vmem, ⟨1, _⟩ => ⟨S512x2816, .bf16⟩
  | .local _ .vmem, ⟨2, _⟩ => ⟨S512x2816, .bf16⟩
  | .local _ .vmem, ⟨3, _⟩ => ⟨S512x2816, .bf16⟩
  | .local _ .vmem, ⟨4, _⟩ => ⟨S5632x1024, .bf16⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S1x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S5632x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference2Ideal.lean ====
abbrev S8192x2816 : Shape := ⟨2, ![8192, 2816]⟩
abbrev S5632x1024 : Shape := ⟨2, ![5632, 1024]⟩
abbrev S8192x1024 : Shape := ⟨2, ![8192, 1024]⟩
abbrev S1024 : Shape := ⟨1, ![1024]⟩
abbrev S8192x5632 : Shape := ⟨2, ![8192, 5632]⟩
abbrev S1024x5632 : Shape := ⟨2, ![1024, 5632]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 60
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x2816, .bf16⟩
  | .hbm, ⟨2, _⟩ => ⟨S5632x1024, .bf16⟩
  | .hbm, ⟨3, _⟩ => ⟨S8192x1024, .f32⟩
  | .hbm, ⟨4, _⟩ => ⟨S1024, .f32⟩
  | .hbm, ⟨5, _⟩ => ⟨S8192x1024, .f32⟩
  | .hbm, ⟨6, _⟩ => ⟨S8192x5632, .bf16⟩
  | .hbm, ⟨7, _⟩ => ⟨S8192x5632, .f32⟩
  | .hbm, ⟨8, _⟩ => ⟨S5632x1024, .f32⟩
  | .hbm, ⟨9, _⟩ => ⟨S1024x5632, .f32⟩
  | .hbm, ⟨10, _⟩ => ⟨S8192x1024, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x1024, .f32⟩
  | .hbm, ⟨26, _⟩ => ⟨S8192x1024, .f32⟩
  | .hbm, ⟨27, _⟩ => ⟨S1x1024, .f32⟩
  | .hbm, ⟨28, _⟩ => ⟨S8192x1024, .f32⟩
  | .hbm, ⟨29, _⟩ => ⟨S8192x1024, .f32⟩
  | .hbm, ⟨30, _⟩ => ⟨S8192x5632, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S1024, .f32⟩
  | .hbm, ⟨40, _⟩ => ⟨S8192x1024, .f32⟩
  | .hbm, ⟨41, _⟩ => ⟨S_, .f32⟩
  | .hbm, ⟨42, _⟩ => ⟨S8192, .f32⟩
  | .hbm, ⟨43, _⟩ => ⟨S8192x1, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1, .f32⟩
  | .hbm, ⟨48, _⟩ => ⟨S_, .f32⟩
  | .hbm, ⟨49, _⟩ => ⟨S8192x1, .f32⟩
  | .hbm, ⟨50, _⟩ => ⟨S8192x1, .f32⟩
  | .hbm, ⟨51, _⟩ => ⟨S_, .f32⟩
  | .hbm, ⟨52, _⟩ => ⟨S8192, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x1024, .bf16⟩
  | .hbm, ⟨59, _⟩ => ⟨S1x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_cst_5 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_6 : Ref sig .tc := ⟨.hbm, 48, rfl⟩
abbrev main_v35 : Ref sig .tc := ⟨.hbm, 49, rfl⟩
abbrev main_v36 : Ref sig .tc := ⟨.hbm, 50, rfl⟩
abbrev main_cst_7 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩

abbrev nD : Nat := 1
abbrev τ : Topo := Topo.v7x

variable {F : FTy → Type} [FloatOps F]
-- ==== Kernel3.lean ====
abbrev S8192x2816 : Shape := ⟨2, ![8192, 2816]⟩
abbrev S8192x1024 : Shape := ⟨2, ![8192, 1024]⟩
abbrev S5632x1024 : Shape := ⟨2, ![5632, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x2816, .bf16⟩
  | .hbm, ⟨1, _⟩ => ⟨S8192x2816, .bf16⟩
  | .hbm, ⟨2, _⟩ => ⟨S8192x1024, .bf16⟩
  | .hbm, ⟨3, _⟩ => ⟨S5632x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1024, .bf16⟩
  | .local _ .vmem, ⟨5, _⟩ => ⟨S1024x1024, .bf16⟩
  | .local _ .vmem, ⟨6, _⟩ => ⟨S1408x1024, .bf16⟩
  | .local _ .vmem, ⟨7, _⟩ => ⟨S1408x1024, .bf16⟩
  | .local _ .vmem, ⟨8, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 1, 8], ![false, false, false]⟩

def k0_cond4 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_4 : BitVec 32 := 0#32
  let v11 : BitVec 1 := Scalar.cmpi .ne v10 c0_i32_4
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 1 := Scalar.cmpi .slt arg0 c2_i32
  let c0_i32 : BitVec 32 := 0#32
  let v1 : BitVec 32 := Scalar.select v0 arg2 c0_i32
  let c1_i32 : BitVec 32 := 1#32
  let v2 : BitVec 32 := Scalar.minsi arg0 c1_i32
  let c0_i32_0 : BitVec 32 := 0#32
  ![v1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 1 := Scalar.cmpi .sge arg0 c2_i32
  let c0_i32 : BitVec 32 := 0#32
  let v1 : BitVec 32 := Scalar.select v0 arg2 c0_i32
  let c2_i32_0 : BitVec 32 := 2#32
  let v2 : BitVec 32 := Scalar.subi arg0 c2_i32_0
  let c0_i32_1 : BitVec 32 := 0#32
  let v3 : BitVec 32 := Scalar.maxsi v2 c0_i32_1
  let c0_i32_2 : BitVec 32 := 0#32
  ![v1.toNat, v3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference3Ideal.lean ====
abbrev S8192x2816 : Shape := ⟨2, ![8192, 2816]⟩
abbrev S8192x1024 : Shape := ⟨2, ![8192, 1024]⟩
abbrev S8192x5632 : Shape := ⟨2, ![8192, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 13
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x2816, .bf16⟩
  | .hbm, ⟨2, _⟩ => ⟨S8192x1024, .bf16⟩
  | .hbm, ⟨3, _⟩ => ⟨S8192x5632, .bf16⟩
  | .hbm, ⟨4, _⟩ => ⟨S8192x5632, .f32⟩
  | .hbm, ⟨5, _⟩ => ⟨S8192x1024, .f32⟩
  | .hbm, ⟨6, _⟩ => ⟨S_, .f32⟩
  | .hbm, ⟨7, _⟩ => ⟨S1024x5632, .f32⟩
  | .hbm, ⟨8, _⟩ => ⟨S8192x5632, .f32⟩
  | .hbm, ⟨9, _⟩ => ⟨S5632x1024, .f32⟩
  | .hbm, ⟨10, _⟩ => ⟨S1024x5632, .f32⟩
  | .hbm, ⟨11, _⟩ => ⟨S5632x1024, .f32⟩
  | .hbm, ⟨12, _⟩ => ⟨S5632x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Kernel4.lean ====
abbrev S8192x2816 : Shape := ⟨2, ![8192, 2816]⟩
abbrev S8192x1024 : Shape := ⟨2, ![8192, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S8192x2816, .f32⟩
  | .hbm, ⟨3, _⟩ => ⟨S8192x1024, .f32⟩
  | .hbm, ⟨4, _⟩ => ⟨S_, .f32⟩
  | .hbm, ⟨5, _⟩ => ⟨S2816x1024, .f32⟩
  | .hbm, ⟨6, _⟩ => ⟨S8192x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel5.lean ====
abbrev S8192x1024 : Shape := ⟨2, ![8192, 1024]⟩
abbrev S2816x1024 : Shape := ⟨2, ![2816, 1024]⟩
abbrev S8192x2816 : Shape := ⟨2, ![8192, 2816]⟩
abbrev S512x1024 : Shape := ⟨2, ![512, 1024]⟩
abbrev S512x2816 : Shape := ⟨2, ![512, 2816]⟩
abbrev S256x1024 : Shape := ⟨2, ![256, 1024]⟩
abbrev S512x256 : Shape := ⟨2, ![512, 256]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S8192x2816, .bf16⟩
  | .local _ .vmem, ⟨0, _⟩ => ⟨S512x1024, .bf16⟩
  | .local _ .vmem, ⟨1, _⟩ => ⟨S512x1024, .bf16⟩
  | .local _ .vmem, ⟨2, _⟩ => ⟨S2816x1024, .bf16⟩
  | .local _ .vmem, ⟨3, _⟩ => ⟨S512x2816, .bf16⟩
  | .local _ .vmem, ⟨4, _⟩ => ⟨S512x2816, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference5Ideal.lean ====
abbrev S8192x1024 : Shape := ⟨2, ![8192, 1024]⟩
abbrev S2816x1024 : Shape := ⟨2, ![2816, 1024]⟩
abbrev S_ : Shape := ⟨0, ![]⟩
abbrev S8192x2816 : Shape := ⟨2, ![8192, 2816]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S2816x1024, .f32⟩
  | .hbm, ⟨3, _⟩ => ⟨S8192x1024, .f32⟩
  | .hbm, ⟨4, _⟩ => ⟨S_, .f32⟩
  | .hbm, ⟨5, _⟩ => ⟨S8192x2816, .f32⟩
  | .hbm, ⟨6, _⟩ => ⟨S8192x1024, .f32⟩
  | .hbm, ⟨7, _⟩ => ⟨S8192x2816, .f32⟩
  | .hbm, ⟨8, _⟩ => ⟨S8192x2816, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel6.lean ====
abbrev S8192x768 : Shape := ⟨2, ![8192, 768]⟩
abbrev S8192x512 : Shape := ⟨2, ![8192, 512]⟩
abbrev S8192x256 : Shape := ⟨2, ![8192, 256]⟩
abbrev S2560x1024 : Shape := ⟨2, ![2560, 1024]⟩
abbrev S8192x1024 : Shape := ⟨2, ![8192, 1024]⟩
abbrev S1024 : Shape := ⟨1, ![1024]⟩
abbrev S1x1024 : Shape := ⟨2, ![1, 1024]⟩
abbrev S512x768 : Shape := ⟨2, ![512, 768]⟩
abbrev S512x512 : Shape := ⟨2, ![512, 512]⟩
abbrev S512x256 : Shape := ⟨2, ![512, 256]⟩
abbrev S512x1024 : Shape := ⟨2, ![512, 1024]⟩
abbrev S768x1024 : Shape := ⟨2, ![768, 1024]⟩
abbrev S256x1024 : Shape := ⟨2, ![256, 1024]⟩
abbrev S512 : Shape := ⟨1, ![512]⟩
abbrev S512x1 : Shape := ⟨2, ![512, 1]⟩

abbrev nBuf : Space → Nat
  | .hbm => 14
  | .vmem => 23
  | .smem => 0
  | _ => 0

abbrev bufTy : (tb : Table) → Fin (tcTables nBuf tb) → BufTy
  | .hbm, ⟨0, _⟩ => ⟨S8192x768, .bf16⟩
  | .hbm, ⟨1, _⟩ => ⟨S8192x512, .bf16⟩
  | .hbm, ⟨2, _⟩ => ⟨S8192x512, .bf16⟩
  | .hbm, ⟨3, _⟩ => ⟨S8192x256, .bf16⟩
  | .hbm, ⟨4, _⟩ => ⟨S8192x256, .f32⟩
  | .hbm, ⟨5, _⟩ => ⟨S8192x256, .f32⟩
  | .hbm, ⟨6, _⟩ => ⟨S2560x1024, .bf16⟩
  | .hbm, ⟨7, _⟩ => ⟨S8192x1024, .f32⟩
  | .hbm, ⟨8, _⟩ => ⟨S1024, .f32⟩
  | .hbm, ⟨9, _⟩ => ⟨S8192x1024, .f32⟩
  | .hbm, ⟨10, _⟩ => ⟨S1x1024, .f32⟩
  | .hbm, ⟨11, _⟩ => ⟨S8192x1024, .f32⟩
  | .hbm, ⟨12, _⟩ => ⟨S8192x1024, .bf16⟩
  | .hbm, ⟨13, _⟩ => ⟨S1x1024, .f32⟩
  | .local _ .vmem, ⟨0, _⟩ => ⟨S512x768, .bf16⟩
  | .local _ .vmem, ⟨1, _⟩ => ⟨S512x768, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x256, .bf16⟩
  | .local _ .vmem, ⟨7, _⟩ => ⟨S512x256, .bf16⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S2560x1024, .bf16⟩
  | .local _ .vmem, ⟨13, _⟩ => ⟨S512x1024, .f32⟩
  | .local _ .vmem, ⟨14, _⟩ => ⟨S512x1024, .f32⟩
  | .local _ .vmem, ⟨15, _⟩ => ⟨S1x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | .local _ .vmem, ⟨19, _⟩ => ⟨S512x1024, .f32⟩
  | .local _ .vmem, ⟨20, _⟩ => ⟨S512x1024, .bf16⟩
  | .local _ .vmem, ⟨21, _⟩ => ⟨S512x1024, .bf16⟩
  | .local _ .vmem, ⟨22, _⟩ => ⟨S1x1024, .f32⟩
  | _, _ => ⟨S8192x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1_0 : Ref sig .tc := ⟨.hbm, 11, rfl⟩
abbrev main_v1_1 : Ref sig .tc := ⟨.hbm, 12, rfl⟩
abbrev main_v1_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S2560x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== Reference6Ideal.lean ====
abbrev S8192x768 : Shape := ⟨2, ![8192, 768]⟩
abbrev S8192x512 : Shape := ⟨2, ![8192, 512]⟩
abbrev S8192x256 : Shape := ⟨2, ![8192, 256]⟩
abbrev S2560x1024 : Shape := ⟨2, ![2560, 1024]⟩
abbrev S8192x1024 : Shape := ⟨2, ![8192, 1024]⟩
abbrev S1024 : Shape := ⟨1, ![1024]⟩
abbrev S8192x2560 : Shape := ⟨2, ![8192, 2560]⟩
abbrev S1024x2560 : Shape := ⟨2, ![1024, 2560]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 67
  | .vmem => 0
  | .smem => 0
  | _ => 0

abbrev bufTy : (tb : Table) → Fin (tcTables nBuf tb) → BufTy
  | .hbm, ⟨0, _⟩ => ⟨S8192x768, .bf16⟩
  | .hbm, ⟨1, _⟩ => ⟨S8192x512, .bf16⟩
  | .hbm, ⟨2, _⟩ => ⟨S8192x512, .bf16⟩
  | .hbm, ⟨3, _⟩ => ⟨S8192x256, .bf16⟩
  | .hbm, ⟨4, _⟩ => ⟨S8192x256, .f32⟩
  | .hbm, ⟨5, _⟩ => ⟨S8192x256, .f32⟩
  | .hbm, ⟨6, _⟩ => ⟨S2560x1024, .bf16⟩
  | .hbm, ⟨7, _⟩ => ⟨S8192x1024, .f32⟩
  | .hbm, ⟨8, _⟩ => ⟨S1024, .f32⟩
  | .hbm, ⟨9, _⟩ => ⟨S8192x1024, .f32⟩
  | .hbm, ⟨10, _⟩ => ⟨S8192x768, .f32⟩
  | .hbm, ⟨11, _⟩ => ⟨S8192x512, .f32⟩
  | .hbm, ⟨12, _⟩ => ⟨S8192x512, .f32⟩
  | .hbm, ⟨13, _⟩ => ⟨S8192x256, .f32⟩
  | .hbm, ⟨14, _⟩ => ⟨S8192x2560, .f32⟩
  | .hbm, ⟨15, _⟩ => ⟨S2560x1024, .f32⟩
  | .hbm, ⟨16, _⟩ => ⟨S1024x2560, .f32⟩
  | .hbm, ⟨17, _⟩ => ⟨S8192x1024, .f32⟩
  | .hbm, ⟨18, _⟩ => ⟨S_, .f32⟩
  | .hbm, ⟨19, _⟩ => ⟨S8192, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x1, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x1024, .f32⟩
  | .hbm, ⟨33, _⟩ => ⟨S8192x1024, .f32⟩
  | .hbm, ⟨34, _⟩ => ⟨S1x1024, .f32⟩
  | .hbm, ⟨35, _⟩ => ⟨S8192x1024, .f32⟩
  | .hbm, ⟨36, _⟩ => ⟨S8192x1024, .f32⟩
  | .hbm, ⟨37, _⟩ => ⟨S8192x2560, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S1024, .f32⟩
  | .hbm, ⟨42, _⟩ => ⟨S1x1024, .f32⟩
  | .hbm, ⟨43, _⟩ => ⟨S8192x1024, .f32⟩
  | .hbm, ⟨44, _⟩ => ⟨S8192x1024, .f32⟩
  | .hbm, ⟨45, _⟩ => ⟨S_, .f32⟩
  | .hbm, ⟨46, _⟩ => ⟨S1024, .f32⟩
  | .hbm, ⟨47, _⟩ => ⟨S8192x1024, .f32⟩
  | .hbm, ⟨48, _⟩ => ⟨S_, .f32⟩
  | .hbm, ⟨49, _⟩ => ⟨S8192, .f32⟩
  | .hbm, ⟨50, _⟩ => ⟨S8192x1, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1, .f32⟩
  | .hbm, ⟨55, _⟩ => ⟨S_, .f32⟩
  | .hbm, ⟨56, _⟩ => ⟨S8192x1, .f32⟩
  | .hbm, ⟨57, _⟩ => ⟨S8192x1, .f32⟩
  | .hbm, ⟨58, _⟩ => ⟨S_, .f32⟩
  | .hbm, ⟨59, _⟩ => ⟨S8192, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S8192x1024, .bf16⟩
  | .hbm, ⟨66, _⟩ => ⟨S1x1024, .f32⟩
  | _, _ => ⟨S8192x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_2 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_3 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_4 : Ref sig .tc := ⟨.hbm, 45, rfl⟩
abbrev main_v30 : Ref sig .tc := ⟨.hbm, 46, rfl⟩
abbrev main_v31 : Ref sig .tc := ⟨.hbm, 47, rfl⟩
abbrev main_cst_5 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_6 : Ref sig .tc := ⟨.hbm, 55, rfl⟩
abbrev main_v38 : Ref sig .tc := ⟨.hbm, 56, rfl⟩
abbrev main_v39 : Ref sig .tc := ⟨.hbm, 57, rfl⟩
abbrev main_cst_7 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩

abbrev nD : Nat := 1
abbrev τ : Topo := Topo.v7x

variable {F : FTy → Type} [FloatOps F]
-- ==== Kernel7.lean ====
abbrev S8192x768 : Shape := ⟨2, ![8192, 768]⟩
abbrev S8192x512 : Shape := ⟨2, ![8192, 512]⟩
abbrev S8192x256 : Shape := ⟨2, ![8192, 256]⟩
abbrev S8192x1024 : Shape := ⟨2, ![8192, 1024]⟩
abbrev S2560x1024 : Shape := ⟨2, ![2560, 1024]⟩
abbrev S1024x768 : Shape := ⟨2, ![1024, 768]⟩
abbrev S1024x512 : Shape := ⟨2, ![1024, 512]⟩
abbrev S1024x256 : Shape := ⟨2, ![1024, 256]⟩
abbrev S1024x1024 : Shape := ⟨2, ![1024, 1024]⟩
abbrev S768x1024 : Shape := ⟨2, ![768, 1024]⟩
abbrev S512x1024 : Shape := ⟨2, ![512, 1024]⟩
abbrev S256x1024 : Shape := ⟨2, ![256, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8192x768, .bf16⟩
  | .hbm, ⟨1, _⟩ => ⟨S8192x512, .bf16⟩
  | .hbm, ⟨2, _⟩ => ⟨S8192x512, .bf16⟩
  | .hbm, ⟨3, _⟩ => ⟨S8192x256, .bf16⟩
  | .hbm, ⟨4, _⟩ => ⟨S8192x256, .f32⟩
  | .hbm, ⟨5, _⟩ => ⟨S8192x256, .f32⟩
  | .hbm, ⟨6, _⟩ => ⟨S8192x1024, .bf16⟩
  | .hbm, ⟨7, _⟩ => ⟨S2560x1024, .bf16⟩
  | .local _ .vmem, ⟨0, _⟩ => ⟨S1024x768, .bf16⟩
  | .local _ .vmem, ⟨1, _⟩ => ⟨S1024x768, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x256, .bf16⟩
  | .local _ .vmem, ⟨7, _⟩ => ⟨S1024x256, .bf16⟩
  | .local _ .vmem, ⟨8, _⟩ => ⟨S1024x256, .f32⟩
  | .local _ .vmem, ⟨9, _⟩ => ⟨S1024x256, .f32⟩
  | .local _ .vmem, ⟨10, _⟩ => ⟨S1024x256, .f32⟩
  | .local _ .vmem, ⟨11, _⟩ => ⟨S1024x256, .f32⟩
  | .local _ .vmem, ⟨12, _⟩ => ⟨S1024x1024, .bf16⟩
  | .local _ .vmem, ⟨13, _⟩ => ⟨S1024x1024, .bf16⟩
  | .local _ .vmem, ⟨14, _⟩ => ⟨S2560x1024, .bf16⟩
  | .local _ .vmem, ⟨15, _⟩ => ⟨S2560x1024, .f32⟩
  | _, _ => ⟨S8192x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v48 : BitVec 1 := Scalar.cmpi .eq arg0 c7_i32
  let v49 : BitVec 32 := Scalar.extui v48
  let c0_i32_38 : BitVec 32 := 0#32
  let v50 : BitVec 1 := Scalar.cmpi .ne v49 c0_i32_38
  v50

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S2560x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference7Ideal.lean ====
abbrev S8192x768 : Shape := ⟨2, ![8192, 768]⟩
abbrev S8192x512 : Shape := ⟨2, ![8192, 512]⟩
abbrev S8192x256 : Shape := ⟨2, ![8192, 256]⟩
abbrev S8192x1024 : Shape := ⟨2, ![8192, 1024]⟩
abbrev S8192x2560 : Shape := ⟨2, ![8192, 2560]⟩
abbrev S_ : Shape := ⟨0, ![]⟩
abbrev S1024x2560 : Shape := ⟨2, ![1024, 2560]⟩
abbrev S2560x1024 : Shape := ⟨2, ![2560, 1024]⟩

abbrev nBuf : Space → Nat
  | .hbm => 20
  | .vmem => 0
  | .smem => 0
  | _ => 0

abbrev bufTy : (tb : Table) → Fin (tcTables nBuf tb) → BufTy
  | .hbm, ⟨0, _⟩ => ⟨S8192x768, .bf16⟩
  | .hbm, ⟨1, _⟩ => ⟨S8192x512, .bf16⟩
  | .hbm, ⟨2, _⟩ => ⟨S8192x512, .bf16⟩
  | .hbm, ⟨3, _⟩ => ⟨S8192x256, .bf16⟩
  | .hbm, ⟨4, _⟩ => ⟨S8192x256, .f32⟩
  | .hbm, ⟨5, _⟩ => ⟨S8192x256, .f32⟩
  | .hbm, ⟨6, _⟩ => ⟨S8192x1024, .bf16⟩
  | .hbm, ⟨7, _⟩ => ⟨S8192x768, .f32⟩
  | .hbm, ⟨8, _⟩ => ⟨S8192x512, .f32⟩
  | .hbm, ⟨9, _⟩ => ⟨S8192x512, .f32⟩
  | .hbm, ⟨10, _⟩ => ⟨S8192x256, .f32⟩
  | .hbm, ⟨11, _⟩ => ⟨S8192x2560, .f32⟩
  | .hbm, ⟨12, _⟩ => ⟨S8192x1024, .f32⟩
  | .hbm, ⟨13, _⟩ => ⟨S_, .f32⟩
  | .hbm, ⟨14, _⟩ => ⟨S1024x2560, .f32⟩
  | .hbm, ⟨15, _⟩ => ⟨S8192x2560, .f32⟩
  | .hbm, ⟨16, _⟩ => ⟨S2560x1024, .f32⟩
  | .hbm, ⟨17, _⟩ => ⟨S1024x2560, .f32⟩
  | .hbm, ⟨18, _⟩ => ⟨S2560x1024, .f32⟩
  | .hbm, ⟨19, _⟩ => ⟨S2560x1024, .bf16⟩
  | _, _ => ⟨S8192x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩

abbrev nD : Nat := 1
abbrev τ : Topo := Topo.v7x

variable {F : FTy → Type} [FloatOps F]
-- ==== Kernel8.lean ====
abbrev S8192x1024 : Shape := ⟨2, ![8192, 1024]⟩
abbrev S1024x1024 : Shape := ⟨2, ![1024, 1024]⟩
abbrev S512x1024 : Shape := ⟨2, ![512, 1024]⟩
abbrev S512x512 : Shape := ⟨2, ![512, 512]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .bf16⟩
  | .local _ .vmem, ⟨4, _⟩ => ⟨S512x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference8Ideal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S1024x1024, .f32⟩
  | .hbm, ⟨3, _⟩ => ⟨S8192x1024, .f32⟩
  | .hbm, ⟨4, _⟩ => ⟨S_, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel9.lean ====
abbrev S8192x256 : Shape := ⟨2, ![8192, 256]⟩
abbrev S8192x1024 : Shape := ⟨2, ![8192, 1024]⟩
abbrev S1024x1024 : Shape := ⟨2, ![1024, 1024]⟩
abbrev S1024x256 : Shape := ⟨2, ![1024, 256]⟩
abbrev S256x1024 : Shape := ⟨2, ![256, 1024]⟩

abbrev nBuf : Space → Nat
  | .hbm => 6
  | .vmem => 12
  | .smem => 0
  | _ => 0

abbrev bufTy : (tb : Table) → Fin (tcTables nBuf tb) → BufTy
  | .hbm, ⟨0, _⟩ => ⟨S8192x256, .bf16⟩
  | .hbm, ⟨1, _⟩ => ⟨S8192x256, .bf16⟩
  | .hbm, ⟨2, _⟩ => ⟨S8192x256, .bf16⟩
  | .hbm, ⟨3, _⟩ => ⟨S8192x256, .bf16⟩
  | .hbm, ⟨4, _⟩ => ⟨S8192x1024, .bf16⟩
  | .hbm, ⟨5, _⟩ => ⟨S1024x1024, .bf16⟩
  | .local _ .vmem, ⟨0, _⟩ => ⟨S1024x256, .bf16⟩
  | .local _ .vmem, ⟨1, _⟩ => ⟨S1024x256, .bf16⟩
  | .local _ .vmem, ⟨2, _⟩ => ⟨S1024x256, .bf16⟩
  | .local _ .vmem, ⟨3, _⟩ => ⟨S1024x256, .bf16⟩
  | .local _ .vmem, ⟨4, _⟩ => ⟨S1024x256, .bf16⟩
  | .local _ .vmem, ⟨5, _⟩ => ⟨S1024x256, .bf16⟩
  | .local _ .vmem, ⟨6, _⟩ => ⟨S1024x256, .bf16⟩
  | .local _ .vmem, ⟨7, _⟩ => ⟨S1024x256, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .f32⟩
  | _, _ => ⟨S8192x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v32 : BitVec 1 := Scalar.cmpi .eq arg0 c7_i32
  let v33 : BitVec 32 := Scalar.extui v32
  let c0_i32_26 : BitVec 32 := 0#32
  let v34 : BitVec 1 := Scalar.cmpi .ne v33 c0_i32_26
  v34

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference9Ideal.lean ====
abbrev S8192x256 : Shape := ⟨2, ![8192, 256]⟩
abbrev S8192x1024 : Shape := ⟨2, ![8192, 1024]⟩
abbrev S_ : Shape := ⟨0, ![]⟩
abbrev S1024x1024 : Shape := ⟨2, ![1024, 1024]⟩

abbrev nBuf : Space → Nat
  | .hbm => 14
  | .vmem => 0
  | .smem => 0
  | _ => 0

abbrev bufTy : (tb : Table) → Fin (tcTables nBuf tb) → BufTy
  | .hbm, ⟨0, _⟩ => ⟨S8192x256, .bf16⟩
  | .hbm, ⟨1, _⟩ => ⟨S8192x256, .bf16⟩
  | .hbm, ⟨2, _⟩ => ⟨S8192x256, .bf16⟩
  | .hbm, ⟨3, _⟩ => ⟨S8192x256, .bf16⟩
  | .hbm, ⟨4, _⟩ => ⟨S8192x1024, .bf16⟩
  | .hbm, ⟨5, _⟩ => ⟨S8192x1024, .bf16⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S1024x1024, .f32⟩
  | .hbm, ⟨10, _⟩ => ⟨S8192x1024, .f32⟩
  | .hbm, ⟨11, _⟩ => ⟨S1024x1024, .f32⟩
  | .hbm, ⟨12, _⟩ => ⟨S1024x1024, .f32⟩
  | .hbm, ⟨13, _⟩ => ⟨S1024x1024, .bf16⟩
  | _, _ => ⟨S8192x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== Kernel10.lean ====
abbrev S8192x256 : Shape := ⟨2, ![8192, 256]⟩
abbrev S1024x1024 : Shape := ⟨2, ![1024, 1024]⟩
abbrev S8192x1024 : Shape := ⟨2, ![8192, 1024]⟩
abbrev S1024 : Shape := ⟨1, ![1024]⟩
abbrev S5632x1024 : Shape := ⟨2, ![5632, 1024]⟩
abbrev S1x1024 : Shape := ⟨2, ![1, 1024]⟩
abbrev S8192x5632 : Shape := ⟨2, ![8192, 5632]⟩
abbrev S512x256 : Shape := ⟨2, ![512, 256]⟩
abbrev S512x1024 : Shape := ⟨2, ![512, 1024]⟩
abbrev S512x5632 : Shape := ⟨2, ![512, 5632]⟩
abbrev S256x1024 : Shape := ⟨2, ![256, 1024]⟩
abbrev S512 : Shape := ⟨1, ![512]⟩
abbrev S512x1 : Shape := ⟨2, ![512, 1]⟩
abbrev S512x512 : Shape := ⟨2, ![512, 512]⟩

abbrev nBuf : Space → Nat
  | .hbm => 12
  | .vmem => 19
  | .smem => 0
  | _ => 0

abbrev bufTy : (tb : Table) → Fin (tcTables nBuf tb) → BufTy
  | .hbm, ⟨0, _⟩ => ⟨S8192x256, .bf16⟩
  | .hbm, ⟨1, _⟩ => ⟨S8192x256, .bf16⟩
  | .hbm, ⟨2, _⟩ => ⟨S8192x256, .bf16⟩
  | .hbm, ⟨3, _⟩ => ⟨S8192x256, .bf16⟩
  | .hbm, ⟨4, _⟩ => ⟨S1024x1024, .bf16⟩
  | .hbm, ⟨5, _⟩ => ⟨S8192x1024, .f32⟩
  | .hbm, ⟨6, _⟩ => ⟨S1024, .f32⟩
  | .hbm, ⟨7, _⟩ => ⟨S5632x1024, .bf16⟩
  | .hbm, ⟨8, _⟩ => ⟨S1x1024, .f32⟩
  | .hbm, ⟨9, _⟩ => ⟨S8192x1024, .f32⟩
  | .hbm, ⟨10, _⟩ => ⟨S8192x5632, .bf16⟩
  | .hbm, ⟨11, _⟩ => ⟨S8192x1024, .bf16⟩
  | .local _ .vmem, ⟨0, _⟩ => ⟨S512x256, .bf16⟩
  | .local _ .vmem, ⟨1, _⟩ => ⟨S512x256, .bf16⟩
  | .local _ .vmem, ⟨2, _⟩ => ⟨S512x256, .bf16⟩
  | .local _ .vmem, ⟨3, _⟩ => ⟨S512x256, .bf16⟩
  | .local _ .vmem, ⟨4, _⟩ => ⟨S512x256, .bf16⟩
  | .local _ .vmem, ⟨5, _⟩ => ⟨S512x256, .bf16⟩
  | .local _ .vmem, ⟨6, _⟩ => ⟨S512x256, .bf16⟩
  | .local _ .vmem, ⟨7, _⟩ => ⟨S512x256, .bf16⟩
  | .local _ .vmem, ⟨8, _⟩ => ⟨S1024x1024, .bf16⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S5632x1024, .bf16⟩
  | .local _ .vmem, ⟨13, _⟩ => ⟨S512x1024, .f32⟩
  | .local _ .vmem, ⟨14, _⟩ => ⟨S512x1024, .f32⟩
  | .local _ .vmem, ⟨15, _⟩ => ⟨S512x5632, .bf16⟩
  | .local _ .vmem, ⟨16, _⟩ => ⟨S512x5632, .bf16⟩
  | .local _ .vmem, ⟨17, _⟩ => ⟨S512x1024, .bf16⟩
  | .local _ .vmem, ⟨18, _⟩ => ⟨S512x1024, .bf16⟩
  | _, _ => ⟨S8192x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S5632x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x5632 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference10Ideal.lean ====
abbrev S8192x256 : Shape := ⟨2, ![8192, 256]⟩
abbrev S1024x1024 : Shape := ⟨2, ![1024, 1024]⟩
abbrev S8192x1024 : Shape := ⟨2, ![8192, 1024]⟩
abbrev S1024 : Shape := ⟨1, ![1024]⟩
abbrev S5632x1024 : Shape := ⟨2, ![5632, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1024x5632 : Shape := ⟨2, ![1024, 5632]⟩
abbrev S8192x5632 : Shape := ⟨2, ![8192, 5632]⟩

abbrev nBuf : Space → Nat
  | .hbm => 34
  | .vmem => 0
  | .smem => 0
  | _ => 0

abbrev bufTy : (tb : Table) → Fin (tcTables nBuf tb) → BufTy
  | .hbm, ⟨0, _⟩ => ⟨S8192x256, .bf16⟩
  | .hbm, ⟨1, _⟩ => ⟨S8192x256, .bf16⟩
  | .hbm, ⟨2, _⟩ => ⟨S8192x256, .bf16⟩
  | .hbm, ⟨3, _⟩ => ⟨S8192x256, .bf16⟩
  | .hbm, ⟨4, _⟩ => ⟨S1024x1024, .bf16⟩
  | .hbm, ⟨5, _⟩ => ⟨S8192x1024, .f32⟩
  | .hbm, ⟨6, _⟩ => ⟨S1024, .f32⟩
  | .hbm, ⟨7, _⟩ => ⟨S5632x1024, .bf16⟩
  | .hbm, ⟨8, _⟩ => ⟨S8192x1024, .bf16⟩
  | .hbm, ⟨9, _⟩ => ⟨S8192x1024, .f32⟩
  | .hbm, ⟨10, _⟩ => ⟨S1024x1024, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S1x1024, .f32⟩
  | .hbm, ⟨27, _⟩ => ⟨S8192x1024, .f32⟩
  | .hbm, ⟨28, _⟩ => ⟨S8192x1024, .f32⟩
  | .hbm, ⟨29, _⟩ => ⟨S5632x1024, .f32⟩
  | .hbm, ⟨30, _⟩ => ⟨S1024x5632, .f32⟩
  | .hbm, ⟨31, _⟩ => ⟨S8192x5632, .f32⟩
  | .hbm, ⟨32, _⟩ => ⟨S8192x5632, .bf16⟩
  | .hbm, ⟨33, _⟩ => ⟨S8192x1024, .bf16⟩
  | _, _ => ⟨S8192x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩

abbrev nD : Nat := 1
abbrev τ : Topo := Topo.v7x

variable {F : FTy → Type} [FloatOps F]
-- ==== Kernel11.lean ====
abbrev S8192x1024 : Shape := ⟨2, ![8192, 1024]⟩
abbrev S1024 : Shape := ⟨1, ![1024]⟩
abbrev S2560x1024 : Shape := ⟨2, ![2560, 1024]⟩
abbrev S1x1024 : Shape := ⟨2, ![1, 1024]⟩
abbrev S8192x2560 : Shape := ⟨2, ![8192, 2560]⟩
abbrev S512x1024 : Shape := ⟨2, ![512, 1024]⟩
abbrev S512x2560 : Shape := ⟨2, ![512, 2560]⟩
abbrev S512 : Shape := ⟨1, ![512]⟩
abbrev S512x1 : Shape := ⟨2, ![512, 1]⟩
abbrev S512x512 : Shape := ⟨2, ![512, 512]⟩

abbrev nBuf : Space → Nat
  | .hbm => 6
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S2560x1024, .bf16⟩
  | .hbm, ⟨3, _⟩ => ⟨S1x1024, .f32⟩
  | .hbm, ⟨4, _⟩ => ⟨S8192x2560, .bf16⟩
  | .hbm, ⟨5, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S2560x1024, .bf16⟩
  | .local _ .vmem, ⟨4, _⟩ => ⟨S512x2560, .bf16⟩
  | .local _ .vmem, ⟨5, _⟩ => ⟨S512x2560, .bf16⟩
  | .local _ .vmem, ⟨6, _⟩ => ⟨S512x1024, .bf16⟩
  | .local _ .vmem, ⟨7, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2560x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2560 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference11Ideal.lean ====
abbrev S8192x1024 : Shape := ⟨2, ![8192, 1024]⟩
abbrev S1024 : Shape := ⟨1, ![1024]⟩
abbrev S2560x1024 : Shape := ⟨2, ![2560, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1024x2560 : Shape := ⟨2, ![1024, 2560]⟩
abbrev S8192x2560 : Shape := ⟨2, ![8192, 2560]⟩

abbrev nBuf : Space → Nat
  | .hbm => 24
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S2560x1024, .bf16⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S2560x1024, .f32⟩
  | .hbm, ⟨20, _⟩ => ⟨S1024x2560, .f32⟩
  | .hbm, ⟨21, _⟩ => ⟨S8192x2560, .f32⟩
  | .hbm, ⟨22, _⟩ => ⟨S8192x2560, .bf16⟩
  | .hbm, ⟨23, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Kernel12.lean ====
abbrev S8192x2816 : Shape := ⟨2, ![8192, 2816]⟩
abbrev S2816x1024 : Shape := ⟨2, ![2816, 1024]⟩
abbrev S8192x1024 : Shape := ⟨2, ![8192, 1024]⟩
abbrev S512x2816 : Shape := ⟨2, ![512, 2816]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S8192x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference12Ideal.lean ====
abbrev S8192x2816 : Shape := ⟨2, ![8192, 2816]⟩
abbrev S2816x1024 : Shape := ⟨2, ![2816, 1024]⟩
abbrev S8192x1024 : Shape := ⟨2, ![8192, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S8192x2816, .f32⟩
  | .hbm, ⟨4, _⟩ => ⟨S2816x1024, .f32⟩
  | .hbm, ⟨5, _⟩ => ⟨S8192x1024, .f32⟩
  | .hbm, ⟨6, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel13.lean ====
abbrev S8192x2816 : Shape := ⟨2, ![8192, 2816]⟩
abbrev S2816x1024 : Shape := ⟨2, ![2816, 1024]⟩
abbrev S8192x1024 : Shape := ⟨2, ![8192, 1024]⟩
abbrev S1024 : Shape := ⟨1, ![1024]⟩
abbrev S1x1024 : Shape := ⟨2, ![1, 1024]⟩
abbrev S1x1 : Shape := ⟨2, ![1, 1]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩
abbrev S1 : Shape := ⟨1, ![1]⟩

abbrev nBuf : Space → Nat
  | .hbm => 10
  | .vmem => 14
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S1x1024, .f32⟩
  | .hbm, ⟨6, _⟩ => ⟨S8192x1024, .f32⟩
  | .hbm, ⟨7, _⟩ => ⟨S8192x1024, .bf16⟩
  | .hbm, ⟨8, _⟩ => ⟨S1x1024, .f32⟩
  | .hbm, ⟨9, _⟩ => ⟨S1x1, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | .local _ .vmem, ⟨13, _⟩ => ⟨S1x1, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference13Ideal.lean ====
abbrev S8192x2816 : Shape := ⟨2, ![8192, 2816]⟩
abbrev S2816x1024 : Shape := ⟨2, ![2816, 1024]⟩
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1x1 : Shape := ⟨2, ![1, 1]⟩

abbrev nBuf : Space → Nat
  | .hbm => 80
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S8192x2816, .f32⟩
  | .hbm, ⟨6, _⟩ => ⟨S2816x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S1x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S8192, .f32⟩
  | .hbm, ⟨36, _⟩ => ⟨S_, .f32⟩
  | .hbm, ⟨37, _⟩ => ⟨S8192, .f32⟩
  | .hbm, ⟨38, _⟩ => ⟨S8192, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S8192, .f32⟩
  | .hbm, ⟨47, _⟩ => ⟨S_, .f32⟩
  | .hbm, ⟨48, _⟩ => ⟨S8192, .f32⟩
  | .hbm, ⟨49, _⟩ => ⟨S8192, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S_, .f32⟩
  | .hbm, ⟨54, _⟩ => ⟨S1024, .f32⟩
  | .hbm, ⟨55, _⟩ => ⟨S1x1024, .f32⟩
  | .hbm, ⟨56, _⟩ => ⟨S8192x1024, .f32⟩
  | .hbm, ⟨57, _⟩ => ⟨S8192x1024, .f32⟩
  | .hbm, ⟨58, _⟩ => ⟨S_, .f32⟩
  | .hbm, ⟨59, _⟩ => ⟨S1024, .f32⟩
  | .hbm, ⟨60, _⟩ => ⟨S8192x1024, .f32⟩
  | .hbm, ⟨61, _⟩ => ⟨S_, .f32⟩
  | .hbm, ⟨62, _⟩ => ⟨S8192, .f32⟩
  | .hbm, ⟨63, _⟩ => ⟨S8192x1, .f32⟩
  | .hbm, ⟨64, _⟩ => ⟨S8192x1024, .f32⟩
  | .hbm, ⟨65, _⟩ => ⟨S8192x1024, .f32⟩
  | .hbm, ⟨66, _⟩ => ⟨S8192x1, .f32⟩
  | .hbm, ⟨67, _⟩ => ⟨S_, .f32⟩
  | .hbm, ⟨68, _⟩ => ⟨S8192x1, .f32⟩
  | .hbm, ⟨69, _⟩ => ⟨S8192x1, .f32⟩
  | .hbm, ⟨70, _⟩ => ⟨S_, .f32⟩
  | .hbm, ⟨71, _⟩ => ⟨S8192, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S8192x1024, .bf16⟩
  | .hbm, ⟨78, _⟩ => ⟨S1x1024, .f32⟩
  | .hbm, ⟨79, _⟩ => ⟨S1x1, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_cst_6 : Ref sig .tc := ⟨.hbm, 39, rfl⟩
abbrev main_v27 : Ref sig .tc := ⟨.hbm, 40, rfl⟩
abbrev main_cst_7 : Ref sig .tc := ⟨.hbm, 41, rfl⟩
abbrev main_v28 : Ref sig .tc := ⟨.hbm, 42, rfl⟩
abbrev main_cst_8 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩
abbrev main_cst_10 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_11 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_12 : Ref sig .tc := ⟨.hbm, 58, rfl⟩
abbrev main_v40 : Ref sig .tc := ⟨.hbm, 59, rfl⟩
abbrev main_v41 : Ref sig .tc := ⟨.hbm, 60, rfl⟩
abbrev main_cst_13 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_14 : Ref sig .tc := ⟨.hbm, 67, rfl⟩
abbrev main_v47 : Ref sig .tc := ⟨.hbm, 68, rfl⟩
abbrev main_v48 : Ref sig .tc := ⟨.hbm, 69, rfl⟩
abbrev main_cst_15 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩

abbrev nD : Nat := 1
abbrev τ : Topo := Topo.v7x

variable {F : FTy → Type} [FloatOps F]
-- ==== Kernel14.lean ====
abbrev S8192x2560 : Shape := ⟨2, ![8192, 2560]⟩
abbrev S3x256 : Shape := ⟨2, ![3, 256]⟩
abbrev S8192x1024 : Shape := ⟨2, ![8192, 1024]⟩
abbrev S8192x768 : Shape := ⟨2, ![8192, 768]⟩
abbrev S2048x256 : Shape := ⟨2, ![2048, 256]⟩
abbrev S2048x768 : Shape := ⟨2, ![2048, 768]⟩
abbrev S8x256 : Shape := ⟨2, ![8, 256]⟩
abbrev S2056x256 : Shape := ⟨2, ![2056, 256]⟩
abbrev S1x256 : Shape := ⟨2, ![1, 256]⟩
abbrev S256 : Shape := ⟨1, ![256]⟩

abbrev nBuf : Space → Nat
  | .hbm => 5
  | .vmem => 12
  | .smem => 0
  | _ => 0

abbrev bufTy : (tb : Table) → Fin (tcTables nBuf tb) → BufTy
  | .hbm, ⟨0, _⟩ => ⟨S8192x2560, .bf16⟩
  | .hbm, ⟨1, _⟩ => ⟨S3x256, .f32⟩
  | .hbm, ⟨2, _⟩ => ⟨S8192x1024, .bf16⟩
  | .hbm, ⟨3, _⟩ => ⟨S8192x768, .bf16⟩
  | .hbm, ⟨4, _⟩ => ⟨S3x256, .f32⟩
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S2048x256, .bf16⟩
  | .local _ .vmem, ⟨5, _⟩ => ⟨S2048x256, .bf16⟩
  | .local _ .vmem, ⟨6, _⟩ => ⟨S3x256, .f32⟩
  | .local _ .vmem, ⟨7, _⟩ => ⟨S2048x256, .bf16⟩
  | .local _ .vmem, ⟨8, _⟩ => ⟨S2048x256, .bf16⟩
  | .local _ .vmem, ⟨9, _⟩ => ⟨S2048x768, .bf16⟩
  | .local _ .vmem, ⟨10, _⟩ => ⟨S2048x768, .bf16⟩
  | .local _ .vmem, ⟨11, _⟩ => ⟨S3x256, .f32⟩
  | _, _ => ⟨S8192x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S3x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference14Ideal.lean ====
abbrev S8192x2560 : Shape := ⟨2, ![8192, 2560]⟩
abbrev S3x256 : Shape := ⟨2, ![3, 256]⟩
abbrev S8192x1024 : Shape := ⟨2, ![8192, 1024]⟩
abbrev S8192x768 : Shape := ⟨2, ![8192, 768]⟩
abbrev S4x2048x768 : Shape := ⟨3, ![4, 2048, 768]⟩
abbrev S8192x256 : Shape := ⟨2, ![8192, 256]⟩
abbrev S4x2048x256 : Shape := ⟨3, ![4, 2048, 256]⟩
abbrev S_ : Shape := ⟨0, ![]⟩
abbrev S4x2x256 : Shape := ⟨3, ![4, 2, 256]⟩
abbrev S4x2050x256 : Shape := ⟨3, ![4, 2050, 256]⟩
abbrev S1x256 : Shape := ⟨2, ![1, 256]⟩
abbrev S256 : Shape := ⟨1, ![256]⟩
abbrev S1x1x256 : Shape := ⟨3, ![1, 1, 256]⟩

abbrev nBuf : Space → Nat
  | .hbm => 94
  | .vmem => 0
  | .smem => 0
  | _ => 0

abbrev bufTy : (tb : Table) → Fin (tcTables nBuf tb) → BufTy
  | .hbm, ⟨0, _⟩ => ⟨S8192x2560, .bf16⟩
  | .hbm, ⟨1, _⟩ => ⟨S3x256, .f32⟩
  | .hbm, ⟨2, _⟩ => ⟨S8192x1024, .bf16⟩
  | .hbm, ⟨3, _⟩ => ⟨S8192x768, .bf16⟩
  | .hbm, ⟨4, _⟩ => ⟨S8192x768, .f32⟩
  | .hbm, ⟨5, _⟩ => ⟨S4x2048x768, .f32⟩
  | .hbm, ⟨6, _⟩ => ⟨S8192x256, .bf16⟩
  | .hbm, ⟨7, _⟩ => ⟨S8192x256, .f32⟩
  | .hbm, ⟨8, _⟩ => ⟨S4x2048x256, .f32⟩
  | .hbm, ⟨9, _⟩ => ⟨S4x2048x256, .f32⟩
  | .hbm, ⟨10, _⟩ => ⟨S4x2048x256, .f32⟩
  | .hbm, ⟨11, _⟩ => ⟨S4x2048x256, .f32⟩
  | .hbm, ⟨12, _⟩ => ⟨S4x2048x256, .f32⟩
  | .hbm, ⟨13, _⟩ => ⟨S_, .f32⟩
  | .hbm, ⟨14, _⟩ => ⟨S4x2x256, .f32⟩
  | .hbm, ⟨15, _⟩ => ⟨S4x2050x256, .f32⟩
  | .hbm, ⟨16, _⟩ => ⟨S_, .f32⟩
  | .hbm, ⟨17, _⟩ => ⟨S4x2x256, .f32⟩
  | .hbm, ⟨18, _⟩ => ⟨S1x256, .f32⟩
  | .hbm, ⟨19, _⟩ => ⟨S256, .f32⟩
  | .hbm, ⟨20, _⟩ => ⟨S4x2048x256, .f32⟩
  | .hbm, ⟨21, _⟩ => ⟨S1x1x256, .f32⟩
  | .hbm, ⟨22, _⟩ => ⟨S4x2048x256, .f32⟩
  | .hbm, ⟨23, _⟩ => ⟨S4x2048x256, .f32⟩
  | .hbm, ⟨24, _⟩ => ⟨S_, .f32⟩
  | .hbm, ⟨25, _⟩ => ⟨S4x2048x256, .f32⟩
  | .hbm, ⟨26, _⟩ => ⟨S4x2048x256, .f32⟩
  | .hbm, ⟨27, _⟩ => ⟨S1x256, .f32⟩
  | .hbm, ⟨28, _⟩ => ⟨S256, .f32⟩
  | .hbm, ⟨29, _⟩ => ⟨S4x2048x256, .f32⟩
  | .hbm, ⟨30, _⟩ => ⟨S1x1x256, .f32⟩
  | .hbm, ⟨31, _⟩ => ⟨S4x2048x256, .f32⟩
  | .hbm, ⟨32, _⟩ => ⟨S4x2048x256, .f32⟩
  | .hbm, ⟨33, _⟩ => ⟨S4x2048x256, .f32⟩
  | .hbm, ⟨34, _⟩ => ⟨S1x256, .f32⟩
  | .hbm, ⟨35, _⟩ => ⟨S256, .f32⟩
  | .hbm, ⟨36, _⟩ => ⟨S4x2048x256, .f32⟩
  | .hbm, ⟨37, _⟩ => ⟨S1x1x256, .f32⟩
  | .hbm, ⟨38, _⟩ => ⟨S4x2048x256, .f32⟩
  | .hbm, ⟨39, _⟩ => ⟨S4x2048x256, .f32⟩
  | .hbm, ⟨40, _⟩ => ⟨S4x2048x256, .f32⟩
  | .hbm, ⟨41, _⟩ => ⟨S4x2048x256, .f32⟩
  | .hbm, ⟨42, _⟩ => ⟨S4x2048x256, .f32⟩
  | .hbm, ⟨43, _⟩ => ⟨S4x2048x256, .f32⟩
  | .hbm, ⟨44, _⟩ => ⟨S4x2048x256, .f32⟩
  | .hbm, ⟨45, _⟩ => ⟨S4x2048x256, .f32⟩
  | .hbm, ⟨46, _⟩ => ⟨S4x2048x256, .f32⟩
  | .hbm, ⟨47, _⟩ => ⟨S_, .f32⟩
  | .hbm, ⟨48, _⟩ => ⟨S256, .f32⟩
  | .hbm, ⟨49, _⟩ => ⟨S1x1x256, .f32⟩
  | .hbm, ⟨50, _⟩ => ⟨S_, .f32⟩
  | .hbm, ⟨51, _⟩ => ⟨S256, .f32⟩
  | .hbm, ⟨52, _⟩ => ⟨S_, .f32⟩
  | .hbm, ⟨53, _⟩ => ⟨S4x2050x256, .f32⟩
  | .hbm, ⟨54, _⟩ => ⟨S1x256, .f32⟩
  | .hbm, ⟨55, _⟩ => ⟨S_, .f32⟩
  | .hbm, ⟨56, _⟩ => ⟨S3x256, .f32⟩
  | .hbm, ⟨57, _⟩ => ⟨S4x2048x256, .f32⟩
  | .hbm, ⟨58, _⟩ => ⟨S4x2048x256, .f32⟩
  | .hbm, ⟨59, _⟩ => ⟨S4x2048x256, .f32⟩
  | .hbm, ⟨60, _⟩ => ⟨S_, .f32⟩
  | .hbm, ⟨61, _⟩ => ⟨S256, .f32⟩
  | .hbm, ⟨62, _⟩ => ⟨S1x1x256, .f32⟩
  | .hbm, ⟨63, _⟩ => ⟨S_, .f32⟩
  | .hbm, ⟨64, _⟩ => ⟨S256, .f32⟩
  | .hbm, ⟨65, _⟩ => ⟨S_, .f32⟩
  | .hbm, ⟨66, _⟩ => ⟨S4x2050x256, .f32⟩
  | .hbm, ⟨67, _⟩ => ⟨S4x2050x256, .f32⟩
  | .hbm, ⟨68, _⟩ => ⟨S1x256, .f32⟩
  | .hbm, ⟨69, _⟩ => ⟨S_, .f32⟩
  | .hbm, ⟨70, _⟩ => ⟨S3x256, .f32⟩
  | .hbm, ⟨71, _⟩ => ⟨S3x256, .f32⟩
  | .hbm, ⟨72, _⟩ => ⟨S4x2048x256, .f32⟩
  | .hbm, ⟨73, _⟩ => ⟨S4x2048x256, .f32⟩
  | .hbm, ⟨74, _⟩ => ⟨S4x2048x256, .f32⟩
  | .hbm, ⟨75, _⟩ => ⟨S_, .f32⟩
  | .hbm, ⟨76, _⟩ => ⟨S256, .f32⟩
  | .hbm, ⟨77, _⟩ => ⟨S1x1x256, .f32⟩
  | .hbm, ⟨78, _⟩ => ⟨S_, .f32⟩
  | .hbm, ⟨79, _⟩ => ⟨S256, .f32⟩
  | .hbm, ⟨80, _⟩ => ⟨S_, .f32⟩
  | .hbm, ⟨81, _⟩ => ⟨S4x2050x256, .f32⟩
  | .hbm, ⟨82, _⟩ => ⟨S4x2050x256, .f32⟩
  | .hbm, ⟨83, _⟩ => ⟨S1x256, .f32⟩
  | .hbm, ⟨84, _⟩ => ⟨S_, .f32⟩
  | .hbm, ⟨85, _⟩ => ⟨S3x256, .f32⟩
  | .hbm, ⟨86, _⟩ => ⟨S3x256, .f32⟩
  | .hbm, ⟨87, _⟩ => ⟨S4x2x256, .f32⟩
  | .hbm, ⟨88, _⟩ => ⟨S4x2048x256, .f32⟩
  | .hbm, ⟨89, _⟩ => ⟨S4x2048x256, .f32⟩
  | .hbm, ⟨90, _⟩ => ⟨S4x2048x256, .f32⟩
  | .hbm, ⟨91, _⟩ => ⟨S4x2048x768, .f32⟩
  | .hbm, ⟨92, _⟩ => ⟨S8192x768, .f32⟩
  | .hbm, ⟨93, _⟩ => ⟨S8192x768, .bf16⟩
  | _, _ => ⟨S8192x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_1 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_cst_2 : Ref sig .tc := ⟨.hbm, 47, rfl⟩
abbrev main_v41 : Ref sig .tc := ⟨.hbm, 48, rfl⟩
abbrev main_v42 : Ref sig .tc := ⟨.hbm, 49, rfl⟩
abbrev main_cst_3 : Ref sig .tc := ⟨.hbm, 50, rfl⟩
abbrev main_v43 : Ref sig .tc := ⟨.hbm, 51, rfl⟩
abbrev main_cst_4 : Ref sig .tc := ⟨.hbm, 52, rfl⟩
abbrev main_v44 : Ref sig .tc := ⟨.hbm, 53, rfl⟩
abbrev main_v45 : Ref sig .tc := ⟨.hbm, 54, rfl⟩
abbrev main_cst_5 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_cst_6 : Ref sig .tc := ⟨.hbm, 60, rfl⟩
abbrev main_v50 : Ref sig .tc := ⟨.hbm, 61, rfl⟩
abbrev main_v51 : Ref sig .tc := ⟨.hbm, 62, rfl⟩
abbrev main_cst_7 : Ref sig .tc := ⟨.hbm, 63, rfl⟩
abbrev main_v52 : Ref sig .tc := ⟨.hbm, 64, rfl⟩
abbrev main_cst_8 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_cst_9 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_cst_10 : Ref sig .tc := ⟨.hbm, 75, rfl⟩
abbrev main_v61 : Ref sig .tc := ⟨.hbm, 76, rfl⟩
abbrev main_v62 : Ref sig .tc := ⟨.hbm, 77, rfl⟩
abbrev main_cst_11 : Ref sig .tc := ⟨.hbm, 78, rfl⟩
abbrev main_v63 : Ref sig .tc := ⟨.hbm, 79, rfl⟩
abbrev main_cst_12 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_cst_13 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩

abbrev nD : Nat := 1
abbrev τ : Topo := Topo.v7x

variable {F : FTy → Type} [FloatOps F]
-- ==== Kernel15.lean ====
abbrev S8192x5632 : Shape := ⟨2, ![8192, 5632]⟩
abbrev S3x5632 : Shape := ⟨2, ![3, 5632]⟩
abbrev S8192x2816 : Shape := ⟨2, ![8192, 2816]⟩
abbrev S8192x256 : Shape := ⟨2, ![8192, 256]⟩
abbrev S3x256 : Shape := ⟨2, ![3, 256]⟩
abbrev S2048x256 : Shape := ⟨2, ![2048, 256]⟩
abbrev S8x256 : Shape := ⟨2, ![8, 256]⟩
abbrev S2056x256 : Shape := ⟨2, ![2056, 256]⟩
abbrev S1x256 : Shape := ⟨2, ![1, 256]⟩

abbrev nBuf : Space → Nat
  | .hbm => 5
  | .vmem => 14
  | .smem => 0
  | _ => 0

abbrev bufTy : (tb : Table) → Fin (tcTables nBuf tb) → BufTy
  | .hbm, ⟨0, _⟩ => ⟨S8192x5632, .bf16⟩
  | .hbm, ⟨1, _⟩ => ⟨S3x5632, .f32⟩
  | .hbm, ⟨2, _⟩ => ⟨S8192x2816, .bf16⟩
  | .hbm, ⟨3, _⟩ => ⟨S8192x2816, .bf16⟩
  | .hbm, ⟨4, _⟩ => ⟨S8192x2816, .bf16⟩
  | .local _ .vmem, ⟨0, _⟩ => ⟨S8192x256, .bf16⟩
  | .local _ .vmem, ⟨1, _⟩ => ⟨S8192x256, .bf16⟩
  | .local _ .vmem, ⟨2, _⟩ => ⟨S8192x256, .bf16⟩
  | .local _ .vmem, ⟨3, _⟩ => ⟨S8192x256, .bf16⟩
  | .local _ .vmem, ⟨4, _⟩ => ⟨S3x256, .f32⟩
  | .local _ .vmem, ⟨5, _⟩ => ⟨S3x256, .f32⟩
  | .local _ .vmem, ⟨6, _⟩ => ⟨S3x256, .f32⟩
  | .local _ .vmem, ⟨7, _⟩ => ⟨S3x256, .f32⟩
  | .local _ .vmem, ⟨8, _⟩ => ⟨S8192x256, .bf16⟩
  | .local _ .vmem, ⟨9, _⟩ => ⟨S8192x256, .bf16⟩
  | .local _ .vmem, ⟨10, _⟩ => ⟨S8192x256, .bf16⟩
  | .local _ .vmem, ⟨11, _⟩ => ⟨S8192x256, .bf16⟩
  | .local _ .vmem, ⟨12, _⟩ => ⟨S8192x256, .bf16⟩
  | .local _ .vmem, ⟨13, _⟩ => ⟨S8192x256, .bf16⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![1, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S8192x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S3x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S3x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S8192x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8192x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8192x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference15Ideal.lean ====
abbrev S8192x5632 : Shape := ⟨2, ![8192, 5632]⟩
abbrev S3x5632 : Shape := ⟨2, ![3, 5632]⟩
abbrev S4x2048x5632 : Shape := ⟨3, ![4, 2048, 5632]⟩
abbrev S_ : Shape := ⟨0, ![]⟩
abbrev S4x2x5632 : Shape := ⟨3, ![4, 2, 5632]⟩
abbrev S4x2050x5632 : Shape := ⟨3, ![4, 2050, 5632]⟩
abbrev S1x5632 : Shape := ⟨2, ![1, 5632]⟩
abbrev S5632 : Shape := ⟨1, ![5632]⟩
abbrev S1x1x5632 : Shape := ⟨3, ![1, 1, 5632]⟩
abbrev S4x2048x2816 : Shape := ⟨3, ![4, 2048, 2816]⟩
abbrev S8192x2816 : Shape := ⟨2, ![8192, 2816]⟩

abbrev nBuf : Space → Nat
  | .hbm => 75
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S3x5632, .f32⟩
  | .hbm, ⟨2, _⟩ => ⟨S8192x5632, .f32⟩
  | .hbm, ⟨3, _⟩ => ⟨S4x2048x5632, .f32⟩
  | .hbm, ⟨4, _⟩ => ⟨S_, .f32⟩
  | .hbm, ⟨5, _⟩ => ⟨S4x2x5632, .f32⟩
  | .hbm, ⟨6, _⟩ => ⟨S4x2050x5632, .f32⟩
  | .hbm, ⟨7, _⟩ => ⟨S1x5632, .f32⟩
  | .hbm, ⟨8, _⟩ => ⟨S5632, .f32⟩
  | .hbm, ⟨9, _⟩ => ⟨S4x2048x5632, .f32⟩
  | .hbm, ⟨10, _⟩ => ⟨S1x1x5632, .f32⟩
  | .hbm, ⟨11, _⟩ => ⟨S4x2048x5632, .f32⟩
  | .hbm, ⟨12, _⟩ => ⟨S4x2048x5632, .f32⟩
  | .hbm, ⟨13, _⟩ => ⟨S_, .f32⟩
  | .hbm, ⟨14, _⟩ => ⟨S4x2048x5632, .f32⟩
  | .hbm, ⟨15, _⟩ => ⟨S4x2048x5632, .f32⟩
  | .hbm, ⟨16, _⟩ => ⟨S1x5632, .f32⟩
  | .hbm, ⟨17, _⟩ => ⟨S5632, .f32⟩
  | .hbm, ⟨18, _⟩ => ⟨S4x2048x5632, .f32⟩
  | .hbm, ⟨19, _⟩ => ⟨S1x1x5632, .f32⟩
  | .hbm, ⟨20, _⟩ => ⟨S4x2048x5632, .f32⟩
  | .hbm, ⟨21, _⟩ => ⟨S4x2048x5632, .f32⟩
  | .hbm, ⟨22, _⟩ => ⟨S4x2048x5632, .f32⟩
  | .hbm, ⟨23, _⟩ => ⟨S1x5632, .f32⟩
  | .hbm, ⟨24, _⟩ => ⟨S5632, .f32⟩
  | .hbm, ⟨25, _⟩ => ⟨S4x2048x5632, .f32⟩
  | .hbm, ⟨26, _⟩ => ⟨S1x1x5632, .f32⟩
  | .hbm, ⟨27, _⟩ => ⟨S4x2048x5632, .f32⟩
  | .hbm, ⟨28, _⟩ => ⟨S4x2048x5632, .f32⟩
  | .hbm, ⟨29, _⟩ => ⟨S4x2048x5632, .f32⟩
  | .hbm, ⟨30, _⟩ => ⟨S8192x5632, .f32⟩
  | .hbm, ⟨31, _⟩ => ⟨S_, .f32⟩
  | .hbm, ⟨32, _⟩ => ⟨S4x2x5632, .f32⟩
  | .hbm, ⟨33, _⟩ => ⟨S4x2050x5632, .f32⟩
  | .hbm, ⟨34, _⟩ => ⟨S1x5632, .f32⟩
  | .hbm, ⟨35, _⟩ => ⟨S5632, .f32⟩
  | .hbm, ⟨36, _⟩ => ⟨S4x2048x5632, .f32⟩
  | .hbm, ⟨37, _⟩ => ⟨S1x1x5632, .f32⟩
  | .hbm, ⟨38, _⟩ => ⟨S4x2048x5632, .f32⟩
  | .hbm, ⟨39, _⟩ => ⟨S4x2048x5632, .f32⟩
  | .hbm, ⟨40, _⟩ => ⟨S_, .f32⟩
  | .hbm, ⟨41, _⟩ => ⟨S4x2048x5632, .f32⟩
  | .hbm, ⟨42, _⟩ => ⟨S4x2048x5632, .f32⟩
  | .hbm, ⟨43, _⟩ => ⟨S1x5632, .f32⟩
  | .hbm, ⟨44, _⟩ => ⟨S5632, .f32⟩
  | .hbm, ⟨45, _⟩ => ⟨S4x2048x5632, .f32⟩
  | .hbm, ⟨46, _⟩ => ⟨S1x1x5632, .f32⟩
  | .hbm, ⟨47, _⟩ => ⟨S4x2048x5632, .f32⟩
  | .hbm, ⟨48, _⟩ => ⟨S4x2048x5632, .f32⟩
  | .hbm, ⟨49, _⟩ => ⟨S4x2048x5632, .f32⟩
  | .hbm, ⟨50, _⟩ => ⟨S1x5632, .f32⟩
  | .hbm, ⟨51, _⟩ => ⟨S5632, .f32⟩
  | .hbm, ⟨52, _⟩ => ⟨S4x2048x5632, .f32⟩
  | .hbm, ⟨53, _⟩ => ⟨S1x1x5632, .f32⟩
  | .hbm, ⟨54, _⟩ => ⟨S4x2048x5632, .f32⟩
  | .hbm, ⟨55, _⟩ => ⟨S4x2048x5632, .f32⟩
  | .hbm, ⟨56, _⟩ => ⟨S4x2048x5632, .f32⟩
  | .hbm, ⟨57, _⟩ => ⟨S4x2048x2816, .f32⟩
  | .hbm, ⟨58, _⟩ => ⟨S4x2048x2816, .f32⟩
  | .hbm, ⟨59, _⟩ => ⟨S4x2048x2816, .f32⟩
  | .hbm, ⟨60, _⟩ => ⟨S4x2048x2816, .f32⟩
  | .hbm, ⟨61, _⟩ => ⟨S_, .f32⟩
  | .hbm, ⟨62, _⟩ => ⟨S4x2048x2816, .f32⟩
  | .hbm, ⟨63, _⟩ => ⟨S4x2048x2816, .f32⟩
  | .hbm, ⟨64, _⟩ => ⟨S_, .f32⟩
  | .hbm, ⟨65, _⟩ => ⟨S4x2048x2816, .f32⟩
  | .hbm, ⟨66, _⟩ => ⟨S4x2048x2816, .f32⟩
  | .hbm, ⟨67, _⟩ => ⟨S4x2048x2816, .f32⟩
  | .hbm, ⟨68, _⟩ => ⟨S4x2048x2816, .f32⟩
  | .hbm, ⟨69, _⟩ => ⟨S8192x2816, .f32⟩
  | .hbm, ⟨70, _⟩ => ⟨S8192x2816, .bf16⟩
  | .hbm, ⟨71, _⟩ => ⟨S8192x2816, .f32⟩
  | .hbm, ⟨72, _⟩ => ⟨S8192x2816, .bf16⟩
  | .hbm, ⟨73, _⟩ => ⟨S8192x2816, .f32⟩
  | .hbm, ⟨74, _⟩ => ⟨S8192x2816, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_cst_1 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_cst_2 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_call0_v0 : Ref sig .tc := ⟨.hbm, 59, rfl⟩
abbrev main_call0_v1 : Ref sig .tc := ⟨.hbm, 60, rfl⟩
abbrev main_call0_cst : Ref sig .tc := ⟨.hbm, 61, rfl⟩
abbrev main_call0_v2 : Ref sig .tc := ⟨.hbm, 62, rfl⟩
abbrev main_call0_v3 : Ref sig .tc := ⟨.hbm, 63, rfl⟩
abbrev main_call0_cst_0 : Ref sig .tc := ⟨.hbm, 64, rfl⟩
abbrev main_call0_v4 : Ref sig .tc := ⟨.hbm, 65, rfl⟩
abbrev main_call0_v5 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩

abbrev nD : Nat := 1
abbrev τ : Topo := Topo.v7x

variable {F : FTy → Type} [FloatOps F]
-- ==== Kernel16.lean ====
abbrev S8192x2560 : Shape := ⟨2, ![8192, 2560]⟩
abbrev S3x256 : Shape := ⟨2, ![3, 256]⟩
abbrev S8192x256 : Shape := ⟨2, ![8192, 256]⟩
abbrev S2048x256 : Shape := ⟨2, ![2048, 256]⟩
abbrev S8x256 : Shape := ⟨2, ![8, 256]⟩
abbrev S2056x256 : Shape := ⟨2, ![2056, 256]⟩
abbrev S1x256 : Shape := ⟨2, ![1, 256]⟩

abbrev nBuf : Space → Nat
  | .hbm => 3
  | .vmem => 9
  | .smem => 0
  | _ => 0

abbrev bufTy : (tb : Table) → Fin (tcTables nBuf tb) → BufTy
  | .hbm, ⟨0, _⟩ => ⟨S8192x2560, .bf16⟩
  | .hbm, ⟨1, _⟩ => ⟨S3x256, .f32⟩
  | .hbm, ⟨2, _⟩ => ⟨S8192x256, .bf16⟩
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S2048x256, .bf16⟩
  | .local _ .vmem, ⟨5, _⟩ => ⟨S2048x256, .bf16⟩
  | .local _ .vmem, ⟨6, _⟩ => ⟨S3x256, .f32⟩
  | .local _ .vmem, ⟨7, _⟩ => ⟨S2048x256, .bf16⟩
  | .local _ .vmem, ⟨8, _⟩ => ⟨S2048x256, .bf16⟩
  | _, _ => ⟨S8192x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference16Ideal.lean ====
abbrev S8192x2560 : Shape := ⟨2, ![8192, 2560]⟩
abbrev S3x256 : Shape := ⟨2, ![3, 256]⟩
abbrev S8192x768 : Shape := ⟨2, ![8192, 768]⟩
abbrev S4x2048x768 : Shape := ⟨3, ![4, 2048, 768]⟩
abbrev S4x2048x256 : Shape := ⟨3, ![4, 2048, 256]⟩
abbrev S_ : Shape := ⟨0, ![]⟩
abbrev S4x2x256 : Shape := ⟨3, ![4, 2, 256]⟩
abbrev S4x2050x256 : Shape := ⟨3, ![4, 2050, 256]⟩
abbrev S1x256 : Shape := ⟨2, ![1, 256]⟩
abbrev S256 : Shape := ⟨1, ![256]⟩
abbrev S1x1x256 : Shape := ⟨3, ![1, 1, 256]⟩
abbrev S8192x256 : Shape := ⟨2, ![8192, 256]⟩

abbrev nBuf : Space → Nat
  | .hbm => 38
  | .vmem => 0
  | .smem => 0
  | _ => 0

abbrev bufTy : (tb : Table) → Fin (tcTables nBuf tb) → BufTy
  | .hbm, ⟨0, _⟩ => ⟨S8192x2560, .bf16⟩
  | .hbm, ⟨1, _⟩ => ⟨S3x256, .f32⟩
  | .hbm, ⟨2, _⟩ => ⟨S8192x768, .bf16⟩
  | .hbm, ⟨3, _⟩ => ⟨S8192x768, .f32⟩
  | .hbm, ⟨4, _⟩ => ⟨S4x2048x768, .f32⟩
  | .hbm, ⟨5, _⟩ => ⟨S4x2048x256, .f32⟩
  | .hbm, ⟨6, _⟩ => ⟨S4x2048x256, .f32⟩
  | .hbm, ⟨7, _⟩ => ⟨S4x2048x256, .f32⟩
  | .hbm, ⟨8, _⟩ => ⟨S4x2048x256, .f32⟩
  | .hbm, ⟨9, _⟩ => ⟨S_, .f32⟩
  | .hbm, ⟨10, _⟩ => ⟨S4x2x256, .f32⟩
  | .hbm, ⟨11, _⟩ => ⟨S4x2050x256, .f32⟩
  | .hbm, ⟨12, _⟩ => ⟨S1x256, .f32⟩
  | .hbm, ⟨13, _⟩ => ⟨S256, .f32⟩
  | .hbm, ⟨14, _⟩ => ⟨S4x2048x256, .f32⟩
  | .hbm, ⟨15, _⟩ => ⟨S1x1x256, .f32⟩
  | .hbm, ⟨16, _⟩ => ⟨S4x2048x256, .f32⟩
  | .hbm, ⟨17, _⟩ => ⟨S4x2048x256, .f32⟩
  | .hbm, ⟨18, _⟩ => ⟨S_, .f32⟩
  | .hbm, ⟨19, _⟩ => ⟨S4x2048x256, .f32⟩
  | .hbm, ⟨20, _⟩ => ⟨S4x2048x256, .f32⟩
  | .hbm, ⟨21, _⟩ => ⟨S1x256, .f32⟩
  | .hbm, ⟨22, _⟩ => ⟨S256, .f32⟩
  | .hbm, ⟨23, _⟩ => ⟨S4x2048x256, .f32⟩
  | .hbm, ⟨24, _⟩ => ⟨S1x1x256, .f32⟩
  | .hbm, ⟨25, _⟩ => ⟨S4x2048x256, .f32⟩
  | .hbm, ⟨26, _⟩ => ⟨S4x2048x256, .f32⟩
  | .hbm, ⟨27, _⟩ => ⟨S4x2048x256, .f32⟩
  | .hbm, ⟨28, _⟩ => ⟨S1x256, .f32⟩
  | .hbm, ⟨29, _⟩ => ⟨S256, .f32⟩
  | .hbm, ⟨30, _⟩ => ⟨S4x2048x256, .f32⟩
  | .hbm, ⟨31, _⟩ => ⟨S1x1x256, .f32⟩
  | .hbm, ⟨32, _⟩ => ⟨S4x2048x256, .f32⟩
  | .hbm, ⟨33, _⟩ => ⟨S4x2048x256, .f32⟩
  | .hbm, ⟨34, _⟩ => ⟨S4x2048x256, .f32⟩
  | .hbm, ⟨35, _⟩ => ⟨S4x2048x256, .f32⟩
  | .hbm, ⟨36, _⟩ => ⟨S8192x256, .f32⟩
  | .hbm, ⟨37, _⟩ => ⟨S8192x256, .bf16⟩
  | _, _ => ⟨S8192x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst_0 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩

abbrev nD : Nat := 1
abbrev τ : Topo := Topo.v7x

variable {F : FTy → Type} [FloatOps F]
-- ==== Kernel17.lean ====
abbrev S8192x2560 : Shape := ⟨2, ![8192, 2560]⟩
abbrev S256 : Shape := ⟨1, ![256]⟩
abbrev S4x128x128 : Shape := ⟨3, ![4, 128, 128]⟩
abbrev S4x128 : Shape := ⟨2, ![4, 128]⟩
abbrev S128x4 : Shape := ⟨2, ![128, 4]⟩
abbrev S128x4x64 : Shape := ⟨3, ![128, 4, 64]⟩
abbrev S128x256 : Shape := ⟨2, ![128, 256]⟩
abbrev S1x256 : Shape := ⟨2, ![1, 256]⟩
abbrev S8192x256 : Shape := ⟨2, ![8192, 256]⟩
abbrev S2048x256 : Shape := ⟨2, ![2048, 256]⟩
abbrev S2048 : Shape := ⟨1, ![2048]⟩
abbrev S2048x1 : Shape := ⟨2, ![2048, 1]⟩
abbrev S16x128x256 : Shape := ⟨3, ![16, 128, 256]⟩
abbrev S128x128 : Shape := ⟨2, ![128, 128]⟩
abbrev S1x128x128 : Shape := ⟨3, ![1, 128, 128]⟩
abbrev S16x128x128 : Shape := ⟨3, ![16, 128, 128]⟩
abbrev S1x1x256 : Shape := ⟨3, ![1, 1, 256]⟩
abbrev S1x128x256 : Shape := ⟨3, ![1, 128, 256]⟩

abbrev nBuf : Space → Nat
  | .hbm => 11
  | .vmem => 10
  | .smem => 0
  | _ => 0

abbrev bufTy : (tb : Table) → Fin (tcTables nBuf tb) → BufTy
  | .hbm, ⟨0, _⟩ => ⟨S8192x2560, .bf16⟩
  | .hbm, ⟨1, _⟩ => ⟨S256, .f32⟩
  | .hbm, ⟨2, _⟩ => ⟨S256, .f32⟩
  | .hbm, ⟨3, _⟩ => ⟨S4x128x128, .f32⟩
  | .hbm, ⟨4, _⟩ => ⟨S4x128, .f32⟩
  | .hbm, ⟨5, _⟩ => ⟨S128x4, .f32⟩
  | .hbm, ⟨6, _⟩ => ⟨S128x4x64, .f32⟩
  | .hbm, ⟨7, _⟩ => ⟨S128x256, .f32⟩
  | .hbm, ⟨8, _⟩ => ⟨S1x256, .f32⟩
  | .hbm, ⟨9, _⟩ => ⟨S1x256, .f32⟩
  | .hbm, ⟨10, _⟩ => ⟨S8192x256, .bf16⟩
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S1x256, .f32⟩
  | .local _ .vmem, ⟨5, _⟩ => ⟨S1x256, .f32⟩
  | .local _ .vmem, ⟨6, _⟩ => ⟨S4x128x128, .f32⟩
  | .local _ .vmem, ⟨7, _⟩ => ⟨S128x256, .f32⟩
  | .local _ .vmem, ⟨8, _⟩ => ⟨S2048x256, .bf16⟩
  | .local _ .vmem, ⟨9, _⟩ => ⟨S2048x256, .bf16⟩
  | _, _ => ⟨S8192x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_1 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel17Ideal.lean ====
variable {F : FTy → Type} [FloatOps F] [Named F]
def κ : String → Option EReal := fun
  | "inv_sqrt2" => some (((Real.sqrt 2)⁻¹ : ℝ) : EReal)
  | _ => none
-- ==== Reference17Ideal.lean ====
abbrev S8192x2560 : Shape := ⟨2, ![8192, 2560]⟩
abbrev S256 : Shape := ⟨1, ![256]⟩
abbrev S4x128x128 : Shape := ⟨3, ![4, 128, 128]⟩
abbrev S4x128 : Shape := ⟨2, ![4, 128]⟩
abbrev S8192x512 : Shape := ⟨2, ![8192, 512]⟩
abbrev S_ : Shape := ⟨0, ![]⟩
abbrev S128x128 : Shape := ⟨2, ![128, 128]⟩
abbrev S8192x256 : Shape := ⟨2, ![8192, 256]⟩
abbrev S8192 : Shape := ⟨1, ![8192]⟩
abbrev S8192x1 : Shape := ⟨2, ![8192, 1]⟩
abbrev S1x256 : Shape := ⟨2, ![1, 256]⟩
abbrev S4x16x128x4x64 : Shape := ⟨5, ![4, 16, 128, 4, 64]⟩
abbrev S1x128x128 : Shape := ⟨3, ![1, 128, 128]⟩
abbrev S4x4x16x64x128 : Shape := ⟨5, ![4, 4, 16, 64, 128]⟩
abbrev S128x4 : Shape := ⟨2, ![128, 4]⟩
abbrev S1x1x128x4x1 : Shape := ⟨5, ![1, 1, 128, 4, 1]⟩

abbrev nBuf : Space → Nat
  | .hbm => 72
  | .vmem => 0
  | .smem => 0
  | _ => 0

abbrev bufTy : (tb : Table) → Fin (tcTables nBuf tb) → BufTy
  | .hbm, ⟨0, _⟩ => ⟨S8192x2560, .bf16⟩
  | .hbm, ⟨1, _⟩ => ⟨S256, .f32⟩
  | .hbm, ⟨2, _⟩ => ⟨S256, .f32⟩
  | .hbm, ⟨3, _⟩ => ⟨S4x128x128, .f32⟩
  | .hbm, ⟨4, _⟩ => ⟨S4x128, .f32⟩
  | .hbm, ⟨5, _⟩ => ⟨S8192x512, .bf16⟩
  | .hbm, ⟨6, _⟩ => ⟨S8192x512, .f32⟩
  | .hbm, ⟨7, _⟩ => ⟨S_, .f32⟩
  | .hbm, ⟨8, _⟩ => ⟨S128x128, .f32⟩
  | .hbm, ⟨9, _⟩ => ⟨S128x128, .i32⟩
  | .hbm, ⟨10, _⟩ => ⟨S_, .i32⟩
  | .hbm, ⟨11, _⟩ => ⟨S128x128, .i32⟩
  | .hbm, ⟨12, _⟩ => ⟨S128x128, .i32⟩
  | .hbm, ⟨13, _⟩ => ⟨S128x128, .i32⟩
  | .hbm, ⟨14, _⟩ => ⟨S128x128, .i1⟩
  | .hbm, ⟨15, _⟩ => ⟨S_, .f32⟩
  | .hbm, ⟨16, _⟩ => ⟨S128x128, .f32⟩
  | .hbm, ⟨17, _⟩ => ⟨S128x128, .f32⟩
  | .hbm, ⟨18, _⟩ => ⟨S_, .f32⟩
  | .hbm, ⟨19, _⟩ => ⟨S_, .f32⟩
  | .hbm, ⟨20, _⟩ => ⟨S8192x512, .f32⟩
  | .hbm, ⟨21, _⟩ => ⟨S8192x512, .f32⟩
  | .hbm, ⟨22, _⟩ => ⟨S8192x512, .f32⟩
  | .hbm, ⟨23, _⟩ => ⟨S_, .f32⟩
  | .hbm, ⟨24, _⟩ => ⟨S8192x512, .f32⟩
  | .hbm, ⟨25, _⟩ => ⟨S8192x512, .f32⟩
  | .hbm, ⟨26, _⟩ => ⟨S_, .f32⟩
  | .hbm, ⟨27, _⟩ => ⟨S8192x512, .f32⟩
  | .hbm, ⟨28, _⟩ => ⟨S8192x512, .f32⟩
  | .hbm, ⟨29, _⟩ => ⟨S8192x512, .f32⟩
  | .hbm, ⟨30, _⟩ => ⟨S8192x256, .f32⟩
  | .hbm, ⟨31, _⟩ => ⟨S8192x256, .f32⟩
  | .hbm, ⟨32, _⟩ => ⟨S_, .f32⟩
  | .hbm, ⟨33, _⟩ => ⟨S8192, .f32⟩
  | .hbm, ⟨34, _⟩ => ⟨S8192x1, .f32⟩
  | .hbm, ⟨35, _⟩ => ⟨S_, .f32⟩
  | .hbm, ⟨36, _⟩ => ⟨S8192x1, .f32⟩
  | .hbm, ⟨37, _⟩ => ⟨S8192x1, .f32⟩
  | .hbm, ⟨38, _⟩ => ⟨S8192x256, .f32⟩
  | .hbm, ⟨39, _⟩ => ⟨S8192x256, .f32⟩
  | .hbm, ⟨40, _⟩ => ⟨S8192x256, .f32⟩
  | .hbm, ⟨41, _⟩ => ⟨S_, .f32⟩
  | .hbm, ⟨42, _⟩ => ⟨S8192, .f32⟩
  | .hbm, ⟨43, _⟩ => ⟨S8192x1, .f32⟩
  | .hbm, ⟨44, _⟩ => ⟨S_, .f32⟩
  | .hbm, ⟨45, _⟩ => ⟨S8192x1, .f32⟩
  | .hbm, ⟨46, _⟩ => ⟨S8192x1, .f32⟩
  | .hbm, ⟨47, _⟩ => ⟨S_, .f32⟩
  | .hbm, ⟨48, _⟩ => ⟨S8192x1, .f32⟩
  | .hbm, ⟨49, _⟩ => ⟨S8192x1, .f32⟩
  | .hbm, ⟨50, _⟩ => ⟨S8192x1, .f32⟩
  | .hbm, ⟨51, _⟩ => ⟨S8192x256, .f32⟩
  | .hbm, ⟨52, _⟩ => ⟨S8192x256, .f32⟩
  | .hbm, ⟨53, _⟩ => ⟨S1x256, .f32⟩
  | .hbm, ⟨54, _⟩ => ⟨S8192x256, .f32⟩
  | .hbm, ⟨55, _⟩ => ⟨S8192x256, .f32⟩
  | .hbm, ⟨56, _⟩ => ⟨S1x256, .f32⟩
  | .hbm, ⟨57, _⟩ => ⟨S8192x256, .f32⟩
  | .hbm, ⟨58, _⟩ => ⟨S8192x256, .f32⟩
  | .hbm, ⟨59, _⟩ => ⟨S4x16x128x4x64, .f32⟩
  | .hbm, ⟨60, _⟩ => ⟨S1x128x128, .f32⟩
  | .hbm, ⟨61, _⟩ => ⟨S4x128x128, .f32⟩
  | .hbm, ⟨62, _⟩ => ⟨S4x128x128, .f32⟩
  | .hbm, ⟨63, _⟩ => ⟨S4x4x16x64x128, .f32⟩
  | .hbm, ⟨64, _⟩ => ⟨S4x16x128x4x64, .f32⟩
  | .hbm, ⟨65, _⟩ => ⟨S128x4, .f32⟩
  | .hbm, ⟨66, _⟩ => ⟨S1x1x128x4x1, .f32⟩
  | .hbm, ⟨67, _⟩ => ⟨S4x16x128x4x64, .f32⟩
  | .hbm, ⟨68, _⟩ => ⟨S4x16x128x4x64, .f32⟩
  | .hbm, ⟨69, _⟩ => ⟨S8192x256, .f32⟩
  | .hbm, ⟨70, _⟩ => ⟨S8192x256, .f32⟩
  | .hbm, ⟨71, _⟩ => ⟨S8192x256, .bf16⟩
  | _, _ => ⟨S8192x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_call0_v0 : Ref sig .tc := ⟨.hbm, 9, rfl⟩
abbrev main_call0_c : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_cst : Ref sig .tc := ⟨.hbm, 15, rfl⟩
abbrev main_call0_v5 : Ref sig .tc := ⟨.hbm, 16, rfl⟩
abbrev main_v3 : Ref sig .tc := ⟨.hbm, 17, rfl⟩
abbrev main_cst_0 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_cst_2 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_3 : Ref sig .tc := ⟨.hbm, 32, rfl⟩
abbrev main_v15 : Ref sig .tc := ⟨.hbm, 33, rfl⟩
abbrev main_v16 : Ref sig .tc := ⟨.hbm, 34, rfl⟩
abbrev main_cst_4 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_5 : Ref sig .tc := ⟨.hbm, 41, rfl⟩
abbrev main_v22 : Ref sig .tc := ⟨.hbm, 42, rfl⟩
abbrev main_v23 : Ref sig .tc := ⟨.hbm, 43, rfl⟩
abbrev main_cst_6 : Ref sig .tc := ⟨.hbm, 44, rfl⟩
abbrev main_v24 : Ref sig .tc := ⟨.hbm, 45, rfl⟩
abbrev main_v25 : Ref sig .tc := ⟨.hbm, 46, rfl⟩
abbrev main_cst_7 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩

abbrev nD : Nat := 1
abbrev τ : Topo := Topo.v7x

variable {F : FTy → Type} [FloatOps F]
-- ==== Proof.Products.lean ====
/- Sums over all rows as sums over tiles of rows. Nothing here mentions a program. -/
module

public import Idealize.ShloMosaic.PureOps.Ideal
public import Mathlib.Data.EReal.Operations

@[expose] public section

namespace Cert.Products

/-- Row `r` of the tile `s` of 1024 rows, and of 512 rows. -/
def row8 (s : Fin 8) (r : Fin 1024) : Fin 8192 := ⟨s.val * 1024 + r.val, by omega⟩
def row16 (s : Fin 16) (r : Fin 512) : Fin 8192 := ⟨s.val * 512 + r.val, by omega⟩

theorem sum_row8 (f : Fin 8192 → EReal) : ∑ s : Fin 8, ∑ r : Fin 1024, f (row8 s r) = ∑ r, f r := by
  rw [← Fintype.sum_prod_type']
  refine Fintype.sum_equiv (finProdFinEquiv (m := 8) (n := 1024)) _ _ fun k => congrArg f (Fin.ext ?_)
  simp only [finProdFinEquiv, Equiv.coe_fn_mk, row8]; omega

theorem sum_row16 (f : Fin 8192 → EReal) : ∑ s : Fin 16, ∑ r : Fin 512, f (row16 s r) = ∑ r, f r := by
  rw [← Fintype.sum_prod_type']
  refine Fintype.sum_equiv (finProdFinEquiv (m := 16) (n := 512)) _ _ fun k => congrArg f (Fin.ext ?_)
  simp only [finProdFinEquiv, Equiv.coe_fn_mk, row16]; omega

end Cert.Products
-- ==== Proof.UpW.lean ====
/- The gradient of the up projection's weights: what the call leaves is the product over all rows. -/
module

public import proofs.«01_k».proof.Defs
public import proofs.«01_k».proof.Proof.Products
public import proofs.«01_k».proof.Proof.Gen.Kernel3.Frame
public import Idealize.ShloMosaic.Lib.Pipeline.Value
public import proofs.«01_k».proof.Proof.Gen.Kernel3Ideal.Frame
public import proofs.«01_k».proof.Proof.Gen.Reference3Ideal.Run
public import Idealize.ShloMosaic.Lib.Pointwise
public import Idealize.ShloMosaic.Lib.Pipeline.ValueKit
public import Idealize.ShloMosaic.Lib.Pipeline.ReadBack
public import Idealize.ShloMosaic.Adequacy
public import Idealize.ShloMosaic.Init

@[expose] public section

set_option maxRecDepth 16384

noncomputable section

namespace Cert.UpW

open Idealize.ShloMosaic Idealize.SL.Sem Cert.Products
open TcCoe

section

open Cert.Kernel3Ideal Cert.Kernel3Ideal.Gen

/-- Which block of its array each window holds at each grid point; of the two halves only the one in use is stated. -/
theorem idx : ∀ t : Fin cfg0.N, (t.val < 16 → win0_0.index t = ![t.val % 8, t.val / 8]) ∧ (¬ t.val < 16 → win0_1.index t = ![t.val % 8, t.val / 8 - 2])
    ∧ win0_2.index t = ![t.val % 8, 0] ∧ win0_3.index t = ![t.val / 8, 0] ∧ t.val < 32 :=
  (by decide +kernel : ∀ t : Fin grid0.N, _)

/-- The tile of rows and the quarter of the columns of a grid point. -/
def ti (t : Fin cfg0.N) : Fin 8 := ⟨t.val % 8, Nat.mod_lt _ (by decide)⟩
def co (t : Fin cfg0.N) (i : Fin 1408) : Fin 5632 := ⟨t.val / 8 * 1408 + i.val, by have := (idx t).2.2.2.2; omega⟩

/-- The two halves side by side. -/
def cat (A B : Fin 8192 → Fin 2816 → EReal) (r : Fin 8192) (k : Fin 5632) : EReal :=
  if h : k.val < 2816 then A r ⟨k, h⟩ else B r ⟨k - 2816, by omega⟩

/-- The arguments hold the numbers `A`, `B` and `H`. -/
structure Given (m : (ℓ : Loc nD τ sig) → Buf (Elt Ideal) ℓ) (c : Dev nD) (A B : Fin 8192 → Fin 2816 → EReal) (H : Fin 8192 → Fin 1024 → EReal) : Prop where
  a : ∀ r k, (m ((c.tc : Thread nD τ).loc main_arg0) : S8192x2816.Idx → EReal) (ix2 r k) = A r k
  b : ∀ r k, (m ((c.tc : Thread nD τ).loc main_arg1) : S8192x2816.Idx → EReal) (ix2 r k) = B r k
  h : ∀ r k, (m ((c.tc : Thread nD τ).loc main_arg2) : S8192x1024.Idx → EReal) (ix2 r k) = H r k

variable {m : (ℓ : Loc nD τ sig) → Buf (Elt Ideal) ℓ} {c : Dev nD} {A B : Fin 8192 → Fin 2816 → EReal} {H : Fin 8192 → Fin 1024 → EReal}

theorem i0 (hg : Given m c A B H) (t : Fin cfg0.N) (ht : t.val < 16) (r : Fin 1024) (k : Fin 1408) :
    (iblk m c 0 t : S1024x1408.Idx → EReal) (ix2 r k) = cat A B (row8 (ti t) r) (co t k) := by
  have hk : (co t k).val < 2816 := by simp only [co]; omega
  rw [cat, dif_pos hk]
  refine Eq.trans ?_ (hg.a _ _)
  blk_point [iblk, V, (idx t).1 ht, row8, ti, co]
theorem i1 (hg : Given m c A B H) (t : Fin cfg0.N) (ht : ¬ t.val < 16) (r : Fin 1024) (k : Fin 1408) :
    (iblk m c 1 t : S1024x1408.Idx → EReal) (ix2 r k) = cat A B (row8 (ti t) r) (co t k) := by
  have hk : ¬ (co t k).val < 2816 := by simp only [co]; omega
  have e : t.val / 8 * 1408 + k.val - 2816 = (t.val / 8 - 2) * 1408 + k.val := by omega
  rw [cat, dif_neg hk]
  refine Eq.trans ?_ (hg.b _ _)
  blk_point [iblk, V, (idx t).2.1 ht, row8, ti, co, e]
theorem i2 (hg : Given m c A B H) (t : Fin cfg0.N) (r : Fin 1024) (k : Fin 1024) :
    (iblk m c 2 t : S1024x1024.Idx → EReal) (ix2 r k) = H (row8 (ti t) r) k := by
  refine Eq.trans ?_ (hg.h _ _)
  blk_point [iblk, V, idx t, row8, ti]

/-- One grid point's part of the product. -/
def term (A B : Fin 8192 → Fin 2816 → EReal) (H : Fin 8192 → Fin 1024 → EReal) (t : Fin cfg0.N) (i : Fin 1408) (j : Fin 1024) : EReal :=
  ∑ r, cat A B (row8 (ti t) r) (co t i) * H (row8 (ti t) r) j

theorem pay1_at (y : S1408x1024.Idx) : k0_pay1 (F := Ideal) y = (0 : EReal) := by pointwise [k0_pay1]

theorem pay2_at (hg : Given m c A B H) (t : Fin cfg0.N) (ht : t.val < 16) (acc : Vec Ideal S1408x1024 .f32) (i : Fin 1408) (j : Fin 1024) :
    k0_pay2 (F := Ideal) acc (iblk m c 0 t) (iblk m c 2 t) (ix2 i j) = acc (ix2 i j) + term A B H t i j := by
  pointwise [k0_pay2]
  simp only [i0 hg t ht, i2 hg t]
  rfl
theorem pay3_at (hg : Given m c A B H) (t : Fin cfg0.N) (ht : ¬ t.val < 16) (acc : Vec Ideal S1408x1024 .f32) (i : Fin 1408) (j : Fin 1024) :
    k0_pay3 (F := Ideal) acc (iblk m c 1 t) (iblk m c 2 t) (ix2 i j) = acc (ix2 i j) + term A B H t i j := by
  pointwise [k0_pay3]
  simp only [i1 hg t ht, i2 hg t]
  rfl

theorem acc_at (hg : Given m c A B H) (t : Fin cfg0.N) (h : t.val % 8 = 7) (i : Fin 1408) (j : Fin 1024) :
    (outsAt0 m c t.val t.isLt).2 (ix2 i j) = ∑ r, cat A B r (co t i) * H r j := by
  rw [Pipeline.eq_sum_fin_of_reset_step_apply_of_flush (fun n h => (outsAt0 m c n h).2) 8 (fun _ => 0)
    (fun t y => term A B H t (y 0) (y 1))
    (fun t h y => by
      obtain ⟨i, j, rfl⟩ : ∃ (i : Fin 1408) (j : Fin 1024), y = ix2 i j := ⟨y 0, y 1, eq_ix2 y⟩
      by_cases ht : t.val < 16
      on_goal 1 => rw [outsAt0_A m c t h ht (by omega) (by omega)]
      on_goal 2 => rw [outsAt0_D m c t h ht (by omega) (by omega)]
      all_goals
        frame_open
        simp (disch := decide) only [↓ View.readCov_skip, ↓ View.readCov_cons_toLoadRect, ↓ View.readCov_fill]
        frame_out
      on_goal 1 => refine (pay2_at hg t ht _ i j).trans ?_
      on_goal 2 => refine (pay3_at hg t ht _ i j).trans ?_
      all_goals
        rw [pay1_at]; rfl)
    (fun t h y => by
      obtain ⟨i, j, rfl⟩ : ∃ (i : Fin 1408) (j : Fin 1024), y = ix2 i j := ⟨y 0, y 1, eq_ix2 y⟩
      by_cases ht : t.val < 16 <;> by_cases h7 : t.val % 8 = 7
      on_goal 1 => rw [outsAt0_C m c t h ht (by omega) h7]
      on_goal 2 => rw [outsAt0_B m c t h ht (by omega) h7]
      on_goal 3 => rw [outsAt0_F m c t h ht (by omega) h7]
      on_goal 4 => rw [outsAt0_E m c t h ht (by omega) h7]
      all_goals
        frame_out
        first | refine (pay2_at hg t ht _ i j).trans ?_ | refine (pay3_at hg t ht _ i j).trans ?_
        exact congrArg (· + _) (congrFun ((Memref.isWhole_whole cc0_scratch0).read_unread _) _))
    t h, zero_add]
  refine Eq.trans ?_ (sum_row8 _)
  refine Finset.sum_congr rfl fun s _ => Finset.sum_congr rfl fun r _ => ?_
  have e1 : ti ⟨8 * (t.val / 8) + s.val, Pipeline.run_point_lt_of_flush t h s⟩ = s := Fin.ext (by simp only [ti]; omega)
  have e2 : co ⟨8 * (t.val / 8) + s.val, Pipeline.run_point_lt_of_flush t h s⟩ i = co t i := Fin.ext (by simp only [co]; omega)
  show cat A B (row8 (ti _) r) (co _ i) * H (row8 (ti _) r) j = _
  rw [e1, e2]

theorem out_at (hg : Given m c A B H) (t : Fin cfg0.N) (h : t.val % 8 = 7) (i : Fin 1408) (j : Fin 1024) :
    (outsAt0 m c t.val t.isLt).1 (ix2 i j) = ∑ r, cat A B r (co t i) * H r j := by
  refine Eq.trans ?_ (acc_at hg t h i j)
  by_cases ht : t.val < 16
  on_goal 1 => rw [outsAt0_C m c t (by omega) ht (by omega) h]
  on_goal 2 => rw [outsAt0_F m c t (by omega) ht (by omega) h]
  all_goals
    frame_open
    simp (disch := decide) only [↓ View.readCov_skip, ↓ View.readCov_cons_toLoadRect, ↓ View.readCov_fill]
    frame_out
    pointwise [k0_pay4]

theorem final (hg : Given m c A B H) : (dats m 0 c).arrAt 3 cfg0.N = fun y : S5632x1024.Idx => ∑ r, cat A B r (y 0) * H r (y 1) := by
  refine (dats m 0 c).arrAt_eq_of_covers 3 _ (by decide +kernel) fun t hf y => ?_
  have h7 := (flush0_3 t).mp hf
  blk_simp
  rw [after0_3]
  obtain ⟨i, j, rfl⟩ : ∃ (i : Fin 1408) (j : Fin 1024), y = ix2 i j := ⟨y 0, y 1, eq_ix2 y⟩
  rw [out_at hg t h7]
  have e0 : (win0_3.blk t).view.emb (ix2 i j) 0 = co t i := Fin.ext (by blk_simp [idx t, co])
  have e1 : (win0_3.blk t).view.emb (ix2 i j) 1 = j := Fin.ext (by blk_simp [idx t])
  rw [e0, e1]

/-- The run with its result named; the arguments are unchanged. -/
theorem run_final (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v0) = (dats m 0 c).arrAt 3 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1 3,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end

section

open Cert.Reference3Ideal Cert.Reference3Ideal.Gen

/-- The reference's result. -/
def ref (a b : Vec Ideal S8192x2816 .bf16) (h : Vec Ideal S8192x1024 .bf16) : FVec Ideal S5632x1024 .bf16 :=
  truncf .bf16 (transpose S5632x1024 [1, 0] (transpose S1024x5632 [1, 0] (Host.dotGeneral dot_S8192x5632_S8192x1024_S5632x1024_0_0_1_1_n_n none (extf .f32 (concatenate S8192x5632 1 [⟨S8192x2816, a⟩, ⟨S8192x2816, b⟩] concatenates_S8192x2816_S8192x2816_S8192x5632_d1) bitsLt_bf16_f32) (extf .f32 h bitsLt_bf16_f32)) transposes_S5632x1024_S1024x5632_1_0) transposes_S1024x5632_S5632x1024_1_0) bitsLt_bf16_f32

theorem ref_at (a b : Vec Ideal S8192x2816 .bf16) (h : Vec Ideal S8192x1024 .bf16) (i : Fin 5632) (j : Fin 1024) :
    ref a b h (ix2 i j) = ∑ r, cat (fun r k => a (ix2 r k)) (fun r k => b (ix2 r k)) r i * h (ix2 r j) := by
  pointwise [ref]
  rfl

end

theorem frame_p : Cert.quiescent_Kernel3 := fun m ρ _ => Cert.Kernel3.Gen.frame m ρ
theorem frame_pi : Cert.quiescent_Kernel3Ideal := fun m ρ _ => Cert.Kernel3Ideal.Gen.frame m ρ
theorem frame_ri : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

theorem preserves : Cert.preserves_Kernel3_Kernel3Ideal := trivial

theorem algebraic : Cert.algebraic_Kernel3Ideal_Reference3Ideal := by
  intro m ρ m' ρ' _ hag
  refine ⟨_, run_final m ρ, ?_⟩
  refine (θ_run Cert.Reference3Ideal.defs _ _).mono (fun r h c => ?_) (Cert.Reference3Ideal.Value.run (F := Ideal) m' ρ')
  obtain ⟨a0, a1, a2⟩ := hag c
  refine ⟨(h c).1.trans (Eq.trans ?_ (final (A := fun r k => _) (B := fun r k => _) (H := fun r k => _)
    ⟨fun r k => (congrFun a0 (ix2 r k)).symm, fun r k => (congrFun a1 (ix2 r k)).symm, fun r k => (congrFun a2 (ix2 r k)).symm⟩).symm), (h c).2⟩
  funext y
  obtain ⟨i, j, rfl⟩ : ∃ (i : Fin 5632) (j : Fin 1024), y = ix2 i j := ⟨y 0, y 1, eq_ix2 y⟩
  exact ref_at _ _ _ i j

end Cert.UpW

end
-- ==== Proof.DownW.lean ====
/- The gradient of the down projection's weights: what the call leaves is the product over all rows. -/
module

public import proofs.«01_k».proof.Defs
public import proofs.«01_k».proof.Proof.Products
public import proofs.«01_k».proof.Proof.Gen.Kernel4.Frame
public import proofs.«01_k».proof.Proof.Gen.Kernel4Ideal.Value
public import proofs.«01_k».proof.Proof.Gen.Kernel4Ideal.Frame
public import proofs.«01_k».proof.Proof.Gen.Reference4Ideal.Run
public import Idealize.ShloMosaic.Lib.Pointwise
public import Idealize.ShloMosaic.Lib.Pipeline.ValueKit
public import Idealize.ShloMosaic.Lib.Pipeline.ReadBack
public import Idealize.ShloMosaic.Adequacy
public import Idealize.ShloMosaic.Init

@[expose] public section

set_option maxRecDepth 16384

noncomputable section

namespace Cert.DownW

open Idealize.ShloMosaic Idealize.SL.Sem Cert.Products
open TcCoe

section

open Cert.Kernel4Ideal Cert.Kernel4Ideal.Gen

/-- Which block of its array each window holds at each grid point. -/
theorem idx : ∀ t : Fin cfg0.N, win0_0.index t = ![t.val % 8, t.val / 8] ∧ win0_1.index t = ![t.val % 8, 0] ∧ win0_2.index t = ![t.val / 8, 0]
    ∧ t.val < 16 :=
  (by decide +kernel : ∀ t : Fin grid0.N, _)

/-- The tile of rows and the half of the columns of a grid point. -/
def ti (t : Fin cfg0.N) : Fin 8 := ⟨t.val % 8, Nat.mod_lt _ (by decide)⟩
def co (t : Fin cfg0.N) (i : Fin 1408) : Fin 2816 := ⟨t.val / 8 * 1408 + i.val, by have := (idx t).2.2.2; omega⟩

/-- The arguments hold the numbers `A` and `B`. -/
structure Given (m : (ℓ : Loc nD τ sig) → Buf (Elt Ideal) ℓ) (c : Dev nD) (A : Fin 8192 → Fin 2816 → EReal) (B : Fin 8192 → Fin 1024 → EReal) : Prop where
  a : ∀ r k, (m ((c.tc : Thread nD τ).loc main_arg0) : S8192x2816.Idx → EReal) (ix2 r k) = A r k
  b : ∀ r k, (m ((c.tc : Thread nD τ).loc main_arg1) : S8192x1024.Idx → EReal) (ix2 r k) = B r k

variable {m : (ℓ : Loc nD τ sig) → Buf (Elt Ideal) ℓ} {c : Dev nD} {A : Fin 8192 → Fin 2816 → EReal} {B : Fin 8192 → Fin 1024 → EReal}

theorem i0 (hg : Given m c A B) (t : Fin cfg0.N) (r : Fin 1024) (k : Fin 1408) :
    (iblk m c 0 t : S1024x1408.Idx → EReal) (ix2 r k) = A (row8 (ti t) r) (co t k) := by
  refine Eq.trans ?_ (hg.a _ _)
  blk_point [iblk, V, idx t, row8, ti, co]
theorem i1 (hg : Given m c A B) (t : Fin cfg0.N) (r : Fin 1024) (k : Fin 1024) :
    (iblk m c 1 t : S1024x1024.Idx → EReal) (ix2 r k) = B (row8 (ti t) r) k := by
  refine Eq.trans ?_ (hg.b _ _)
  blk_point [iblk, V, idx t, row8, ti]

/-- One grid point's part of the product. -/
def term (A : Fin 8192 → Fin 2816 → EReal) (B : Fin 8192 → Fin 1024 → EReal) (t : Fin cfg0.N) (i : Fin 1408) (j : Fin 1024) : EReal :=
  ∑ r, A (row8 (ti t) r) (co t i) * B (row8 (ti t) r) j

theorem pay1_at (y : S1408x1024.Idx) : k0_pay1 (F := Ideal) y = (0 : EReal) := by pointwise [k0_pay1]

theorem pay2_at (hg : Given m c A B) (t : Fin cfg0.N) (acc : Vec Ideal S1408x1024 .f32) (i : Fin 1408) (j : Fin 1024) :
    k0_pay2 (F := Ideal) acc (iblk m c 0 t) (iblk m c 1 t) (ix2 i j) = acc (ix2 i j) + term A B t i j := by
  pointwise [k0_pay2]
  simp only [i0 hg t, i1 hg t]
  rfl

theorem acc_at (hg : Given m c A B) (t : Fin cfg0.N) (h : t.val % 8 = 7) (i : Fin 1408) (j : Fin 1024) :
    (outsAt0 m c t.val t.isLt).2 (ix2 i j) = ∑ r, A r (co t i) * B r j := by
  rw [Pipeline.eq_sum_fin_of_reset_step_apply_of_flush (fun n h => (outsAt0 m c n h).2) 8 (fun _ => 0)
    (fun t y => term A B t (y 0) (y 1))
    (fun t h y => by
      obtain ⟨i, j, rfl⟩ : ∃ (i : Fin 1408) (j : Fin 1024), y = ix2 i j := ⟨y 0, y 1, eq_ix2 y⟩
      rw [outsAt0_A m c t h (by omega)]
      frame_open
      simp (disch := decide) only [↓ View.readCov_skip, ↓ View.readCov_cons_toLoadRect, ↓ View.readCov_fill]
      frame_out
      refine (pay2_at hg t _ i j).trans ?_
      rw [pay1_at]; rfl)
    (fun t h y => by
      obtain ⟨i, j, rfl⟩ : ∃ (i : Fin 1408) (j : Fin 1024), y = ix2 i j := ⟨y 0, y 1, eq_ix2 y⟩
      by_cases h7 : t.val % 8 = 7
      on_goal 1 => rw [outsAt0_C m c t h h7]
      on_goal 2 => rw [outsAt0_B m c t h h7]
      all_goals
        frame_out
        refine (pay2_at hg t _ i j).trans ?_
        exact congrArg (· + _) (congrFun ((Memref.isWhole_whole cc0_scratch0).read_unread _) _))
    t h, zero_add]
  refine Eq.trans ?_ (sum_row8 _)
  refine Finset.sum_congr rfl fun s _ => Finset.sum_congr rfl fun r _ => ?_
  have e1 : ti ⟨8 * (t.val / 8) + s.val, Pipeline.run_point_lt_of_flush t h s⟩ = s := Fin.ext (by simp only [ti]; omega)
  have e2 : co ⟨8 * (t.val / 8) + s.val, Pipeline.run_point_lt_of_flush t h s⟩ i = co t i := Fin.ext (by simp only [co]; omega)
  show A (row8 (ti _) r) (co _ i) * B (row8 (ti _) r) j = _
  rw [e1, e2]

theorem out_at (hg : Given m c A B) (t : Fin cfg0.N) (h : t.val % 8 = 7) (i : Fin 1408) (j : Fin 1024) :
    (outsAt0 m c t.val t.isLt).1 (ix2 i j) = ∑ r, A r (co t i) * B r j := by
  refine Eq.trans ?_ (acc_at hg t h i j)
  rw [outsAt0_C m c t (by omega) h]
  frame_open
  simp (disch := decide) only [↓ View.readCov_skip, ↓ View.readCov_cons_toLoadRect, ↓ View.readCov_fill]
  frame_out
  pointwise [k0_pay3]

theorem final (hg : Given m c A B) : (dats m 0 c).arrAt 2 cfg0.N = fun y : S2816x1024.Idx => ∑ r, A r (y 0) * B r (y 1) := by
  refine (dats m 0 c).arrAt_eq_of_covers 2 _ (by decide +kernel) fun t hf y => ?_
  have h7 := (flush0_2 t).mp hf
  blk_simp
  rw [after0_2]
  obtain ⟨i, j, rfl⟩ : ∃ (i : Fin 1408) (j : Fin 1024), y = ix2 i j := ⟨y 0, y 1, eq_ix2 y⟩
  rw [out_at hg t h7]
  have e0 : (win0_2.blk t).view.emb (ix2 i j) 0 = co t i := Fin.ext (by blk_simp [idx t, co])
  have e1 : (win0_2.blk t).view.emb (ix2 i j) 1 = j := Fin.ext (by blk_simp [idx t])
  rw [e0, e1]

end

section

open Cert.Reference4Ideal Cert.Reference4Ideal.Gen

/-- The reference's result. -/
def ref (a : Vec Ideal S8192x2816 .bf16) (b : Vec Ideal S8192x1024 .bf16) : FVec Ideal S2816x1024 .bf16 :=
  truncf .bf16 (transpose S2816x1024 [1, 0] (Host.dotGeneral dot_S8192x1024_S8192x2816_S1024x2816_0_0_1_1_n_n none (extf .f32 b bitsLt_bf16_f32) (extf .f32 a bitsLt_bf16_f32)) transposes_S1024x2816_S2816x1024_1_0) bitsLt_bf16_f32

theorem ref_at (a : Vec Ideal S8192x2816 .bf16) (b : Vec Ideal S8192x1024 .bf16) (i : Fin 2816) (j : Fin 1024) :
    ref a b (ix2 i j) = ∑ r, a (ix2 r i) * b (ix2 r j) := by
  pointwise [ref]
  exact Finset.sum_congr rfl fun r _ => mul_comm _ _

end

theorem frame_p : Cert.quiescent_Kernel4 := fun m ρ _ => Cert.Kernel4.Gen.frame m ρ
theorem frame_pi : Cert.quiescent_Kernel4Ideal := fun m ρ _ => Cert.Kernel4Ideal.Gen.frame m ρ
theorem frame_ri : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

theorem preserves : Cert.preserves_Kernel4_Kernel4Ideal := trivial

theorem algebraic : Cert.algebraic_Kernel4Ideal_Reference4Ideal := by
  intro m ρ m' ρ' _ hag
  refine ⟨_, Cert.Kernel4Ideal.Value.run_blocks (F := Ideal) m ρ, ?_⟩
  refine (θ_run Cert.Reference4Ideal.defs _ _).mono (fun r h c => ?_) (Cert.Reference4Ideal.Value.run (F := Ideal) m' ρ')
  obtain ⟨a0, a1⟩ := hag c
  refine ⟨(h c).1.trans (Eq.trans ?_ (final (A := fun r k => _) (B := fun r k => _) ⟨fun r k => (congrFun a0 (ix2 r k)).symm, fun r k => (congrFun a1 (ix2 r k)).symm⟩).symm), (h c).2⟩
  funext y
  obtain ⟨i, j, rfl⟩ : ∃ (i : Fin 2816) (j : Fin 1024), y = ix2 i j := ⟨y 0, y 1, eq_ix2 y⟩
  exact ref_at _ _ i j

end Cert.DownW

end
-- ==== Proof.DownX.lean ====
/- The gradient of the down projection's rows: what the call leaves is the product with the weights. -/
module

public import proofs.«01_k».proof.Defs
public import proofs.«01_k».proof.Proof.Products
public import proofs.«01_k».proof.Proof.Gen.Kernel5.Frame
public import proofs.«01_k».proof.Proof.Gen.Kernel5Ideal.Value
public import proofs.«01_k».proof.Proof.Gen.Kernel5Ideal.Frame
public import proofs.«01_k».proof.Proof.Gen.Reference5Ideal.Run
public import Idealize.ShloMosaic.Lib.Pointwise
public import Idealize.ShloMosaic.Lib.Pipeline.ValueKit
public import Idealize.ShloMosaic.Lib.Pipeline.ReadBack
public import Idealize.ShloMosaic.Adequacy
public import Idealize.ShloMosaic.Init

@[expose] public section

set_option maxRecDepth 16384

noncomputable section

namespace Cert.DownX

open Idealize.ShloMosaic Idealize.SL.Sem Cert.Products
open TcCoe

section

open Cert.Kernel5Ideal Cert.Kernel5Ideal.Gen

/-- Which block of its array each window holds at each grid point. -/
theorem idx : ∀ t : Fin cfg0.N, win0_0.index t = ![t.val, 0] ∧ win0_1.index t = ![0, 0] ∧ win0_2.index t = ![t.val, 0] ∧ t.val < 16 :=
  (by decide +kernel : ∀ t : Fin grid0.N, _)

/-- The tile of rows of a grid point. -/
def ti (t : Fin cfg0.N) : Fin 16 := ⟨t.val, (idx t).2.2.2⟩

/-- The arguments hold the numbers `D` and `W`. -/
structure Given (m : (ℓ : Loc nD τ sig) → Buf (Elt Ideal) ℓ) (c : Dev nD) (D : Fin 8192 → Fin 1024 → EReal) (W : Fin 2816 → Fin 1024 → EReal) : Prop where
  d : ∀ r k, (m ((c.tc : Thread nD τ).loc main_arg0) : S8192x1024.Idx → EReal) (ix2 r k) = D r k
  w : ∀ r k, (m ((c.tc : Thread nD τ).loc main_arg1) : S2816x1024.Idx → EReal) (ix2 r k) = W r k

variable {m : (ℓ : Loc nD τ sig) → Buf (Elt Ideal) ℓ} {c : Dev nD} {D : Fin 8192 → Fin 1024 → EReal} {W : Fin 2816 → Fin 1024 → EReal}

theorem i0 (hg : Given m c D W) (t : Fin cfg0.N) (r : Fin 512) (k : Fin 1024) :
    (iblk m c 0 t : S512x1024.Idx → EReal) (ix2 r k) = D (row16 (ti t) r) k := by
  refine Eq.trans ?_ (hg.d _ _)
  blk_point [iblk, V, idx t, row16, ti]
theorem i1 (hg : Given m c D W) (t : Fin cfg0.N) (r : Fin 2816) (k : Fin 1024) :
    (iblk m c 1 t : S2816x1024.Idx → EReal) (ix2 r k) = W r k := by
  refine Eq.trans ?_ (hg.w _ _)
  blk_point [iblk, V, idx t]

theorem pay1_at (v : Vec Ideal S512x1024 .bf16) (w : Vec Ideal S256x1024 .bf16) (r : Fin 512) (l : Fin 256) :
    k0_pay1 (F := Ideal) v w (ix2 r l) = ∑ k, v (ix2 r k) * w (ix2 l k) := by pointwise [k0_pay1]

theorem pay2_at (v : Vec Ideal S512x1024 .bf16) (w : Vec Ideal S256x1024 .bf16) (r : Fin 512) (l : Fin 256) :
    k0_pay2 (F := Ideal) v w (ix2 r l) = ∑ k, v (ix2 r k) * w (ix2 l k) := by pointwise [k0_pay2]

theorem pay3_at (v : Vec Ideal S512x1024 .bf16) (w : Vec Ideal S256x1024 .bf16) (r : Fin 512) (l : Fin 256) :
    k0_pay3 (F := Ideal) v w (ix2 r l) = ∑ k, v (ix2 r k) * w (ix2 l k) := by pointwise [k0_pay3]

theorem pay4_at (v : Vec Ideal S512x1024 .bf16) (w : Vec Ideal S256x1024 .bf16) (r : Fin 512) (l : Fin 256) :
    k0_pay4 (F := Ideal) v w (ix2 r l) = ∑ k, v (ix2 r k) * w (ix2 l k) := by pointwise [k0_pay4]

theorem pay5_at (v : Vec Ideal S512x1024 .bf16) (w : Vec Ideal S256x1024 .bf16) (r : Fin 512) (l : Fin 256) :
    k0_pay5 (F := Ideal) v w (ix2 r l) = ∑ k, v (ix2 r k) * w (ix2 l k) := by pointwise [k0_pay5]

theorem pay6_at (v : Vec Ideal S512x1024 .bf16) (w : Vec Ideal S256x1024 .bf16) (r : Fin 512) (l : Fin 256) :
    k0_pay6 (F := Ideal) v w (ix2 r l) = ∑ k, v (ix2 r k) * w (ix2 l k) := by pointwise [k0_pay6]

theorem pay7_at (v : Vec Ideal S512x1024 .bf16) (w : Vec Ideal S256x1024 .bf16) (r : Fin 512) (l : Fin 256) :
    k0_pay7 (F := Ideal) v w (ix2 r l) = ∑ k, v (ix2 r k) * w (ix2 l k) := by pointwise [k0_pay7]

theorem pay8_at (v : Vec Ideal S512x1024 .bf16) (w : Vec Ideal S256x1024 .bf16) (r : Fin 512) (l : Fin 256) :
    k0_pay8 (F := Ideal) v w (ix2 r l) = ∑ k, v (ix2 r k) * w (ix2 l k) := by pointwise [k0_pay8]

theorem pay9_at (v : Vec Ideal S512x1024 .bf16) (w : Vec Ideal S256x1024 .bf16) (r : Fin 512) (l : Fin 256) :
    k0_pay9 (F := Ideal) v w (ix2 r l) = ∑ k, v (ix2 r k) * w (ix2 l k) := by pointwise [k0_pay9]

theorem pay10_at (v : Vec Ideal S512x1024 .bf16) (w : Vec Ideal S256x1024 .bf16) (r : Fin 512) (l : Fin 256) :
    k0_pay10 (F := Ideal) v w (ix2 r l) = ∑ k, v (ix2 r k) * w (ix2 l k) := by pointwise [k0_pay10]

theorem pay11_at (v : Vec Ideal S512x1024 .bf16) (w : Vec Ideal S256x1024 .bf16) (r : Fin 512) (l : Fin 256) :
    k0_pay11 (F := Ideal) v w (ix2 r l) = ∑ k, v (ix2 r k) * w (ix2 l k) := by pointwise [k0_pay11]

/-- The rows read whole. -/
theorem ld_whole (X : Vec Ideal S512x1024 .bf16) (r : Fin 512) (k : Fin 1024) :
    View.ld (Val := Elt Ideal) (S := S512x1024) (e' := .bf16) X r0_0 (ix2 r k : S512x1024.Idx) = X (ix2 r k) :=
  View.ld_unit_apply_of _ _ _ _ _ (ix2 (n0 := 512) r k) fun d => match d with
    | 0 => (Nat.zero_add _).symm
    | 1 => (Nat.zero_add _).symm

/-- A row of the weights read through the window of 256 rows that starts at row `o`. -/
theorem ld_row (Y : Vec Ideal S2816x1024 .bf16) (o : Nat) (h : ∀ a, (![o, 0] : Fin 2 → Nat) a + S256x1024.size a ≤ S2816x1024.size a)
    (l : Fin 256) (k : Fin 1024) (j : Fin 2816) (hj : o + l.val = j.val) :
    View.ld (Val := Elt Ideal) (S := S2816x1024) (e' := .bf16) Y (Rect.unit (s := S2816x1024) ![o, 0] S256x1024.size h) (ix2 l k : S256x1024.Idx) = Y (ix2 j k) :=
  View.ld_unit_apply_of _ _ _ _ _ (ix2 (n0 := 2816) j k) fun d => match d with
    | 0 => hj.symm
    | 1 => (Nat.zero_add _).symm

/-- One stored piece of 256 columns, the first of them column `o`. -/
theorem piece (hg : Given m c D W) (t : Fin cfg0.N) (y : S512x2816.Idx) (r : Fin 512) (l : Fin 256) (o : Nat)
    (h : ∀ a, (![o, 0] : Fin 2 → Nat) a + S256x1024.size a ≤ S2816x1024.size a) {z : EReal}
    (hz : z = ∑ k : Fin 1024, (View.ld (Val := Elt Ideal) (S := S512x1024) (e' := .bf16) (iblk m c 0 t) r0_0 : S512x1024.Idx → EReal) (ix2 r k)
      * (View.ld (Val := Elt Ideal) (S := S2816x1024) (e' := .bf16) (iblk m c 1 t) (Rect.unit (s := S2816x1024) ![o, 0] S256x1024.size h) : S256x1024.Idx → EReal) (ix2 l k))
    (q0 : (y 0).val = r.val) (q1 : (y 1).val = o + l.val) :
    z = ∑ k, D (row16 (ti t) (y 0)) k * W (y 1) k := by
  obtain rfl : y 0 = r := Fin.ext q0
  refine hz.trans (Finset.sum_congr rfl fun k _ => congrArg₂ (· * ·) ?_ ?_)
  · exact (ld_whole (iblk m c 0 t) _ k).trans (i0 hg t _ k)
  · exact (ld_row (iblk m c 1 t) o h l k (y 1) q1.symm).trans (i1 hg t _ k)

theorem out_at (hg : Given m c D W) (t : Fin cfg0.N) (y : S512x2816.Idx) :
    out0_2 (F := Ideal) (iblk m c 0 t) (iblk m c 1 t) y = ∑ k, D (row16 (ti t) (y 0)) k * W (y 1) k := by
  unfold out0_2
  canon_tiles x q
  case piece0 =>
    obtain ⟨r, l, rfl⟩ : ∃ (r : Fin 512) (l : Fin 256), x = ix2 r l := ⟨x 0, x 1, eq_ix2 x⟩
    exact piece hg t y r l 2560 _ (pay5_at _ _ r l) q0 q1
  case piece1 =>
    obtain ⟨r, l, rfl⟩ : ∃ (r : Fin 512) (l : Fin 256), x = ix2 r l := ⟨x 0, x 1, eq_ix2 x⟩
    exact piece hg t y r l 2304 _ (pay4_at _ _ r l) q0 q1
  case piece2 =>
    obtain ⟨r, l, rfl⟩ : ∃ (r : Fin 512) (l : Fin 256), x = ix2 r l := ⟨x 0, x 1, eq_ix2 x⟩
    exact piece hg t y r l 2048 _ (pay3_at _ _ r l) q0 q1
  case piece3 =>
    obtain ⟨r, l, rfl⟩ : ∃ (r : Fin 512) (l : Fin 256), x = ix2 r l := ⟨x 0, x 1, eq_ix2 x⟩
    exact piece hg t y r l 1792 _ (pay2_at _ _ r l) q0 q1
  case piece4 =>
    obtain ⟨r, l, rfl⟩ : ∃ (r : Fin 512) (l : Fin 256), x = ix2 r l := ⟨x 0, x 1, eq_ix2 x⟩
    exact piece hg t y r l 1536 _ (pay1_at _ _ r l) q0 q1
  case piece5 =>
    obtain ⟨r, l, rfl⟩ : ∃ (r : Fin 512) (l : Fin 256), x = ix2 r l := ⟨x 0, x 1, eq_ix2 x⟩
    exact piece hg t y r l 1280 _ (pay11_at _ _ r l) q0 q1
  case piece6 =>
    obtain ⟨r, l, rfl⟩ : ∃ (r : Fin 512) (l : Fin 256), x = ix2 r l := ⟨x 0, x 1, eq_ix2 x⟩
    exact piece hg t y r l 1024 _ (pay10_at _ _ r l) q0 q1
  case piece7 =>
    obtain ⟨r, l, rfl⟩ : ∃ (r : Fin 512) (l : Fin 256), x = ix2 r l := ⟨x 0, x 1, eq_ix2 x⟩
    exact piece hg t y r l 768 _ (pay9_at _ _ r l) q0 q1
  case piece8 =>
    obtain ⟨r, l, rfl⟩ : ∃ (r : Fin 512) (l : Fin 256), x = ix2 r l := ⟨x 0, x 1, eq_ix2 x⟩
    exact piece hg t y r l 512 _ (pay8_at _ _ r l) q0 q1
  case piece9 =>
    obtain ⟨r, l, rfl⟩ : ∃ (r : Fin 512) (l : Fin 256), x = ix2 r l := ⟨x 0, x 1, eq_ix2 x⟩
    exact piece hg t y r l 256 _ (pay7_at _ _ r l) q0 q1
  case piece10 =>
    obtain ⟨r, l, rfl⟩ : ∃ (r : Fin 512) (l : Fin 256), x = ix2 r l := ⟨x 0, x 1, eq_ix2 x⟩
    exact piece hg t y r l 0 _ (pay6_at _ _ r l) q0 (q1.trans (Nat.zero_add _).symm)

theorem final (hg : Given m c D W) : (dats m 0 c).arrAt 2 cfg0.N = fun y : S8192x2816.Idx => ∑ k, D (y 0) k * W (y 1) k := by
  refine (dats m 0 c).arrAt_eq_of_covers 2 _ (by decide +kernel) fun t hf y => ?_
  blk_simp
  rw [after0_2]
  obtain ⟨i, j, rfl⟩ : ∃ (i : Fin 512) (j : Fin 2816), y = ix2 i j := ⟨y 0, y 1, eq_ix2 y⟩
  refine (out_at hg t (ix2 i j)).trans ?_
  have e0 : (win0_2.blk t).view.emb (ix2 i j) 0 = row16 (ti t) i := Fin.ext (by blk_simp [idx t, row16, ti])
  have e1 : (win0_2.blk t).view.emb (ix2 i j) 1 = j := Fin.ext (by blk_simp [idx t])
  rw [e0, e1]
  rfl

end

section

open Cert.Reference5Ideal Cert.Reference5Ideal.Gen

/-- The reference's result. -/
def ref (d : Vec Ideal S8192x1024 .bf16) (w : Vec Ideal S2816x1024 .bf16) : FVec Ideal S8192x2816 .bf16 :=
  truncf .bf16 (Host.dotGeneral dot_S8192x1024_S2816x1024_S8192x2816_1_1_0_0_n_n none (extf .f32 d bitsLt_bf16_f32) (extf .f32 w bitsLt_bf16_f32)) bitsLt_bf16_f32

theorem ref_at (d : Vec Ideal S8192x1024 .bf16) (w : Vec Ideal S2816x1024 .bf16) (i : Fin 8192) (j : Fin 2816) :
    ref d w (ix2 i j) = ∑ k, d (ix2 i k) * w (ix2 j k) := by
  pointwise [ref]

end

theorem frame_p : Cert.quiescent_Kernel5 := fun m ρ _ => Cert.Kernel5.Gen.frame m ρ
theorem frame_pi : Cert.quiescent_Kernel5Ideal := fun m ρ _ => Cert.Kernel5Ideal.Gen.frame m ρ
theorem frame_ri : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

theorem preserves : Cert.preserves_Kernel5_Kernel5Ideal := trivial

theorem algebraic : Cert.algebraic_Kernel5Ideal_Reference5Ideal := by
  intro m ρ m' ρ' _ hag
  refine ⟨_, Cert.Kernel5Ideal.Value.run_blocks (F := Ideal) m ρ, ?_⟩
  refine (θ_run Cert.Reference5Ideal.defs _ _).mono (fun r h c => ?_) (Cert.Reference5Ideal.Value.run (F := Ideal) m' ρ')
  obtain ⟨a0, a1⟩ := hag c
  refine ⟨(h c).1.trans (Eq.trans ?_ (final (D := fun r k => _) (W := fun r k => _)
    ⟨fun r k => (congrFun a0 (ix2 r k)).symm, fun r k => (congrFun a1 (ix2 r k)).symm⟩).symm), (h c).2⟩
  funext y
  obtain ⟨i, j, rfl⟩ : ∃ (i : Fin 8192) (j : Fin 2816), y = ix2 i j := ⟨y 0, y 1, eq_ix2 y⟩
  exact ref_at _ _ i j

end Cert.DownX

end
-- ==== Proof.Reals.lean ====
/- The mathematics of the chunked spatial gate, over the real numbers: the gelu and its derivative, the layer
   normalisation of a row of 256 numbers and its gradient, and the gate of one chunk of 128 rows with its gradients.
   Nothing here mentions a program. -/
module

public import Idealize.ShloMosaic.PureOps.Ideal
public import Mathlib.Tactic.Ring
public import Mathlib.Tactic.NormNum

@[expose] public section

noncomputable section

namespace Cert.Sgu

open Idealize.ShloMosaic

/-- The error function. -/
def er (x : ℝ) : ℝ := 2 / Real.sqrt Real.pi * ∫ t in (0 : ℝ)..x, Real.exp (-(t ^ 2))

/-- The gelu: `x` times the standard normal distribution function at `x`. -/
def gelu (x : ℝ) : ℝ := x * (1 / 2 * (1 + er (x / Real.sqrt 2)))

/-- The derivative of the gelu: the normal distribution function plus `x` times the normal density. -/
def dgelu (x : ℝ) : ℝ :=
  1 / 2 * (1 + er (x / Real.sqrt 2)) + x * (Real.exp (-(1 / 2) * x * x) / Real.sqrt (2 * Real.pi))

/-- The mean of a row. -/
def mean (v : Fin 256 → ℝ) : ℝ := (∑ l, v l) / 256

/-- A row less its mean. -/
def cen (v : Fin 256 → ℝ) (l : Fin 256) : ℝ := v l - mean v

/-- The mean square of the centred row. -/
def var (v : Fin 256 → ℝ) : ℝ := mean fun l => cen v l * cen v l

/-- The small number under the root of the layer normalisation. -/
def eps : ℝ := 10995116 / 1099511627776

/-- One over the standard deviation. -/
def rstd (v : Fin 256 → ℝ) : ℝ := (Real.sqrt (var v + eps))⁻¹

/-- The normalised row. -/
def hat (v : Fin 256 → ℝ) (l : Fin 256) : ℝ := cen v l * rstd v

/-- The layer normalisation with gain `g` and bias `b`. -/
def norm (g b v : Fin 256 → ℝ) (l : Fin 256) : ℝ := hat v l * g l + b l

/-- The gradient of the layer normalisation with respect to its row, at the cotangent `d`. -/
def dnorm (g v d : Fin 256 → ℝ) (l : Fin 256) : ℝ :=
  rstd v * (d l * g l - mean (fun j => d j * g j) - hat v l * mean (fun j => d j * g j * hat v j))

/-- The head a column belongs to. -/
def hd (l : Fin 256) : Fin 4 := ⟨l / 64, by omega⟩

/-- The lower triangle of a mixing matrix. -/
def tri (W : Fin 128 → Fin 128 → ℝ) (t s : Fin 128) : ℝ := if s ≤ t then W t s else 0

/-- The mixing of a chunk's rows: each head by the lower triangle of its own matrix. -/
def mix (W : Fin 4 → Fin 128 → Fin 128 → ℝ) (X : Fin 128 → Fin 256 → ℝ) (t : Fin 128) (l : Fin 256) : ℝ :=
  ∑ s, tri (W (hd l)) t s * X s l

/-- The mixing by the transposed triangles. -/
def mixT (W : Fin 4 → Fin 128 → Fin 128 → ℝ) (X : Fin 128 → Fin 256 → ℝ) (s : Fin 128) (l : Fin 256) : ℝ :=
  ∑ t, tri (W (hd l)) t s * X t l

/-- The gelu of every entry of a chunk. -/
def gl (X : Fin 128 → Fin 256 → ℝ) (t : Fin 128) (l : Fin 256) : ℝ := gelu (X t l)

/-- The cotangent of the mixed rows: the cotangent of the result times the gate. -/
def dsp (U D : Fin 128 → Fin 256 → ℝ) (t : Fin 128) (l : Fin 256) : ℝ := D t l * gelu (U t l)

/-- The gradient with respect to the gate's half of the projection. -/
def du (W : Fin 4 → Fin 128 → Fin 128 → ℝ) (B : Fin 4 → Fin 128 → ℝ) (g b : Fin 256 → ℝ)
    (U V D : Fin 128 → Fin 256 → ℝ) (t : Fin 128) (l : Fin 256) : ℝ :=
  D t l * (mix W (fun s => norm g b (gl V s)) t l + B (hd l) t) * dgelu (U t l)

/-- The gradient with respect to the other half of the projection. -/
def dv (W : Fin 4 → Fin 128 → Fin 128 → ℝ) (g : Fin 256 → ℝ) (U V D : Fin 128 → Fin 256 → ℝ)
    (s : Fin 128) (l : Fin 256) : ℝ :=
  dnorm g (gl V s) (mixT W (dsp U D) s) l * dgelu (V s l)

/-- One chunk's part of the gradient of the mixing matrices. -/
def dW (g b : Fin 256 → ℝ) (U V D : Fin 128 → Fin 256 → ℝ) (h : Fin 4) (t s : Fin 128) : ℝ :=
  if s ≤ t then ∑ l, (if hd l = h then dsp U D t l * norm g b (gl V s) l else 0) else 0

/-- One chunk's part of the gradient of the mixing bias. -/
def dB (U D : Fin 128 → Fin 256 → ℝ) (h : Fin 4) (t : Fin 128) : ℝ :=
  ∑ l, (if hd l = h then dsp U D t l else 0)

theorem mix_eq (W : Fin 4 → Fin 128 → Fin 128 → ℝ) (X : Fin 128 → Fin 256 → ℝ) (t : Fin 128) (l : Fin 256) :
    mix W X t l = ∑ s, if s ≤ t then W (hd l) t s * X s l else 0 := by
  simp only [mix, tri, ite_mul, zero_mul]

theorem mixT_eq (W : Fin 4 → Fin 128 → Fin 128 → ℝ) (X : Fin 128 → Fin 256 → ℝ) (s : Fin 128) (l : Fin 256) :
    mixT W X s l = ∑ t, if s ≤ t then W (hd l) t s * X t l else 0 := by
  simp only [mixT, tri, ite_mul, zero_mul]

/-- One number for each head, chosen by the column's head. -/
theorem pick (l : Fin 256) (a : Fin 4 → ℝ) :
    (if hd l = 0 then a 0 else 0) + (if hd l = 1 then a 1 else 0) + (if hd l = 2 then a 2 else 0) + (if hd l = 3 then a 3 else 0)
      = a (hd l) := by
  generalize hd l = k
  fin_cases k <;> simp

theorem mean_cen (v : Fin 256 → ℝ) : ∑ l, cen v l = 0 := by
  simp only [cen, mean, Finset.sum_sub_distrib, Finset.sum_const, Finset.card_univ, Fintype.card_fin]
  simp; ring

theorem var_nonneg (v : Fin 256 → ℝ) : 0 ≤ var v :=
  div_nonneg (Finset.sum_nonneg fun l _ => mul_self_nonneg _) (by norm_num)

theorem eps_pos : 0 < eps := by unfold eps; norm_num

theorem var_eps_pos (v : Fin 256 → ℝ) : 0 < var v + eps := add_pos_of_nonneg_of_pos (var_nonneg v) eps_pos

theorem rstd_mul_self (v : Fin 256 → ℝ) : rstd v * rstd v = (var v + eps)⁻¹ := by
  rw [rstd, ← mul_inv, Real.mul_self_sqrt (var_eps_pos v).le]

/-- The gradient of the layer normalisation as reverse differentiation of its formula writes it: the root's gradient
    enters the centred row twice, and the mean is taken off at the end. -/
theorem dnorm_eq (g v d : Fin 256 → ℝ) (l : Fin 256)
    (k : ℝ) (hk : k = (∑ j, cen v j * (d j * g j)) * (-(1 / 2) * (rstd v / (var v + eps))) / 256)
    (o : Fin 256 → ℝ) (ho : ∀ j, o j = d j * g j * rstd v + cen v j * k + k * cen v j) :
    o l + (∑ j, -o j) / 256 = dnorm g v d l := by
  have hs : ∑ j, -o j = -(rstd v * ∑ j, d j * g j) := by
    simp only [ho, Finset.sum_neg_distrib, Finset.sum_add_distrib, ← Finset.sum_mul, ← Finset.mul_sum, mean_cen]
    ring
  have hm : mean (fun j => d j * g j * hat v j) = rstd v * (∑ j, cen v j * (d j * g j)) / 256 := by
    simp only [mean, hat, Finset.mul_sum]
    congr 1
    exact Finset.sum_congr rfl fun j _ => by ring
  have hr := rstd_mul_self v
  rw [hs, ho, dnorm, hm, mean, hat, hk, div_eq_mul_inv (rstd v), ← hr]
  ring

end Cert.Sgu

end
-- ==== Proof.Lift.lean ====
/- How the operations on extended reals act on real numbers, and the constants the programs spell. -/
module

public import proofs.«01_k».proof.Proof.Reals
public import Idealize.ShloMosaic.Lib.Pointwise
public import Idealize.ShloMosaic.Lib.WordCmp

@[expose] public section

noncomputable section

namespace Cert.Sgu

open Idealize.ShloMosaic

theorem sum_coe {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

theorem div_real (a : ℝ) {b : ℝ} (hb : b ≠ 0) : Ideal.div (a : EReal) (b : EReal) = ((a / b : ℝ) : EReal) := by
  rw [Ideal.div_coe hb, ← EReal.coe_mul, mul_one_div]

theorem div_256 (a : ℝ) : Ideal.div (a : EReal) ((256 : ℝ) : EReal) = ((a / 256 : ℝ) : EReal) := div_real a (by norm_num)

theorem erf_real (a : ℝ) : Ideal.erf (a : EReal) = ((er a : ℝ) : EReal) := rfl

theorem ferf_real (a : ℝ) : (FloatOps.erf (F := Ideal) (φ := .f32) (a : EReal) : EReal) = ((er a : ℝ) : EReal) := rfl

theorem ite_coe (p : Prop) [Decidable p] (a : ℝ) : (if p then (a : EReal) else 0) = ((if p then a else 0 : ℝ) : EReal) := by
  split <;> simp

theorem rsqrt_real {a : ℝ} (ha : 0 < a) : Ideal.rsqrt (a : EReal) = (((Real.sqrt a)⁻¹ : ℝ) : EReal) := by
  rw [Ideal.rsqrt_coe, if_neg (not_lt.2 ha.le), if_neg ha.ne']

theorem rsqrt_var (v : Fin 256 → ℝ) : Ideal.rsqrt ((var v + eps : ℝ) : EReal) = ((rstd v : ℝ) : EReal) := rsqrt_real (var_eps_pos v)

theorem ofBits_half : Ideal.ofBits .f32 0x3F000000#32 = ((1 / 2 : ℝ) : EReal) := by
  simp [Ideal.ofBits, Ideal.ieee, -EReal.coe_mul]; norm_num

theorem ofBits_neg_half : Ideal.ofBits .f32 0xBF000000#32 = ((-(1 / 2) : ℝ) : EReal) := by
  simp [Ideal.ofBits, Ideal.ieee, -EReal.coe_mul]; norm_num

theorem ofBits_one : Ideal.ofBits .f32 0x3F800000#32 = ((1 : ℝ) : EReal) := by
  simp [Ideal.ofBits, Ideal.ieee, -EReal.coe_mul]; norm_num

theorem ofBits_neg_one : Ideal.ofBits .f32 0xBF800000#32 = ((-1 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

theorem ofBits_256 : Ideal.ofBits .f32 0x43800000#32 = ((256 : ℝ) : EReal) := by
  simp [Ideal.ofBits, Ideal.ieee, -EReal.coe_mul]; norm_num

theorem ofBits_eps : Ideal.ofBits .f32 0x3727C5AC#32 = ((eps : ℝ) : EReal) := by
  simp [Ideal.ofBits, Ideal.ieee, -EReal.coe_mul, eps]; norm_num

/-- Choosing by a signed comparison of a column number and a row number of a chunk is choosing by their order. -/
theorem select_le (s t : Fin 128) (x y : EReal) :
    Scalar.select (IntOp.cmpi .sle (BitVec.ofNat 32 s) (BitVec.ofNat 32 t)) x y = if s ≤ t then x else y := by
  rw [WordCmp.cmpi_sle_ofNat (by omega) (by omega)]
  by_cases h : s ≤ t
  · have : s.val ≤ t.val := h
    simp [Scalar.select, h, this]
  · have : ¬ s.val ≤ t.val := h
    simp [Scalar.select, h, this]

/-- Choosing by the two comparisons that mark a head's columns is choosing by the column's head. -/
theorem select_head (l : Fin 256) (h : Fin 4) (a b : BitVec 32) (ha : a = BitVec.ofNat 32 (64 * h)) (hb : b = BitVec.ofNat 32 (64 * h + 64))
    (x y : EReal) :
    Scalar.select (IntOp.andi (IntOp.cmpi .sge (BitVec.ofNat 32 l) a) (IntOp.cmpi .slt (BitVec.ofNat 32 l) b)) x y
      = if hd l = h then x else y := by
  subst ha hb
  rw [WordCmp.cmpi_sge_ofNat (by omega) (by omega), WordCmp.cmpi_slt_ofNat (by omega) (by omega)]
  have e : hd l = h ↔ (64 * h.val ≤ l.val ∧ l.val < 64 * h.val + 64) := by
    rw [Fin.ext_iff]; simp only [hd]; omega
  by_cases h1 : 64 * h.val ≤ l.val <;> by_cases h2 : l.val < 64 * h.val + 64 <;> simp [Scalar.select, IntOp.andi, e, h1, h2]

end Cert.Sgu

end
-- ==== Proof.NormReals.lean ====
/- The gradient of the root-mean-square normalisation of a row of 1024 extended reals. Nothing here mentions a program. -/
module

public import proofs.«01_k».proof.Proof.Lift

@[expose] public section

noncomputable section

namespace Cert.Norm

open Idealize.ShloMosaic
open Cert.Sgu (sum_coe rsqrt_real div_real)

/-- The small number under the root. -/
def eps : ℝ := 8796093 / 8796093022208

/-- The mean square of a row, with the small number added. -/
def ms (x : Fin 1024 → EReal) : EReal := Ideal.div (∑ l, x l * x l) ((1024 : ℝ) : EReal) + (eps : EReal)

/-- One over the root of the mean square. -/
def rs (x : Fin 1024 → EReal) : EReal := Ideal.rsqrt (ms x)

/-- The gradient of the normalised row `x l * rs x * g l` with respect to its row, at the cotangent `d`. -/
def dn (g x d : Fin 1024 → EReal) (l : Fin 1024) : EReal :=
  rs x * (d l * g l - x l * rs x * Ideal.div (∑ j, d j * g j * (x j * rs x)) ((1024 : ℝ) : EReal))

/-- The root's part of the gradient, as reverse differentiation writes it. -/
def kr (g x d : Fin 1024 → EReal) : EReal :=
  Ideal.div ((∑ j, x j * (d j * g j)) * (((-(1 / 2) : ℝ) : EReal) * Ideal.div (rs x) (ms x))) ((1024 : ℝ) : EReal)

theorem eps_pos : 0 < eps := by unfold eps; norm_num

/-- A product with a number that is not negative goes into a sum. -/
theorem mul_sum_real {ι : Type} (s : Finset ι) {a : ℝ} (h : 0 ≤ a) (f : ι → EReal) : (a : EReal) * ∑ i ∈ s, f i = ∑ i ∈ s, (a : EReal) * f i := by
  classical
  induction s using Finset.induction_on with
  | empty => simp
  | insert b s hb ih =>
    rw [Finset.sum_insert hb, Finset.sum_insert hb, ← ih]
    exact EReal.left_distrib_of_nonneg_of_ne_top (EReal.coe_nonneg.2 h) (EReal.coe_ne_top a) _ _

/-- Twice a product with a number is the product with its double. -/
theorem mul_add_mul (a : ℝ) (s : EReal) : (a : EReal) * s + (a : EReal) * s = ((2 * a : ℝ) : EReal) * s := by
  induction s with
  | coe s => rw [← EReal.coe_mul, ← EReal.coe_mul, ← EReal.coe_add]; congr 1; ring
  | top =>
    rcases lt_trichotomy a 0 with h | h | h
    · rw [EReal.coe_mul_top_of_neg h, EReal.coe_mul_top_of_neg (by linarith)]; rfl
    · subst h; simp
    · rw [EReal.coe_mul_top_of_pos h, EReal.coe_mul_top_of_pos (by linarith)]; rfl
  | bot =>
    rcases lt_trichotomy a 0 with h | h | h
    · rw [EReal.coe_mul_bot_of_neg h, EReal.coe_mul_bot_of_neg (by linarith)]; rfl
    · subst h; simp
    · rw [EReal.coe_mul_bot_of_pos h, EReal.coe_mul_bot_of_pos (by linarith)]; rfl

theorem div_1024 (a : EReal) : Ideal.div a ((1024 : ℝ) : EReal) = a * ((1 / 1024 : ℝ) : EReal) := Ideal.div_coe (by norm_num) a

theorem self_mul_nonneg (a : EReal) : 0 ≤ a * a := by
  rcases le_total 0 a with h | h
  · exact mul_nonneg h h
  · have := mul_nonneg (EReal.neg_nonneg.2 h) (EReal.neg_nonneg.2 h)
    rwa [EReal.neg_mul, mul_comm, EReal.neg_mul, neg_neg] at this

/-- A row that has an infinite entry is of infinite mean square. -/
theorem ms_top (x : Fin 1024 → EReal) (l : Fin 1024) (h : x l = ⊤ ∨ x l = ⊥) : ms x = ⊤ := by
  have e : x l * x l = ⊤ := by rcases h with h | h <;> rw [h] <;> rfl
  have s : ∑ j, x j * x j = ⊤ :=
    top_le_iff.1 (e ▸ Finset.single_le_sum (f := fun j => x j * x j) (fun j _ => self_mul_nonneg (x j)) (Finset.mem_univ l))
  rw [ms, s, div_1024, EReal.top_mul_coe_of_pos (by norm_num), EReal.top_add_coe]

/-- The gradient as reverse differentiation of the formula writes it, the root's part entering the row twice. -/
theorem dn_eq (g x d : Fin 1024 → EReal) (l : Fin 1024) (r : EReal) :
    r + d l * g l * rs x + x l * kr g x d + kr g x d * x l = r + dn g x d l := by
  by_cases hx : ∃ j, x j = ⊤ ∨ x j = ⊥
  · obtain ⟨j, hj⟩ := hx
    have hm := ms_top x j hj
    have hr : rs x = 0 := by rw [rs, hm]; rfl
    have hk : kr g x d = 0 := by
      rw [kr, hr, hm]
      have : Ideal.div 0 ⊤ = 0 := by simp [Ideal.div]
      rw [this, mul_zero, mul_zero, div_1024, zero_mul]
    rw [dn, hr, hk, mul_zero, mul_zero, zero_mul, zero_mul, add_zero, add_zero]
  · have hx' : ∀ j, x j = ((x j).toReal : EReal) := fun j =>
      (EReal.coe_toReal (fun h => hx ⟨j, .inl h⟩) (fun h => hx ⟨j, .inr h⟩)).symm
    generalize hX : (fun j => (x j).toReal) = X
    have hx : ∀ j, x j = (X j : EReal) := fun j => by rw [hx' j, ← hX]
    have hp : 0 < (∑ l, X l * X l) / 1024 + eps :=
      add_pos_of_nonneg_of_pos (div_nonneg (Finset.sum_nonneg fun l _ => mul_self_nonneg _) (by norm_num)) eps_pos
    generalize hμ : (∑ l, X l * X l) / 1024 + eps = μ at hp
    have hm : ms x = (μ : EReal) := by
      rw [ms]
      simp only [hx, ← EReal.coe_mul, sum_coe]
      rw [div_real _ (by norm_num), ← EReal.coe_add, hμ]
    generalize hρ : (Real.sqrt μ)⁻¹ = ρ
    have hρ0 : 0 ≤ ρ := hρ ▸ inv_nonneg.2 (Real.sqrt_nonneg _)
    have hρμ : ρ / μ = ρ * (ρ * ρ) := by
      rw [← hρ, ← mul_inv, Real.mul_self_sqrt hp.le, div_eq_mul_inv]
    have hr : rs x = (ρ : EReal) := by rw [rs, hm, rsqrt_real hp, hρ]
    generalize hS : ∑ j, x j * (d j * g j) = S
    have hk : kr g x d = ((-(1 / 2) * (ρ * (ρ * ρ)) / 1024 : ℝ) : EReal) * S := by
      rw [kr, hS, hr, hm, div_real _ hp.ne', hρμ, ← EReal.coe_mul, div_1024, mul_comm S, mul_right_comm, ← EReal.coe_mul]
      congr 2; ring
    have hd : dn g x d l = (ρ : EReal) * (d l * g l) + ((-(X l * (ρ * (ρ * ρ))) / 1024 : ℝ) : EReal) * S := by
      have h1 : ∑ j, d j * g j * (x j * rs x) = (ρ : EReal) * S := by
        rw [← hS, mul_sum_real _ hρ0]
        refine Finset.sum_congr rfl fun j _ => ?_
        rw [hr, mul_comm (x j), mul_left_comm, mul_comm (x j)]
      rw [dn, h1, hr, hx l, sub_eq_add_neg, EReal.left_distrib_of_nonneg_of_ne_top (EReal.coe_nonneg.2 hρ0) (EReal.coe_ne_top ρ)]
      congr 1
      have h2 : (X l : EReal) * (ρ : EReal) * ((ρ : EReal) * S * ((1 / 1024 : ℝ) : EReal)) = ((X l * ρ * ρ * (1 / 1024) : ℝ) : EReal) * S := by
        simp only [EReal.coe_mul]; ac_rfl
      rw [div_1024, h2, ← EReal.neg_mul, ← EReal.coe_neg, ← mul_assoc, ← EReal.coe_mul]
      congr 2; ring
    rw [hd, hk, hr, hx l, add_assoc, mul_comm _ (X l : EReal), ← mul_assoc, ← EReal.coe_mul, mul_add_mul, add_assoc, mul_comm (d l * g l)]
    congr 4; ring

theorem ofBits_1024 : Ideal.ofBits .f32 0x44800000#32 = ((1024 : ℝ) : EReal) := by
  simp [Ideal.ofBits, Ideal.ieee, -EReal.coe_mul]; norm_num

theorem ofBits_eps : Ideal.ofBits .f32 0x358637BD#32 = ((eps : ℝ) : EReal) := by
  simp [Ideal.ofBits, Ideal.ieee, -EReal.coe_mul, eps]; norm_num

end Cert.Norm

end
-- ==== Proof.UpRef.lean ====
/- The reference's values for the up projection's input gradient, one stage at a time, read at an index over the
   extended reals. -/
module

public import proofs.«01_k».proof.Proof.Gen.Reference2Ideal.Run
public import proofs.«01_k».proof.Proof.NormReals
public import Idealize.ShloMosaic.Lib.Pointwise

@[expose] public section

set_option maxRecDepth 16384

noncomputable section

namespace Cert.Up

open Idealize.ShloMosaic Cert.Reference2Ideal Cert.Reference2Ideal.Gen Cert.Norm
open Cert.Sgu (ofBits_neg_half)

/-- Arrays of the reference's shapes. -/
abbrev A1024 := FVec Ideal S8192x1024 .f32
abbrev A1 := FVec Ideal S8192x1 .f32

/-- The two cotangents side by side. -/
def qcat (a b : Vec Ideal S8192x2816 .bf16) : Vec Ideal S8192x5632 .bf16 :=
  concatenate S8192x5632 1 [⟨S8192x2816, a⟩, ⟨S8192x2816, b⟩] concatenates_S8192x2816_S8192x2816_S8192x5632_d1

/-- The cotangent of the normalised rows. -/
def qdh (f : Vec Ideal S8192x5632 .bf16) (w : Vec Ideal S5632x1024 .bf16) : A1024 :=
  Host.dotGeneral dot_S8192x5632_S1024x5632_S8192x1024_1_1_0_0_n_n none (extf .f32 f bitsLt_bf16_f32) (transpose S1024x5632 [1, 0] (extf .f32 w bitsLt_bf16_f32) transposes_S5632x1024_S1024x5632_1_0)

/-- The mean squares, with the small number added. -/
def qms (x : A1024) : A1 :=
  addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32))

/-- The normalised rows. -/
def qhat (x : A1024) (v : A1) : A1024 :=
  mulf x (broadcastInDim S8192x1024 ![0, 1] bcast_S8192x1_S8192x1024_0_1 (Host.rsqrt v))

/-- The cotangent times the gain. -/
def qu (d : A1024) (g : FVec Ideal S1024 .f32) : A1024 :=
  mulf d (broadcastInDim S8192x1024 ![0, 1] bcast_S1x1024_S8192x1024_0_1 (broadcastInDim S1x1024 ![1] bcast_S1024_S1x1024_1 g))

/-- The root's part of the gradient, along each row. -/
def qk (x u : A1024) (v : A1) : A1024 :=
  broadcastInDim S8192x1024 ![0] bcast_S8192_S8192x1024_0 (Host.reduceAdd (Host.divf (mulf (shapeCast _ (Host.reduceAdd (mulf x u) (constant S_ .f32 0x00000000#32) reducesTo_S8192x1024_S8192_d1 h_S_) shapeCasts_S8192_S8192x1)
    (mulf (broadcastInDim S8192x1 ![] bcast_S_S8192x1 (constant S_ .f32 0xBF000000#32)) (Host.divf (Host.rsqrt v) v))) (broadcastInDim S8192x1 ![] bcast_S_S8192x1 (constant S_ .f32 0x44800000#32))) (constant S_ .f32 0x00000000#32) reducesTo_S8192x1_S8192_d1 h_S_)

/-- The gradient of the rows. -/
def qdx (r x u k : A1024) (v : A1) : A1024 :=
  addf (addf (addf r (mulf u (broadcastInDim S8192x1024 ![0, 1] bcast_S8192x1_S8192x1024_0_1 (Host.rsqrt v)))) (mulf x k)) (mulf k x)

/-- A column's sum over all rows. -/
def qsum (x : A1024) : FVec Ideal S1x1024 .f32 :=
  broadcastInDim S1x1024 ![1] bcast_S1024_S1x1024_1 (Host.reduceAdd (shapeCast _ (Host.reduceAdd x (constant S_ .f32 0x00000000#32) reducesTo_S8192x1024_S1024_d0 h_S_) shapeCasts_S1024_S1x1024) (constant S_ .f32 0x00000000#32) reducesTo_S1x1024_S1024_d0 h_S_)

section

variable (m : (ℓ : Loc nD τ sig) → Buf (Elt Ideal) ℓ) (c : Dev nD)

/-- The stages at the arguments. -/
def aF : Vec Ideal S8192x5632 .bf16 := qcat (m ((c.tc : Thread nD τ).loc main_arg0)) (m ((c.tc : Thread nD τ).loc main_arg1))
def aD : A1024 := qdh (aF m c) (m ((c.tc : Thread nD τ).loc main_arg2))
def aX : A1024 := m ((c.tc : Thread nD τ).loc main_arg3)
def aV : A1 := qms (aX m c)
def aU : A1024 := qu (aD m c) (m ((c.tc : Thread nD τ).loc main_arg4))
def aK : A1024 := qk (aX m c) (aU m c) (aV m c)

theorem res0 : Value.res_out0 m c = qdx (m ((c.tc : Thread nD τ).loc main_arg5)) (aX m c) (aU m c) (aK m c) (aV m c) := rfl
theorem res1 : Value.res_out1 m c = truncf .bf16 (qdx (m ((c.tc : Thread nD τ).loc main_arg5)) (aX m c) (aU m c) (aK m c) (aV m c)) bitsLt_bf16_f32 := rfl

end

section

variable {x u d r k : A1024} {v : A1} {X D R : Fin 8192 → Fin 1024 → EReal} {G : Fin 1024 → EReal} {g : FVec Ideal S1024 .f32}

theorem qcat_at {a b : Vec Ideal S8192x2816 .bf16} {A B : Fin 8192 → Fin 2816 → EReal} (ha : ∀ r k, a (ix2 r k) = A r k)
    (hb : ∀ r k, b (ix2 r k) = B r k) (r : Fin 8192) (k : Fin 5632) :
    qcat a b (ix2 r k) = if h : k.val < 2816 then A r ⟨k, h⟩ else B r ⟨k - 2816, by omega⟩ := by
  pointwise [qcat]
  split
  · rw [ha]
  · rw [hb]

theorem qdh_at {f : Vec Ideal S8192x5632 .bf16} {w : Vec Ideal S5632x1024 .bf16} {E : Fin 8192 → Fin 5632 → EReal} {W : Fin 5632 → Fin 1024 → EReal}
    (hf : ∀ r k, f (ix2 r k) = E r k) (hw : ∀ k l, w (ix2 k l) = W k l) (r : Fin 8192) (l : Fin 1024) :
    qdh f w (ix2 r l) = ∑ k, E r k * W k l := by
  pointwise [qdh]
  simp only [hf, hw]

theorem qms_at (hx : ∀ r l, x (ix2 r l) = X r l) (r : Fin 8192) (z : Fin 1) : qms x (ix2 r z) = ms (X r) := by
  pointwise [qms]
  simp only [hx, ofBits_1024, ofBits_eps]
  rfl

theorem qhat_at (hx : ∀ r l, x (ix2 r l) = X r l) (hv : ∀ r z, v (ix2 r z) = ms (X r)) (r : Fin 8192) (l : Fin 1024) :
    qhat x v (ix2 r l) = X r l * rs (X r) := by
  pointwise [qhat]
  simp only [hx, hv]
  rfl

theorem qu_at (hd : ∀ r l, d (ix2 r l) = D r l) (hg : ∀ l, g (ix1 l) = G l) (r : Fin 8192) (l : Fin 1024) :
    qu d g (ix2 r l) = D r l * G l := by
  pointwise [qu]
  simp only [hd, hg]

theorem qk_at (hx : ∀ r l, x (ix2 r l) = X r l) (hu : ∀ r l, u (ix2 r l) = D r l * G l)
    (hv : ∀ r z, v (ix2 r z) = ms (X r)) (r : Fin 8192) (l : Fin 1024) :
    qk x u v (ix2 r l) = kr G (X r) (D r) := by
  pointwise [qk]
  simp only [hx, hu, hv, ofBits_1024, ofBits_neg_half, Finset.univ_unique, Finset.sum_singleton]
  rfl

theorem qdx_at (hr : ∀ i l, r (ix2 i l) = R i l) (hx : ∀ r l, x (ix2 r l) = X r l) (hu : ∀ r l, u (ix2 r l) = D r l * G l)
    (hk : ∀ r l, k (ix2 r l) = kr G (X r) (D r)) (hv : ∀ r z, v (ix2 r z) = ms (X r)) (i : Fin 8192) (l : Fin 1024) :
    qdx r x u k v (ix2 i l) = R i l + dn G (X i) (D i) l := by
  pointwise [qdx]
  simp only [hr, hx, hu, hk, hv]
  exact dn_eq G (X i) (D i) l (R i l)

theorem qsum_at (hx : ∀ r l, x (ix2 r l) = X r l) (z : Fin 1) (l : Fin 1024) : qsum x (ix2 z l) = ∑ r, X r l := by
  pointwise [qsum]
  simp only [hx, Finset.univ_unique, Finset.sum_singleton]

end

end Cert.Up

end
-- ==== Proof.InClaims.lean ====
/- The gradient of the input projection's input and of the norm before it: what the call leaves in its three results, the
   reference's results, and the claims. -/
module

public import proofs.«01_k».proof.Defs
public import proofs.«01_k».proof.Proof.NormReals
public import proofs.«01_k».proof.Proof.UpRef
public import proofs.«01_k».proof.Proof.Products
public import proofs.«01_k».proof.Proof.Gen.Kernel6.Frame
public import proofs.«01_k».proof.Proof.Gen.Kernel6Ideal.Value
public import proofs.«01_k».proof.Proof.Gen.Kernel6Ideal.Frame
public import proofs.«01_k».proof.Proof.Gen.Reference6Ideal.Run
public import Idealize.ShloMosaic.Lib.Pointwise
public import Idealize.ShloMosaic.Lib.Pipeline.ValueKit
public import Idealize.ShloMosaic.Lib.Pipeline.ReadBack
public import Idealize.ShloMosaic.Adequacy
public import Idealize.ShloMosaic.Init

@[expose] public section

set_option maxRecDepth 16384

noncomputable section

namespace Cert.InX

open Idealize.ShloMosaic Idealize.SL.Sem Cert.Norm
open TcCoe

/-- A sum over all columns is the sum over each part's columns. -/
theorem sum_parts (f : Fin 2560 → EReal) :
    ∑ k, f k = ∑ k : Fin 768, f ⟨0 + k.val, by omega⟩ + ∑ k : Fin 512, f ⟨768 + k.val, by omega⟩ + ∑ k : Fin 512, f ⟨1280 + k.val, by omega⟩ + ∑ k : Fin 256, f ⟨1792 + k.val, by omega⟩ + ∑ k : Fin 256, f ⟨2048 + k.val, by omega⟩ + ∑ k : Fin 256, f ⟨2304 + k.val, by omega⟩ := by
  refine (show ∑ k, f k = ∑ k : Fin (768 + 512 + 512 + 256 + 256 + 256), f k from rfl).trans ?_
  simp only [Fin.sum_univ_add]
  refine congrArg₂ (· + ·) (congrArg₂ (· + ·) (congrArg₂ (· + ·) (congrArg₂ (· + ·) (congrArg₂ (· + ·) ?_ ?_) ?_) ?_) ?_) ?_ <;>
    exact Finset.sum_congr rfl fun k _ => congrArg f (Fin.ext (by simp))

/-- The cotangent of the normalised rows. -/
def dh {n : Nat} (P : Fin n → Fin 2560 → EReal) (W : Fin 2560 → Fin 1024 → EReal) (r : Fin n) (l : Fin 1024) : EReal := ∑ k, P r k * W k l

/-- The gradient of the rows. -/
def dx (P : Fin 8192 → Fin 2560 → EReal) (W : Fin 2560 → Fin 1024 → EReal) (X : Fin 8192 → Fin 1024 → EReal) (G : Fin 1024 → EReal)
    (R : Fin 8192 → Fin 1024 → EReal) (r : Fin 8192) (l : Fin 1024) : EReal :=
  R r l + dn G (X r) (dh P W r) l

/-- Row `r` of tile `t`. -/
def row (t : Fin 16) (r : Fin 512) : Fin 8192 := ⟨t.val * 512 + r.val, by omega⟩

/-- All rows, as the rows of each tile. -/
theorem sum_tile (f : Fin 8192 → EReal) : ∑ r, f r = ∑ t : Fin 16, ∑ r : Fin 512, f (row t r) := by
  rw [← Fintype.sum_prod_type']
  refine (Fintype.sum_equiv (finProdFinEquiv (m := 16) (n := 512)) _ _ fun k => congrArg f (Fin.ext ?_)).symm
  simp only [finProdFinEquiv, Equiv.coe_fn_mk, row]; omega

/-- One tile's part of the gradient of the gain. -/
def dgT (P : Fin 8192 → Fin 2560 → EReal) (W : Fin 2560 → Fin 1024 → EReal) (X : Fin 8192 → Fin 1024 → EReal) (t : Fin 16) (l : Fin 1024) : EReal :=
  ∑ r, dh P W (row t r) l * (X (row t r) l * rs (X (row t r)))

section

open Cert.Kernel6Ideal Cert.Kernel6Ideal.Gen

theorem pay1_at {v0 : Vec Ideal S512x768 .bf16} {v1 : Vec Ideal S512x512 .bf16} {v2 : Vec Ideal S512x512 .bf16} {v3 : Vec Ideal S512x256 .bf16} {v4 : Vec Ideal S512x256 .f32} {v5 : Vec Ideal S512x256 .f32} {w0 : Vec Ideal S768x1024 .bf16} {w1 : Vec Ideal S512x1024 .bf16} {w2 : Vec Ideal S512x1024 .bf16} {w3 : Vec Ideal S256x1024 .bf16} {w4 : Vec Ideal S256x1024 .bf16} {w5 : Vec Ideal S256x1024 .bf16}
    {P : Fin 512 → Fin 2560 → EReal} {W : Fin 2560 → Fin 1024 → EReal}
    (h0 : ∀ r k, v0 (ix2 r k) = P r ⟨0 + k.val, by omega⟩) (h1 : ∀ r k, v1 (ix2 r k) = P r ⟨768 + k.val, by omega⟩) (h2 : ∀ r k, v2 (ix2 r k) = P r ⟨1280 + k.val, by omega⟩) (h3 : ∀ r k, v3 (ix2 r k) = P r ⟨1792 + k.val, by omega⟩) (h4 : ∀ r k, v4 (ix2 r k) = P r ⟨2048 + k.val, by omega⟩) (h5 : ∀ r k, v5 (ix2 r k) = P r ⟨2304 + k.val, by omega⟩)
    (g0 : ∀ k l, w0 (ix2 k l) = W ⟨0 + k.val, by omega⟩ l) (g1 : ∀ k l, w1 (ix2 k l) = W ⟨768 + k.val, by omega⟩ l) (g2 : ∀ k l, w2 (ix2 k l) = W ⟨1280 + k.val, by omega⟩ l) (g3 : ∀ k l, w3 (ix2 k l) = W ⟨1792 + k.val, by omega⟩ l) (g4 : ∀ k l, w4 (ix2 k l) = W ⟨2048 + k.val, by omega⟩ l) (g5 : ∀ k l, w5 (ix2 k l) = W ⟨2304 + k.val, by omega⟩ l) (r : Fin 512) (l : Fin 1024) :
    k0_pay1 (F := Ideal) v0 w0 v1 w1 v2 w2 v3 w3 v4 w4 v5 w5 (ix2 r l) = dh P W r l := by
  refine Eq.trans ?_ (sum_parts fun k => P r k * W k l).symm
  pointwise [k0_pay1]
  simp only [h0, g0, h1, g1, h2, g2, h3, g3, h4, g4, h5, g5, Nat.zero_add]

section

variable {v24 v25 v40 : Vec Ideal S512x1024 .f32} {v36 : Vec Ideal S1x1024 .f32} {D X R : Fin 512 → Fin 1024 → EReal} {G : Fin 1024 → EReal}

theorem pay3_at (hx : ∀ r l, v25 (ix2 r l) = X r l) (r : Fin 512) : k0_pay3 (F := Ideal) (k0_pay2 v25) (ix2 r 0) = rs (X r) := by
  pointwise [k0_pay3, k0_pay2]
  simp only [hx, ofBits_1024, ofBits_eps]
  rfl

theorem pay4_at (hx : ∀ r l, v25 (ix2 r l) = X r l) (r : Fin 512) (l : Fin 1024) :
    k0_pay4 (F := Ideal) v25 (k0_pay2 v25) (ix2 r l) = X r l * rs (X r) := by
  pointwise [k0_pay4]
  simp only [hx, pay3_at hx]

theorem pay5_at (hd : ∀ r l, v24 (ix2 r l) = D r l) (hx : ∀ r l, v25 (ix2 r l) = X r l) (hg : ∀ l, v36 (ix2 0 l) = G l)
    (hr : ∀ r l, v40 (ix2 r l) = R r l) (r : Fin 512) (l : Fin 1024) :
    k0_pay5 (F := Ideal) v24 v25 (k0_pay2 v25) v36 v40 (ix2 r l) = R r l + dn G (X r) (D r) l := by
  pointwise [k0_pay5]
  simp only [hd, pay4_at hx, pay3_at hx, hg, hr, ofBits_1024]
  rfl

theorem pay6_at (hd : ∀ r l, v24 (ix2 r l) = D r l) (hx : ∀ r l, v25 (ix2 r l) = X r l) (hg : ∀ l, v36 (ix2 0 l) = G l)
    (hr : ∀ r l, v40 (ix2 r l) = R r l) (r : Fin 512) (l : Fin 1024) :
    k0_pay6 (F := Ideal) v24 v25 (k0_pay2 v25) v36 v40 (ix2 r l) = R r l + dn G (X r) (D r) l := pay5_at hd hx hg hr r l

theorem pay8_at (hd : ∀ r l, v24 (ix2 r l) = D r l) (hx : ∀ r l, v25 (ix2 r l) = X r l) (a : Vec Ideal S1x1024 .f32) (l : Fin 1024) :
    k0_pay8 (F := Ideal) v24 v25 (k0_pay2 v25) a (ix2 0 l) = a (ix2 0 l) + ∑ r, D r l * (X r l * rs (X r)) := by
  pointwise [k0_pay8]
  simp only [hd, pay4_at hx]

theorem pay7_at (y : S1x1024.Idx) : k0_pay7 (F := Ideal) y = (0 : EReal) := by pointwise [k0_pay7]

end

/-- Which block of its array each window holds at each grid point. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0]
    ∧ win0_6.index t = ![0, 0] ∧ win0_7.index t = ![t.val, 0] ∧ win0_8.index t = ![0, 0] ∧ win0_9.index t = ![t.val, 0] ∧ win0_10.index t = ![t.val, 0]
    ∧ win0_11.index t = ![t.val, 0] ∧ t.val < 16 :=
  (by decide +kernel : ∀ t : Fin grid0.N, _)

/-- The arguments hold the numbers `P`, by columns, and `W`, `X`, `G` and `R`. -/
structure Given (m : (ℓ : Loc nD τ sig) → Buf (Elt Ideal) ℓ) (c : Dev nD) (P : Fin 8192 → Fin 2560 → EReal) (W : Fin 2560 → Fin 1024 → EReal)
    (X : Fin 8192 → Fin 1024 → EReal) (G : Fin 1024 → EReal) (R : Fin 8192 → Fin 1024 → EReal) : Prop where
  p0 : ∀ r k, (m ((c.tc : Thread nD τ).loc main_arg0) : S8192x768.Idx → EReal) (ix2 r k) = P r ⟨0 + k.val, by omega⟩
  p1 : ∀ r k, (m ((c.tc : Thread nD τ).loc main_arg1) : S8192x512.Idx → EReal) (ix2 r k) = P r ⟨768 + k.val, by omega⟩
  p2 : ∀ r k, (m ((c.tc : Thread nD τ).loc main_arg2) : S8192x512.Idx → EReal) (ix2 r k) = P r ⟨1280 + k.val, by omega⟩
  p3 : ∀ r k, (m ((c.tc : Thread nD τ).loc main_arg3) : S8192x256.Idx → EReal) (ix2 r k) = P r ⟨1792 + k.val, by omega⟩
  p4 : ∀ r k, (m ((c.tc : Thread nD τ).loc main_arg4) : S8192x256.Idx → EReal) (ix2 r k) = P r ⟨2048 + k.val, by omega⟩
  p5 : ∀ r k, (m ((c.tc : Thread nD τ).loc main_arg5) : S8192x256.Idx → EReal) (ix2 r k) = P r ⟨2304 + k.val, by omega⟩
  w : ∀ k l, (m ((c.tc : Thread nD τ).loc main_arg6) : S2560x1024.Idx → EReal) (ix2 k l) = W k l
  x : ∀ r l, (m ((c.tc : Thread nD τ).loc main_arg7) : S8192x1024.Idx → EReal) (ix2 r l) = X r l
  g : ∀ l, (m ((c.tc : Thread nD τ).loc main_arg8) : S1024.Idx → EReal) (ix1 l) = G l
  r : ∀ r l, (m ((c.tc : Thread nD τ).loc main_arg9) : S8192x1024.Idx → EReal) (ix2 r l) = R r l

variable {m : (ℓ : Loc nD τ sig) → Buf (Elt Ideal) ℓ} {c : Dev nD} {P : Fin 8192 → Fin 2560 → EReal} {W : Fin 2560 → Fin 1024 → EReal}
    {X : Fin 8192 → Fin 1024 → EReal} {G : Fin 1024 → EReal} {R : Fin 8192 → Fin 1024 → EReal}

/-- The rows of tile `t` of an array. -/
def tile {n : Nat} (A : Fin 8192 → Fin n → EReal) (t : Fin 16) (r : Fin 512) (k : Fin n) : EReal := A (row t r) k

theorem i0 (hg : Given m c P W X G R) (t : Fin cfg0.N) (r : Fin 512) (k : Fin 768) :
    (iblk m c 0 t : S512x768.Idx → EReal) (ix2 r k) = tile P t r ⟨0 + k.val, by omega⟩ := by
  refine Eq.trans ?_ (hg.p0 _ _)
  blk_point [iblk, V, idx t, row]
theorem i1 (hg : Given m c P W X G R) (t : Fin cfg0.N) (r : Fin 512) (k : Fin 512) :
    (iblk m c 1 t : S512x512.Idx → EReal) (ix2 r k) = tile P t r ⟨768 + k.val, by omega⟩ := by
  refine Eq.trans ?_ (hg.p1 _ _)
  blk_point [iblk, V, idx t, row]
theorem i2 (hg : Given m c P W X G R) (t : Fin cfg0.N) (r : Fin 512) (k : Fin 512) :
    (iblk m c 2 t : S512x512.Idx → EReal) (ix2 r k) = tile P t r ⟨1280 + k.val, by omega⟩ := by
  refine Eq.trans ?_ (hg.p2 _ _)
  blk_point [iblk, V, idx t, row]
theorem i3 (hg : Given m c P W X G R) (t : Fin cfg0.N) (r : Fin 512) (k : Fin 256) :
    (iblk m c 3 t : S512x256.Idx → EReal) (ix2 r k) = tile P t r ⟨1792 + k.val, by omega⟩ := by
  refine Eq.trans ?_ (hg.p3 _ _)
  blk_point [iblk, V, idx t, row]
theorem i4 (hg : Given m c P W X G R) (t : Fin cfg0.N) (r : Fin 512) (k : Fin 256) :
    (iblk m c 4 t : S512x256.Idx → EReal) (ix2 r k) = tile P t r ⟨2048 + k.val, by omega⟩ := by
  refine Eq.trans ?_ (hg.p4 _ _)
  blk_point [iblk, V, idx t, row]
theorem i5 (hg : Given m c P W X G R) (t : Fin cfg0.N) (r : Fin 512) (k : Fin 256) :
    (iblk m c 5 t : S512x256.Idx → EReal) (ix2 r k) = tile P t r ⟨2304 + k.val, by omega⟩ := by
  refine Eq.trans ?_ (hg.p5 _ _)
  blk_point [iblk, V, idx t, row]
theorem i6 (hg : Given m c P W X G R) (t : Fin cfg0.N) (k : Fin 2560) (l : Fin 1024) :
    (iblk m c 6 t : S2560x1024.Idx → EReal) (ix2 k l) = W k l := by
  refine Eq.trans ?_ (hg.w _ _)
  blk_point [iblk, V, idx t]
theorem i7 (hg : Given m c P W X G R) (t : Fin cfg0.N) (r : Fin 512) (l : Fin 1024) :
    (iblk m c 7 t : S512x1024.Idx → EReal) (ix2 r l) = tile X t r l := by
  refine Eq.trans ?_ (hg.x _ _)
  blk_point [iblk, V, idx t, row]
theorem i8 (hg : Given m c P W X G R) (t : Fin cfg0.N) (l : Fin 1024) :
    (iblk m c 8 t : S1x1024.Idx → EReal) (ix2 0 l) = G l := by
  refine Eq.trans ?_ (hg.g _)
  blk_point [iblk, V, idx t]
theorem i9 (hg : Given m c P W X G R) (t : Fin cfg0.N) (r : Fin 512) (l : Fin 1024) :
    (iblk m c 9 t : S512x1024.Idx → EReal) (ix2 r l) = tile R t r l := by
  refine Eq.trans ?_ (hg.r _ _)
  blk_point [iblk, V, idx t, row]

/-- A load of some of the rows of the weights, read at an index. -/
theorem ld256 {Y : S2560x1024.Idx → EReal} (h : ∀ k l, Y (ix2 k l) = W k l) (o : Nat) (ho : o + 256 ≤ 2560)
    (hb : ∀ a, (![o, 0] : Fin 2 → Nat) a + S256x1024.size a ≤ S2560x1024.size a) (k : Fin 256) (l : Fin 1024) :
    View.ld (Val := Elt Ideal) (S := S2560x1024) (e' := .bf16) Y (Rect.unit (s := S2560x1024) ![o, 0] S256x1024.size hb) (ix2 k l : S256x1024.Idx)
      = W ⟨o + k.val, by omega⟩ l :=
  Eq.trans (b := Y (ix2 (n0 := 2560) ⟨o + k.val, by omega⟩ l)) (View.ld_unit_apply_of _ _ _ _ _ (ix2 (n0 := 2560) ⟨o + k.val, by omega⟩ l) fun d => match d with
    | 0 => rfl
    | 1 => (Nat.zero_add _).symm) (h _ _)
theorem ld512 {Y : S2560x1024.Idx → EReal} (h : ∀ k l, Y (ix2 k l) = W k l) (o : Nat) (ho : o + 512 ≤ 2560)
    (hb : ∀ a, (![o, 0] : Fin 2 → Nat) a + S512x1024.size a ≤ S2560x1024.size a) (k : Fin 512) (l : Fin 1024) :
    View.ld (Val := Elt Ideal) (S := S2560x1024) (e' := .bf16) Y (Rect.unit (s := S2560x1024) ![o, 0] S512x1024.size hb) (ix2 k l : S512x1024.Idx)
      = W ⟨o + k.val, by omega⟩ l :=
  Eq.trans (b := Y (ix2 (n0 := 2560) ⟨o + k.val, by omega⟩ l)) (View.ld_unit_apply_of _ _ _ _ _ (ix2 (n0 := 2560) ⟨o + k.val, by omega⟩ l) fun d => match d with
    | 0 => rfl
    | 1 => (Nat.zero_add _).symm) (h _ _)
theorem ld768 {Y : S2560x1024.Idx → EReal} (h : ∀ k l, Y (ix2 k l) = W k l) (o : Nat) (ho : o + 768 ≤ 2560)
    (hb : ∀ a, (![o, 0] : Fin 2 → Nat) a + S768x1024.size a ≤ S2560x1024.size a) (k : Fin 768) (l : Fin 1024) :
    View.ld (Val := Elt Ideal) (S := S2560x1024) (e' := .bf16) Y (Rect.unit (s := S2560x1024) ![o, 0] S768x1024.size hb) (ix2 k l : S768x1024.Idx)
      = W ⟨o + k.val, by omega⟩ l :=
  Eq.trans (b := Y (ix2 (n0 := 2560) ⟨o + k.val, by omega⟩ l)) (View.ld_unit_apply_of _ _ _ _ _ (ix2 (n0 := 2560) ⟨o + k.val, by omega⟩ l) fun d => match d with
    | 0 => rfl
    | 1 => (Nat.zero_add _).symm) (h _ _)

theorem point10 (hg : Given m c P W X G R) (t : Fin cfg0.N) (r : Fin 512) (l : Fin 1024) :
    (outsAt0 m c t.val t.isLt).1 (ix2 r l) = dx P W X G R (row t r) l := by
  by_cases h : t.val % 16 = 0
  on_goal 1 => rw [outsAt0_A m c t h]
  on_goal 2 => rw [outsAt0_B m c t h]
  all_goals
    frame_out
    exact pay5_at (pay1_at (i0 hg t) (i1 hg t) (i2 hg t) (i3 hg t) (i4 hg t) (i5 hg t) (ld768 (i6 hg t) 0 (by omega) _) (ld512 (i6 hg t) 768 (by omega) _) (ld512 (i6 hg t) 1280 (by omega) _) (ld256 (i6 hg t) 1792 (by omega) _) (ld256 (i6 hg t) 2048 (by omega) _) (ld256 (i6 hg t) 2304 (by omega) _))
      (i7 hg t) (i8 hg t) (i9 hg t) r l

theorem final10 (hg : Given m c P W X G R) : (dats m 0 c).arrAt 10 cfg0.N
    = fun y : S8192x1024.Idx => (dx P W X G R (y 0) (y 1) : EReal) := by
  refine (dats m 0 c).arrAt_eq_of_covers 10 _ (by decide +kernel) fun t hf y => ?_
  blk_simp
  rw [after0_10]
  obtain ⟨r, l, rfl⟩ : ∃ (r : Fin 512) (l : Fin 1024), y = ix2 r l := ⟨y 0, y 1, eq_ix2 y⟩
  rw [point10 hg]
  have e0 : (win0_10.blk t).view.emb (ix2 r l) 0 = row t r := Fin.ext (by blk_simp [idx t, row])
  have e1 : (win0_10.blk t).view.emb (ix2 r l) 1 = l := Fin.ext (by blk_simp [idx t])
  rw [e0, e1]

theorem point11 (hg : Given m c P W X G R) (t : Fin cfg0.N) (r : Fin 512) (l : Fin 1024) :
    (outsAt0 m c t.val t.isLt).2.1 (ix2 r l) = dx P W X G R (row t r) l := by
  by_cases h : t.val % 16 = 0
  on_goal 1 => rw [outsAt0_A m c t h]
  on_goal 2 => rw [outsAt0_B m c t h]
  all_goals
    frame_out
    exact pay6_at (pay1_at (i0 hg t) (i1 hg t) (i2 hg t) (i3 hg t) (i4 hg t) (i5 hg t) (ld768 (i6 hg t) 0 (by omega) _) (ld512 (i6 hg t) 768 (by omega) _) (ld512 (i6 hg t) 1280 (by omega) _) (ld256 (i6 hg t) 1792 (by omega) _) (ld256 (i6 hg t) 2048 (by omega) _) (ld256 (i6 hg t) 2304 (by omega) _))
      (i7 hg t) (i8 hg t) (i9 hg t) r l

theorem final11 (hg : Given m c P W X G R) : (dats m 0 c).arrAt 11 cfg0.N
    = fun y : S8192x1024.Idx => (dx P W X G R (y 0) (y 1) : EReal) := by
  refine (dats m 0 c).arrAt_eq_of_covers 11 _ (by decide +kernel) fun t hf y => ?_
  blk_simp
  rw [after0_11]
  obtain ⟨r, l, rfl⟩ : ∃ (r : Fin 512) (l : Fin 1024), y = ix2 r l := ⟨y 0, y 1, eq_ix2 y⟩
  rw [point11 hg]
  have e0 : (win0_11.blk t).view.emb (ix2 r l) 0 = row t r := Fin.ext (by blk_simp [idx t, row])
  have e1 : (win0_11.blk t).view.emb (ix2 r l) 1 = l := Fin.ext (by blk_simp [idx t])
  rw [e0, e1]

theorem eq_one_row (j : S1x1024.Idx) : ∃ l : Fin 1024, j = ix2 (0 : Fin 1) l := by
  refine ⟨j 1, (eq_ix2 j).trans ?_⟩
  congr 1
  exact Subsingleton.elim (α := Fin 1) _ _

theorem final12 (hg : Given m c P W X G R) : (dats m 0 c).arrAt 12 cfg0.N
    = fun y : S1x1024.Idx => (∑ t, dgT P W X t (y 1) : EReal) := by
  refine (dats m 0 c).arrAt_eq_of_after_last 12 t0_15 (by decide +kernel) _ fun j => ?_
  blk_simp
  rw [after0_12, Pipeline.eq_sum_fin_of_reset_step_apply_last (fun n h => (outsAt0 m c n h).2.2) 16 (fun _ => 0)
    (fun t y => (dgT P W X t (y 1) : EReal))
    (fun t h j => by
      obtain ⟨l, rfl⟩ := eq_one_row j
      rw [outsAt0_A m c t h]
      frame_open
      simp (disch := decide) only [↓ View.readCov_skip, ↓ View.readCov_cons_toLoadRect, ↓ View.readCov_fill]
      frame_out
      refine Eq.trans (pay8_at (pay1_at (i0 hg t) (i1 hg t) (i2 hg t) (i3 hg t) (i4 hg t) (i5 hg t) (ld768 (i6 hg t) 0 (by omega) _) (ld512 (i6 hg t) 768 (by omega) _) (ld512 (i6 hg t) 1280 (by omega) _) (ld256 (i6 hg t) 1792 (by omega) _) (ld256 (i6 hg t) 2048 (by omega) _) (ld256 (i6 hg t) 2304 (by omega) _)) (i7 hg t) _ _) ?_
      rw [pay7_at]; rfl)
    (fun t h j => by
      obtain ⟨l, rfl⟩ := eq_one_row j
      rw [outsAt0_B m c t h]
      frame_out
      exact pay8_at (pay1_at (i0 hg t) (i1 hg t) (i2 hg t) (i3 hg t) (i4 hg t) (i5 hg t) (ld768 (i6 hg t) 0 (by omega) _) (ld512 (i6 hg t) 768 (by omega) _) (ld512 (i6 hg t) 1280 (by omega) _) (ld256 (i6 hg t) 1792 (by omega) _) (ld256 (i6 hg t) 2048 (by omega) _) (ld256 (i6 hg t) 2304 (by omega) _)) (i7 hg t) _ _)
    (le_of_eq N_0) t0_15 rfl j, zero_add]
  rfl

end

section

open Cert.Reference6Ideal Cert.Reference6Ideal.Gen

/-- The parts side by side. -/
def parts (a0 : Vec Ideal S8192x768 .bf16) (a1 : Vec Ideal S8192x512 .bf16) (a2 : Vec Ideal S8192x512 .bf16) (a3 : Vec Ideal S8192x256 .bf16) (a4 : Vec Ideal S8192x256 .f32) (a5 : Vec Ideal S8192x256 .f32) : FVec Ideal S8192x2560 .f32 :=
  concatenate S8192x2560 1 [⟨S8192x768, ((extf (F := Ideal) .f32 a0 bitsLt_bf16_f32) : (⟨S8192x768, .f32⟩ : BufTy).Contents (Elt Ideal))⟩, ⟨S8192x512, ((extf (F := Ideal) .f32 a1 bitsLt_bf16_f32) : (⟨S8192x512, .f32⟩ : BufTy).Contents (Elt Ideal))⟩, ⟨S8192x512, ((extf (F := Ideal) .f32 a2 bitsLt_bf16_f32) : (⟨S8192x512, .f32⟩ : BufTy).Contents (Elt Ideal))⟩, ⟨S8192x256, ((extf (F := Ideal) .f32 a3 bitsLt_bf16_f32) : (⟨S8192x256, .f32⟩ : BufTy).Contents (Elt Ideal))⟩, ⟨S8192x256, (a4 : (⟨S8192x256, .f32⟩ : BufTy).Contents (Elt Ideal))⟩, ⟨S8192x256, (a5 : (⟨S8192x256, .f32⟩ : BufTy).Contents (Elt Ideal))⟩] concatenates_S8192x768_S8192x512_S8192x512_S8192x256_S8192x256_S8192x256_S8192x2560_d1

theorem parts0 (a0 : Vec Ideal S8192x768 .bf16) (a1 : Vec Ideal S8192x512 .bf16) (a2 : Vec Ideal S8192x512 .bf16) (a3 : Vec Ideal S8192x256 .bf16) (a4 : Vec Ideal S8192x256 .f32) (a5 : Vec Ideal S8192x256 .f32) (r : Fin 8192) (k : Fin 768) :
    a0 (ix2 r k) = parts a0 a1 a2 a3 a4 a5 (ix2 r ⟨0 + k.val, by omega⟩) :=
  (concatenate_apply_piece (t := S8192x2560) 1 _ _ (ix2 (n1 := 2560) r ⟨0 + k.val, by omega⟩) 0 (by show 0 < 6; omega) S8192x768 (extf (F := Ideal) .f32 a0 bitsLt_bf16_f32) rfl rfl 0 rfl (ix2 r k)
    (fun b hb => by
      match b with
      | 0 => rfl
      | 1 => exact absurd rfl hb) rfl).symm

theorem parts1 (a0 : Vec Ideal S8192x768 .bf16) (a1 : Vec Ideal S8192x512 .bf16) (a2 : Vec Ideal S8192x512 .bf16) (a3 : Vec Ideal S8192x256 .bf16) (a4 : Vec Ideal S8192x256 .f32) (a5 : Vec Ideal S8192x256 .f32) (r : Fin 8192) (k : Fin 512) :
    a1 (ix2 r k) = parts a0 a1 a2 a3 a4 a5 (ix2 r ⟨768 + k.val, by omega⟩) :=
  (concatenate_apply_piece (t := S8192x2560) 1 _ _ (ix2 (n1 := 2560) r ⟨768 + k.val, by omega⟩) 1 (by show 1 < 6; omega) S8192x512 (extf (F := Ideal) .f32 a1 bitsLt_bf16_f32) rfl rfl 768 rfl (ix2 r k)
    (fun b hb => by
      match b with
      | 0 => rfl
      | 1 => exact absurd rfl hb) rfl).symm

theorem parts2 (a0 : Vec Ideal S8192x768 .bf16) (a1 : Vec Ideal S8192x512 .bf16) (a2 : Vec Ideal S8192x512 .bf16) (a3 : Vec Ideal S8192x256 .bf16) (a4 : Vec Ideal S8192x256 .f32) (a5 : Vec Ideal S8192x256 .f32) (r : Fin 8192) (k : Fin 512) :
    a2 (ix2 r k) = parts a0 a1 a2 a3 a4 a5 (ix2 r ⟨1280 + k.val, by omega⟩) :=
  (concatenate_apply_piece (t := S8192x2560) 1 _ _ (ix2 (n1 := 2560) r ⟨1280 + k.val, by omega⟩) 2 (by show 2 < 6; omega) S8192x512 (extf (F := Ideal) .f32 a2 bitsLt_bf16_f32) rfl rfl 1280 rfl (ix2 r k)
    (fun b hb => by
      match b with
      | 0 => rfl
      | 1 => exact absurd rfl hb) rfl).symm

theorem parts3 (a0 : Vec Ideal S8192x768 .bf16) (a1 : Vec Ideal S8192x512 .bf16) (a2 : Vec Ideal S8192x512 .bf16) (a3 : Vec Ideal S8192x256 .bf16) (a4 : Vec Ideal S8192x256 .f32) (a5 : Vec Ideal S8192x256 .f32) (r : Fin 8192) (k : Fin 256) :
    a3 (ix2 r k) = parts a0 a1 a2 a3 a4 a5 (ix2 r ⟨1792 + k.val, by omega⟩) :=
  (concatenate_apply_piece (t := S8192x2560) 1 _ _ (ix2 (n1 := 2560) r ⟨1792 + k.val, by omega⟩) 3 (by show 3 < 6; omega) S8192x256 (extf (F := Ideal) .f32 a3 bitsLt_bf16_f32) rfl rfl 1792 rfl (ix2 r k)
    (fun b hb => by
      match b with
      | 0 => rfl
      | 1 => exact absurd rfl hb) rfl).symm

theorem parts4 (a0 : Vec Ideal S8192x768 .bf16) (a1 : Vec Ideal S8192x512 .bf16) (a2 : Vec Ideal S8192x512 .bf16) (a3 : Vec Ideal S8192x256 .bf16) (a4 : Vec Ideal S8192x256 .f32) (a5 : Vec Ideal S8192x256 .f32) (r : Fin 8192) (k : Fin 256) :
    a4 (ix2 r k) = parts a0 a1 a2 a3 a4 a5 (ix2 r ⟨2048 + k.val, by omega⟩) :=
  (concatenate_apply_piece (t := S8192x2560) 1 _ _ (ix2 (n1 := 2560) r ⟨2048 + k.val, by omega⟩) 4 (by show 4 < 6; omega) S8192x256 a4 rfl rfl 2048 rfl (ix2 r k)
    (fun b hb => by
      match b with
      | 0 => rfl
      | 1 => exact absurd rfl hb) rfl).symm

theorem parts5 (a0 : Vec Ideal S8192x768 .bf16) (a1 : Vec Ideal S8192x512 .bf16) (a2 : Vec Ideal S8192x512 .bf16) (a3 : Vec Ideal S8192x256 .bf16) (a4 : Vec Ideal S8192x256 .f32) (a5 : Vec Ideal S8192x256 .f32) (r : Fin 8192) (k : Fin 256) :
    a5 (ix2 r k) = parts a0 a1 a2 a3 a4 a5 (ix2 r ⟨2304 + k.val, by omega⟩) :=
  (concatenate_apply_piece (t := S8192x2560) 1 _ _ (ix2 (n1 := 2560) r ⟨2304 + k.val, by omega⟩) 5 (by show 5 < 6; omega) S8192x256 a5 rfl rfl 2304 rfl (ix2 r k)
    (fun b hb => by
      match b with
      | 0 => rfl
      | 1 => exact absurd rfl hb) rfl).symm

/-- The cotangent of the normalised rows. -/
def qdh (f : FVec Ideal S8192x2560 .f32) (w : Vec Ideal S2560x1024 .bf16) : FVec Ideal S8192x1024 .f32 :=
  Host.dotGeneral dot_S8192x2560_S1024x2560_S8192x1024_1_1_0_0_n_n none f (transpose S1024x2560 [1, 0] (extf .f32 w bitsLt_bf16_f32) transposes_S2560x1024_S1024x2560_1_0)

theorem qdh_at {f : FVec Ideal S8192x2560 .f32} {w : Vec Ideal S2560x1024 .bf16} {E : Fin 8192 → Fin 2560 → EReal} {W : Fin 2560 → Fin 1024 → EReal}
    (hf : ∀ r k, f (ix2 r k) = E r k) (hw : ∀ k l, w (ix2 k l) = W k l) (r : Fin 8192) (l : Fin 1024) :
    qdh f w (ix2 r l) = dh E W r l := by
  pointwise [qdh]
  simp only [hf, hw]
  rfl

section

variable (m : (ℓ : Loc nD τ sig) → Buf (Elt Ideal) ℓ) (c : Dev nD)

/-- The stages at the arguments. -/
def aF : FVec Ideal S8192x2560 .f32 := parts (m ((c.tc : Thread nD τ).loc main_arg0)) (m ((c.tc : Thread nD τ).loc main_arg1)) (m ((c.tc : Thread nD τ).loc main_arg2))
  (m ((c.tc : Thread nD τ).loc main_arg3)) (m ((c.tc : Thread nD τ).loc main_arg4)) (m ((c.tc : Thread nD τ).loc main_arg5))
def aD : FVec Ideal S8192x1024 .f32 := qdh (aF m c) (m ((c.tc : Thread nD τ).loc main_arg6))
def aX : FVec Ideal S8192x1024 .f32 := m ((c.tc : Thread nD τ).loc main_arg7)
def aV : FVec Ideal S8192x1 .f32 := Cert.Up.qms (aX m c)
def aU : FVec Ideal S8192x1024 .f32 := Cert.Up.qu (aD m c) (m ((c.tc : Thread nD τ).loc main_arg8))
def aK : FVec Ideal S8192x1024 .f32 := Cert.Up.qk (aX m c) (aU m c) (aV m c)

theorem res0 : Value.res_out0 m c = Cert.Up.qdx (m ((c.tc : Thread nD τ).loc main_arg9)) (aX m c) (aU m c) (aK m c) (aV m c) := rfl
theorem res1 : Value.res_out1 m c = truncf (F := Ideal) .bf16 (Cert.Up.qdx (m ((c.tc : Thread nD τ).loc main_arg9)) (aX m c) (aU m c) (aK m c) (aV m c)) bitsLt_bf16_f32 := rfl

end

/-- The reference's arguments hold the numbers `P`, by columns, and `W`, `X`, `G` and `R`. -/
structure GivenR (m : (ℓ : Loc nD τ sig) → Buf (Elt Ideal) ℓ) (c : Dev nD) (P : Fin 8192 → Fin 2560 → EReal) (W : Fin 2560 → Fin 1024 → EReal)
    (X : Fin 8192 → Fin 1024 → EReal) (G : Fin 1024 → EReal) (R : Fin 8192 → Fin 1024 → EReal) : Prop where
  p0 : ∀ r k, (m ((c.tc : Thread nD τ).loc main_arg0) : S8192x768.Idx → EReal) (ix2 r k) = P r ⟨0 + k.val, by omega⟩
  p1 : ∀ r k, (m ((c.tc : Thread nD τ).loc main_arg1) : S8192x512.Idx → EReal) (ix2 r k) = P r ⟨768 + k.val, by omega⟩
  p2 : ∀ r k, (m ((c.tc : Thread nD τ).loc main_arg2) : S8192x512.Idx → EReal) (ix2 r k) = P r ⟨1280 + k.val, by omega⟩
  p3 : ∀ r k, (m ((c.tc : Thread nD τ).loc main_arg3) : S8192x256.Idx → EReal) (ix2 r k) = P r ⟨1792 + k.val, by omega⟩
  p4 : ∀ r k, (m ((c.tc : Thread nD τ).loc main_arg4) : S8192x256.Idx → EReal) (ix2 r k) = P r ⟨2048 + k.val, by omega⟩
  p5 : ∀ r k, (m ((c.tc : Thread nD τ).loc main_arg5) : S8192x256.Idx → EReal) (ix2 r k) = P r ⟨2304 + k.val, by omega⟩
  w : ∀ k l, (m ((c.tc : Thread nD τ).loc main_arg6) : S2560x1024.Idx → EReal) (ix2 k l) = W k l
  x : ∀ r l, (m ((c.tc : Thread nD τ).loc main_arg7) : S8192x1024.Idx → EReal) (ix2 r l) = X r l
  g : ∀ l, (m ((c.tc : Thread nD τ).loc main_arg8) : S1024.Idx → EReal) (ix1 l) = G l
  r : ∀ r l, (m ((c.tc : Thread nD τ).loc main_arg9) : S8192x1024.Idx → EReal) (ix2 r l) = R r l

variable {m : (ℓ : Loc nD τ sig) → Buf (Elt Ideal) ℓ} {c : Dev nD} {P : Fin 8192 → Fin 2560 → EReal} {W : Fin 2560 → Fin 1024 → EReal}
    {X : Fin 8192 → Fin 1024 → EReal} {G : Fin 1024 → EReal} {R : Fin 8192 → Fin 1024 → EReal}

section

variable (hg : GivenR m c (fun r k => aF m c (ix2 r k)) W X G R)
include hg

theorem aD_at (r : Fin 8192) (l : Fin 1024) : aD m c (ix2 r l) = dh (fun r k => aF m c (ix2 r k)) W r l := qdh_at (fun _ _ => rfl) hg.w r l
theorem aV_at (r : Fin 8192) (z : Fin 1) : aV m c (ix2 r z) = ms (X r) := Cert.Up.qms_at hg.x r z
theorem aU_at (r : Fin 8192) (l : Fin 1024) : aU m c (ix2 r l) = dh (fun r k => aF m c (ix2 r k)) W r l * G l := Cert.Up.qu_at (aD_at hg) hg.g r l
theorem aK_at (r : Fin 8192) (l : Fin 1024) : aK m c (ix2 r l) = kr G (X r) (dh (fun r k => aF m c (ix2 r k)) W r) :=
  Cert.Up.qk_at hg.x (aU_at hg) (aV_at hg) r l

/-- The gradient of the rows, and the same rounded. -/
theorem ref0 : Value.res_out0 m c = fun y : S8192x1024.Idx => (dx (fun r k => aF m c (ix2 r k)) W X G R (y 0) (y 1) : EReal) := by
  funext y
  obtain ⟨r, l, rfl⟩ : ∃ (r : Fin 8192) (l : Fin 1024), y = ix2 r l := ⟨y 0, y 1, eq_ix2 y⟩
  exact (congrFun (res0 m c) _).trans (Cert.Up.qdx_at hg.r hg.x (aU_at hg) (aK_at hg) (aV_at hg) r l)
theorem ref1 : Value.res_out1 m c = fun y : S8192x1024.Idx => (dx (fun r k => aF m c (ix2 r k)) W X G R (y 0) (y 1) : EReal) := by
  funext y
  obtain ⟨r, l, rfl⟩ : ∃ (r : Fin 8192) (l : Fin 1024), y = ix2 r l := ⟨y 0, y 1, eq_ix2 y⟩
  exact (congrFun (res1 m c) _).trans (Cert.Up.qdx_at hg.r hg.x (aU_at hg) (aK_at hg) (aV_at hg) r l)

/-- The gradient of the gain. -/
theorem ref2 : Cert.Up.qsum (mulf (F := Ideal) (φ := .f32) (Cert.Up.qhat (aX m c) (aV m c)) (aD m c))
    = fun y : S1x1024.Idx => (∑ t, dgT (fun r k => aF m c (ix2 r k)) W X t (y 1) : EReal) := by
  funext y
  obtain ⟨l, rfl⟩ := eq_one_row y
  have hs : ∀ r l, mulf (F := Ideal) (φ := .f32) (Cert.Up.qhat (aX m c) (aV m c)) (aD m c) (ix2 r l)
      = dh (fun r k => aF m c (ix2 r k)) W r l * (X r l * rs (X r)) := fun r l => by
    rw [mul_comm]
    exact congrArg₂ (· * ·) (Cert.Up.qhat_at hg.x (aV_at hg) r l) (aD_at hg r l)
  exact (Cert.Up.qsum_at hs 0 l).trans (sum_tile _)

end

end

theorem frame_p : Cert.quiescent_Kernel6 := fun m ρ _ => Cert.Kernel6.Gen.frame m ρ
theorem frame_pi : Cert.quiescent_Kernel6Ideal := fun m ρ _ => Cert.Kernel6Ideal.Gen.frame m ρ
theorem frame_ri : Cert.quiescent_Reference6Ideal := fun m ρ _ =>
  (θ_run Cert.Reference6Ideal.defs _ _).mono (fun r h => ⟨fun c => (h c).2.2.2, sem_eq_zero_of_no_sems (by decide) r.2⟩)
    (Cert.Reference6Ideal.Value.run (F := Ideal) m ρ)

theorem preserves : Cert.preserves_Kernel6_Kernel6Ideal := trivial

theorem algebraic : Cert.algebraic_Kernel6Ideal_Reference6Ideal := by
  intro m ρ m' ρ' _ hag
  have hk : ∀ c, ∃ W X G R, Given m c (fun r k => aF m' c (ix2 r k)) W X G R ∧ GivenR m' c (fun r k => aF m' c (ix2 r k)) W X G R := fun c => by
    obtain ⟨a0, a1, a2, a3, a4, a5, a6, a7, a8, a9⟩ := hag c
    refine ⟨_, _, _, _, ⟨fun r k => (congrFun a0 _).symm.trans (parts0 _ _ _ _ _ _ r k), fun r k => (congrFun a1 _).symm.trans (parts1 _ _ _ _ _ _ r k), fun r k => (congrFun a2 _).symm.trans (parts2 _ _ _ _ _ _ r k), fun r k => (congrFun a3 _).symm.trans (parts3 _ _ _ _ _ _ r k), fun r k => (congrFun a4 _).symm.trans (parts4 _ _ _ _ _ _ r k), fun r k => (congrFun a5 _).symm.trans (parts5 _ _ _ _ _ _ r k), fun _ _ => rfl, fun _ _ => rfl, fun _ => rfl, fun _ _ => rfl⟩,
      ⟨fun r k => parts0 _ _ _ _ _ _ r k, fun r k => parts1 _ _ _ _ _ _ r k, fun r k => parts2 _ _ _ _ _ _ r k, fun r k => parts3 _ _ _ _ _ _ r k, fun r k => parts4 _ _ _ _ _ _ r k, fun r k => parts5 _ _ _ _ _ _ r k, fun _ _ => congrFun a6 _, fun _ _ => congrFun a7 _, fun _ => congrFun a8 _, fun _ _ => congrFun a9 _⟩⟩
  refine ⟨_, _, _, Cert.Kernel6Ideal.Value.run_blocks (F := Ideal) m ρ, ?_⟩
  refine (θ_run Cert.Reference6Ideal.defs _ _).mono (fun r h c => ?_) (Cert.Reference6Ideal.Value.run (F := Ideal) m' ρ')
  obtain ⟨W, X, G, R, hg, hr⟩ := hk c
  exact ⟨(h c).1.trans ((ref0 hr).trans (final10 hg).symm), (h c).2.1.trans ((ref1 hr).trans (final11 hg).symm),
    (h c).2.2.1.trans ((ref2 hr).trans (final12 hg).symm), (h c).2.2.2⟩

end Cert.InX

end
-- ==== Proof.InW.lean ====
/- The gradient of the input projection's weights: what the call leaves is the product over all rows. -/
module

public import proofs.«01_k».proof.Defs
public import proofs.«01_k».proof.Proof.Products
public import proofs.«01_k».proof.Proof.Gen.Kernel7.Frame
public import proofs.«01_k».proof.Proof.Gen.Kernel7Ideal.Value
public import proofs.«01_k».proof.Proof.Gen.Kernel7Ideal.Frame
public import proofs.«01_k».proof.Proof.Gen.Reference7Ideal.Run
public import Idealize.ShloMosaic.Lib.Pointwise
public import Idealize.ShloMosaic.Lib.Pipeline.ValueKit
public import Idealize.ShloMosaic.Lib.Pipeline.ReadBack
public import Idealize.ShloMosaic.Adequacy
public import Idealize.ShloMosaic.Init

@[expose] public section

set_option maxRecDepth 16384

noncomputable section

namespace Cert.InW

open Idealize.ShloMosaic Idealize.SL.Sem Cert.Products
open TcCoe

section

open Cert.Kernel7Ideal Cert.Kernel7Ideal.Gen

/-- Which block of its array each window holds at each grid point. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![0, 0] ∧ t.val < 8 :=
  (by decide +kernel : ∀ t : Fin grid0.N, _)

theorem lt8 (t : Fin cfg0.N) : t.val < 8 := by have := idx t; omega

/-- The tile of rows of a grid point. -/
def ti (t : Fin cfg0.N) : Fin 8 := ⟨t.val, lt8 t⟩

/-- The arguments hold the numbers `P`, by columns, and `H`. -/
structure Given (m : (ℓ : Loc nD τ sig) → Buf (Elt Ideal) ℓ) (c : Dev nD) (P : Fin 8192 → Fin 2560 → EReal) (H : Fin 8192 → Fin 1024 → EReal) : Prop where
  p0 : ∀ r k, (m ((c.tc : Thread nD τ).loc main_arg0) : S8192x768.Idx → EReal) (ix2 r k) = P r ⟨0 + k.val, by omega⟩
  p1 : ∀ r k, (m ((c.tc : Thread nD τ).loc main_arg1) : S8192x512.Idx → EReal) (ix2 r k) = P r ⟨768 + k.val, by omega⟩
  p2 : ∀ r k, (m ((c.tc : Thread nD τ).loc main_arg2) : S8192x512.Idx → EReal) (ix2 r k) = P r ⟨1280 + k.val, by omega⟩
  p3 : ∀ r k, (m ((c.tc : Thread nD τ).loc main_arg3) : S8192x256.Idx → EReal) (ix2 r k) = P r ⟨1792 + k.val, by omega⟩
  p4 : ∀ r k, (m ((c.tc : Thread nD τ).loc main_arg4) : S8192x256.Idx → EReal) (ix2 r k) = P r ⟨2048 + k.val, by omega⟩
  p5 : ∀ r k, (m ((c.tc : Thread nD τ).loc main_arg5) : S8192x256.Idx → EReal) (ix2 r k) = P r ⟨2304 + k.val, by omega⟩
  h : ∀ r k, (m ((c.tc : Thread nD τ).loc main_arg6) : S8192x1024.Idx → EReal) (ix2 r k) = H r k

variable {m : (ℓ : Loc nD τ sig) → Buf (Elt Ideal) ℓ} {c : Dev nD} {P : Fin 8192 → Fin 2560 → EReal} {H : Fin 8192 → Fin 1024 → EReal}

theorem i0 (hg : Given m c P H) (t : Fin cfg0.N) (r : Fin 1024) (k : Fin 768) :
    (iblk m c 0 t : S1024x768.Idx → EReal) (ix2 r k) = P (row8 (ti t) r) ⟨0 + k.val, by omega⟩ := by
  refine Eq.trans ?_ (hg.p0 _ _)
  blk_point [iblk, V, idx t, row8, ti]
theorem i1 (hg : Given m c P H) (t : Fin cfg0.N) (r : Fin 1024) (k : Fin 512) :
    (iblk m c 1 t : S1024x512.Idx → EReal) (ix2 r k) = P (row8 (ti t) r) ⟨768 + k.val, by omega⟩ := by
  refine Eq.trans ?_ (hg.p1 _ _)
  blk_point [iblk, V, idx t, row8, ti]
theorem i2 (hg : Given m c P H) (t : Fin cfg0.N) (r : Fin 1024) (k : Fin 512) :
    (iblk m c 2 t : S1024x512.Idx → EReal) (ix2 r k) = P (row8 (ti t) r) ⟨1280 + k.val, by omega⟩ := by
  refine Eq.trans ?_ (hg.p2 _ _)
  blk_point [iblk, V, idx t, row8, ti]
theorem i3 (hg : Given m c P H) (t : Fin cfg0.N) (r : Fin 1024) (k : Fin 256) :
    (iblk m c 3 t : S1024x256.Idx → EReal) (ix2 r k) = P (row8 (ti t) r) ⟨1792 + k.val, by omega⟩ := by
  refine Eq.trans ?_ (hg.p3 _ _)
  blk_point [iblk, V, idx t, row8, ti]
theorem i4 (hg : Given m c P H) (t : Fin cfg0.N) (r : Fin 1024) (k : Fin 256) :
    (iblk m c 4 t : S1024x256.Idx → EReal) (ix2 r k) = P (row8 (ti t) r) ⟨2048 + k.val, by omega⟩ := by
  refine Eq.trans ?_ (hg.p4 _ _)
  blk_point [iblk, V, idx t, row8, ti]
theorem i5 (hg : Given m c P H) (t : Fin cfg0.N) (r : Fin 1024) (k : Fin 256) :
    (iblk m c 5 t : S1024x256.Idx → EReal) (ix2 r k) = P (row8 (ti t) r) ⟨2304 + k.val, by omega⟩ := by
  refine Eq.trans ?_ (hg.p5 _ _)
  blk_point [iblk, V, idx t, row8, ti]
theorem i6 (hg : Given m c P H) (t : Fin cfg0.N) (r : Fin 1024) (k : Fin 1024) :
    (iblk m c 6 t : S1024x1024.Idx → EReal) (ix2 r k) = H (row8 (ti t) r) k := by
  refine Eq.trans ?_ (hg.h _ _)
  blk_point [iblk, V, idx t, row8, ti]

/-- One grid point's part of the product. -/
def term (P : Fin 8192 → Fin 2560 → EReal) (H : Fin 8192 → Fin 1024 → EReal) (t : Fin cfg0.N) (i : Fin 2560) (j : Fin 1024) : EReal :=
  ∑ r, P (row8 (ti t) r) i * H (row8 (ti t) r) j

theorem pay5_at (y : S2560x1024.Idx) : k0_pay5 (F := Ideal) y = (0 : EReal) := by pointwise [k0_pay5]

theorem pay6_at (h : Vec Ideal S1024x1024 .bf16) (acc : Vec Ideal S768x1024 .f32) (v : Vec Ideal S1024x768 .bf16) (i : Fin 768) (j : Fin 1024) :
    k0_pay6 (F := Ideal) h acc v (ix2 i j) = acc (ix2 i j) + ∑ r, v (ix2 r i) * h (ix2 r j) := by pointwise [k0_pay6]

theorem pay7_at (h : Vec Ideal S1024x1024 .bf16) (acc : Vec Ideal S512x1024 .f32) (v : Vec Ideal S1024x512 .bf16) (i : Fin 512) (j : Fin 1024) :
    k0_pay7 (F := Ideal) h acc v (ix2 i j) = acc (ix2 i j) + ∑ r, v (ix2 r i) * h (ix2 r j) := by pointwise [k0_pay7]

theorem pay8_at (h : Vec Ideal S1024x1024 .bf16) (acc : Vec Ideal S512x1024 .f32) (v : Vec Ideal S1024x512 .bf16) (i : Fin 512) (j : Fin 1024) :
    k0_pay8 (F := Ideal) h acc v (ix2 i j) = acc (ix2 i j) + ∑ r, v (ix2 r i) * h (ix2 r j) := by pointwise [k0_pay8]

theorem pay1_at (h : Vec Ideal S1024x1024 .bf16) (acc : Vec Ideal S256x1024 .f32) (v : Vec Ideal S1024x256 .bf16) (i : Fin 256) (j : Fin 1024) :
    k0_pay1 (F := Ideal) h acc v (ix2 i j) = acc (ix2 i j) + ∑ r, v (ix2 r i) * h (ix2 r j) := by pointwise [k0_pay1]

theorem pay2_at (h : Vec Ideal S1024x1024 .bf16) (acc : Vec Ideal S256x1024 .f32) (v : Vec Ideal S1024x256 .f32) (i : Fin 256) (j : Fin 1024) :
    k0_pay2 (F := Ideal) h acc v (ix2 i j) = acc (ix2 i j) + ∑ r, v (ix2 r i) * h (ix2 r j) := by pointwise [k0_pay2]

theorem pay3_at (h : Vec Ideal S1024x1024 .bf16) (acc : Vec Ideal S256x1024 .f32) (v : Vec Ideal S1024x256 .f32) (i : Fin 256) (j : Fin 1024) :
    k0_pay3 (F := Ideal) h acc v (ix2 i j) = acc (ix2 i j) + ∑ r, v (ix2 r i) * h (ix2 r j) := by pointwise [k0_pay3]

/-- The running sum read through a window of its rows, which starts at row `o`. -/
theorem ld256 (Y : Vec Ideal S2560x1024 .f32) (o : Nat) (h : ∀ a, (![o, 0] : Fin 2 → Nat) a + S256x1024.size a ≤ S2560x1024.size a)
    (i : Fin 256) (j : Fin 1024) (k : Fin 2560) (hk : o + i.val = k.val) :
    View.ld (Val := Elt Ideal) (S := S2560x1024) (e' := .f32) Y (Rect.unit (s := S2560x1024) ![o, 0] S256x1024.size h) (ix2 i j : S256x1024.Idx) = Y (ix2 k j) :=
  View.ld_unit_apply_of _ _ _ _ _ (ix2 (n0 := 2560) k j) fun d => match d with
    | 0 => hk.symm
    | 1 => (Nat.zero_add _).symm
theorem ld512 (Y : Vec Ideal S2560x1024 .f32) (o : Nat) (h : ∀ a, (![o, 0] : Fin 2 → Nat) a + S512x1024.size a ≤ S2560x1024.size a)
    (i : Fin 512) (j : Fin 1024) (k : Fin 2560) (hk : o + i.val = k.val) :
    View.ld (Val := Elt Ideal) (S := S2560x1024) (e' := .f32) Y (Rect.unit (s := S2560x1024) ![o, 0] S512x1024.size h) (ix2 i j : S512x1024.Idx) = Y (ix2 k j) :=
  View.ld_unit_apply_of _ _ _ _ _ (ix2 (n0 := 2560) k j) fun d => match d with
    | 0 => hk.symm
    | 1 => (Nat.zero_add _).symm
theorem ld768 (Y : Vec Ideal S2560x1024 .f32) (o : Nat) (h : ∀ a, (![o, 0] : Fin 2 → Nat) a + S768x1024.size a ≤ S2560x1024.size a)
    (i : Fin 768) (j : Fin 1024) (k : Fin 2560) (hk : o + i.val = k.val) :
    View.ld (Val := Elt Ideal) (S := S2560x1024) (e' := .f32) Y (Rect.unit (s := S2560x1024) ![o, 0] S768x1024.size h) (ix2 i j : S768x1024.Idx) = Y (ix2 k j) :=
  View.ld_unit_apply_of _ _ _ _ _ (ix2 (n0 := 2560) k j) fun d => match d with
    | 0 => hk.symm
    | 1 => (Nat.zero_add _).symm

/-- The place of a window's row among the rows. -/
theorem emb256 (o : Nat) (h : ∀ a, (![o, 0] : Fin 2 → Nat) a + S256x1024.size a ≤ S2560x1024.size a) (x : S256x1024.Idx) :
    ((Rect.unit (s := S2560x1024) ![o, 0] S256x1024.size h).emb x 0).val = o + (x 0).val ∧ ((Rect.unit (s := S2560x1024) ![o, 0] S256x1024.size h).emb x 1).val = (x 1).val :=
  ⟨congrArg (o + ·) (Nat.one_mul _), (Nat.zero_add _).trans (Nat.one_mul _)⟩
theorem emb512 (o : Nat) (h : ∀ a, (![o, 0] : Fin 2 → Nat) a + S512x1024.size a ≤ S2560x1024.size a) (x : S512x1024.Idx) :
    ((Rect.unit (s := S2560x1024) ![o, 0] S512x1024.size h).emb x 0).val = o + (x 0).val ∧ ((Rect.unit (s := S2560x1024) ![o, 0] S512x1024.size h).emb x 1).val = (x 1).val :=
  ⟨congrArg (o + ·) (Nat.one_mul _), (Nat.zero_add _).trans (Nat.one_mul _)⟩
theorem emb768 (o : Nat) (h : ∀ a, (![o, 0] : Fin 2 → Nat) a + S768x1024.size a ≤ S2560x1024.size a) (x : S768x1024.Idx) :
    ((Rect.unit (s := S2560x1024) ![o, 0] S768x1024.size h).emb x 0).val = o + (x 0).val ∧ ((Rect.unit (s := S2560x1024) ![o, 0] S768x1024.size h).emb x 1).val = (x 1).val :=
  ⟨congrArg (o + ·) (Nat.one_mul _), (Nat.zero_add _).trans (Nat.one_mul _)⟩

/-- The piece of rows 0 to 767: the running sum and one term more. -/
theorem piece0 (hg : Given m c P H) (t : Fin cfg0.N) (Y : Vec Ideal S2560x1024 .f32) (y : S2560x1024.Idx) (x : S768x1024.Idx)
    (h : ∀ a, (![0, 0] : Fin 2 → Nat) a + S768x1024.size a ≤ S2560x1024.size a)
    (q0 : (y 0).val = 0 + (x 0).val) (q1 : (y 1).val = (x 1).val) :
    k0_pay6 (F := Ideal) (iblk m c 6 t) (View.ld (Val := Elt Ideal) (S := S2560x1024) (e' := .f32) Y (Rect.unit (s := S2560x1024) ![0, 0] S768x1024.size h)) (iblk m c 0 t) x
      = Y y + term P H t (y 0) (y 1) := by
  obtain ⟨k, j, rfl⟩ : ∃ (k : Fin 2560) (j : Fin 1024), y = ix2 k j := ⟨y 0, y 1, eq_ix2 y⟩
  obtain ⟨i, l, rfl⟩ : ∃ (i : Fin 768) (l : Fin 1024), x = ix2 i l := ⟨x 0, x 1, eq_ix2 x⟩
  obtain rfl : j = l := Fin.ext q1
  refine (pay6_at _ _ _ i j).trans (congrArg₂ (· + ·) (ld768 Y 0 h i j k q0.symm) ?_)
  refine Finset.sum_congr rfl fun r _ => congrArg₂ (· * ·) ((i0 hg t r i).trans ?_) (i6 hg t r j)
  exact congrArg _ (Fin.ext q0.symm)

theorem at0 (hg : Given m c P H) (t : Fin cfg0.N) (Y : Vec Ideal S2560x1024 .f32) (x : S768x1024.Idx)
    (h : ∀ a, (![0, 0] : Fin 2 → Nat) a + S768x1024.size a ≤ S2560x1024.size a) :
    k0_pay6 (F := Ideal) (iblk m c 6 t) (View.ld (Val := Elt Ideal) (S := S2560x1024) (e' := .f32) Y (Rect.unit (s := S2560x1024) ![0, 0] S768x1024.size h)) (iblk m c 0 t) x
      = Y ((Rect.unit (s := S2560x1024) ![0, 0] S768x1024.size h).emb x)
        + term P H t ((Rect.unit (s := S2560x1024) ![0, 0] S768x1024.size h).emb x 0) ((Rect.unit (s := S2560x1024) ![0, 0] S768x1024.size h).emb x 1) :=
  piece0 hg t Y ((Rect.unit (s := S2560x1024) ![0, 0] S768x1024.size h).emb x) x h (emb768 0 h x).1 (emb768 0 h x).2

/-- The piece of rows 768 to 1279: the running sum and one term more. -/
theorem piece1 (hg : Given m c P H) (t : Fin cfg0.N) (Y : Vec Ideal S2560x1024 .f32) (y : S2560x1024.Idx) (x : S512x1024.Idx)
    (h : ∀ a, (![768, 0] : Fin 2 → Nat) a + S512x1024.size a ≤ S2560x1024.size a)
    (q0 : (y 0).val = 768 + (x 0).val) (q1 : (y 1).val = (x 1).val) :
    k0_pay7 (F := Ideal) (iblk m c 6 t) (View.ld (Val := Elt Ideal) (S := S2560x1024) (e' := .f32) Y (Rect.unit (s := S2560x1024) ![768, 0] S512x1024.size h)) (iblk m c 1 t) x
      = Y y + term P H t (y 0) (y 1) := by
  obtain ⟨k, j, rfl⟩ : ∃ (k : Fin 2560) (j : Fin 1024), y = ix2 k j := ⟨y 0, y 1, eq_ix2 y⟩
  obtain ⟨i, l, rfl⟩ : ∃ (i : Fin 512) (l : Fin 1024), x = ix2 i l := ⟨x 0, x 1, eq_ix2 x⟩
  obtain rfl : j = l := Fin.ext q1
  refine (pay7_at _ _ _ i j).trans (congrArg₂ (· + ·) (ld512 Y 768 h i j k q0.symm) ?_)
  refine Finset.sum_congr rfl fun r _ => congrArg₂ (· * ·) ((i1 hg t r i).trans ?_) (i6 hg t r j)
  exact congrArg _ (Fin.ext q0.symm)

theorem at1 (hg : Given m c P H) (t : Fin cfg0.N) (Y : Vec Ideal S2560x1024 .f32) (x : S512x1024.Idx)
    (h : ∀ a, (![768, 0] : Fin 2 → Nat) a + S512x1024.size a ≤ S2560x1024.size a) :
    k0_pay7 (F := Ideal) (iblk m c 6 t) (View.ld (Val := Elt Ideal) (S := S2560x1024) (e' := .f32) Y (Rect.unit (s := S2560x1024) ![768, 0] S512x1024.size h)) (iblk m c 1 t) x
      = Y ((Rect.unit (s := S2560x1024) ![768, 0] S512x1024.size h).emb x)
        + term P H t ((Rect.unit (s := S2560x1024) ![768, 0] S512x1024.size h).emb x 0) ((Rect.unit (s := S2560x1024) ![768, 0] S512x1024.size h).emb x 1) :=
  piece1 hg t Y ((Rect.unit (s := S2560x1024) ![768, 0] S512x1024.size h).emb x) x h (emb512 768 h x).1 (emb512 768 h x).2

/-- The piece of rows 1280 to 1791: the running sum and one term more. -/
theorem piece2 (hg : Given m c P H) (t : Fin cfg0.N) (Y : Vec Ideal S2560x1024 .f32) (y : S2560x1024.Idx) (x : S512x1024.Idx)
    (h : ∀ a, (![1280, 0] : Fin 2 → Nat) a + S512x1024.size a ≤ S2560x1024.size a)
    (q0 : (y 0).val = 1280 + (x 0).val) (q1 : (y 1).val = (x 1).val) :
    k0_pay8 (F := Ideal) (iblk m c 6 t) (View.ld (Val := Elt Ideal) (S := S2560x1024) (e' := .f32) Y (Rect.unit (s := S2560x1024) ![1280, 0] S512x1024.size h)) (iblk m c 2 t) x
      = Y y + term P H t (y 0) (y 1) := by
  obtain ⟨k, j, rfl⟩ : ∃ (k : Fin 2560) (j : Fin 1024), y = ix2 k j := ⟨y 0, y 1, eq_ix2 y⟩
  obtain ⟨i, l, rfl⟩ : ∃ (i : Fin 512) (l : Fin 1024), x = ix2 i l := ⟨x 0, x 1, eq_ix2 x⟩
  obtain rfl : j = l := Fin.ext q1
  refine (pay8_at _ _ _ i j).trans (congrArg₂ (· + ·) (ld512 Y 1280 h i j k q0.symm) ?_)
  refine Finset.sum_congr rfl fun r _ => congrArg₂ (· * ·) ((i2 hg t r i).trans ?_) (i6 hg t r j)
  exact congrArg _ (Fin.ext q0.symm)

theorem at2 (hg : Given m c P H) (t : Fin cfg0.N) (Y : Vec Ideal S2560x1024 .f32) (x : S512x1024.Idx)
    (h : ∀ a, (![1280, 0] : Fin 2 → Nat) a + S512x1024.size a ≤ S2560x1024.size a) :
    k0_pay8 (F := Ideal) (iblk m c 6 t) (View.ld (Val := Elt Ideal) (S := S2560x1024) (e' := .f32) Y (Rect.unit (s := S2560x1024) ![1280, 0] S512x1024.size h)) (iblk m c 2 t) x
      = Y ((Rect.unit (s := S2560x1024) ![1280, 0] S512x1024.size h).emb x)
        + term P H t ((Rect.unit (s := S2560x1024) ![1280, 0] S512x1024.size h).emb x 0) ((Rect.unit (s := S2560x1024) ![1280, 0] S512x1024.size h).emb x 1) :=
  piece2 hg t Y ((Rect.unit (s := S2560x1024) ![1280, 0] S512x1024.size h).emb x) x h (emb512 1280 h x).1 (emb512 1280 h x).2

/-- The piece of rows 1792 to 2047: the running sum and one term more. -/
theorem piece3 (hg : Given m c P H) (t : Fin cfg0.N) (Y : Vec Ideal S2560x1024 .f32) (y : S2560x1024.Idx) (x : S256x1024.Idx)
    (h : ∀ a, (![1792, 0] : Fin 2 → Nat) a + S256x1024.size a ≤ S2560x1024.size a)
    (q0 : (y 0).val = 1792 + (x 0).val) (q1 : (y 1).val = (x 1).val) :
    k0_pay1 (F := Ideal) (iblk m c 6 t) (View.ld (Val := Elt Ideal) (S := S2560x1024) (e' := .f32) Y (Rect.unit (s := S2560x1024) ![1792, 0] S256x1024.size h)) (iblk m c 3 t) x
      = Y y + term P H t (y 0) (y 1) := by
  obtain ⟨k, j, rfl⟩ : ∃ (k : Fin 2560) (j : Fin 1024), y = ix2 k j := ⟨y 0, y 1, eq_ix2 y⟩
  obtain ⟨i, l, rfl⟩ : ∃ (i : Fin 256) (l : Fin 1024), x = ix2 i l := ⟨x 0, x 1, eq_ix2 x⟩
  obtain rfl : j = l := Fin.ext q1
  refine (pay1_at _ _ _ i j).trans (congrArg₂ (· + ·) (ld256 Y 1792 h i j k q0.symm) ?_)
  refine Finset.sum_congr rfl fun r _ => congrArg₂ (· * ·) ((i3 hg t r i).trans ?_) (i6 hg t r j)
  exact congrArg _ (Fin.ext q0.symm)

theorem at3 (hg : Given m c P H) (t : Fin cfg0.N) (Y : Vec Ideal S2560x1024 .f32) (x : S256x1024.Idx)
    (h : ∀ a, (![1792, 0] : Fin 2 → Nat) a + S256x1024.size a ≤ S2560x1024.size a) :
    k0_pay1 (F := Ideal) (iblk m c 6 t) (View.ld (Val := Elt Ideal) (S := S2560x1024) (e' := .f32) Y (Rect.unit (s := S2560x1024) ![1792, 0] S256x1024.size h)) (iblk m c 3 t) x
      = Y ((Rect.unit (s := S2560x1024) ![1792, 0] S256x1024.size h).emb x)
        + term P H t ((Rect.unit (s := S2560x1024) ![1792, 0] S256x1024.size h).emb x 0) ((Rect.unit (s := S2560x1024) ![1792, 0] S256x1024.size h).emb x 1) :=
  piece3 hg t Y ((Rect.unit (s := S2560x1024) ![1792, 0] S256x1024.size h).emb x) x h (emb256 1792 h x).1 (emb256 1792 h x).2

/-- The piece of rows 2048 to 2303: the running sum and one term more. -/
theorem piece4 (hg : Given m c P H) (t : Fin cfg0.N) (Y : Vec Ideal S2560x1024 .f32) (y : S2560x1024.Idx) (x : S256x1024.Idx)
    (h : ∀ a, (![2048, 0] : Fin 2 → Nat) a + S256x1024.size a ≤ S2560x1024.size a)
    (q0 : (y 0).val = 2048 + (x 0).val) (q1 : (y 1).val = (x 1).val) :
    k0_pay2 (F := Ideal) (iblk m c 6 t) (View.ld (Val := Elt Ideal) (S := S2560x1024) (e' := .f32) Y (Rect.unit (s := S2560x1024) ![2048, 0] S256x1024.size h)) (iblk m c 4 t) x
      = Y y + term P H t (y 0) (y 1) := by
  obtain ⟨k, j, rfl⟩ : ∃ (k : Fin 2560) (j : Fin 1024), y = ix2 k j := ⟨y 0, y 1, eq_ix2 y⟩
  obtain ⟨i, l, rfl⟩ : ∃ (i : Fin 256) (l : Fin 1024), x = ix2 i l := ⟨x 0, x 1, eq_ix2 x⟩
  obtain rfl : j = l := Fin.ext q1
  refine (pay2_at _ _ _ i j).trans (congrArg₂ (· + ·) (ld256 Y 2048 h i j k q0.symm) ?_)
  refine Finset.sum_congr rfl fun r _ => congrArg₂ (· * ·) ((i4 hg t r i).trans ?_) (i6 hg t r j)
  exact congrArg _ (Fin.ext q0.symm)

theorem at4 (hg : Given m c P H) (t : Fin cfg0.N) (Y : Vec Ideal S2560x1024 .f32) (x : S256x1024.Idx)
    (h : ∀ a, (![2048, 0] : Fin 2 → Nat) a + S256x1024.size a ≤ S2560x1024.size a) :
    k0_pay2 (F := Ideal) (iblk m c 6 t) (View.ld (Val := Elt Ideal) (S := S2560x1024) (e' := .f32) Y (Rect.unit (s := S2560x1024) ![2048, 0] S256x1024.size h)) (iblk m c 4 t) x
      = Y ((Rect.unit (s := S2560x1024) ![2048, 0] S256x1024.size h).emb x)
        + term P H t ((Rect.unit (s := S2560x1024) ![2048, 0] S256x1024.size h).emb x 0) ((Rect.unit (s := S2560x1024) ![2048, 0] S256x1024.size h).emb x 1) :=
  piece4 hg t Y ((Rect.unit (s := S2560x1024) ![2048, 0] S256x1024.size h).emb x) x h (emb256 2048 h x).1 (emb256 2048 h x).2

/-- The piece of rows 2304 to 2559: the running sum and one term more. -/
theorem piece5 (hg : Given m c P H) (t : Fin cfg0.N) (Y : Vec Ideal S2560x1024 .f32) (y : S2560x1024.Idx) (x : S256x1024.Idx)
    (h : ∀ a, (![2304, 0] : Fin 2 → Nat) a + S256x1024.size a ≤ S2560x1024.size a)
    (q0 : (y 0).val = 2304 + (x 0).val) (q1 : (y 1).val = (x 1).val) :
    k0_pay3 (F := Ideal) (iblk m c 6 t) (View.ld (Val := Elt Ideal) (S := S2560x1024) (e' := .f32) Y (Rect.unit (s := S2560x1024) ![2304, 0] S256x1024.size h)) (iblk m c 5 t) x
      = Y y + term P H t (y 0) (y 1) := by
  obtain ⟨k, j, rfl⟩ : ∃ (k : Fin 2560) (j : Fin 1024), y = ix2 k j := ⟨y 0, y 1, eq_ix2 y⟩
  obtain ⟨i, l, rfl⟩ : ∃ (i : Fin 256) (l : Fin 1024), x = ix2 i l := ⟨x 0, x 1, eq_ix2 x⟩
  obtain rfl : j = l := Fin.ext q1
  refine (pay3_at _ _ _ i j).trans (congrArg₂ (· + ·) (ld256 Y 2304 h i j k q0.symm) ?_)
  refine Finset.sum_congr rfl fun r _ => congrArg₂ (· * ·) ((i5 hg t r i).trans ?_) (i6 hg t r j)
  exact congrArg _ (Fin.ext q0.symm)

theorem at5 (hg : Given m c P H) (t : Fin cfg0.N) (Y : Vec Ideal S2560x1024 .f32) (x : S256x1024.Idx)
    (h : ∀ a, (![2304, 0] : Fin 2 → Nat) a + S256x1024.size a ≤ S2560x1024.size a) :
    k0_pay3 (F := Ideal) (iblk m c 6 t) (View.ld (Val := Elt Ideal) (S := S2560x1024) (e' := .f32) Y (Rect.unit (s := S2560x1024) ![2304, 0] S256x1024.size h)) (iblk m c 5 t) x
      = Y ((Rect.unit (s := S2560x1024) ![2304, 0] S256x1024.size h).emb x)
        + term P H t ((Rect.unit (s := S2560x1024) ![2304, 0] S256x1024.size h).emb x 0) ((Rect.unit (s := S2560x1024) ![2304, 0] S256x1024.size h).emb x 1) :=
  piece5 hg t Y ((Rect.unit (s := S2560x1024) ![2304, 0] S256x1024.size h).emb x) x h (emb256 2304 h x).1 (emb256 2304 h x).2

/-- The pieces hold every row. -/
theorem covered (y : S2560x1024.Idx)(h5 : ∀ a, (![2304, 0] : Fin 2 → Nat) a + S256x1024.size a ≤ S2560x1024.size a) (h4 : ∀ a, (![2048, 0] : Fin 2 → Nat) a + S256x1024.size a ≤ S2560x1024.size a) (h3 : ∀ a, (![1792, 0] : Fin 2 → Nat) a + S256x1024.size a ≤ S2560x1024.size a) (h2 : ∀ a, (![1280, 0] : Fin 2 → Nat) a + S512x1024.size a ≤ S2560x1024.size a) (h1 : ∀ a, (![768, 0] : Fin 2 → Nat) a + S512x1024.size a ≤ S2560x1024.size a) (h0 : ∀ a, (![0, 0] : Fin 2 → Nat) a + S768x1024.size a ≤ S2560x1024.size a)
    (w5 : S256x1024.Idx → EReal) (w4 : S256x1024.Idx → EReal) (w3 : S256x1024.Idx → EReal) (w2 : S512x1024.Idx → EReal) (w1 : S512x1024.Idx → EReal) (w0 : S768x1024.Idx → EReal) :
    ∃ p ∈ ([⟨Rect.unit (s := S2560x1024) ![2304, 0] S256x1024.size h5, w5⟩, ⟨Rect.unit (s := S2560x1024) ![2048, 0] S256x1024.size h4, w4⟩, ⟨Rect.unit (s := S2560x1024) ![1792, 0] S256x1024.size h3, w3⟩, ⟨Rect.unit (s := S2560x1024) ![1280, 0] S512x1024.size h2, w2⟩, ⟨Rect.unit (s := S2560x1024) ![768, 0] S512x1024.size h1, w1⟩, ⟨Rect.unit (s := S2560x1024) ![0, 0] S768x1024.size h0, w0⟩] : List (View.Piece (Elt Ideal) S2560x1024 .f32)), y ∈ p.1.set := by
  have hy : (y 0).val < 2560 := (y 0).isLt
  have hz : (y 1).val < 1024 := (y 1).isLt
  simp only [List.exists_mem_cons_iff, List.not_mem_nil, false_and, exists_false, or_false, Rect.mem_set_unit, Fin.forall_fin_two]
  show (2304 ≤ (y 0).val ∧ (y 0).val < 2304 + 256) ∧ 0 ≤ (y 1).val ∧ (y 1).val < 0 + 1024 ∨ (2048 ≤ (y 0).val ∧ (y 0).val < 2048 + 256) ∧ 0 ≤ (y 1).val ∧ (y 1).val < 0 + 1024 ∨ (1792 ≤ (y 0).val ∧ (y 0).val < 1792 + 256) ∧ 0 ≤ (y 1).val ∧ (y 1).val < 0 + 1024 ∨ (1280 ≤ (y 0).val ∧ (y 0).val < 1280 + 512) ∧ 0 ≤ (y 1).val ∧ (y 1).val < 0 + 1024 ∨ (768 ≤ (y 0).val ∧ (y 0).val < 768 + 512) ∧ 0 ≤ (y 1).val ∧ (y 1).val < 0 + 1024 ∨ (0 ≤ (y 0).val ∧ (y 0).val < 0 + 768) ∧ 0 ≤ (y 1).val ∧ (y 1).val < 0 + 1024
  omega

theorem acc_at (hg : Given m c P H) (t : Fin cfg0.N) (h : t.val % 8 = 7) (i : Fin 2560) (j : Fin 1024) :
    (outsAt0 m c t.val t.isLt).2 (ix2 i j) = ∑ r, P r i * H r j := by
  rw [Pipeline.eq_sum_fin_of_reset_step_apply_of_flush (fun n h => (outsAt0 m c n h).2) 8 (fun _ => 0)
    (fun t y => term P H t (y 0) (y 1))
    (fun t h y => by
      rw [outsAt0_A m c t h (by omega)]
      frame_open
      simp (disch := decide) only [↓ View.readCov_skip, ↓ View.readCov_cons_toLoadRect, ↓ View.readCov_fill]
      frame_out
      refine Eq.trans ?_ (congrArg (· + term P H t (y 0) (y 1)) (pay5_at y))
      refine View.canon_append_of_piecesOf (Val := Elt Ideal) (s := S2560x1024) (e := .f32) (fun y => k0_pay5 (F := Ideal) y + term P H t (y 0) (y 1)) [_] [_, _, _, _, _, _] ⟨?_, ?_, ?_, ?_, ?_, ?_, trivial⟩ y ?_
      · exact fun x => at5 hg t _ x _
      · exact fun x => at4 hg t _ x _
      · exact fun x => at3 hg t _ x _
      · exact fun x => at2 hg t _ x _
      · exact fun x => at1 hg t _ x _
      · exact fun x => at0 hg t _ x _
      exact covered y _ _ _ _ _ _ _ _ _ _ _ _)
    (fun t h y => by
      have e : ∀ Y : Vec Ideal S2560x1024 .f32, View.read (Elt Ideal) (View.whole cc0_scratch0) ((Memref.isWhole_whole cc0_scratch0).unread Y) = Y :=
        fun Y => (Memref.isWhole_whole cc0_scratch0).read_unread Y
      by_cases h7 : t.val % 8 = 7
      on_goal 1 => rw [outsAt0_C m c t h h7]
      on_goal 2 => rw [outsAt0_B m c t h h7]
      all_goals
        frame_open
        simp (disch := decide) only [↓ View.readCov_skip, ↓ View.readCov_cons_toLoadRect, ↓ View.readCov_fill]
        frame_out
        simp only [e]
        refine View.canon_append_of_piecesOf (Val := Elt Ideal) (s := S2560x1024) (e := .f32) (fun y => (outsAt0 m c (t.val - 1) (lt_of_le_of_lt (Nat.sub_le t.val 1) t.isLt)).2 y + term P H t (y 0) (y 1)) [] [_, _, _, _, _, _] ⟨?_, ?_, ?_, ?_, ?_, ?_, trivial⟩ y ?_
        · exact fun x => at5 hg t _ x _
        · exact fun x => at4 hg t _ x _
        · exact fun x => at3 hg t _ x _
        · exact fun x => at2 hg t _ x _
        · exact fun x => at1 hg t _ x _
        · exact fun x => at0 hg t _ x _
        exact covered y _ _ _ _ _ _ _ _ _ _ _ _)
    t h, zero_add]
  refine Eq.trans ?_ (sum_row8 _)
  refine Finset.sum_congr rfl fun s _ => Finset.sum_congr rfl fun r _ => ?_
  have e1 : ti ⟨8 * (t.val / 8) + s.val, Pipeline.run_point_lt_of_flush t h s⟩ = s := Fin.ext (by have := lt8 t; simp only [ti]; omega)
  show P (row8 (ti _) r) i * H (row8 (ti _) r) j = _
  rw [e1]

theorem out_at (hg : Given m c P H) (t : Fin cfg0.N) (h : t.val % 8 = 7) (i : Fin 2560) (j : Fin 1024) :
    (outsAt0 m c t.val t.isLt).1 (ix2 i j) = ∑ r, P r i * H r j := by
  refine Eq.trans ?_ (acc_at hg t h i j)
  rw [outsAt0_C m c t (by omega) h]
  frame_out
  pointwise [k0_pay4]
  rw [View.readCov_eq_canon']
  refine congrArg _ ?_
  funext a
  match a with
  | 0 => exact Fin.ext ((Nat.zero_add _).trans (Nat.one_mul _))
  | 1 => exact Fin.ext ((Nat.zero_add _).trans (Nat.one_mul _))

theorem final (hg : Given m c P H) : (dats m 0 c).arrAt 7 cfg0.N = fun y : S2560x1024.Idx => ∑ r, P r (y 0) * H r (y 1) := by
  refine (dats m 0 c).arrAt_eq_of_covers 7 _ (by decide +kernel) fun t hf y => ?_
  have h7 := (flush0_7 t).mp hf
  blk_simp
  rw [after0_7]
  obtain ⟨i, j, rfl⟩ : ∃ (i : Fin 2560) (j : Fin 1024), y = ix2 i j := ⟨y 0, y 1, eq_ix2 y⟩
  rw [out_at hg t (by omega)]
  have e0 : (win0_7.blk t).view.emb (ix2 i j) 0 = i := Fin.ext (by blk_simp [idx t])
  have e1 : (win0_7.blk t).view.emb (ix2 i j) 1 = j := Fin.ext (by blk_simp [idx t])
  rw [e0, e1]

end

section

open Cert.Reference7Ideal Cert.Reference7Ideal.Gen

/-- The parts side by side. -/
def parts (a0 : Vec Ideal S8192x768 .bf16) (a1 : Vec Ideal S8192x512 .bf16) (a2 : Vec Ideal S8192x512 .bf16) (a3 : Vec Ideal S8192x256 .bf16) (a4 : Vec Ideal S8192x256 .f32) (a5 : Vec Ideal S8192x256 .f32) : FVec Ideal S8192x2560 .f32 :=
  concatenate S8192x2560 1 [⟨S8192x768, ((extf (F := Ideal) .f32 a0 bitsLt_bf16_f32) : (⟨S8192x768, .f32⟩ : BufTy).Contents (Elt Ideal))⟩, ⟨S8192x512, ((extf (F := Ideal) .f32 a1 bitsLt_bf16_f32) : (⟨S8192x512, .f32⟩ : BufTy).Contents (Elt Ideal))⟩, ⟨S8192x512, ((extf (F := Ideal) .f32 a2 bitsLt_bf16_f32) : (⟨S8192x512, .f32⟩ : BufTy).Contents (Elt Ideal))⟩, ⟨S8192x256, ((extf (F := Ideal) .f32 a3 bitsLt_bf16_f32) : (⟨S8192x256, .f32⟩ : BufTy).Contents (Elt Ideal))⟩, ⟨S8192x256, (a4 : (⟨S8192x256, .f32⟩ : BufTy).Contents (Elt Ideal))⟩, ⟨S8192x256, (a5 : (⟨S8192x256, .f32⟩ : BufTy).Contents (Elt Ideal))⟩] concatenates_S8192x768_S8192x512_S8192x512_S8192x256_S8192x256_S8192x256_S8192x2560_d1

/-- The reference's result. -/
def ref (a0 : Vec Ideal S8192x768 .bf16) (a1 : Vec Ideal S8192x512 .bf16) (a2 : Vec Ideal S8192x512 .bf16) (a3 : Vec Ideal S8192x256 .bf16) (a4 : Vec Ideal S8192x256 .f32) (a5 : Vec Ideal S8192x256 .f32) (h : Vec Ideal S8192x1024 .bf16) : FVec Ideal S2560x1024 .bf16 :=
  truncf .bf16 (transpose S2560x1024 [1, 0] (transpose S1024x2560 [1, 0] (Host.dotGeneral dot_S8192x2560_S8192x1024_S2560x1024_0_0_1_1_n_n none (parts a0 a1 a2 a3 a4 a5) (extf .f32 h bitsLt_bf16_f32)) transposes_S2560x1024_S1024x2560_1_0) transposes_S1024x2560_S2560x1024_1_0) bitsLt_bf16_f32

theorem ref_at (a0 : Vec Ideal S8192x768 .bf16) (a1 : Vec Ideal S8192x512 .bf16) (a2 : Vec Ideal S8192x512 .bf16) (a3 : Vec Ideal S8192x256 .bf16) (a4 : Vec Ideal S8192x256 .f32) (a5 : Vec Ideal S8192x256 .f32) (h : Vec Ideal S8192x1024 .bf16) (i : Fin 2560) (j : Fin 1024) :
    ref a0 a1 a2 a3 a4 a5 h (ix2 i j) = ∑ r, parts a0 a1 a2 a3 a4 a5 (ix2 r i) * h (ix2 r j) := by
  pointwise [ref]
  all_goals first | rfl | exact Finset.sum_congr rfl fun r _ => mul_comm _ _

theorem parts0 (a0 : Vec Ideal S8192x768 .bf16) (a1 : Vec Ideal S8192x512 .bf16) (a2 : Vec Ideal S8192x512 .bf16) (a3 : Vec Ideal S8192x256 .bf16) (a4 : Vec Ideal S8192x256 .f32) (a5 : Vec Ideal S8192x256 .f32) (r : Fin 8192) (k : Fin 768) :
    a0 (ix2 r k) = parts a0 a1 a2 a3 a4 a5 (ix2 r ⟨0 + k.val, by omega⟩) :=
  (concatenate_apply_piece (t := S8192x2560) 1 _ _ (ix2 (n1 := 2560) r ⟨0 + k.val, by omega⟩) 0 (by show 0 < 6; omega) S8192x768 (extf (F := Ideal) .f32 a0 bitsLt_bf16_f32) rfl rfl 0 rfl (ix2 r k)
    (fun b hb => by
      match b with
      | 0 => rfl
      | 1 => exact absurd rfl hb) rfl).symm

theorem parts1 (a0 : Vec Ideal S8192x768 .bf16) (a1 : Vec Ideal S8192x512 .bf16) (a2 : Vec Ideal S8192x512 .bf16) (a3 : Vec Ideal S8192x256 .bf16) (a4 : Vec Ideal S8192x256 .f32) (a5 : Vec Ideal S8192x256 .f32) (r : Fin 8192) (k : Fin 512) :
    a1 (ix2 r k) = parts a0 a1 a2 a3 a4 a5 (ix2 r ⟨768 + k.val, by omega⟩) :=
  (concatenate_apply_piece (t := S8192x2560) 1 _ _ (ix2 (n1 := 2560) r ⟨768 + k.val, by omega⟩) 1 (by show 1 < 6; omega) S8192x512 (extf (F := Ideal) .f32 a1 bitsLt_bf16_f32) rfl rfl 768 rfl (ix2 r k)
    (fun b hb => by
      match b with
      | 0 => rfl
      | 1 => exact absurd rfl hb) rfl).symm

theorem parts2 (a0 : Vec Ideal S8192x768 .bf16) (a1 : Vec Ideal S8192x512 .bf16) (a2 : Vec Ideal S8192x512 .bf16) (a3 : Vec Ideal S8192x256 .bf16) (a4 : Vec Ideal S8192x256 .f32) (a5 : Vec Ideal S8192x256 .f32) (r : Fin 8192) (k : Fin 512) :
    a2 (ix2 r k) = parts a0 a1 a2 a3 a4 a5 (ix2 r ⟨1280 + k.val, by omega⟩) :=
  (concatenate_apply_piece (t := S8192x2560) 1 _ _ (ix2 (n1 := 2560) r ⟨1280 + k.val, by omega⟩) 2 (by show 2 < 6; omega) S8192x512 (extf (F := Ideal) .f32 a2 bitsLt_bf16_f32) rfl rfl 1280 rfl (ix2 r k)
    (fun b hb => by
      match b with
      | 0 => rfl
      | 1 => exact absurd rfl hb) rfl).symm

theorem parts3 (a0 : Vec Ideal S8192x768 .bf16) (a1 : Vec Ideal S8192x512 .bf16) (a2 : Vec Ideal S8192x512 .bf16) (a3 : Vec Ideal S8192x256 .bf16) (a4 : Vec Ideal S8192x256 .f32) (a5 : Vec Ideal S8192x256 .f32) (r : Fin 8192) (k : Fin 256) :
    a3 (ix2 r k) = parts a0 a1 a2 a3 a4 a5 (ix2 r ⟨1792 + k.val, by omega⟩) :=
  (concatenate_apply_piece (t := S8192x2560) 1 _ _ (ix2 (n1 := 2560) r ⟨1792 + k.val, by omega⟩) 3 (by show 3 < 6; omega) S8192x256 (extf (F := Ideal) .f32 a3 bitsLt_bf16_f32) rfl rfl 1792 rfl (ix2 r k)
    (fun b hb => by
      match b with
      | 0 => rfl
      | 1 => exact absurd rfl hb) rfl).symm

theorem parts4 (a0 : Vec Ideal S8192x768 .bf16) (a1 : Vec Ideal S8192x512 .bf16) (a2 : Vec Ideal S8192x512 .bf16) (a3 : Vec Ideal S8192x256 .bf16) (a4 : Vec Ideal S8192x256 .f32) (a5 : Vec Ideal S8192x256 .f32) (r : Fin 8192) (k : Fin 256) :
    a4 (ix2 r k) = parts a0 a1 a2 a3 a4 a5 (ix2 r ⟨2048 + k.val, by omega⟩) :=
  (concatenate_apply_piece (t := S8192x2560) 1 _ _ (ix2 (n1 := 2560) r ⟨2048 + k.val, by omega⟩) 4 (by show 4 < 6; omega) S8192x256 a4 rfl rfl 2048 rfl (ix2 r k)
    (fun b hb => by
      match b with
      | 0 => rfl
      | 1 => exact absurd rfl hb) rfl).symm

theorem parts5 (a0 : Vec Ideal S8192x768 .bf16) (a1 : Vec Ideal S8192x512 .bf16) (a2 : Vec Ideal S8192x512 .bf16) (a3 : Vec Ideal S8192x256 .bf16) (a4 : Vec Ideal S8192x256 .f32) (a5 : Vec Ideal S8192x256 .f32) (r : Fin 8192) (k : Fin 256) :
    a5 (ix2 r k) = parts a0 a1 a2 a3 a4 a5 (ix2 r ⟨2304 + k.val, by omega⟩) :=
  (concatenate_apply_piece (t := S8192x2560) 1 _ _ (ix2 (n1 := 2560) r ⟨2304 + k.val, by omega⟩) 5 (by show 5 < 6; omega) S8192x256 a5 rfl rfl 2304 rfl (ix2 r k)
    (fun b hb => by
      match b with
      | 0 => rfl
      | 1 => exact absurd rfl hb) rfl).symm

end

theorem frame_p : Cert.quiescent_Kernel7 := fun m ρ _ => Cert.Kernel7.Gen.frame m ρ
theorem frame_pi : Cert.quiescent_Kernel7Ideal := fun m ρ _ => Cert.Kernel7Ideal.Gen.frame m ρ
theorem frame_ri : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

theorem preserves : Cert.preserves_Kernel7_Kernel7Ideal := trivial

theorem algebraic : Cert.algebraic_Kernel7Ideal_Reference7Ideal := by
  intro m ρ m' ρ' _ hag
  refine ⟨_, Cert.Kernel7Ideal.Value.run_blocks (F := Ideal) m ρ, ?_⟩
  refine (θ_run Cert.Reference7Ideal.defs _ _).mono (fun r h c => ?_) (Cert.Reference7Ideal.Value.run (F := Ideal) m' ρ')
  obtain ⟨a0, a1, a2, a3, a4, a5, a6⟩ := hag c
  refine ⟨(h c).1.trans (Eq.trans ?_ (final (P := fun r k => parts (m' ((c.tc : Thread Cert.Reference7Ideal.nD Cert.Reference7Ideal.τ).loc Cert.Reference7Ideal.main_arg0)) (m' ((c.tc : Thread Cert.Reference7Ideal.nD Cert.Reference7Ideal.τ).loc Cert.Reference7Ideal.main_arg1)) (m' ((c.tc : Thread Cert.Reference7Ideal.nD Cert.Reference7Ideal.τ).loc Cert.Reference7Ideal.main_arg2)) (m' ((c.tc : Thread Cert.Reference7Ideal.nD Cert.Reference7Ideal.τ).loc Cert.Reference7Ideal.main_arg3)) (m' ((c.tc : Thread Cert.Reference7Ideal.nD Cert.Reference7Ideal.τ).loc Cert.Reference7Ideal.main_arg4)) (m' ((c.tc : Thread Cert.Reference7Ideal.nD Cert.Reference7Ideal.τ).loc Cert.Reference7Ideal.main_arg5)) (ix2 r k)) (H := fun r k => _)
    ⟨fun r k => (congrFun a0 (ix2 r k)).symm.trans (parts0 _ _ _ _ _ _ r k), fun r k => (congrFun a1 (ix2 r k)).symm.trans (parts1 _ _ _ _ _ _ r k), fun r k => (congrFun a2 (ix2 r k)).symm.trans (parts2 _ _ _ _ _ _ r k), fun r k => (congrFun a3 (ix2 r k)).symm.trans (parts3 _ _ _ _ _ _ r k), fun r k => (congrFun a4 (ix2 r k)).symm.trans (parts4 _ _ _ _ _ _ r k), fun r k => (congrFun a5 (ix2 r k)).symm.trans (parts5 _ _ _ _ _ _ r k), fun r k => (congrFun a6 (ix2 r k)).symm⟩).symm), (h c).2⟩
  funext y
  obtain ⟨i, j, rfl⟩ : ∃ (i : Fin 2560) (j : Fin 1024), y = ix2 i j := ⟨y 0, y 1, eq_ix2 y⟩
  exact ref_at _ _ _ _ _ _ _ i j

end Cert.InW

end
-- ==== Proof.OutX.lean ====
/- The gradient of the output projection's rows: what the call leaves is the product with the weights. -/
module

public import proofs.«01_k».proof.Defs
public import proofs.«01_k».proof.Proof.Products
public import proofs.«01_k».proof.Proof.Gen.Kernel8.Frame
public import proofs.«01_k».proof.Proof.Gen.Kernel8Ideal.Value
public import proofs.«01_k».proof.Proof.Gen.Kernel8Ideal.Frame
public import proofs.«01_k».proof.Proof.Gen.Reference8Ideal.Run
public import Idealize.ShloMosaic.Lib.Pointwise
public import Idealize.ShloMosaic.Lib.Pipeline.ValueKit
public import Idealize.ShloMosaic.Lib.Pipeline.ReadBack
public import Idealize.ShloMosaic.Adequacy
public import Idealize.ShloMosaic.Init

@[expose] public section

set_option maxRecDepth 16384

noncomputable section

namespace Cert.OutX

open Idealize.ShloMosaic Idealize.SL.Sem Cert.Products
open TcCoe

section

open Cert.Kernel8Ideal Cert.Kernel8Ideal.Gen

/-- Which block of its array each window holds at each grid point. -/
theorem idx : ∀ t : Fin cfg0.N, win0_0.index t = ![t.val, 0] ∧ win0_1.index t = ![0, 0] ∧ win0_2.index t = ![t.val, 0] ∧ t.val < 16 :=
  (by decide +kernel : ∀ t : Fin grid0.N, _)

/-- The tile of rows of a grid point. -/
def ti (t : Fin cfg0.N) : Fin 16 := ⟨t.val, (idx t).2.2.2⟩

/-- The arguments hold the numbers `D` and `W`. -/
structure Given (m : (ℓ : Loc nD τ sig) → Buf (Elt Ideal) ℓ) (c : Dev nD) (D : Fin 8192 → Fin 1024 → EReal) (W : Fin 1024 → Fin 1024 → EReal) : Prop where
  d : ∀ r k, (m ((c.tc : Thread nD τ).loc main_arg0) : S8192x1024.Idx → EReal) (ix2 r k) = D r k
  w : ∀ r k, (m ((c.tc : Thread nD τ).loc main_arg1) : S1024x1024.Idx → EReal) (ix2 r k) = W r k

variable {m : (ℓ : Loc nD τ sig) → Buf (Elt Ideal) ℓ} {c : Dev nD} {D : Fin 8192 → Fin 1024 → EReal} {W : Fin 1024 → Fin 1024 → EReal}

theorem i0 (hg : Given m c D W) (t : Fin cfg0.N) (r : Fin 512) (k : Fin 1024) :
    (iblk m c 0 t : S512x1024.Idx → EReal) (ix2 r k) = D (row16 (ti t) r) k := by
  refine Eq.trans ?_ (hg.d _ _)
  blk_point [iblk, V, idx t, row16, ti]
theorem i1 (hg : Given m c D W) (t : Fin cfg0.N) (r : Fin 1024) (k : Fin 1024) :
    (iblk m c 1 t : S1024x1024.Idx → EReal) (ix2 r k) = W r k := by
  refine Eq.trans ?_ (hg.w _ _)
  blk_point [iblk, V, idx t]

theorem pay1_at (v : Vec Ideal S512x1024 .bf16) (w : Vec Ideal S512x1024 .bf16) (r : Fin 512) (l : Fin 512) :
    k0_pay1 (F := Ideal) v w (ix2 r l) = ∑ k, v (ix2 r k) * w (ix2 l k) := by pointwise [k0_pay1]

theorem pay2_at (v : Vec Ideal S512x1024 .bf16) (w : Vec Ideal S512x1024 .bf16) (r : Fin 512) (l : Fin 512) :
    k0_pay2 (F := Ideal) v w (ix2 r l) = ∑ k, v (ix2 r k) * w (ix2 l k) := by pointwise [k0_pay2]

/-- The rows read whole. -/
theorem ld_whole (X : Vec Ideal S512x1024 .bf16) (r : Fin 512) (k : Fin 1024) :
    View.ld (Val := Elt Ideal) (S := S512x1024) (e' := .bf16) X r0_0 (ix2 r k : S512x1024.Idx) = X (ix2 r k) :=
  View.ld_unit_apply_of _ _ _ _ _ (ix2 (n0 := 512) r k) fun d => match d with
    | 0 => (Nat.zero_add _).symm
    | 1 => (Nat.zero_add _).symm

/-- A row of the weights read through the window of 512 rows that starts at row `o`. -/
theorem ld_row (Y : Vec Ideal S1024x1024 .bf16) (o : Nat) (h : ∀ a, (![o, 0] : Fin 2 → Nat) a + S512x1024.size a ≤ S1024x1024.size a)
    (l : Fin 512) (k : Fin 1024) (j : Fin 1024) (hj : o + l.val = j.val) :
    View.ld (Val := Elt Ideal) (S := S1024x1024) (e' := .bf16) Y (Rect.unit (s := S1024x1024) ![o, 0] S512x1024.size h) (ix2 l k : S512x1024.Idx) = Y (ix2 j k) :=
  View.ld_unit_apply_of _ _ _ _ _ (ix2 (n0 := 1024) j k) fun d => match d with
    | 0 => hj.symm
    | 1 => (Nat.zero_add _).symm

/-- One stored piece of 512 columns, the first of them column `o`. -/
theorem piece (hg : Given m c D W) (t : Fin cfg0.N) (y : S512x1024.Idx) (r : Fin 512) (l : Fin 512) (o : Nat)
    (h : ∀ a, (![o, 0] : Fin 2 → Nat) a + S512x1024.size a ≤ S1024x1024.size a) {z : EReal}
    (hz : z = ∑ k : Fin 1024, (View.ld (Val := Elt Ideal) (S := S512x1024) (e' := .bf16) (iblk m c 0 t) r0_0 : S512x1024.Idx → EReal) (ix2 r k)
      * (View.ld (Val := Elt Ideal) (S := S1024x1024) (e' := .bf16) (iblk m c 1 t) (Rect.unit (s := S1024x1024) ![o, 0] S512x1024.size h) : S512x1024.Idx → EReal) (ix2 l k))
    (q0 : (y 0).val = r.val) (q1 : (y 1).val = o + l.val) :
    z = ∑ k, D (row16 (ti t) (y 0)) k * W (y 1) k := by
  obtain rfl : y 0 = r := Fin.ext q0
  refine hz.trans (Finset.sum_congr rfl fun k _ => congrArg₂ (· * ·) ?_ ?_)
  · exact (ld_whole (iblk m c 0 t) _ k).trans (i0 hg t _ k)
  · exact (ld_row (iblk m c 1 t) o h l k (y 1) q1.symm).trans (i1 hg t _ k)

theorem out_at (hg : Given m c D W) (t : Fin cfg0.N) (y : S512x1024.Idx) :
    out0_2 (F := Ideal) (iblk m c 0 t) (iblk m c 1 t) y = ∑ k, D (row16 (ti t) (y 0)) k * W (y 1) k := by
  unfold out0_2
  canon_tiles x q
  case piece0 =>
    obtain ⟨r, l, rfl⟩ : ∃ (r : Fin 512) (l : Fin 512), x = ix2 r l := ⟨x 0, x 1, eq_ix2 x⟩
    exact piece hg t y r l 512 _ (pay2_at _ _ r l) q0 q1
  case piece1 =>
    obtain ⟨r, l, rfl⟩ : ∃ (r : Fin 512) (l : Fin 512), x = ix2 r l := ⟨x 0, x 1, eq_ix2 x⟩
    exact piece hg t y r l 0 _ (pay1_at _ _ r l) q0 (q1.trans (Nat.zero_add _).symm)

theorem final (hg : Given m c D W) : (dats m 0 c).arrAt 2 cfg0.N = fun y : S8192x1024.Idx => ∑ k, D (y 0) k * W (y 1) k := by
  refine (dats m 0 c).arrAt_eq_of_covers 2 _ (by decide +kernel) fun t hf y => ?_
  blk_simp
  rw [after0_2]
  obtain ⟨i, j, rfl⟩ : ∃ (i : Fin 512) (j : Fin 1024), y = ix2 i j := ⟨y 0, y 1, eq_ix2 y⟩
  refine (out_at hg t (ix2 i j)).trans ?_
  have e0 : (win0_2.blk t).view.emb (ix2 i j) 0 = row16 (ti t) i := Fin.ext (by blk_simp [idx t, row16, ti])
  have e1 : (win0_2.blk t).view.emb (ix2 i j) 1 = j := Fin.ext (by blk_simp [idx t])
  rw [e0, e1]
  rfl

end

section

open Cert.Reference8Ideal Cert.Reference8Ideal.Gen

/-- The reference's result. -/
def ref (d : Vec Ideal S8192x1024 .bf16) (w : Vec Ideal S1024x1024 .bf16) : FVec Ideal S8192x1024 .bf16 :=
  truncf .bf16 (Host.dotGeneral dot_S8192x1024_S1024x1024_S8192x1024_1_1_0_0_n_n none (extf .f32 d bitsLt_bf16_f32) (extf .f32 w bitsLt_bf16_f32)) bitsLt_bf16_f32

theorem ref_at (d : Vec Ideal S8192x1024 .bf16) (w : Vec Ideal S1024x1024 .bf16) (i : Fin 8192) (j : Fin 1024) :
    ref d w (ix2 i j) = ∑ k, d (ix2 i k) * w (ix2 j k) := by
  pointwise [ref]

end

theorem frame_p : Cert.quiescent_Kernel8 := fun m ρ _ => Cert.Kernel8.Gen.frame m ρ
theorem frame_pi : Cert.quiescent_Kernel8Ideal := fun m ρ _ => Cert.Kernel8Ideal.Gen.frame m ρ
theorem frame_ri : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

theorem preserves : Cert.preserves_Kernel8_Kernel8Ideal := trivial

theorem algebraic : Cert.algebraic_Kernel8Ideal_Reference8Ideal := by
  intro m ρ m' ρ' _ hag
  refine ⟨_, Cert.Kernel8Ideal.Value.run_blocks (F := Ideal) m ρ, ?_⟩
  refine (θ_run Cert.Reference8Ideal.defs _ _).mono (fun r h c => ?_) (Cert.Reference8Ideal.Value.run (F := Ideal) m' ρ')
  obtain ⟨a0, a1⟩ := hag c
  refine ⟨(h c).1.trans (Eq.trans ?_ (final (D := fun r k => _) (W := fun r k => _)
    ⟨fun r k => (congrFun a0 (ix2 r k)).symm, fun r k => (congrFun a1 (ix2 r k)).symm⟩).symm), (h c).2⟩
  funext y
  obtain ⟨i, j, rfl⟩ : ∃ (i : Fin 8192) (j : Fin 1024), y = ix2 i j := ⟨y 0, y 1, eq_ix2 y⟩
  exact ref_at _ _ i j

end Cert.OutX

end
-- ==== Proof.OutW.lean ====
/- The gradient of the output projection's weights: what the call leaves is the product over all rows. -/
module

public import proofs.«01_k».proof.Defs
public import proofs.«01_k».proof.Proof.Products
public import proofs.«01_k».proof.Proof.Gen.Kernel9.Frame
public import proofs.«01_k».proof.Proof.Gen.Kernel9Ideal.Value
public import proofs.«01_k».proof.Proof.Gen.Kernel9Ideal.Frame
public import proofs.«01_k».proof.Proof.Gen.Reference9Ideal.Run
public import Idealize.ShloMosaic.Lib.Pointwise
public import Idealize.ShloMosaic.Lib.Pipeline.ValueKit
public import Idealize.ShloMosaic.Lib.Pipeline.ReadBack
public import Idealize.ShloMosaic.Adequacy
public import Idealize.ShloMosaic.Init

@[expose] public section

set_option maxRecDepth 16384

noncomputable section

namespace Cert.OutW

open Idealize.ShloMosaic Idealize.SL.Sem Cert.Products
open TcCoe

section

open Cert.Kernel9Ideal Cert.Kernel9Ideal.Gen

/-- Which block of its array each window holds at each grid point. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![0, 0] ∧ t.val < 8 :=
  (by decide +kernel : ∀ t : Fin grid0.N, _)

theorem lt8 (t : Fin cfg0.N) : t.val < 8 := by have := idx t; omega

/-- The tile of rows of a grid point. -/
def ti (t : Fin cfg0.N) : Fin 8 := ⟨t.val, lt8 t⟩

/-- The arguments hold the numbers `P`, by columns, and `H`. -/
structure Given (m : (ℓ : Loc nD τ sig) → Buf (Elt Ideal) ℓ) (c : Dev nD) (P : Fin 8192 → Fin 1024 → EReal) (H : Fin 8192 → Fin 1024 → EReal) : Prop where
  p0 : ∀ r k, (m ((c.tc : Thread nD τ).loc main_arg0) : S8192x256.Idx → EReal) (ix2 r k) = P r ⟨0 + k.val, by omega⟩
  p1 : ∀ r k, (m ((c.tc : Thread nD τ).loc main_arg1) : S8192x256.Idx → EReal) (ix2 r k) = P r ⟨256 + k.val, by omega⟩
  p2 : ∀ r k, (m ((c.tc : Thread nD τ).loc main_arg2) : S8192x256.Idx → EReal) (ix2 r k) = P r ⟨512 + k.val, by omega⟩
  p3 : ∀ r k, (m ((c.tc : Thread nD τ).loc main_arg3) : S8192x256.Idx → EReal) (ix2 r k) = P r ⟨768 + k.val, by omega⟩
  h : ∀ r k, (m ((c.tc : Thread nD τ).loc main_arg4) : S8192x1024.Idx → EReal) (ix2 r k) = H r k

variable {m : (ℓ : Loc nD τ sig) → Buf (Elt Ideal) ℓ} {c : Dev nD} {P : Fin 8192 → Fin 1024 → EReal} {H : Fin 8192 → Fin 1024 → EReal}

theorem i0 (hg : Given m c P H) (t : Fin cfg0.N) (r : Fin 1024) (k : Fin 256) :
    (iblk m c 0 t : S1024x256.Idx → EReal) (ix2 r k) = P (row8 (ti t) r) ⟨0 + k.val, by omega⟩ := by
  refine Eq.trans ?_ (hg.p0 _ _)
  blk_point [iblk, V, idx t, row8, ti]
theorem i1 (hg : Given m c P H) (t : Fin cfg0.N) (r : Fin 1024) (k : Fin 256) :
    (iblk m c 1 t : S1024x256.Idx → EReal) (ix2 r k) = P (row8 (ti t) r) ⟨256 + k.val, by omega⟩ := by
  refine Eq.trans ?_ (hg.p1 _ _)
  blk_point [iblk, V, idx t, row8, ti]
theorem i2 (hg : Given m c P H) (t : Fin cfg0.N) (r : Fin 1024) (k : Fin 256) :
    (iblk m c 2 t : S1024x256.Idx → EReal) (ix2 r k) = P (row8 (ti t) r) ⟨512 + k.val, by omega⟩ := by
  refine Eq.trans ?_ (hg.p2 _ _)
  blk_point [iblk, V, idx t, row8, ti]
theorem i3 (hg : Given m c P H) (t : Fin cfg0.N) (r : Fin 1024) (k : Fin 256) :
    (iblk m c 3 t : S1024x256.Idx → EReal) (ix2 r k) = P (row8 (ti t) r) ⟨768 + k.val, by omega⟩ := by
  refine Eq.trans ?_ (hg.p3 _ _)
  blk_point [iblk, V, idx t, row8, ti]
theorem i4 (hg : Given m c P H) (t : Fin cfg0.N) (r : Fin 1024) (k : Fin 1024) :
    (iblk m c 4 t : S1024x1024.Idx → EReal) (ix2 r k) = H (row8 (ti t) r) k := by
  refine Eq.trans ?_ (hg.h _ _)
  blk_point [iblk, V, idx t, row8, ti]

/-- One grid point's part of the product. -/
def term (P : Fin 8192 → Fin 1024 → EReal) (H : Fin 8192 → Fin 1024 → EReal) (t : Fin cfg0.N) (i : Fin 1024) (j : Fin 1024) : EReal :=
  ∑ r, P (row8 (ti t) r) i * H (row8 (ti t) r) j

theorem pay3_at (y : S1024x1024.Idx) : k0_pay3 (F := Ideal) y = (0 : EReal) := by pointwise [k0_pay3]

theorem pay4_at (h : Vec Ideal S1024x1024 .bf16) (acc : Vec Ideal S256x1024 .f32) (v : Vec Ideal S1024x256 .bf16) (i : Fin 256) (j : Fin 1024) :
    k0_pay4 (F := Ideal) h acc v (ix2 i j) = acc (ix2 i j) + ∑ r, v (ix2 r i) * h (ix2 r j) := by pointwise [k0_pay4]

theorem pay5_at (h : Vec Ideal S1024x1024 .bf16) (acc : Vec Ideal S256x1024 .f32) (v : Vec Ideal S1024x256 .bf16) (i : Fin 256) (j : Fin 1024) :
    k0_pay5 (F := Ideal) h acc v (ix2 i j) = acc (ix2 i j) + ∑ r, v (ix2 r i) * h (ix2 r j) := by pointwise [k0_pay5]

theorem pay6_at (h : Vec Ideal S1024x1024 .bf16) (acc : Vec Ideal S256x1024 .f32) (v : Vec Ideal S1024x256 .bf16) (i : Fin 256) (j : Fin 1024) :
    k0_pay6 (F := Ideal) h acc v (ix2 i j) = acc (ix2 i j) + ∑ r, v (ix2 r i) * h (ix2 r j) := by pointwise [k0_pay6]

theorem pay1_at (h : Vec Ideal S1024x1024 .bf16) (acc : Vec Ideal S256x1024 .f32) (v : Vec Ideal S1024x256 .bf16) (i : Fin 256) (j : Fin 1024) :
    k0_pay1 (F := Ideal) h acc v (ix2 i j) = acc (ix2 i j) + ∑ r, v (ix2 r i) * h (ix2 r j) := by pointwise [k0_pay1]

/-- The running sum read through a window of its rows, which starts at row `o`. -/
theorem ld256 (Y : Vec Ideal S1024x1024 .f32) (o : Nat) (h : ∀ a, (![o, 0] : Fin 2 → Nat) a + S256x1024.size a ≤ S1024x1024.size a)
    (i : Fin 256) (j : Fin 1024) (k : Fin 1024) (hk : o + i.val = k.val) :
    View.ld (Val := Elt Ideal) (S := S1024x1024) (e' := .f32) Y (Rect.unit (s := S1024x1024) ![o, 0] S256x1024.size h) (ix2 i j : S256x1024.Idx) = Y (ix2 k j) :=
  View.ld_unit_apply_of _ _ _ _ _ (ix2 (n0 := 1024) k j) fun d => match d with
    | 0 => hk.symm
    | 1 => (Nat.zero_add _).symm

/-- The place of a window's row among the rows. -/
theorem emb256 (o : Nat) (h : ∀ a, (![o, 0] : Fin 2 → Nat) a + S256x1024.size a ≤ S1024x1024.size a) (x : S256x1024.Idx) :
    ((Rect.unit (s := S1024x1024) ![o, 0] S256x1024.size h).emb x 0).val = o + (x 0).val ∧ ((Rect.unit (s := S1024x1024) ![o, 0] S256x1024.size h).emb x 1).val = (x 1).val :=
  ⟨congrArg (o + ·) (Nat.one_mul _), (Nat.zero_add _).trans (Nat.one_mul _)⟩

/-- The piece of rows 0 to 255: the running sum and one term more. -/
theorem piece0 (hg : Given m c P H) (t : Fin cfg0.N) (Y : Vec Ideal S1024x1024 .f32) (y : S1024x1024.Idx) (x : S256x1024.Idx)
    (h : ∀ a, (![0, 0] : Fin 2 → Nat) a + S256x1024.size a ≤ S1024x1024.size a)
    (q0 : (y 0).val = 0 + (x 0).val) (q1 : (y 1).val = (x 1).val) :
    k0_pay4 (F := Ideal) (iblk m c 4 t) (View.ld (Val := Elt Ideal) (S := S1024x1024) (e' := .f32) Y (Rect.unit (s := S1024x1024) ![0, 0] S256x1024.size h)) (iblk m c 0 t) x
      = Y y + term P H t (y 0) (y 1) := by
  obtain ⟨k, j, rfl⟩ : ∃ (k : Fin 1024) (j : Fin 1024), y = ix2 k j := ⟨y 0, y 1, eq_ix2 y⟩
  obtain ⟨i, l, rfl⟩ : ∃ (i : Fin 256) (l : Fin 1024), x = ix2 i l := ⟨x 0, x 1, eq_ix2 x⟩
  obtain rfl : j = l := Fin.ext q1
  refine (pay4_at _ _ _ i j).trans (congrArg₂ (· + ·) (ld256 Y 0 h i j k q0.symm) ?_)
  refine Finset.sum_congr rfl fun r _ => congrArg₂ (· * ·) ((i0 hg t r i).trans ?_) (i4 hg t r j)
  exact congrArg _ (Fin.ext q0.symm)

theorem at0 (hg : Given m c P H) (t : Fin cfg0.N) (Y : Vec Ideal S1024x1024 .f32) (x : S256x1024.Idx)
    (h : ∀ a, (![0, 0] : Fin 2 → Nat) a + S256x1024.size a ≤ S1024x1024.size a) :
    k0_pay4 (F := Ideal) (iblk m c 4 t) (View.ld (Val := Elt Ideal) (S := S1024x1024) (e' := .f32) Y (Rect.unit (s := S1024x1024) ![0, 0] S256x1024.size h)) (iblk m c 0 t) x
      = Y ((Rect.unit (s := S1024x1024) ![0, 0] S256x1024.size h).emb x)
        + term P H t ((Rect.unit (s := S1024x1024) ![0, 0] S256x1024.size h).emb x 0) ((Rect.unit (s := S1024x1024) ![0, 0] S256x1024.size h).emb x 1) :=
  piece0 hg t Y ((Rect.unit (s := S1024x1024) ![0, 0] S256x1024.size h).emb x) x h (emb256 0 h x).1 (emb256 0 h x).2

/-- The piece of rows 256 to 511: the running sum and one term more. -/
theorem piece1 (hg : Given m c P H) (t : Fin cfg0.N) (Y : Vec Ideal S1024x1024 .f32) (y : S1024x1024.Idx) (x : S256x1024.Idx)
    (h : ∀ a, (![256, 0] : Fin 2 → Nat) a + S256x1024.size a ≤ S1024x1024.size a)
    (q0 : (y 0).val = 256 + (x 0).val) (q1 : (y 1).val = (x 1).val) :
    k0_pay5 (F := Ideal) (iblk m c 4 t) (View.ld (Val := Elt Ideal) (S := S1024x1024) (e' := .f32) Y (Rect.unit (s := S1024x1024) ![256, 0] S256x1024.size h)) (iblk m c 1 t) x
      = Y y + term P H t (y 0) (y 1) := by
  obtain ⟨k, j, rfl⟩ : ∃ (k : Fin 1024) (j : Fin 1024), y = ix2 k j := ⟨y 0, y 1, eq_ix2 y⟩
  obtain ⟨i, l, rfl⟩ : ∃ (i : Fin 256) (l : Fin 1024), x = ix2 i l := ⟨x 0, x 1, eq_ix2 x⟩
  obtain rfl : j = l := Fin.ext q1
  refine (pay5_at _ _ _ i j).trans (congrArg₂ (· + ·) (ld256 Y 256 h i j k q0.symm) ?_)
  refine Finset.sum_congr rfl fun r _ => congrArg₂ (· * ·) ((i1 hg t r i).trans ?_) (i4 hg t r j)
  exact congrArg _ (Fin.ext q0.symm)

theorem at1 (hg : Given m c P H) (t : Fin cfg0.N) (Y : Vec Ideal S1024x1024 .f32) (x : S256x1024.Idx)
    (h : ∀ a, (![256, 0] : Fin 2 → Nat) a + S256x1024.size a ≤ S1024x1024.size a) :
    k0_pay5 (F := Ideal) (iblk m c 4 t) (View.ld (Val := Elt Ideal) (S := S1024x1024) (e' := .f32) Y (Rect.unit (s := S1024x1024) ![256, 0] S256x1024.size h)) (iblk m c 1 t) x
      = Y ((Rect.unit (s := S1024x1024) ![256, 0] S256x1024.size h).emb x)
        + term P H t ((Rect.unit (s := S1024x1024) ![256, 0] S256x1024.size h).emb x 0) ((Rect.unit (s := S1024x1024) ![256, 0] S256x1024.size h).emb x 1) :=
  piece1 hg t Y ((Rect.unit (s := S1024x1024) ![256, 0] S256x1024.size h).emb x) x h (emb256 256 h x).1 (emb256 256 h x).2

/-- The piece of rows 512 to 767: the running sum and one term more. -/
theorem piece2 (hg : Given m c P H) (t : Fin cfg0.N) (Y : Vec Ideal S1024x1024 .f32) (y : S1024x1024.Idx) (x : S256x1024.Idx)
    (h : ∀ a, (![512, 0] : Fin 2 → Nat) a + S256x1024.size a ≤ S1024x1024.size a)
    (q0 : (y 0).val = 512 + (x 0).val) (q1 : (y 1).val = (x 1).val) :
    k0_pay6 (F := Ideal) (iblk m c 4 t) (View.ld (Val := Elt Ideal) (S := S1024x1024) (e' := .f32) Y (Rect.unit (s := S1024x1024) ![512, 0] S256x1024.size h)) (iblk m c 2 t) x
      = Y y + term P H t (y 0) (y 1) := by
  obtain ⟨k, j, rfl⟩ : ∃ (k : Fin 1024) (j : Fin 1024), y = ix2 k j := ⟨y 0, y 1, eq_ix2 y⟩
  obtain ⟨i, l, rfl⟩ : ∃ (i : Fin 256) (l : Fin 1024), x = ix2 i l := ⟨x 0, x 1, eq_ix2 x⟩
  obtain rfl : j = l := Fin.ext q1
  refine (pay6_at _ _ _ i j).trans (congrArg₂ (· + ·) (ld256 Y 512 h i j k q0.symm) ?_)
  refine Finset.sum_congr rfl fun r _ => congrArg₂ (· * ·) ((i2 hg t r i).trans ?_) (i4 hg t r j)
  exact congrArg _ (Fin.ext q0.symm)

theorem at2 (hg : Given m c P H) (t : Fin cfg0.N) (Y : Vec Ideal S1024x1024 .f32) (x : S256x1024.Idx)
    (h : ∀ a, (![512, 0] : Fin 2 → Nat) a + S256x1024.size a ≤ S1024x1024.size a) :
    k0_pay6 (F := Ideal) (iblk m c 4 t) (View.ld (Val := Elt Ideal) (S := S1024x1024) (e' := .f32) Y (Rect.unit (s := S1024x1024) ![512, 0] S256x1024.size h)) (iblk m c 2 t) x
      = Y ((Rect.unit (s := S1024x1024) ![512, 0] S256x1024.size h).emb x)
        + term P H t ((Rect.unit (s := S1024x1024) ![512, 0] S256x1024.size h).emb x 0) ((Rect.unit (s := S1024x1024) ![512, 0] S256x1024.size h).emb x 1) :=
  piece2 hg t Y ((Rect.unit (s := S1024x1024) ![512, 0] S256x1024.size h).emb x) x h (emb256 512 h x).1 (emb256 512 h x).2

/-- The piece of rows 768 to 1023: the running sum and one term more. -/
theorem piece3 (hg : Given m c P H) (t : Fin cfg0.N) (Y : Vec Ideal S1024x1024 .f32) (y : S1024x1024.Idx) (x : S256x1024.Idx)
    (h : ∀ a, (![768, 0] : Fin 2 → Nat) a + S256x1024.size a ≤ S1024x1024.size a)
    (q0 : (y 0).val = 768 + (x 0).val) (q1 : (y 1).val = (x 1).val) :
    k0_pay1 (F := Ideal) (iblk m c 4 t) (View.ld (Val := Elt Ideal) (S := S1024x1024) (e' := .f32) Y (Rect.unit (s := S1024x1024) ![768, 0] S256x1024.size h)) (iblk m c 3 t) x
      = Y y + term P H t (y 0) (y 1) := by
  obtain ⟨k, j, rfl⟩ : ∃ (k : Fin 1024) (j : Fin 1024), y = ix2 k j := ⟨y 0, y 1, eq_ix2 y⟩
  obtain ⟨i, l, rfl⟩ : ∃ (i : Fin 256) (l : Fin 1024), x = ix2 i l := ⟨x 0, x 1, eq_ix2 x⟩
  obtain rfl : j = l := Fin.ext q1
  refine (pay1_at _ _ _ i j).trans (congrArg₂ (· + ·) (ld256 Y 768 h i j k q0.symm) ?_)
  refine Finset.sum_congr rfl fun r _ => congrArg₂ (· * ·) ((i3 hg t r i).trans ?_) (i4 hg t r j)
  exact congrArg _ (Fin.ext q0.symm)

theorem at3 (hg : Given m c P H) (t : Fin cfg0.N) (Y : Vec Ideal S1024x1024 .f32) (x : S256x1024.Idx)
    (h : ∀ a, (![768, 0] : Fin 2 → Nat) a + S256x1024.size a ≤ S1024x1024.size a) :
    k0_pay1 (F := Ideal) (iblk m c 4 t) (View.ld (Val := Elt Ideal) (S := S1024x1024) (e' := .f32) Y (Rect.unit (s := S1024x1024) ![768, 0] S256x1024.size h)) (iblk m c 3 t) x
      = Y ((Rect.unit (s := S1024x1024) ![768, 0] S256x1024.size h).emb x)
        + term P H t ((Rect.unit (s := S1024x1024) ![768, 0] S256x1024.size h).emb x 0) ((Rect.unit (s := S1024x1024) ![768, 0] S256x1024.size h).emb x 1) :=
  piece3 hg t Y ((Rect.unit (s := S1024x1024) ![768, 0] S256x1024.size h).emb x) x h (emb256 768 h x).1 (emb256 768 h x).2

/-- The pieces hold every row. -/
theorem covered (y : S1024x1024.Idx)(h3 : ∀ a, (![768, 0] : Fin 2 → Nat) a + S256x1024.size a ≤ S1024x1024.size a) (h2 : ∀ a, (![512, 0] : Fin 2 → Nat) a + S256x1024.size a ≤ S1024x1024.size a) (h1 : ∀ a, (![256, 0] : Fin 2 → Nat) a + S256x1024.size a ≤ S1024x1024.size a) (h0 : ∀ a, (![0, 0] : Fin 2 → Nat) a + S256x1024.size a ≤ S1024x1024.size a)
    (w3 : S256x1024.Idx → EReal) (w2 : S256x1024.Idx → EReal) (w1 : S256x1024.Idx → EReal) (w0 : S256x1024.Idx → EReal) :
    ∃ p ∈ ([⟨Rect.unit (s := S1024x1024) ![768, 0] S256x1024.size h3, w3⟩, ⟨Rect.unit (s := S1024x1024) ![512, 0] S256x1024.size h2, w2⟩, ⟨Rect.unit (s := S1024x1024) ![256, 0] S256x1024.size h1, w1⟩, ⟨Rect.unit (s := S1024x1024) ![0, 0] S256x1024.size h0, w0⟩] : List (View.Piece (Elt Ideal) S1024x1024 .f32)), y ∈ p.1.set := by
  have hy : (y 0).val < 1024 := (y 0).isLt
  have hz : (y 1).val < 1024 := (y 1).isLt
  simp only [List.exists_mem_cons_iff, List.not_mem_nil, false_and, exists_false, or_false, Rect.mem_set_unit, Fin.forall_fin_two]
  show (768 ≤ (y 0).val ∧ (y 0).val < 768 + 256) ∧ 0 ≤ (y 1).val ∧ (y 1).val < 0 + 1024 ∨ (512 ≤ (y 0).val ∧ (y 0).val < 512 + 256) ∧ 0 ≤ (y 1).val ∧ (y 1).val < 0 + 1024 ∨ (256 ≤ (y 0).val ∧ (y 0).val < 256 + 256) ∧ 0 ≤ (y 1).val ∧ (y 1).val < 0 + 1024 ∨ (0 ≤ (y 0).val ∧ (y 0).val < 0 + 256) ∧ 0 ≤ (y 1).val ∧ (y 1).val < 0 + 1024
  omega

theorem acc_at (hg : Given m c P H) (t : Fin cfg0.N) (h : t.val % 8 = 7) (i : Fin 1024) (j : Fin 1024) :
    (outsAt0 m c t.val t.isLt).2 (ix2 i j) = ∑ r, P r i * H r j := by
  rw [Pipeline.eq_sum_fin_of_reset_step_apply_of_flush (fun n h => (outsAt0 m c n h).2) 8 (fun _ => 0)
    (fun t y => term P H t (y 0) (y 1))
    (fun t h y => by
      rw [outsAt0_A m c t h (by omega)]
      frame_open
      simp (disch := decide) only [↓ View.readCov_skip, ↓ View.readCov_cons_toLoadRect, ↓ View.readCov_fill]
      frame_out
      refine Eq.trans ?_ (congrArg (· + term P H t (y 0) (y 1)) (pay3_at y))
      refine View.canon_append_of_piecesOf (Val := Elt Ideal) (s := S1024x1024) (e := .f32) (fun y => k0_pay3 (F := Ideal) y + term P H t (y 0) (y 1)) [_] [_, _, _, _] ⟨?_, ?_, ?_, ?_, trivial⟩ y ?_
      · exact fun x => at3 hg t _ x _
      · exact fun x => at2 hg t _ x _
      · exact fun x => at1 hg t _ x _
      · exact fun x => at0 hg t _ x _
      exact covered y _ _ _ _ _ _ _ _)
    (fun t h y => by
      have e : ∀ Y : Vec Ideal S1024x1024 .f32, View.read (Elt Ideal) (View.whole cc0_scratch0) ((Memref.isWhole_whole cc0_scratch0).unread Y) = Y :=
        fun Y => (Memref.isWhole_whole cc0_scratch0).read_unread Y
      by_cases h7 : t.val % 8 = 7
      on_goal 1 => rw [outsAt0_C m c t h h7]
      on_goal 2 => rw [outsAt0_B m c t h h7]
      all_goals
        frame_open
        simp (disch := decide) only [↓ View.readCov_skip, ↓ View.readCov_cons_toLoadRect, ↓ View.readCov_fill]
        frame_out
        simp only [e]
        refine View.canon_append_of_piecesOf (Val := Elt Ideal) (s := S1024x1024) (e := .f32) (fun y => (outsAt0 m c (t.val - 1) (lt_of_le_of_lt (Nat.sub_le t.val 1) t.isLt)).2 y + term P H t (y 0) (y 1)) [] [_, _, _, _] ⟨?_, ?_, ?_, ?_, trivial⟩ y ?_
        · exact fun x => at3 hg t _ x _
        · exact fun x => at2 hg t _ x _
        · exact fun x => at1 hg t _ x _
        · exact fun x => at0 hg t _ x _
        exact covered y _ _ _ _ _ _ _ _)
    t h, zero_add]
  refine Eq.trans ?_ (sum_row8 _)
  refine Finset.sum_congr rfl fun s _ => Finset.sum_congr rfl fun r _ => ?_
  have e1 : ti ⟨8 * (t.val / 8) + s.val, Pipeline.run_point_lt_of_flush t h s⟩ = s := Fin.ext (by have := lt8 t; simp only [ti]; omega)
  show P (row8 (ti _) r) i * H (row8 (ti _) r) j = _
  rw [e1]

theorem out_at (hg : Given m c P H) (t : Fin cfg0.N) (h : t.val % 8 = 7) (i : Fin 1024) (j : Fin 1024) :
    (outsAt0 m c t.val t.isLt).1 (ix2 i j) = ∑ r, P r i * H r j := by
  refine Eq.trans ?_ (acc_at hg t h i j)
  rw [outsAt0_C m c t (by omega) h]
  frame_out
  pointwise [k0_pay2]
  rw [View.readCov_eq_canon']
  refine congrArg _ ?_
  funext a
  match a with
  | 0 => exact Fin.ext ((Nat.zero_add _).trans (Nat.one_mul _))
  | 1 => exact Fin.ext ((Nat.zero_add _).trans (Nat.one_mul _))

theorem final (hg : Given m c P H) : (dats m 0 c).arrAt 5 cfg0.N = fun y : S1024x1024.Idx => ∑ r, P r (y 0) * H r (y 1) := by
  refine (dats m 0 c).arrAt_eq_of_covers 5 _ (by decide +kernel) fun t hf y => ?_
  have h7 := (flush0_5 t).mp hf
  blk_simp
  rw [after0_5]
  obtain ⟨i, j, rfl⟩ : ∃ (i : Fin 1024) (j : Fin 1024), y = ix2 i j := ⟨y 0, y 1, eq_ix2 y⟩
  rw [out_at hg t (by omega)]
  have e0 : (win0_5.blk t).view.emb (ix2 i j) 0 = i := Fin.ext (by blk_simp [idx t])
  have e1 : (win0_5.blk t).view.emb (ix2 i j) 1 = j := Fin.ext (by blk_simp [idx t])
  rw [e0, e1]

end

section

open Cert.Reference9Ideal Cert.Reference9Ideal.Gen

/-- The parts side by side. -/
def parts (a0 : Vec Ideal S8192x256 .bf16) (a1 : Vec Ideal S8192x256 .bf16) (a2 : Vec Ideal S8192x256 .bf16) (a3 : Vec Ideal S8192x256 .bf16) : FVec Ideal S8192x1024 .bf16 :=
  concatenate S8192x1024 1 [⟨S8192x256, (a0 : (⟨S8192x256, .bf16⟩ : BufTy).Contents (Elt Ideal))⟩, ⟨S8192x256, (a1 : (⟨S8192x256, .bf16⟩ : BufTy).Contents (Elt Ideal))⟩, ⟨S8192x256, (a2 : (⟨S8192x256, .bf16⟩ : BufTy).Contents (Elt Ideal))⟩, ⟨S8192x256, (a3 : (⟨S8192x256, .bf16⟩ : BufTy).Contents (Elt Ideal))⟩] concatenates_S8192x256_S8192x256_S8192x256_S8192x256_S8192x1024_d1

/-- The reference's result. -/
def ref (a0 : Vec Ideal S8192x256 .bf16) (a1 : Vec Ideal S8192x256 .bf16) (a2 : Vec Ideal S8192x256 .bf16) (a3 : Vec Ideal S8192x256 .bf16) (h : Vec Ideal S8192x1024 .bf16) : FVec Ideal S1024x1024 .bf16 :=
  truncf .bf16 (transpose S1024x1024 [1, 0] (Host.dotGeneral dot_S8192x1024_S8192x1024_S1024x1024_0_0_1_1_n_n none (extf .f32 h bitsLt_bf16_f32) (extf .f32 (parts a0 a1 a2 a3) bitsLt_bf16_f32)) transposes_S1024x1024_S1024x1024_1_0) bitsLt_bf16_f32

theorem ref_at (a0 : Vec Ideal S8192x256 .bf16) (a1 : Vec Ideal S8192x256 .bf16) (a2 : Vec Ideal S8192x256 .bf16) (a3 : Vec Ideal S8192x256 .bf16) (h : Vec Ideal S8192x1024 .bf16) (i : Fin 1024) (j : Fin 1024) :
    ref a0 a1 a2 a3 h (ix2 i j) = ∑ r, parts a0 a1 a2 a3 (ix2 r i) * h (ix2 r j) := by
  pointwise [ref]
  all_goals first | rfl | exact Finset.sum_congr rfl fun r _ => mul_comm _ _

theorem parts0 (a0 : Vec Ideal S8192x256 .bf16) (a1 : Vec Ideal S8192x256 .bf16) (a2 : Vec Ideal S8192x256 .bf16) (a3 : Vec Ideal S8192x256 .bf16) (r : Fin 8192) (k : Fin 256) :
    a0 (ix2 r k) = parts a0 a1 a2 a3 (ix2 r ⟨0 + k.val, by omega⟩) :=
  (concatenate_apply_piece (t := S8192x1024) 1 _ _ (ix2 (n1 := 1024) r ⟨0 + k.val, by omega⟩) 0 (by show 0 < 4; omega) S8192x256 a0 rfl rfl 0 rfl (ix2 r k)
    (fun b hb => by
      match b with
      | 0 => rfl
      | 1 => exact absurd rfl hb) rfl).symm

theorem parts1 (a0 : Vec Ideal S8192x256 .bf16) (a1 : Vec Ideal S8192x256 .bf16) (a2 : Vec Ideal S8192x256 .bf16) (a3 : Vec Ideal S8192x256 .bf16) (r : Fin 8192) (k : Fin 256) :
    a1 (ix2 r k) = parts a0 a1 a2 a3 (ix2 r ⟨256 + k.val, by omega⟩) :=
  (concatenate_apply_piece (t := S8192x1024) 1 _ _ (ix2 (n1 := 1024) r ⟨256 + k.val, by omega⟩) 1 (by show 1 < 4; omega) S8192x256 a1 rfl rfl 256 rfl (ix2 r k)
    (fun b hb => by
      match b with
      | 0 => rfl
      | 1 => exact absurd rfl hb) rfl).symm

theorem parts2 (a0 : Vec Ideal S8192x256 .bf16) (a1 : Vec Ideal S8192x256 .bf16) (a2 : Vec Ideal S8192x256 .bf16) (a3 : Vec Ideal S8192x256 .bf16) (r : Fin 8192) (k : Fin 256) :
    a2 (ix2 r k) = parts a0 a1 a2 a3 (ix2 r ⟨512 + k.val, by omega⟩) :=
  (concatenate_apply_piece (t := S8192x1024) 1 _ _ (ix2 (n1 := 1024) r ⟨512 + k.val, by omega⟩) 2 (by show 2 < 4; omega) S8192x256 a2 rfl rfl 512 rfl (ix2 r k)
    (fun b hb => by
      match b with
      | 0 => rfl
      | 1 => exact absurd rfl hb) rfl).symm

theorem parts3 (a0 : Vec Ideal S8192x256 .bf16) (a1 : Vec Ideal S8192x256 .bf16) (a2 : Vec Ideal S8192x256 .bf16) (a3 : Vec Ideal S8192x256 .bf16) (r : Fin 8192) (k : Fin 256) :
    a3 (ix2 r k) = parts a0 a1 a2 a3 (ix2 r ⟨768 + k.val, by omega⟩) :=
  (concatenate_apply_piece (t := S8192x1024) 1 _ _ (ix2 (n1 := 1024) r ⟨768 + k.val, by omega⟩) 3 (by show 3 < 4; omega) S8192x256 a3 rfl rfl 768 rfl (ix2 r k)
    (fun b hb => by
      match b with
      | 0 => rfl
      | 1 => exact absurd rfl hb) rfl).symm

end

theorem frame_p : Cert.quiescent_Kernel9 := fun m ρ _ => Cert.Kernel9.Gen.frame m ρ
theorem frame_pi : Cert.quiescent_Kernel9Ideal := fun m ρ _ => Cert.Kernel9Ideal.Gen.frame m ρ
theorem frame_ri : Cert.quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)

theorem preserves : Cert.preserves_Kernel9_Kernel9Ideal := trivial

theorem algebraic : Cert.algebraic_Kernel9Ideal_Reference9Ideal := by
  intro m ρ m' ρ' _ hag
  refine ⟨_, Cert.Kernel9Ideal.Value.run_blocks (F := Ideal) m ρ, ?_⟩
  refine (θ_run Cert.Reference9Ideal.defs _ _).mono (fun r h c => ?_) (Cert.Reference9Ideal.Value.run (F := Ideal) m' ρ')
  obtain ⟨a0, a1, a2, a3, a4⟩ := hag c
  refine ⟨(h c).1.trans (Eq.trans ?_ (final (P := fun r k => parts (m' ((c.tc : Thread Cert.Reference9Ideal.nD Cert.Reference9Ideal.τ).loc Cert.Reference9Ideal.main_arg0)) (m' ((c.tc : Thread Cert.Reference9Ideal.nD Cert.Reference9Ideal.τ).loc Cert.Reference9Ideal.main_arg1)) (m' ((c.tc : Thread Cert.Reference9Ideal.nD Cert.Reference9Ideal.τ).loc Cert.Reference9Ideal.main_arg2)) (m' ((c.tc : Thread Cert.Reference9Ideal.nD Cert.Reference9Ideal.τ).loc Cert.Reference9Ideal.main_arg3)) (ix2 r k)) (H := fun r k => _)
    ⟨fun r k => (congrFun a0 (ix2 r k)).symm.trans (parts0 _ _ _ _ r k), fun r k => (congrFun a1 (ix2 r k)).symm.trans (parts1 _ _ _ _ r k), fun r k => (congrFun a2 (ix2 r k)).symm.trans (parts2 _ _ _ _ r k), fun r k => (congrFun a3 (ix2 r k)).symm.trans (parts3 _ _ _ _ r k), fun r k => (congrFun a4 (ix2 r k)).symm⟩).symm), (h c).2⟩
  funext y
  obtain ⟨i, j, rfl⟩ : ∃ (i : Fin 1024) (j : Fin 1024), y = ix2 i j := ⟨y 0, y 1, eq_ix2 y⟩
  exact ref_at _ _ _ _ _ i j

end Cert.OutW

end
-- ==== Proof.OutUp.lean ====
/- The output projection with the residual, the norm and the up projection: the three results the call leaves. -/
module

public import proofs.«01_k».proof.Defs
public import proofs.«01_k».proof.Proof.Products
public import proofs.«01_k».proof.Proof.NormReals
public import proofs.«01_k».proof.Proof.UpRef
public import proofs.«01_k».proof.Proof.Gen.Kernel10.Frame
public import proofs.«01_k».proof.Proof.Gen.Kernel10Ideal.Value
public import proofs.«01_k».proof.Proof.Gen.Kernel10Ideal.Frame
public import proofs.«01_k».proof.Proof.Gen.Reference10Ideal.Run
public import Idealize.ShloMosaic.Lib.Pointwise
public import Idealize.ShloMosaic.Lib.Pipeline.ValueKit
public import Idealize.ShloMosaic.Lib.Pipeline.ReadBack
public import Idealize.ShloMosaic.Adequacy
public import Idealize.ShloMosaic.Init

@[expose] public section

set_option maxRecDepth 16384

noncomputable section

namespace Cert.OutUp

open Idealize.ShloMosaic Idealize.SL.Sem Cert.Products Cert.Norm
open TcCoe

/-- The normalised row times the gain. -/
def nrm (g x : Fin 1024 → EReal) (l : Fin 1024) : EReal := x l * rs x * g l

/-- The rows plus the product. -/
def x1 {n : Nat} (P : Fin n → Fin 1024 → EReal) (W : Fin 1024 → Fin 1024 → EReal) (X : Fin n → Fin 1024 → EReal) (r : Fin n) (l : Fin 1024) : EReal :=
  X r l + ∑ k, P r k * W k l

/-- A sum over all columns is the sum over each part's columns. -/
theorem sum_parts (f : Fin 1024 → EReal) :
    ∑ k, f k = ∑ k : Fin 256, f ⟨0 + k.val, by omega⟩ + ∑ k : Fin 256, f ⟨256 + k.val, by omega⟩ + ∑ k : Fin 256, f ⟨512 + k.val, by omega⟩
      + ∑ k : Fin 256, f ⟨768 + k.val, by omega⟩ := by
  refine (show ∑ k, f k = ∑ k : Fin (256 + 256 + 256 + 256), f k from rfl).trans ?_
  simp only [Fin.sum_univ_add]
  refine congrArg₂ (· + ·) (congrArg₂ (· + ·) (congrArg₂ (· + ·) ?_ ?_) ?_) ?_ <;>
    exact Finset.sum_congr rfl fun k _ => congrArg f (Fin.ext (by simp [Nat.add_comm]))

section

open Cert.Kernel10Ideal Cert.Kernel10Ideal.Gen

/-- Which block of its array each window holds at each grid point. -/
theorem idx : ∀ t : Fin cfg0.N, win0_0.index t = ![t.val, 0] ∧ win0_1.index t = ![t.val, 0] ∧ win0_2.index t = ![t.val, 0] ∧ win0_3.index t = ![t.val, 0]
    ∧ win0_4.index t = ![0, 0] ∧ win0_5.index t = ![t.val, 0] ∧ win0_6.index t = ![0, 0] ∧ win0_7.index t = ![0, 0] ∧ win0_8.index t = ![t.val, 0]
    ∧ win0_9.index t = ![t.val, 0] ∧ win0_10.index t = ![t.val, 0] ∧ t.val < 16 :=
  (by decide +kernel : ∀ t : Fin grid0.N, _)

/-- The tile of rows of a grid point. -/
def ti (t : Fin cfg0.N) : Fin 16 := ⟨t.val, by have := idx t; omega⟩

/-- The arguments hold the numbers `P`, by columns, and `W`, `X`, `G` and `U`. -/
structure Given (m : (ℓ : Loc nD τ sig) → Buf (Elt Ideal) ℓ) (c : Dev nD) (P : Fin 8192 → Fin 1024 → EReal) (W : Fin 1024 → Fin 1024 → EReal)
    (X : Fin 8192 → Fin 1024 → EReal) (G : Fin 1024 → EReal) (U : Fin 5632 → Fin 1024 → EReal) : Prop where
  p0 : ∀ r k, (m ((c.tc : Thread nD τ).loc main_arg0) : S8192x256.Idx → EReal) (ix2 r k) = P r ⟨0 + k.val, by omega⟩
  p1 : ∀ r k, (m ((c.tc : Thread nD τ).loc main_arg1) : S8192x256.Idx → EReal) (ix2 r k) = P r ⟨256 + k.val, by omega⟩
  p2 : ∀ r k, (m ((c.tc : Thread nD τ).loc main_arg2) : S8192x256.Idx → EReal) (ix2 r k) = P r ⟨512 + k.val, by omega⟩
  p3 : ∀ r k, (m ((c.tc : Thread nD τ).loc main_arg3) : S8192x256.Idx → EReal) (ix2 r k) = P r ⟨768 + k.val, by omega⟩
  w : ∀ r k, (m ((c.tc : Thread nD τ).loc main_arg4) : S1024x1024.Idx → EReal) (ix2 r k) = W r k
  x : ∀ r k, (m ((c.tc : Thread nD τ).loc main_arg5) : S8192x1024.Idx → EReal) (ix2 r k) = X r k
  g : ∀ l, (m ((c.tc : Thread nD τ).loc main_arg6) : S1024.Idx → EReal) (ix1 l) = G l
  u : ∀ r k, (m ((c.tc : Thread nD τ).loc main_arg7) : S5632x1024.Idx → EReal) (ix2 r k) = U r k

variable {m : (ℓ : Loc nD τ sig) → Buf (Elt Ideal) ℓ} {c : Dev nD} {P : Fin 8192 → Fin 1024 → EReal} {W : Fin 1024 → Fin 1024 → EReal}
    {X : Fin 8192 → Fin 1024 → EReal} {G : Fin 1024 → EReal} {U : Fin 5632 → Fin 1024 → EReal}

/-- The rows of tile `t` of an array. -/
def tile {n : Nat} (A : Fin 8192 → Fin n → EReal) (t : Fin 16) (r : Fin 512) (k : Fin n) : EReal := A (row16 t r) k

theorem i0 (hg : Given m c P W X G U) (t : Fin cfg0.N) (r : Fin 512) (k : Fin 256) :
    (iblk m c 0 t : S512x256.Idx → EReal) (ix2 r k) = tile P (ti t) r ⟨0 + k.val, by omega⟩ := by
  refine Eq.trans ?_ (hg.p0 _ _)
  blk_point [iblk, V, idx t, row16, ti]
theorem i1 (hg : Given m c P W X G U) (t : Fin cfg0.N) (r : Fin 512) (k : Fin 256) :
    (iblk m c 1 t : S512x256.Idx → EReal) (ix2 r k) = tile P (ti t) r ⟨256 + k.val, by omega⟩ := by
  refine Eq.trans ?_ (hg.p1 _ _)
  blk_point [iblk, V, idx t, row16, ti]
theorem i2 (hg : Given m c P W X G U) (t : Fin cfg0.N) (r : Fin 512) (k : Fin 256) :
    (iblk m c 2 t : S512x256.Idx → EReal) (ix2 r k) = tile P (ti t) r ⟨512 + k.val, by omega⟩ := by
  refine Eq.trans ?_ (hg.p2 _ _)
  blk_point [iblk, V, idx t, row16, ti]
theorem i3 (hg : Given m c P W X G U) (t : Fin cfg0.N) (r : Fin 512) (k : Fin 256) :
    (iblk m c 3 t : S512x256.Idx → EReal) (ix2 r k) = tile P (ti t) r ⟨768 + k.val, by omega⟩ := by
  refine Eq.trans ?_ (hg.p3 _ _)
  blk_point [iblk, V, idx t, row16, ti]
theorem i4 (hg : Given m c P W X G U) (t : Fin cfg0.N) (r : Fin 1024) (k : Fin 1024) :
    (iblk m c 4 t : S1024x1024.Idx → EReal) (ix2 r k) = W r k := by
  refine Eq.trans ?_ (hg.w _ _)
  blk_point [iblk, V, idx t]
theorem i5 (hg : Given m c P W X G U) (t : Fin cfg0.N) (r : Fin 512) (k : Fin 1024) :
    (iblk m c 5 t : S512x1024.Idx → EReal) (ix2 r k) = tile X (ti t) r k := by
  refine Eq.trans ?_ (hg.x _ _)
  blk_point [iblk, V, idx t, row16, ti]
theorem i6 (hg : Given m c P W X G U) (t : Fin cfg0.N) (r : Fin 1) (l : Fin 1024) :
    (iblk m c 6 t : S1x1024.Idx → EReal) (ix2 r l) = G l := by
  obtain rfl : r = 0 := Subsingleton.elim _ _
  refine Eq.trans ?_ (hg.g _)
  blk_point [iblk, V, idx t]
theorem i7 (hg : Given m c P W X G U) (t : Fin cfg0.N) (r : Fin 5632) (k : Fin 1024) :
    (iblk m c 7 t : S5632x1024.Idx → EReal) (ix2 r k) = U r k := by
  refine Eq.trans ?_ (hg.u _ _)
  blk_point [iblk, V, idx t]

/-- The blocks read whole, and some of the rows of the weights. -/
theorem ldx {Y : S512x1024.Idx → EReal} {A : Fin 512 → Fin 1024 → EReal} (h : ∀ r k, Y (ix2 r k) = A r k)
    (hb : ∀ a, (![0, 0] : Fin 2 → Nat) a + S512x1024.size a ≤ S512x1024.size a) (r : Fin 512) (k : Fin 1024) :
    View.ld (Val := Elt Ideal) (S := S512x1024) (e' := .f32) Y (Rect.unit (s := S512x1024) ![0, 0] S512x1024.size hb) (ix2 r k : S512x1024.Idx) = A r k :=
  Eq.trans (b := Y (ix2 r k)) (View.ld_unit_apply_of _ _ _ _ _ (ix2 (n0 := 512) r k) fun d => match d with
    | 0 => (Nat.zero_add _).symm
    | 1 => (Nat.zero_add _).symm) (h r k)
theorem ldg {Y : S1x1024.Idx → EReal} {A : Fin 1 → Fin 1024 → EReal} (h : ∀ r k, Y (ix2 r k) = A r k)
    (hb : ∀ a, (![0, 0] : Fin 2 → Nat) a + S1x1024.size a ≤ S1x1024.size a) (r : Fin 1) (k : Fin 1024) :
    View.ld (Val := Elt Ideal) (S := S1x1024) (e' := .f32) Y (Rect.unit (s := S1x1024) ![0, 0] S1x1024.size hb) (ix2 r k : S1x1024.Idx) = A r k :=
  Eq.trans (b := Y (ix2 r k)) (View.ld_unit_apply_of _ _ _ _ _ (ix2 (n0 := 1) r k) fun d => match d with
    | 0 => (Nat.zero_add _).symm
    | 1 => (Nat.zero_add _).symm) (h r k)
theorem ldp {Y : S512x256.Idx → EReal} {A : Fin 512 → Fin 256 → EReal} (h : ∀ r k, Y (ix2 r k) = A r k)
    (hb : ∀ a, (![0, 0] : Fin 2 → Nat) a + S512x256.size a ≤ S512x256.size a) (r : Fin 512) (k : Fin 256) :
    View.ld (Val := Elt Ideal) (S := S512x256) (e' := .bf16) Y (Rect.unit (s := S512x256) ![0, 0] S512x256.size hb) (ix2 r k : S512x256.Idx) = A r k :=
  Eq.trans (b := Y (ix2 r k)) (View.ld_unit_apply_of _ _ _ _ _ (ix2 (n0 := 512) r k) fun d => match d with
    | 0 => (Nat.zero_add _).symm
    | 1 => (Nat.zero_add _).symm) (h r k)
theorem ldw {Y : S1024x1024.Idx → EReal} {A : Fin 1024 → Fin 1024 → EReal} (h : ∀ r k, Y (ix2 r k) = A r k) (o : Nat) (ho : o + 256 ≤ 1024)
    (hb : ∀ a, (![o, 0] : Fin 2 → Nat) a + S256x1024.size a ≤ S1024x1024.size a) (r : Fin 256) (k : Fin 1024) :
    View.ld (Val := Elt Ideal) (S := S1024x1024) (e' := .bf16) Y (Rect.unit (s := S1024x1024) ![o, 0] S256x1024.size hb) (ix2 r k : S256x1024.Idx) = A ⟨o + r.val, by omega⟩ k :=
  Eq.trans (b := Y (ix2 (n0 := 1024) ⟨o + r.val, by omega⟩ k)) (View.ld_unit_apply_of _ _ _ _ _ (ix2 (n0 := 1024) ⟨o + r.val, by omega⟩ k) fun d => match d with
    | 0 => rfl
    | 1 => (Nat.zero_add _).symm) (h _ k)

section

variable {v0 : Vec Ideal S512x1024 .f32} {v1 v5 v9 v13 : Vec Ideal S512x256 .bf16} {v2 v6 v10 v14 : Vec Ideal S256x1024 .bf16} {P X : Fin 512 → Fin 1024 → EReal}
  {W : Fin 1024 → Fin 1024 → EReal}
  (h0 : ∀ r l, v0 (ix2 r l) = X r l) (p0 : ∀ r k, v1 (ix2 r k) = P r ⟨0 + k.val, by omega⟩) (w0 : ∀ k l, v2 (ix2 k l) = W ⟨0 + k.val, by omega⟩ l)
  (p1 : ∀ r k, v5 (ix2 r k) = P r ⟨256 + k.val, by omega⟩) (w1 : ∀ k l, v6 (ix2 k l) = W ⟨256 + k.val, by omega⟩ l)
  (p2 : ∀ r k, v9 (ix2 r k) = P r ⟨512 + k.val, by omega⟩) (w2 : ∀ k l, v10 (ix2 k l) = W ⟨512 + k.val, by omega⟩ l)
  (p3 : ∀ r k, v13 (ix2 r k) = P r ⟨768 + k.val, by omega⟩) (w3 : ∀ k l, v14 (ix2 k l) = W ⟨768 + k.val, by omega⟩ l)
include h0 p0 w0 p1 w1 p2 w2 p3 w3

theorem pay1_at (r : Fin 512) (l : Fin 1024) : k0_pay1 (F := Ideal) v0 v1 v2 v5 v6 v9 v10 v13 v14 (ix2 r l) = x1 P W X r l := by
  refine Eq.trans ?_ (congrArg (X r l + ·) (sum_parts fun k => P r k * W k l).symm)
  pointwise [k0_pay1]
  simp only [h0, p0, w0, p1, w1, p2, w2, p3, w3, Nat.zero_add, add_assoc]

theorem pay2_at (r : Fin 512) (l : Fin 1024) :
    k0_pay2 (F := Ideal) v0 v1 v2 v5 v6 v9 v10 v13 v14 (ix2 r l) = x1 P W X r l * rs (x1 P W X r) := by
  pointwise [k0_pay2]
  simp only [pay1_at h0 p0 w0 p1 w1 p2 w2 p3 w3, ofBits_1024, ofBits_eps]
  rfl

end

theorem pay3_at {a : FVec Ideal S512x1024 .f32} {b : Vec Ideal S1x1024 .f32} {D : Fin 512 → Fin 1024 → EReal} {G : Fin 1024 → EReal}
    (h0 : ∀ r l, a (ix2 r l) = D r l) (h1 : ∀ z l, b (ix2 z l) = G l) (r : Fin 512) (l : Fin 1024) :
    k0_pay3 (F := Ideal) a b (ix2 r l) = D r l * G l := by
  pointwise [k0_pay3]
  simp only [h0, h1]

theorem pay4_at (a : Vec Ideal S512x1024 .f32) (b : Vec Ideal S1x1024 .f32) (v : Vec Ideal S512x1024 .bf16) (r : Fin 512) (l : Fin 512) :
    k0_pay4 (F := Ideal) a b v (ix2 r l) = ∑ k, k0_pay3 (F := Ideal) a b (ix2 r k) * v (ix2 l k) := by pointwise [k0_pay4]
theorem pay5_at (a : Vec Ideal S512x1024 .f32) (b : Vec Ideal S1x1024 .f32) (v : Vec Ideal S512x1024 .bf16) (r : Fin 512) (l : Fin 512) :
    k0_pay5 (F := Ideal) a b v (ix2 r l) = ∑ k, k0_pay3 (F := Ideal) a b (ix2 r k) * v (ix2 l k) := by pointwise [k0_pay5]
theorem pay6_at (a : Vec Ideal S512x1024 .f32) (b : Vec Ideal S1x1024 .f32) (v : Vec Ideal S512x1024 .bf16) (r : Fin 512) (l : Fin 512) :
    k0_pay6 (F := Ideal) a b v (ix2 r l) = ∑ k, k0_pay3 (F := Ideal) a b (ix2 r k) * v (ix2 l k) := by pointwise [k0_pay6]
theorem pay7_at (a : Vec Ideal S512x1024 .f32) (b : Vec Ideal S1x1024 .f32) (v : Vec Ideal S512x1024 .bf16) (r : Fin 512) (l : Fin 512) :
    k0_pay7 (F := Ideal) a b v (ix2 r l) = ∑ k, k0_pay3 (F := Ideal) a b (ix2 r k) * v (ix2 l k) := by pointwise [k0_pay7]
theorem pay8_at (a : Vec Ideal S512x1024 .f32) (b : Vec Ideal S1x1024 .f32) (v : Vec Ideal S512x1024 .bf16) (r : Fin 512) (l : Fin 512) :
    k0_pay8 (F := Ideal) a b v (ix2 r l) = ∑ k, k0_pay3 (F := Ideal) a b (ix2 r k) * v (ix2 l k) := by pointwise [k0_pay8]
theorem pay9_at (a : FVec Ideal S512x1024 .bf16) (v : Vec Ideal S512x1024 .bf16) (r : Fin 512) (l : Fin 512) :
    k0_pay9 (F := Ideal) a v (ix2 r l) = ∑ k, a (ix2 r k) * v (ix2 l k) := by pointwise [k0_pay9]
theorem pay10_at (a : FVec Ideal S512x1024 .bf16) (v : Vec Ideal S512x1024 .bf16) (r : Fin 512) (l : Fin 512) :
    k0_pay10 (F := Ideal) a v (ix2 r l) = ∑ k, a (ix2 r k) * v (ix2 l k) := by pointwise [k0_pay10]
theorem pay11_at (a : FVec Ideal S512x1024 .bf16) (v : Vec Ideal S512x1024 .bf16) (r : Fin 512) (l : Fin 512) :
    k0_pay11 (F := Ideal) a v (ix2 r l) = ∑ k, a (ix2 r k) * v (ix2 l k) := by pointwise [k0_pay11]
theorem pay12_at (a : FVec Ideal S512x1024 .bf16) (v : Vec Ideal S512x1024 .bf16) (r : Fin 512) (l : Fin 512) :
    k0_pay12 (F := Ideal) a v (ix2 r l) = ∑ k, a (ix2 r k) * v (ix2 l k) := by pointwise [k0_pay12]
theorem pay13_at (a : FVec Ideal S512x1024 .bf16) (v : Vec Ideal S512x1024 .bf16) (r : Fin 512) (l : Fin 512) :
    k0_pay13 (F := Ideal) a v (ix2 r l) = ∑ k, a (ix2 r k) * v (ix2 l k) := by pointwise [k0_pay13]
theorem pay14_at (a : FVec Ideal S512x1024 .bf16) (v : Vec Ideal S512x1024 .bf16) (r : Fin 512) (l : Fin 512) :
    k0_pay14 (F := Ideal) a v (ix2 r l) = ∑ k, a (ix2 r k) * v (ix2 l k) := by pointwise [k0_pay14]

theorem h_at (hg : Given m c P W X G U) (t : Fin cfg0.N) (r : Fin 512) (k : Fin 1024) :
    k0_pay16 (F := Ideal) (iblk m c 0 t) (iblk m c 1 t) (iblk m c 2 t) (iblk m c 3 t) (iblk m c 4 t) (iblk m c 5 t) (iblk m c 6 t) (iblk m c 7 t) (ix2 r k) = nrm G (x1 P W X (row16 (ti t) r)) k :=
  pay3_at (pay2_at (ldx (i5 hg t) _) (ldp (A := fun r k => tile P (ti t) r ⟨0 + k.val, by omega⟩) (i0 hg t) _) (ldw (i4 hg t) 0 (by omega) _) (ldp (A := fun r k => tile P (ti t) r ⟨256 + k.val, by omega⟩) (i1 hg t) _) (ldw (i4 hg t) 256 (by omega) _) (ldp (A := fun r k => tile P (ti t) r ⟨512 + k.val, by omega⟩) (i2 hg t) _) (ldw (i4 hg t) 512 (by omega) _) (ldp (A := fun r k => tile P (ti t) r ⟨768 + k.val, by omega⟩) (i3 hg t) _) (ldw (i4 hg t) 768 (by omega) _))
    (ldg (A := fun _ => G) (i6 hg t) _) r k

/-- One stored piece of 512 columns, the first of them column `o`. -/
theorem piece (hg : Given m c P W X G U) (t : Fin cfg0.N) (y : S512x5632.Idx) (r l : Fin 512) (o : Nat)
    (h : ∀ a, (![o, 0] : Fin 2 → Nat) a + S512x1024.size a ≤ S5632x1024.size a) {z : EReal}
    (hz : z = ∑ k : Fin 1024, (k0_pay16 (F := Ideal) (iblk m c 0 t) (iblk m c 1 t) (iblk m c 2 t) (iblk m c 3 t) (iblk m c 4 t) (iblk m c 5 t) (iblk m c 6 t) (iblk m c 7 t) : S512x1024.Idx → EReal) (ix2 r k)
      * (View.ld (Val := Elt Ideal) (S := S5632x1024) (e' := .bf16) (iblk m c 7 t) (Rect.unit (s := S5632x1024) ![o, 0] S512x1024.size h) : S512x1024.Idx → EReal) (ix2 l k))
    (q0 : (y 0).val = r.val) (q1 : (y 1).val = o + l.val) :
    z = ∑ k, nrm G (x1 P W X (row16 (ti t) (y 0))) k * U (y 1) k := by
  obtain rfl : y 0 = r := Fin.ext q0
  have hy : (y 1).val < 5632 := (y 1).isLt
  have e : y 1 = (⟨o + l.val, by omega⟩ : Fin 5632) := Fin.ext q1
  rw [e]
  refine hz.trans (Finset.sum_congr rfl fun k _ => congrArg₂ (· * ·) ?_ ?_)
  · exact h_at hg t _ k
  · refine (View.ld_unit_apply_of _ _ _ _ _ (ix2 (n0 := 5632) ⟨o + l.val, by omega⟩ k) fun d => ?_).trans (i7 hg t _ k)
    match d with
    | 0 => rfl
    | 1 => exact (Nat.zero_add _).symm

theorem out9_at (hg : Given m c P W X G U) (t : Fin cfg0.N) (y : S512x5632.Idx) :
    out0_9 (F := Ideal) (iblk m c 0 t) (iblk m c 1 t) (iblk m c 2 t) (iblk m c 3 t) (iblk m c 4 t) (iblk m c 5 t) (iblk m c 6 t) (iblk m c 7 t) y = ∑ k, nrm G (x1 P W X (row16 (ti t) (y 0))) k * U (y 1) k := by
  unfold out0_9
  canon_tiles x q
  case piece0 =>
    obtain ⟨r, l, rfl⟩ : ∃ (r : Fin 512) (l : Fin 512), x = ix2 r l := ⟨x 0, x 1, eq_ix2 x⟩
    exact piece hg t y r l 5120 _ (pay14_at _ _ r l) q0 q1
  case piece1 =>
    obtain ⟨r, l, rfl⟩ : ∃ (r : Fin 512) (l : Fin 512), x = ix2 r l := ⟨x 0, x 1, eq_ix2 x⟩
    exact piece hg t y r l 4608 _ (pay13_at _ _ r l) q0 q1
  case piece2 =>
    obtain ⟨r, l, rfl⟩ : ∃ (r : Fin 512) (l : Fin 512), x = ix2 r l := ⟨x 0, x 1, eq_ix2 x⟩
    exact piece hg t y r l 4096 _ (pay12_at _ _ r l) q0 q1
  case piece3 =>
    obtain ⟨r, l, rfl⟩ : ∃ (r : Fin 512) (l : Fin 512), x = ix2 r l := ⟨x 0, x 1, eq_ix2 x⟩
    exact piece hg t y r l 3584 _ (pay11_at _ _ r l) q0 q1
  case piece4 =>
    obtain ⟨r, l, rfl⟩ : ∃ (r : Fin 512) (l : Fin 512), x = ix2 r l := ⟨x 0, x 1, eq_ix2 x⟩
    exact piece hg t y r l 3072 _ (pay10_at _ _ r l) q0 q1
  case piece5 =>
    obtain ⟨r, l, rfl⟩ : ∃ (r : Fin 512) (l : Fin 512), x = ix2 r l := ⟨x 0, x 1, eq_ix2 x⟩
    exact piece hg t y r l 2560 _ (pay9_at _ _ r l) q0 q1
  case piece6 =>
    obtain ⟨r, l, rfl⟩ : ∃ (r : Fin 512) (l : Fin 512), x = ix2 r l := ⟨x 0, x 1, eq_ix2 x⟩
    exact piece hg t y r l 2048 _ (pay8_at _ _ _ r l) q0 q1
  case piece7 =>
    obtain ⟨r, l, rfl⟩ : ∃ (r : Fin 512) (l : Fin 512), x = ix2 r l := ⟨x 0, x 1, eq_ix2 x⟩
    exact piece hg t y r l 1536 _ (pay7_at _ _ _ r l) q0 q1
  case piece8 =>
    obtain ⟨r, l, rfl⟩ : ∃ (r : Fin 512) (l : Fin 512), x = ix2 r l := ⟨x 0, x 1, eq_ix2 x⟩
    exact piece hg t y r l 1024 _ (pay6_at _ _ _ r l) q0 q1
  case piece9 =>
    obtain ⟨r, l, rfl⟩ : ∃ (r : Fin 512) (l : Fin 512), x = ix2 r l := ⟨x 0, x 1, eq_ix2 x⟩
    exact piece hg t y r l 512 _ (pay5_at _ _ _ r l) q0 q1
  case piece10 =>
    obtain ⟨r, l, rfl⟩ : ∃ (r : Fin 512) (l : Fin 512), x = ix2 r l := ⟨x 0, x 1, eq_ix2 x⟩
    exact piece hg t y r l 0 _ (pay4_at _ _ _ r l) q0 (q1.trans (Nat.zero_add _).symm)

theorem out8_at (hg : Given m c P W X G U) (t : Fin cfg0.N) (y : S512x1024.Idx) :
    out0_8 (F := Ideal) (iblk m c 0 t) (iblk m c 1 t) (iblk m c 2 t) (iblk m c 3 t) (iblk m c 4 t) (iblk m c 5 t) (iblk m c 6 t) (iblk m c 7 t) y = x1 P W X (row16 (ti t) (y 0)) (y 1) := by
  unfold out0_8
  canon_tiles x q
  case piece0 =>
    obtain ⟨r, l, rfl⟩ : ∃ (r : Fin 512) (l : Fin 1024), x = ix2 r l := ⟨x 0, x 1, eq_ix2 x⟩
    obtain rfl : y 0 = r := Fin.ext q0
    obtain rfl : y 1 = l := Fin.ext q1
    exact pay1_at (ldx (i5 hg t) _) (ldp (A := fun r k => tile P (ti t) r ⟨0 + k.val, by omega⟩) (i0 hg t) _) (ldw (i4 hg t) 0 (by omega) _) (ldp (A := fun r k => tile P (ti t) r ⟨256 + k.val, by omega⟩) (i1 hg t) _) (ldw (i4 hg t) 256 (by omega) _) (ldp (A := fun r k => tile P (ti t) r ⟨512 + k.val, by omega⟩) (i2 hg t) _) (ldw (i4 hg t) 512 (by omega) _) (ldp (A := fun r k => tile P (ti t) r ⟨768 + k.val, by omega⟩) (i3 hg t) _) (ldw (i4 hg t) 768 (by omega) _) _ _

theorem out10_at (hg : Given m c P W X G U) (t : Fin cfg0.N) (y : S512x1024.Idx) :
    out0_10 (F := Ideal) (iblk m c 0 t) (iblk m c 1 t) (iblk m c 2 t) (iblk m c 3 t) (iblk m c 4 t) (iblk m c 5 t) (iblk m c 6 t) (iblk m c 7 t) y = nrm G (x1 P W X (row16 (ti t) (y 0))) (y 1) := by
  unfold out0_10
  canon_tiles x q
  case piece0 =>
    obtain ⟨r, l, rfl⟩ : ∃ (r : Fin 512) (l : Fin 1024), x = ix2 r l := ⟨x 0, x 1, eq_ix2 x⟩
    obtain rfl : y 0 = r := Fin.ext q0
    obtain rfl : y 1 = l := Fin.ext q1
    exact h_at hg t _ _

theorem final8 (hg : Given m c P W X G U) : (dats m 0 c).arrAt 8 cfg0.N = fun y : S8192x1024.Idx => (x1 P W X (y 0) (y 1) : EReal) := by
  refine (dats m 0 c).arrAt_eq_of_covers 8 _ (by decide +kernel) fun t hf y => ?_
  blk_simp
  rw [after0_8]
  obtain ⟨i, j, rfl⟩ : ∃ (i : Fin 512) (j : Fin 1024), y = ix2 i j := ⟨y 0, y 1, eq_ix2 y⟩
  refine (out8_at hg t (ix2 i j)).trans ?_
  have e0 : (win0_8.blk t).view.emb (ix2 i j) 0 = row16 (ti t) i := Fin.ext (by blk_simp [idx t, row16, ti])
  have e1 : (win0_8.blk t).view.emb (ix2 i j) 1 = j := Fin.ext (by blk_simp [idx t])
  rw [e0, e1]
  rfl

theorem final9 (hg : Given m c P W X G U) : (dats m 0 c).arrAt 9 cfg0.N = fun y : S8192x5632.Idx => (∑ k, nrm G (x1 P W X (y 0)) k * U (y 1) k : EReal) := by
  refine (dats m 0 c).arrAt_eq_of_covers 9 _ (by decide +kernel) fun t hf y => ?_
  blk_simp
  rw [after0_9]
  obtain ⟨i, j, rfl⟩ : ∃ (i : Fin 512) (j : Fin 5632), y = ix2 i j := ⟨y 0, y 1, eq_ix2 y⟩
  refine (out9_at hg t (ix2 i j)).trans ?_
  have e0 : (win0_9.blk t).view.emb (ix2 i j) 0 = row16 (ti t) i := Fin.ext (by blk_simp [idx t, row16, ti])
  have e1 : (win0_9.blk t).view.emb (ix2 i j) 1 = j := Fin.ext (by blk_simp [idx t])
  rw [e0, e1]
  rfl

theorem final10 (hg : Given m c P W X G U) : (dats m 0 c).arrAt 10 cfg0.N = fun y : S8192x1024.Idx => (nrm G (x1 P W X (y 0)) (y 1) : EReal) := by
  refine (dats m 0 c).arrAt_eq_of_covers 10 _ (by decide +kernel) fun t hf y => ?_
  blk_simp
  rw [after0_10]
  obtain ⟨i, j, rfl⟩ : ∃ (i : Fin 512) (j : Fin 1024), y = ix2 i j := ⟨y 0, y 1, eq_ix2 y⟩
  refine (out10_at hg t (ix2 i j)).trans ?_
  have e0 : (win0_10.blk t).view.emb (ix2 i j) 0 = row16 (ti t) i := Fin.ext (by blk_simp [idx t, row16, ti])
  have e1 : (win0_10.blk t).view.emb (ix2 i j) 1 = j := Fin.ext (by blk_simp [idx t])
  rw [e0, e1]
  rfl

end

section

open Cert.Reference10Ideal Cert.Reference10Ideal.Gen

/-- The four mixers' outputs side by side. -/
def parts (a0 a1 a2 a3 : Vec Ideal S8192x256 .bf16) : Vec Ideal S8192x1024 .bf16 :=
  concatenate S8192x1024 1 [⟨S8192x256, (a0 : (⟨S8192x256, .bf16⟩ : BufTy).Contents (Elt Ideal))⟩, ⟨S8192x256, (a1 : (⟨S8192x256, .bf16⟩ : BufTy).Contents (Elt Ideal))⟩, ⟨S8192x256, (a2 : (⟨S8192x256, .bf16⟩ : BufTy).Contents (Elt Ideal))⟩, ⟨S8192x256, (a3 : (⟨S8192x256, .bf16⟩ : BufTy).Contents (Elt Ideal))⟩] concatenates_S8192x256_S8192x256_S8192x256_S8192x256_S8192x1024_d1

theorem parts0 (a0 a1 a2 a3 : Vec Ideal S8192x256 .bf16) (r : Fin 8192) (k : Fin 256) :
    a0 (ix2 r k) = parts a0 a1 a2 a3 (ix2 r ⟨0 + k.val, by omega⟩) :=
  (concatenate_apply_piece (t := S8192x1024) 1 _ _ (ix2 (n1 := 1024) r ⟨0 + k.val, by omega⟩) 0 (by show 0 < 4; omega) S8192x256 a0 rfl rfl 0 rfl (ix2 r k)
    (fun b hb => by
      match b with
      | 0 => rfl
      | 1 => exact absurd rfl hb) rfl).symm

theorem parts1 (a0 a1 a2 a3 : Vec Ideal S8192x256 .bf16) (r : Fin 8192) (k : Fin 256) :
    a1 (ix2 r k) = parts a0 a1 a2 a3 (ix2 r ⟨256 + k.val, by omega⟩) :=
  (concatenate_apply_piece (t := S8192x1024) 1 _ _ (ix2 (n1 := 1024) r ⟨256 + k.val, by omega⟩) 1 (by show 1 < 4; omega) S8192x256 a1 rfl rfl 256 rfl (ix2 r k)
    (fun b hb => by
      match b with
      | 0 => rfl
      | 1 => exact absurd rfl hb) rfl).symm

theorem parts2 (a0 a1 a2 a3 : Vec Ideal S8192x256 .bf16) (r : Fin 8192) (k : Fin 256) :
    a2 (ix2 r k) = parts a0 a1 a2 a3 (ix2 r ⟨512 + k.val, by omega⟩) :=
  (concatenate_apply_piece (t := S8192x1024) 1 _ _ (ix2 (n1 := 1024) r ⟨512 + k.val, by omega⟩) 2 (by show 2 < 4; omega) S8192x256 a2 rfl rfl 512 rfl (ix2 r k)
    (fun b hb => by
      match b with
      | 0 => rfl
      | 1 => exact absurd rfl hb) rfl).symm

theorem parts3 (a0 a1 a2 a3 : Vec Ideal S8192x256 .bf16) (r : Fin 8192) (k : Fin 256) :
    a3 (ix2 r k) = parts a0 a1 a2 a3 (ix2 r ⟨768 + k.val, by omega⟩) :=
  (concatenate_apply_piece (t := S8192x1024) 1 _ _ (ix2 (n1 := 1024) r ⟨768 + k.val, by omega⟩) 3 (by show 3 < 4; omega) S8192x256 a3 rfl rfl 768 rfl (ix2 r k)
    (fun b hb => by
      match b with
      | 0 => rfl
      | 1 => exact absurd rfl hb) rfl).symm

/-- The reference's rows after the residual, the normalised rows, and their product with the weights. -/
def refX (p : Vec Ideal S8192x1024 .bf16) (w : Vec Ideal S1024x1024 .bf16) (x : FVec Ideal S8192x1024 .f32) : FVec Ideal S8192x1024 .f32 :=
  addf x (Host.dotGeneral dot_S8192x1024_S1024x1024_S8192x1024_1_0_0_1_n_n none (extf .f32 p bitsLt_bf16_f32) (extf .f32 w bitsLt_bf16_f32))
def refH (x : FVec Ideal S8192x1024 .f32) (g : FVec Ideal S1024 .f32) : FVec Ideal S8192x1024 .f32 := Cert.Up.qu (Cert.Up.qhat x (Cert.Up.qms x)) g
def refU (h : FVec Ideal S8192x1024 .f32) (u : Vec Ideal S5632x1024 .bf16) : FVec Ideal S8192x5632 .bf16 :=
  truncf .bf16 (Host.dotGeneral dot_S8192x1024_S1024x5632_S8192x5632_1_0_0_1_n_n none h (transpose S1024x5632 [1, 0] (extf .f32 u bitsLt_bf16_f32) transposes_S5632x1024_S1024x5632_1_0)) bitsLt_bf16_f32

theorem refX_at (p : Vec Ideal S8192x1024 .bf16) (w : Vec Ideal S1024x1024 .bf16) (x : FVec Ideal S8192x1024 .f32) (r : Fin 8192) (l : Fin 1024) :
    refX p w x (ix2 r l) = x1 (fun r k => p (ix2 r k)) (fun k l => w (ix2 k l)) (fun r l => x (ix2 r l)) r l := by
  pointwise [refX]
  all_goals rfl

theorem refH_at {x : FVec Ideal S8192x1024 .f32} {X : Fin 8192 → Fin 1024 → EReal} (hx : ∀ r l, x (ix2 r l) = X r l) (g : FVec Ideal S1024 .f32) (r : Fin 8192)
    (l : Fin 1024) : refH x g (ix2 r l) = nrm (fun l => g (ix1 l)) (X r) l :=
  Cert.Up.qu_at (D := fun r l => X r l * rs (X r)) (G := fun l => g (ix1 l)) (Cert.Up.qhat_at hx (Cert.Up.qms_at hx)) (fun _ => rfl) r l

theorem refU_at (h : FVec Ideal S8192x1024 .f32) (u : Vec Ideal S5632x1024 .bf16) (i : Fin 8192) (j : Fin 5632) :
    refU h u (ix2 i j) = ∑ k, h (ix2 i k) * u (ix2 j k) := by
  pointwise [refU]

end

theorem frame_p : Cert.quiescent_Kernel10 := fun m ρ _ => Cert.Kernel10.Gen.frame m ρ
theorem frame_pi : Cert.quiescent_Kernel10Ideal := fun m ρ _ => Cert.Kernel10Ideal.Gen.frame m ρ
theorem frame_ri : Cert.quiescent_Reference10Ideal := fun m ρ _ =>
  (θ_run Cert.Reference10Ideal.defs _ _).mono (fun r h => ⟨fun c => (h c).2.2.2, sem_eq_zero_of_no_sems (by decide) r.2⟩)
    (Cert.Reference10Ideal.Value.run (F := Ideal) m ρ)

theorem preserves : Cert.preserves_Kernel10_Kernel10Ideal := trivial

theorem algebraic : Cert.algebraic_Kernel10Ideal_Reference10Ideal := by
  intro m ρ m' ρ' _ hag
  refine ⟨_, _, _, Cert.Kernel10Ideal.Value.run_blocks (F := Ideal) m ρ, ?_⟩
  refine (θ_run Cert.Reference10Ideal.defs _ _).mono (fun r h c => ?_) (Cert.Reference10Ideal.Value.run (F := Ideal) m' ρ')
  obtain ⟨a0, a1, a2, a3, a4, a5, a6, a7⟩ := hag c
  have hg : Given m c (fun r k => parts (m' (c.tc.loc Cert.Reference10Ideal.main_arg0)) (m' (c.tc.loc Cert.Reference10Ideal.main_arg1)) (m' (c.tc.loc Cert.Reference10Ideal.main_arg2)) (m' (c.tc.loc Cert.Reference10Ideal.main_arg3)) (ix2 r k)) _ _ _ _ := ⟨fun r k => (congrFun a0 (ix2 r k)).symm.trans (parts0 (m' (c.tc.loc Cert.Reference10Ideal.main_arg0)) (m' (c.tc.loc Cert.Reference10Ideal.main_arg1)) (m' (c.tc.loc Cert.Reference10Ideal.main_arg2)) (m' (c.tc.loc Cert.Reference10Ideal.main_arg3)) r k), fun r k => (congrFun a1 (ix2 r k)).symm.trans (parts1 (m' (c.tc.loc Cert.Reference10Ideal.main_arg0)) (m' (c.tc.loc Cert.Reference10Ideal.main_arg1)) (m' (c.tc.loc Cert.Reference10Ideal.main_arg2)) (m' (c.tc.loc Cert.Reference10Ideal.main_arg3)) r k), fun r k => (congrFun a2 (ix2 r k)).symm.trans (parts2 (m' (c.tc.loc Cert.Reference10Ideal.main_arg0)) (m' (c.tc.loc Cert.Reference10Ideal.main_arg1)) (m' (c.tc.loc Cert.Reference10Ideal.main_arg2)) (m' (c.tc.loc Cert.Reference10Ideal.main_arg3)) r k), fun r k => (congrFun a3 (ix2 r k)).symm.trans (parts3 (m' (c.tc.loc Cert.Reference10Ideal.main_arg0)) (m' (c.tc.loc Cert.Reference10Ideal.main_arg1)) (m' (c.tc.loc Cert.Reference10Ideal.main_arg2)) (m' (c.tc.loc Cert.Reference10Ideal.main_arg3)) r k),
    fun r k => (congrFun a4 (ix2 r k)).symm, fun r k => (congrFun a5 (ix2 r k)).symm, fun l => (congrFun a6 (ix1 l)).symm, fun r k => (congrFun a7 (ix2 r k)).symm⟩
  refine ⟨(h c).1.trans (Eq.trans ?_ (final8 hg).symm), (h c).2.1.trans (Eq.trans ?_ (final9 hg).symm), (h c).2.2.1.trans (Eq.trans ?_ (final10 hg).symm), (h c).2.2.2⟩
  · funext y
    obtain ⟨i, j, rfl⟩ : ∃ (i : Fin 8192) (j : Fin 1024), y = ix2 i j := ⟨y 0, y 1, eq_ix2 y⟩
    exact refX_at (parts _ _ _ _) _ _ i j
  · funext y
    obtain ⟨i, j, rfl⟩ : ∃ (i : Fin 8192) (j : Fin 5632), y = ix2 i j := ⟨y 0, y 1, eq_ix2 y⟩
    refine (refU_at (refH (refX (parts _ _ _ _) _ _) _) _ i j).trans (Finset.sum_congr rfl fun k _ => congrArg₂ (· * ·) ?_ rfl)
    exact refH_at (refX_at (parts _ _ _ _) _ _) _ i k
  · funext y
    obtain ⟨i, j, rfl⟩ : ∃ (i : Fin 8192) (j : Fin 1024), y = ix2 i j := ⟨y 0, y 1, eq_ix2 y⟩
    exact refH_at (refX_at (parts _ _ _ _) _ _) _ i j

end Cert.OutUp

end
-- ==== Proof.InFwd.lean ====
/- The norm and the input projection: what the call leaves is the normalised rows and their product with the weights. -/
module

public import proofs.«01_k».proof.Defs
public import proofs.«01_k».proof.Proof.Products
public import proofs.«01_k».proof.Proof.NormReals
public import proofs.«01_k».proof.Proof.UpRef
public import proofs.«01_k».proof.Proof.Gen.Kernel11.Frame
public import proofs.«01_k».proof.Proof.Gen.Kernel11Ideal.Value
public import proofs.«01_k».proof.Proof.Gen.Kernel11Ideal.Frame
public import proofs.«01_k».proof.Proof.Gen.Reference11Ideal.Run
public import Idealize.ShloMosaic.Lib.Pointwise
public import Idealize.ShloMosaic.Lib.Pipeline.ValueKit
public import Idealize.ShloMosaic.Lib.Pipeline.ReadBack
public import Idealize.ShloMosaic.Adequacy
public import Idealize.ShloMosaic.Init

@[expose] public section

set_option maxRecDepth 16384

noncomputable section

namespace Cert.InFwd

open Idealize.ShloMosaic Idealize.SL.Sem Cert.Products Cert.Norm
open TcCoe

/-- The normalised row times the gain. -/
def nrm (g x : Fin 1024 → EReal) (l : Fin 1024) : EReal := x l * rs x * g l

section

open Cert.Kernel11Ideal Cert.Kernel11Ideal.Gen

/-- Which block of its array each window holds at each grid point. -/
theorem idx : ∀ t : Fin cfg0.N, win0_0.index t = ![t.val, 0] ∧ win0_1.index t = ![0, 0] ∧ win0_2.index t = ![0, 0] ∧ win0_3.index t = ![t.val, 0]
    ∧ win0_4.index t = ![t.val, 0] ∧ t.val < 16 :=
  (by decide +kernel : ∀ t : Fin grid0.N, _)

/-- The tile of rows of a grid point. -/
def ti (t : Fin cfg0.N) : Fin 16 := ⟨t.val, by have := idx t; omega⟩

/-- The arguments hold the numbers `X`, `G` and `U`. -/
structure Given (m : (ℓ : Loc nD τ sig) → Buf (Elt Ideal) ℓ) (c : Dev nD) (X : Fin 8192 → Fin 1024 → EReal) (G : Fin 1024 → EReal)
    (U : Fin 2560 → Fin 1024 → EReal) : Prop where
  x : ∀ r k, (m ((c.tc : Thread nD τ).loc main_arg0) : S8192x1024.Idx → EReal) (ix2 r k) = X r k
  g : ∀ l, (m ((c.tc : Thread nD τ).loc main_arg1) : S1024.Idx → EReal) (ix1 l) = G l
  u : ∀ r k, (m ((c.tc : Thread nD τ).loc main_arg2) : S2560x1024.Idx → EReal) (ix2 r k) = U r k

variable {m : (ℓ : Loc nD τ sig) → Buf (Elt Ideal) ℓ} {c : Dev nD} {X : Fin 8192 → Fin 1024 → EReal} {G : Fin 1024 → EReal}
    {U : Fin 2560 → Fin 1024 → EReal}

/-- The rows of tile `t` of an array. -/
def tile {n : Nat} (A : Fin 8192 → Fin n → EReal) (t : Fin 16) (r : Fin 512) (k : Fin n) : EReal := A (row16 t r) k

theorem i0 (hg : Given m c X G U) (t : Fin cfg0.N) (r : Fin 512) (k : Fin 1024) :
    (iblk m c 0 t : S512x1024.Idx → EReal) (ix2 r k) = tile X (ti t) r k := by
  refine Eq.trans ?_ (hg.x _ _)
  blk_point [iblk, V, idx t, row16, ti]
theorem i1 (hg : Given m c X G U) (t : Fin cfg0.N) (r : Fin 1) (l : Fin 1024) :
    (iblk m c 1 t : S1x1024.Idx → EReal) (ix2 r l) = G l := by
  obtain rfl : r = 0 := Subsingleton.elim _ _
  refine Eq.trans ?_ (hg.g _)
  blk_point [iblk, V, idx t]
theorem i2 (hg : Given m c X G U) (t : Fin cfg0.N) (r : Fin 2560) (k : Fin 1024) :
    (iblk m c 2 t : S2560x1024.Idx → EReal) (ix2 r k) = U r k := by
  refine Eq.trans ?_ (hg.u _ _)
  blk_point [iblk, V, idx t]

/-- The blocks read whole. -/
theorem ldx {Y : S512x1024.Idx → EReal} {A : Fin 512 → Fin 1024 → EReal} (h : ∀ r k, Y (ix2 r k) = A r k)
    (hb : ∀ a, (![0, 0] : Fin 2 → Nat) a + S512x1024.size a ≤ S512x1024.size a) (r : Fin 512) (k : Fin 1024) :
    View.ld (Val := Elt Ideal) (S := S512x1024) (e' := .f32) Y (Rect.unit (s := S512x1024) ![0, 0] S512x1024.size hb) (ix2 r k : S512x1024.Idx) = A r k :=
  Eq.trans (b := Y (ix2 r k)) (View.ld_unit_apply_of _ _ _ _ _ (ix2 (n0 := 512) r k) fun d => match d with
    | 0 => (Nat.zero_add _).symm
    | 1 => (Nat.zero_add _).symm) (h r k)
theorem ldg {Y : S1x1024.Idx → EReal} {A : Fin 1 → Fin 1024 → EReal} (h : ∀ r k, Y (ix2 r k) = A r k)
    (hb : ∀ a, (![0, 0] : Fin 2 → Nat) a + S1x1024.size a ≤ S1x1024.size a) (r : Fin 1) (k : Fin 1024) :
    View.ld (Val := Elt Ideal) (S := S1x1024) (e' := .f32) Y (Rect.unit (s := S1x1024) ![0, 0] S1x1024.size hb) (ix2 r k : S1x1024.Idx) = A r k :=
  Eq.trans (b := Y (ix2 r k)) (View.ld_unit_apply_of _ _ _ _ _ (ix2 (n0 := 1) r k) fun d => match d with
    | 0 => (Nat.zero_add _).symm
    | 1 => (Nat.zero_add _).symm) (h r k)

theorem pay3_at {v0 : Vec Ideal S512x1024 .f32} {v11 : Vec Ideal S1x1024 .f32} {X : Fin 512 → Fin 1024 → EReal} {G : Fin 1024 → EReal}
    (h0 : ∀ r l, v0 (ix2 r l) = X r l) (h1 : ∀ z l, v11 (ix2 z l) = G l) (r : Fin 512) (l : Fin 1024) :
    k0_pay3 (F := Ideal) v0 v11 (ix2 r l) = nrm G (X r) l := by
  pointwise [k0_pay3]
  simp only [h0, h1, ofBits_1024, ofBits_eps]
  rfl

theorem pay4_at (a : Vec Ideal S512x1024 .f32) (b : Vec Ideal S1x1024 .f32) (v : Vec Ideal S512x1024 .bf16) (r : Fin 512) (l : Fin 512) :
    k0_pay4 (F := Ideal) a b v (ix2 r l) = ∑ k, k0_pay3 (F := Ideal) a b (ix2 r k) * v (ix2 l k) := by pointwise [k0_pay4]
theorem pay5_at (a : Vec Ideal S512x1024 .f32) (b : Vec Ideal S1x1024 .f32) (v : Vec Ideal S512x1024 .bf16) (r : Fin 512) (l : Fin 512) :
    k0_pay5 (F := Ideal) a b v (ix2 r l) = ∑ k, k0_pay3 (F := Ideal) a b (ix2 r k) * v (ix2 l k) := by pointwise [k0_pay5]
theorem pay6_at (a : Vec Ideal S512x1024 .f32) (b : Vec Ideal S1x1024 .f32) (v : Vec Ideal S512x1024 .bf16) (r : Fin 512) (l : Fin 512) :
    k0_pay6 (F := Ideal) a b v (ix2 r l) = ∑ k, k0_pay3 (F := Ideal) a b (ix2 r k) * v (ix2 l k) := by pointwise [k0_pay6]
theorem pay1_at (a : FVec Ideal S512x1024 .bf16) (v : Vec Ideal S512x1024 .bf16) (r : Fin 512) (l : Fin 512) :
    k0_pay1 (F := Ideal) a v (ix2 r l) = ∑ k, a (ix2 r k) * v (ix2 l k) := by pointwise [k0_pay1]
theorem pay2_at (a : FVec Ideal S512x1024 .bf16) (v : Vec Ideal S512x1024 .bf16) (r : Fin 512) (l : Fin 512) :
    k0_pay2 (F := Ideal) a v (ix2 r l) = ∑ k, a (ix2 r k) * v (ix2 l k) := by pointwise [k0_pay2]

theorem h_at (hg : Given m c X G U) (t : Fin cfg0.N) (r : Fin 512) (k : Fin 1024) :
    k0_pay7 (F := Ideal) (iblk m c 0 t) (iblk m c 1 t) (iblk m c 2 t) (ix2 r k) = nrm G (X (row16 (ti t) r)) k :=
  pay3_at (ldx (i0 hg t) _) (ldg (A := fun _ => G) (i1 hg t) _) r k

/-- One stored piece of 512 columns, the first of them column `o`. -/
theorem piece (hg : Given m c X G U) (t : Fin cfg0.N) (y : S512x2560.Idx) (r l : Fin 512) (o : Nat)
    (h : ∀ a, (![o, 0] : Fin 2 → Nat) a + S512x1024.size a ≤ S2560x1024.size a) {z : EReal}
    (hz : z = ∑ k : Fin 1024, (k0_pay7 (F := Ideal) (iblk m c 0 t) (iblk m c 1 t) (iblk m c 2 t) : S512x1024.Idx → EReal) (ix2 r k)
      * (View.ld (Val := Elt Ideal) (S := S2560x1024) (e' := .bf16) (iblk m c 2 t) (Rect.unit (s := S2560x1024) ![o, 0] S512x1024.size h) : S512x1024.Idx → EReal) (ix2 l k))
    (q0 : (y 0).val = r.val) (q1 : (y 1).val = o + l.val) :
    z = ∑ k, nrm G (X (row16 (ti t) (y 0))) k * U (y 1) k := by
  obtain rfl : y 0 = r := Fin.ext q0
  have hy : (y 1).val < 2560 := (y 1).isLt
  have e : y 1 = (⟨o + l.val, by omega⟩ : Fin 2560) := Fin.ext q1
  rw [e]
  refine hz.trans (Finset.sum_congr rfl fun k _ => congrArg₂ (· * ·) ?_ ?_)
  · exact h_at hg t _ k
  · refine (View.ld_unit_apply_of _ _ _ _ _ (ix2 (n0 := 2560) ⟨o + l.val, by omega⟩ k) fun d => ?_).trans (i2 hg t _ k)
    match d with
    | 0 => rfl
    | 1 => exact (Nat.zero_add _).symm

theorem out_at (hg : Given m c X G U) (t : Fin cfg0.N) (y : S512x2560.Idx) :
    out0_3 (F := Ideal) (iblk m c 0 t) (iblk m c 1 t) (iblk m c 2 t) y = ∑ k, nrm G (X (row16 (ti t) (y 0))) k * U (y 1) k := by
  unfold out0_3
  canon_tiles x q
  case piece0 =>
    obtain ⟨r, l, rfl⟩ : ∃ (r : Fin 512) (l : Fin 512), x = ix2 r l := ⟨x 0, x 1, eq_ix2 x⟩
    exact piece hg t y r l 2048 _ (pay2_at _ _ r l) q0 q1
  case piece1 =>
    obtain ⟨r, l, rfl⟩ : ∃ (r : Fin 512) (l : Fin 512), x = ix2 r l := ⟨x 0, x 1, eq_ix2 x⟩
    exact piece hg t y r l 1536 _ (pay1_at _ _ r l) q0 q1
  case piece2 =>
    obtain ⟨r, l, rfl⟩ : ∃ (r : Fin 512) (l : Fin 512), x = ix2 r l := ⟨x 0, x 1, eq_ix2 x⟩
    exact piece hg t y r l 1024 _ (pay6_at _ _ _ r l) q0 q1
  case piece3 =>
    obtain ⟨r, l, rfl⟩ : ∃ (r : Fin 512) (l : Fin 512), x = ix2 r l := ⟨x 0, x 1, eq_ix2 x⟩
    exact piece hg t y r l 512 _ (pay5_at _ _ _ r l) q0 q1
  case piece4 =>
    obtain ⟨r, l, rfl⟩ : ∃ (r : Fin 512) (l : Fin 512), x = ix2 r l := ⟨x 0, x 1, eq_ix2 x⟩
    exact piece hg t y r l 0 _ (pay4_at _ _ _ r l) q0 (q1.trans (Nat.zero_add _).symm)

theorem out4_at (hg : Given m c X G U) (t : Fin cfg0.N) (y : S512x1024.Idx) :
    out0_4 (F := Ideal) (iblk m c 0 t) (iblk m c 1 t) (iblk m c 2 t) y = nrm G (X (row16 (ti t) (y 0))) (y 1) := by
  unfold out0_4
  canon_tiles x q
  case piece0 =>
    obtain ⟨r, l, rfl⟩ : ∃ (r : Fin 512) (l : Fin 1024), x = ix2 r l := ⟨x 0, x 1, eq_ix2 x⟩
    obtain rfl : y 0 = r := Fin.ext q0
    obtain rfl : y 1 = l := Fin.ext q1
    exact h_at hg t _ _

theorem final3 (hg : Given m c X G U) : (dats m 0 c).arrAt 3 cfg0.N = fun y : S8192x2560.Idx => (∑ k, nrm G (X (y 0)) k * U (y 1) k : EReal) := by
  refine (dats m 0 c).arrAt_eq_of_covers 3 _ (by decide +kernel) fun t hf y => ?_
  blk_simp
  rw [after0_3]
  obtain ⟨i, j, rfl⟩ : ∃ (i : Fin 512) (j : Fin 2560), y = ix2 i j := ⟨y 0, y 1, eq_ix2 y⟩
  refine (out_at hg t (ix2 i j)).trans ?_
  have e0 : (win0_3.blk t).view.emb (ix2 i j) 0 = row16 (ti t) i := Fin.ext (by blk_simp [idx t, row16, ti])
  have e1 : (win0_3.blk t).view.emb (ix2 i j) 1 = j := Fin.ext (by blk_simp [idx t])
  rw [e0, e1]
  rfl

theorem final4 (hg : Given m c X G U) : (dats m 0 c).arrAt 4 cfg0.N = fun y : S8192x1024.Idx => (nrm G (X (y 0)) (y 1) : EReal) := by
  refine (dats m 0 c).arrAt_eq_of_covers 4 _ (by decide +kernel) fun t hf y => ?_
  blk_simp
  rw [after0_4]
  obtain ⟨i, j, rfl⟩ : ∃ (i : Fin 512) (j : Fin 1024), y = ix2 i j := ⟨y 0, y 1, eq_ix2 y⟩
  refine (out4_at hg t (ix2 i j)).trans ?_
  have e0 : (win0_4.blk t).view.emb (ix2 i j) 0 = row16 (ti t) i := Fin.ext (by blk_simp [idx t, row16, ti])
  have e1 : (win0_4.blk t).view.emb (ix2 i j) 1 = j := Fin.ext (by blk_simp [idx t])
  rw [e0, e1]
  rfl

end

section

open Cert.Reference11Ideal Cert.Reference11Ideal.Gen

/-- The reference's normalised rows, and their product with the weights. -/
def refH (x : FVec Ideal S8192x1024 .f32) (g : FVec Ideal S1024 .f32) : FVec Ideal S8192x1024 .f32 := Cert.Up.qu (Cert.Up.qhat x (Cert.Up.qms x)) g
def refU (h : FVec Ideal S8192x1024 .f32) (u : Vec Ideal S2560x1024 .bf16) : FVec Ideal S8192x2560 .bf16 :=
  truncf .bf16 (Host.dotGeneral dot_S8192x1024_S1024x2560_S8192x2560_1_0_0_1_n_n none h (transpose S1024x2560 [1, 0] (extf .f32 u bitsLt_bf16_f32) transposes_S2560x1024_S1024x2560_1_0)) bitsLt_bf16_f32

theorem refH_at (x : FVec Ideal S8192x1024 .f32) (g : FVec Ideal S1024 .f32) (r : Fin 8192) (l : Fin 1024) :
    refH x g (ix2 r l) = nrm (fun l => g (ix1 l)) (fun l => x (ix2 r l)) l :=
  Cert.Up.qu_at (D := fun r l => x (ix2 r l) * rs fun l => x (ix2 r l)) (G := fun l => g (ix1 l))
    (Cert.Up.qhat_at (X := fun r l => x (ix2 r l)) (fun _ _ => rfl) (Cert.Up.qms_at fun _ _ => rfl)) (fun _ => rfl) r l

theorem refU_at (h : FVec Ideal S8192x1024 .f32) (u : Vec Ideal S2560x1024 .bf16) (i : Fin 8192) (j : Fin 2560) :
    refU h u (ix2 i j) = ∑ k, h (ix2 i k) * u (ix2 j k) := by
  pointwise [refU]

end

theorem frame_p : Cert.quiescent_Kernel11 := fun m ρ _ => Cert.Kernel11.Gen.frame m ρ
theorem frame_pi : Cert.quiescent_Kernel11Ideal := fun m ρ _ => Cert.Kernel11Ideal.Gen.frame m ρ
theorem frame_ri : Cert.quiescent_Reference11Ideal := fun m ρ _ =>
  (θ_run Cert.Reference11Ideal.defs _ _).mono (fun r h => ⟨fun c => (h c).2.2, sem_eq_zero_of_no_sems (by decide) r.2⟩)
    (Cert.Reference11Ideal.Value.run (F := Ideal) m ρ)

theorem preserves : Cert.preserves_Kernel11_Kernel11Ideal := trivial

theorem algebraic : Cert.algebraic_Kernel11Ideal_Reference11Ideal := by
  intro m ρ m' ρ' _ hag
  refine ⟨_, _, Cert.Kernel11Ideal.Value.run_blocks (F := Ideal) m ρ, ?_⟩
  refine (θ_run Cert.Reference11Ideal.defs _ _).mono (fun r h c => ?_) (Cert.Reference11Ideal.Value.run (F := Ideal) m' ρ')
  obtain ⟨a0, a1, a2⟩ := hag c
  have hg : Given m c _ _ _ := ⟨fun r k => (congrFun a0 (ix2 r k)).symm, fun l => (congrFun a1 (ix1 l)).symm, fun r k => (congrFun a2 (ix2 r k)).symm⟩
  refine ⟨(h c).1.trans (Eq.trans ?_ (final3 hg).symm), (h c).2.1.trans (Eq.trans ?_ (final4 hg).symm), (h c).2.2⟩
  · funext y
    obtain ⟨i, j, rfl⟩ : ∃ (i : Fin 8192) (j : Fin 2560), y = ix2 i j := ⟨y 0, y 1, eq_ix2 y⟩
    refine (refU_at (refH _ _) _ i j).trans (Finset.sum_congr rfl fun k _ => congrArg₂ (· * ·) ?_ rfl)
    exact refH_at _ _ i k
  · funext y
    obtain ⟨i, j, rfl⟩ : ∃ (i : Fin 8192) (j : Fin 1024), y = ix2 i j := ⟨y 0, y 1, eq_ix2 y⟩
    exact refH_at _ _ i j

end Cert.InFwd

end
-- ==== Proof.DownFwd.lean ====
/- The down projection with the residual: what the call leaves is the rows plus the product with the weights. -/
module

public import proofs.«01_k».proof.Defs
public import proofs.«01_k».proof.Proof.Products
public import proofs.«01_k».proof.Proof.Gen.Kernel12.Frame
public import proofs.«01_k».proof.Proof.Gen.Kernel12Ideal.Value
public import proofs.«01_k».proof.Proof.Gen.Kernel12Ideal.Frame
public import proofs.«01_k».proof.Proof.Gen.Reference12Ideal.Run
public import Idealize.ShloMosaic.Lib.Pointwise
public import Idealize.ShloMosaic.Lib.Pipeline.ValueKit
public import Idealize.ShloMosaic.Lib.Pipeline.ReadBack
public import Idealize.ShloMosaic.Adequacy
public import Idealize.ShloMosaic.Init

@[expose] public section

set_option maxRecDepth 16384

noncomputable section

namespace Cert.DownFwd

open Idealize.ShloMosaic Idealize.SL.Sem Cert.Products
open TcCoe

/-- The rows plus the product. -/
def out {n : Nat} (A : Fin n → Fin 2816 → EReal) (W : Fin 2816 → Fin 1024 → EReal) (X : Fin n → Fin 1024 → EReal) (r : Fin n) (l : Fin 1024) : EReal :=
  X r l + ∑ k, A r k * W k l

section

open Cert.Kernel12Ideal Cert.Kernel12Ideal.Gen

/-- Which block of its array each window holds at each grid point. -/
theorem idx : ∀ t : Fin cfg0.N, win0_0.index t = ![t.val, 0] ∧ win0_1.index t = ![0, 0] ∧ win0_2.index t = ![t.val, 0] ∧ win0_3.index t = ![t.val, 0] ∧ t.val < 16 :=
  (by decide +kernel : ∀ t : Fin grid0.N, _)

/-- The tile of rows of a grid point. -/
def ti (t : Fin cfg0.N) : Fin 16 := ⟨t.val, by have := idx t; omega⟩

/-- The arguments hold the numbers `A`, `W` and `X`. -/
structure Given (m : (ℓ : Loc nD τ sig) → Buf (Elt Ideal) ℓ) (c : Dev nD) (A : Fin 8192 → Fin 2816 → EReal) (W : Fin 2816 → Fin 1024 → EReal)
    (X : Fin 8192 → Fin 1024 → EReal) : Prop where
  a : ∀ r k, (m ((c.tc : Thread nD τ).loc main_arg0) : S8192x2816.Idx → EReal) (ix2 r k) = A r k
  w : ∀ r k, (m ((c.tc : Thread nD τ).loc main_arg1) : S2816x1024.Idx → EReal) (ix2 r k) = W r k
  x : ∀ r k, (m ((c.tc : Thread nD τ).loc main_arg2) : S8192x1024.Idx → EReal) (ix2 r k) = X r k

variable {m : (ℓ : Loc nD τ sig) → Buf (Elt Ideal) ℓ} {c : Dev nD} {A : Fin 8192 → Fin 2816 → EReal} {W : Fin 2816 → Fin 1024 → EReal}
    {X : Fin 8192 → Fin 1024 → EReal}

/-- The rows of tile `t` of an array. -/
def tile {n : Nat} (A : Fin 8192 → Fin n → EReal) (t : Fin 16) (r : Fin 512) (k : Fin n) : EReal := A (row16 t r) k

theorem i0 (hg : Given m c A W X) (t : Fin cfg0.N) (r : Fin 512) (k : Fin 2816) :
    (iblk m c 0 t : S512x2816.Idx → EReal) (ix2 r k) = tile A (ti t) r k := by
  refine Eq.trans ?_ (hg.a _ _)
  blk_point [iblk, V, idx t, row16, ti]
theorem i1 (hg : Given m c A W X) (t : Fin cfg0.N) (r : Fin 2816) (k : Fin 1024) :
    (iblk m c 1 t : S2816x1024.Idx → EReal) (ix2 r k) = W r k := by
  refine Eq.trans ?_ (hg.w _ _)
  blk_point [iblk, V, idx t]
theorem i2 (hg : Given m c A W X) (t : Fin cfg0.N) (r : Fin 512) (k : Fin 1024) :
    (iblk m c 2 t : S512x1024.Idx → EReal) (ix2 r k) = tile X (ti t) r k := by
  refine Eq.trans ?_ (hg.x _ _)
  blk_point [iblk, V, idx t, row16, ti]

/-- The blocks read whole. -/
theorem ldx {Y : S512x1024.Idx → EReal} {A : Fin 512 → Fin 1024 → EReal} (h : ∀ r k, Y (ix2 r k) = A r k)
    (hb : ∀ a, (![0, 0] : Fin 2 → Nat) a + S512x1024.size a ≤ S512x1024.size a) (r : Fin 512) (k : Fin 1024) :
    View.ld (Val := Elt Ideal) (S := S512x1024) (e' := .f32) Y (Rect.unit (s := S512x1024) ![0, 0] S512x1024.size hb) (ix2 r k : S512x1024.Idx) = A r k :=
  Eq.trans (b := Y (ix2 r k)) (View.ld_unit_apply_of _ _ _ _ _ (ix2 (n0 := 512) r k) fun d => match d with
    | 0 => (Nat.zero_add _).symm
    | 1 => (Nat.zero_add _).symm) (h r k)
theorem lda {Y : S512x2816.Idx → EReal} {A : Fin 512 → Fin 2816 → EReal} (h : ∀ r k, Y (ix2 r k) = A r k)
    (hb : ∀ a, (![0, 0] : Fin 2 → Nat) a + S512x2816.size a ≤ S512x2816.size a) (r : Fin 512) (k : Fin 2816) :
    View.ld (Val := Elt Ideal) (S := S512x2816) (e' := .bf16) Y (Rect.unit (s := S512x2816) ![0, 0] S512x2816.size hb) (ix2 r k : S512x2816.Idx) = A r k :=
  Eq.trans (b := Y (ix2 r k)) (View.ld_unit_apply_of _ _ _ _ _ (ix2 (n0 := 512) r k) fun d => match d with
    | 0 => (Nat.zero_add _).symm
    | 1 => (Nat.zero_add _).symm) (h r k)
theorem ldw {Y : S2816x1024.Idx → EReal} {A : Fin 2816 → Fin 1024 → EReal} (h : ∀ r k, Y (ix2 r k) = A r k)
    (hb : ∀ a, (![0, 0] : Fin 2 → Nat) a + S2816x1024.size a ≤ S2816x1024.size a) (r : Fin 2816) (k : Fin 1024) :
    View.ld (Val := Elt Ideal) (S := S2816x1024) (e' := .bf16) Y (Rect.unit (s := S2816x1024) ![0, 0] S2816x1024.size hb) (ix2 r k : S2816x1024.Idx) = A r k :=
  Eq.trans (b := Y (ix2 r k)) (View.ld_unit_apply_of _ _ _ _ _ (ix2 (n0 := 2816) r k) fun d => match d with
    | 0 => (Nat.zero_add _).symm
    | 1 => (Nat.zero_add _).symm) (h r k)

theorem pay1_at {v0 : Vec Ideal S512x1024 .f32} {v1 : Vec Ideal S512x2816 .bf16} {v2 : Vec Ideal S2816x1024 .bf16} {A : Fin 512 → Fin 2816 → EReal}
    {W : Fin 2816 → Fin 1024 → EReal} {X : Fin 512 → Fin 1024 → EReal} (h0 : ∀ r l, v0 (ix2 r l) = X r l) (h1 : ∀ r k, v1 (ix2 r k) = A r k)
    (h2 : ∀ k l, v2 (ix2 k l) = W k l) (r : Fin 512) (l : Fin 1024) : k0_pay1 (F := Ideal) v0 v1 v2 (ix2 r l) = out A W X r l := by
  pointwise [k0_pay1]
  simp only [h0, h1, h2]
  rfl

theorem out_at (hg : Given m c A W X) (t : Fin cfg0.N) (y : S512x1024.Idx) :
    out0_3 (F := Ideal) (iblk m c 0 t) (iblk m c 1 t) (iblk m c 2 t) y = out A W X (row16 (ti t) (y 0)) (y 1) := by
  unfold out0_3
  canon_tiles x q
  case piece0 =>
    obtain ⟨r, l, rfl⟩ : ∃ (r : Fin 512) (l : Fin 1024), x = ix2 r l := ⟨x 0, x 1, eq_ix2 x⟩
    obtain rfl : y 0 = r := Fin.ext q0
    obtain rfl : y 1 = l := Fin.ext q1
    exact pay1_at (ldx (i2 hg t) _) (lda (i0 hg t) _) (ldw (i1 hg t) _) _ _

theorem final3 (hg : Given m c A W X) : (dats m 0 c).arrAt 3 cfg0.N = fun y : S8192x1024.Idx => (out A W X (y 0) (y 1) : EReal) := by
  refine (dats m 0 c).arrAt_eq_of_covers 3 _ (by decide +kernel) fun t hf y => ?_
  blk_simp
  rw [after0_3]
  obtain ⟨i, j, rfl⟩ : ∃ (i : Fin 512) (j : Fin 1024), y = ix2 i j := ⟨y 0, y 1, eq_ix2 y⟩
  refine (out_at hg t (ix2 i j)).trans ?_
  have e0 : (win0_3.blk t).view.emb (ix2 i j) 0 = row16 (ti t) i := Fin.ext (by blk_simp [idx t, row16, ti])
  have e1 : (win0_3.blk t).view.emb (ix2 i j) 1 = j := Fin.ext (by blk_simp [idx t])
  rw [e0, e1]
  rfl

end

section

open Cert.Reference12Ideal Cert.Reference12Ideal.Gen

/-- The reference's result. -/
def ref (a : Vec Ideal S8192x2816 .bf16) (w : Vec Ideal S2816x1024 .bf16) (x : FVec Ideal S8192x1024 .f32) : FVec Ideal S8192x1024 .f32 :=
  addf x (Host.dotGeneral dot_S8192x2816_S2816x1024_S8192x1024_1_0_0_1_n_n none (extf .f32 a bitsLt_bf16_f32) (extf .f32 w bitsLt_bf16_f32))

theorem ref_at (a : Vec Ideal S8192x2816 .bf16) (w : Vec Ideal S2816x1024 .bf16) (x : FVec Ideal S8192x1024 .f32) (i : Fin 8192) (j : Fin 1024) :
    ref a w x (ix2 i j) = x (ix2 i j) + ∑ k, a (ix2 i k) * w (ix2 k j) := by
  pointwise [ref]

end

theorem frame_p : Cert.quiescent_Kernel12 := fun m ρ _ => Cert.Kernel12.Gen.frame m ρ
theorem frame_pi : Cert.quiescent_Kernel12Ideal := fun m ρ _ => Cert.Kernel12Ideal.Gen.frame m ρ
theorem frame_ri : Cert.quiescent_Reference12Ideal := fun m ρ _ =>
  (θ_run Cert.Reference12Ideal.defs _ _).mono (fun r h => ⟨fun c => (h c).2, sem_eq_zero_of_no_sems (by decide) r.2⟩)
    (Cert.Reference12Ideal.Value.run (F := Ideal) m ρ)

theorem preserves : Cert.preserves_Kernel12_Kernel12Ideal := trivial

theorem algebraic : Cert.algebraic_Kernel12Ideal_Reference12Ideal := by
  intro m ρ m' ρ' _ hag
  refine ⟨_, Cert.Kernel12Ideal.Value.run_blocks (F := Ideal) m ρ, ?_⟩
  refine (θ_run Cert.Reference12Ideal.defs _ _).mono (fun r h c => ?_) (Cert.Reference12Ideal.Value.run (F := Ideal) m' ρ')
  obtain ⟨a0, a1, a2⟩ := hag c
  refine ⟨(h c).1.trans (Eq.trans ?_ (final3 (A := fun r k => _) (W := fun r k => _) (X := fun r k => _)
    ⟨fun r k => (congrFun a0 (ix2 r k)).symm, fun r k => (congrFun a1 (ix2 r k)).symm, fun r k => (congrFun a2 (ix2 r k)).symm⟩).symm), (h c).2⟩
  funext y
  obtain ⟨i, j, rfl⟩ : ∃ (i : Fin 8192) (j : Fin 1024), y = ix2 i j := ⟨y 0, y 1, eq_ix2 y⟩
  exact ref_at _ _ _ i j

end Cert.DownFwd

end
-- ==== Proof.Loss.lean ====
/- The last down projection, the last norm and the loss: the loss and its gradient, at every value of the arguments. -/
module

public import proofs.«01_k».proof.Defs
public import proofs.«01_k».proof.Proof.Gen.Kernel13.Frame
public import proofs.«01_k».proof.Proof.Gen.Kernel13Ideal.Frame
public import proofs.«01_k».proof.Proof.Gen.Kernel13Ideal.Value
public import proofs.«01_k».proof.Proof.Gen.Reference13Ideal.Run
public import proofs.«01_k».proof.Proof.UpRef
public import Idealize.ShloMosaic.Lib.Pointwise
public import Idealize.ShloMosaic.Lib.Pipeline.ValueKit
public import Idealize.ShloMosaic.Lib.Pipeline.ReadBack
public import Idealize.ShloMosaic.Adequacy
public import Idealize.ShloMosaic.Init

@[expose] public section

set_option maxRecDepth 16384

noncomputable section

namespace Cert.Loss

open Idealize.ShloMosaic Idealize.SL.Sem Cert.Norm
open TcCoe

/-! The rows, the errors and the numbers under them. -/

section

variable {n : Nat} (A : Fin n → Fin 2816 → EReal) (W : Fin 2816 → Fin 1024 → EReal) (X Y : Fin n → Fin 1024 → EReal) (G : Fin 1024 → EReal)

/-- The rows after the down projection. -/
def xs (r : Fin n) (l : Fin 1024) : EReal := X r l + ∑ k, A r k * W k l

/-- The normalised rows. -/
def xn (r : Fin n) (l : Fin 1024) : EReal := xs A W X r l * rs (xs A W X r)

/-- The normalised rows times the gain, less the target. -/
def er (r : Fin n) (l : Fin 1024) : EReal := xn A W X r l * G l - Y r l

/-- The cotangent of the normalised rows times the gain. -/
def dy (r : Fin n) (l : Fin 1024) : EReal := er A W X Y G r l * ((1 / 1024 : ℝ) : EReal)

/-- The gradient of the rows. -/
def dx (r : Fin n) (l : Fin 1024) : EReal := dn G (xs A W X r) (dy A W X Y G r) l

end

/-- Row `r` of tile `t`. -/
def row (t : Fin 16) (r : Fin 512) : Fin 8192 := ⟨t.val * 512 + r.val, by omega⟩

/-- All rows, as the rows of each tile. -/
theorem sum_tile (f : Fin 8192 → EReal) : ∑ r, f r = ∑ t : Fin 16, ∑ r : Fin 512, f (row t r) := by
  rw [← Fintype.sum_prod_type']
  refine (Fintype.sum_equiv (finProdFinEquiv (m := 16) (n := 512)) _ _ fun k => congrArg f (Fin.ext ?_)).symm
  simp only [finProdFinEquiv, Equiv.coe_fn_mk, row]; omega

/-- One tile's part of the gradient of the gain. -/
def dgT (A : Fin 8192 → Fin 2816 → EReal) (W : Fin 2816 → Fin 1024 → EReal) (X Y : Fin 8192 → Fin 1024 → EReal) (G : Fin 1024 → EReal)
    (t : Fin 16) (l : Fin 1024) : EReal :=
  ∑ r, dy A W X Y G (row t r) l * xn A W X (row t r) l

/-- One tile's part of the loss. -/
def lossT (A : Fin 8192 → Fin 2816 → EReal) (W : Fin 2816 → Fin 1024 → EReal) (X Y : Fin 8192 → Fin 1024 → EReal) (G : Fin 1024 → EReal)
    (t : Fin 16) : EReal :=
  ((1 / 2048 : ℝ) : EReal) * ∑ r, ∑ l, er A W X Y G (row t r) l * er A W X Y G (row t r) l

theorem ofBits_1024th : Ideal.ofBits .f32 0x3A800000#32 = ((1 / 1024 : ℝ) : EReal) := by
  simp [Ideal.ofBits, Ideal.ieee, -EReal.coe_mul]; norm_num
theorem ofBits_2048th : Ideal.ofBits .f32 0x3A000000#32 = ((1 / 2048 : ℝ) : EReal) := by
  simp [Ideal.ofBits, Ideal.ieee, -EReal.coe_mul]; norm_num
theorem ofBits_half : Ideal.ofBits .f32 0x3F000000#32 = ((1 / 2 : ℝ) : EReal) := by
  simp [Ideal.ofBits, Ideal.ieee, -EReal.coe_mul]; norm_num
theorem ofBits_two : Ideal.ofBits .f32 0x40000000#32 = ((2 : ℝ) : EReal) := by
  simp [Ideal.ofBits, Ideal.ieee, -EReal.coe_mul]; norm_num

/-- Half of 1/1024, times twice an error. -/
theorem scale (e : EReal) : Ideal.div ((1 / 2 : ℝ) : EReal) ((1024 : ℝ) : EReal) * (((2 : ℝ) : EReal) * e)
    = e * ((1 / 1024 : ℝ) : EReal) := by
  rw [div_1024, ← EReal.coe_mul, ← mul_assoc, ← EReal.coe_mul, mul_comm]
  congr 2; norm_num

/-! What the kernel computes. -/

section

open Cert.Kernel13Ideal Cert.Kernel13Ideal.Gen

section

variable {v0 v19 : Vec Ideal S512x1024 .f32} {v1 : Vec Ideal S512x2816 .bf16} {v2 : Vec Ideal S2816x1024 .bf16} {v15 v23 : Vec Ideal S1x1024 .f32}
  {A : Fin 512 → Fin 2816 → EReal} {W : Fin 2816 → Fin 1024 → EReal} {X Y : Fin 512 → Fin 1024 → EReal} {G : Fin 1024 → EReal}

theorem pay6_at (h0 : ∀ r l, v0 (ix2 r l) = X r l) (h1 : ∀ r k, v1 (ix2 r k) = A r k) (h2 : ∀ k l, v2 (ix2 k l) = W k l)
    (r : Fin 512) (l : Fin 1024) : k0_pay6 (F := Ideal) v0 v1 v2 (ix2 r l) = xs A W X r l := by
  pointwise [k0_pay6]
  simp only [h0, h1, h2]
  rfl

theorem pay7_at (h0 : ∀ r l, v0 (ix2 r l) = X r l) (h1 : ∀ r k, v1 (ix2 r k) = A r k) (h2 : ∀ k l, v2 (ix2 k l) = W k l)
    (r : Fin 512) : k0_pay7 (F := Ideal) v0 v1 v2 (ix2 r 0) = rs (xs A W X r) := by
  pointwise [k0_pay7]
  simp only [pay6_at h0 h1 h2, ofBits_1024, ofBits_eps]
  rfl

theorem pay8_at (h0 : ∀ r l, v0 (ix2 r l) = X r l) (h1 : ∀ r k, v1 (ix2 r k) = A r k) (h2 : ∀ k l, v2 (ix2 k l) = W k l)
    (r : Fin 512) (l : Fin 1024) : k0_pay8 (F := Ideal) v0 v1 v2 (ix2 r l) = xn A W X r l := by
  pointwise [k0_pay8]
  simp only [pay6_at h0 h1 h2, pay7_at h0 h1 h2]
  rfl

theorem pay9_at (h0 : ∀ r l, v0 (ix2 r l) = X r l) (h1 : ∀ r k, v1 (ix2 r k) = A r k) (h2 : ∀ k l, v2 (ix2 k l) = W k l)
    (h15 : ∀ l, v15 (ix2 0 l) = G l) (h19 : ∀ r l, v19 (ix2 r l) = Y r l)
    (r : Fin 512) (l : Fin 1024) : k0_pay9 (F := Ideal) v0 v1 v2 v15 v19 (ix2 r l) = er A W X Y G r l := by
  pointwise [k0_pay9]
  simp only [pay8_at h0 h1 h2, h15, h19]
  rfl

theorem pay10_at (h0 : ∀ r l, v0 (ix2 r l) = X r l) (h1 : ∀ r k, v1 (ix2 r k) = A r k) (h2 : ∀ k l, v2 (ix2 k l) = W k l)
    (h15 : ∀ l, v15 (ix2 0 l) = G l) (h19 : ∀ r l, v19 (ix2 r l) = Y r l)
    (r : Fin 512) (l : Fin 1024) : k0_pay10 (F := Ideal) v0 v1 v2 v15 v19 (ix2 r l) = dy A W X Y G r l := by
  pointwise [k0_pay10]
  simp only [pay9_at h0 h1 h2 h15 h19, ofBits_1024th]
  rfl

theorem pay11_at (h0 : ∀ r l, v0 (ix2 r l) = X r l) (h1 : ∀ r k, v1 (ix2 r k) = A r k) (h2 : ∀ k l, v2 (ix2 k l) = W k l)
    (h15 : ∀ l, v15 (ix2 0 l) = G l) (h19 : ∀ r l, v19 (ix2 r l) = Y r l) (h23 : ∀ l, v23 (ix2 0 l) = G l)
    (r : Fin 512) (l : Fin 1024) : k0_pay11 (F := Ideal) v0 v1 v2 v15 v19 v23 (ix2 r l) = dx A W X Y G r l := by
  pointwise [k0_pay11]
  simp only [pay10_at h0 h1 h2 h15 h19, pay8_at h0 h1 h2, pay7_at h0 h1 h2, h23, ofBits_1024]
  rfl

theorem pay4_at {v14 v22 : FVec Ideal S512x1024 .f32} {D N : Fin 512 → Fin 1024 → EReal} (h14 : ∀ r l, v14 (ix2 r l) = N r l)
    (h22 : ∀ r l, v22 (ix2 r l) = D r l) (v43 : Vec Ideal S1x1024 .f32) (l : Fin 1024) :
    k0_pay4 (F := Ideal) v14 v22 v43 (ix2 0 l) = v43 (ix2 0 l) + ∑ r, D r l * N r l := by
  pointwise [k0_pay4]
  simp only [h14, h22]

theorem pay5_at {v20 : FVec Ideal S512x1024 .f32} {D : Fin 512 → Fin 1024 → EReal} (h20 : ∀ r l, v20 (ix2 r l) = D r l)
    (v50 : Vec Ideal S1x1 .f32) :
    k0_pay5 (F := Ideal) v20 v50 (ix2 0 0) = v50 (ix2 0 0) + ((1 / 2048 : ℝ) : EReal) * ∑ r, ∑ l, D r l * D r l := by
  pointwise [k0_pay5]
  simp only [h20, ofBits_2048th]

theorem pay2_at (y : S1x1024.Idx) : k0_pay2 (F := Ideal) y = (0 : EReal) := by pointwise [k0_pay2]
theorem pay3_at (y : S1x1.Idx) : k0_pay3 (F := Ideal) y = (0 : EReal) := by pointwise [k0_pay3]

end

/-- Which block of its array each window holds at each grid point. -/
theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] ∧ win0_6.index t = ![t.val, 0] ∧ t.val < 16 :=
  (by decide +kernel : ∀ t : Fin grid0.N, _)

/-- The arguments hold the numbers `A`, `W`, `X`, `G` and `Y`. -/
structure Given (m : (ℓ : Loc nD τ sig) → Buf (Elt Ideal) ℓ) (c : Dev nD) (A : Fin 8192 → Fin 2816 → EReal) (W : Fin 2816 → Fin 1024 → EReal)
    (X Y : Fin 8192 → Fin 1024 → EReal) (G : Fin 1024 → EReal) : Prop where
  a : ∀ r k, (m ((c.tc : Thread nD τ).loc main_arg0) : S8192x2816.Idx → EReal) (ix2 r k) = A r k
  w : ∀ k l, (m ((c.tc : Thread nD τ).loc main_arg1) : S2816x1024.Idx → EReal) (ix2 k l) = W k l
  x : ∀ r l, (m ((c.tc : Thread nD τ).loc main_arg2) : S8192x1024.Idx → EReal) (ix2 r l) = X r l
  g : ∀ l, (m ((c.tc : Thread nD τ).loc main_arg3) : S1024.Idx → EReal) (ix1 l) = G l
  y : ∀ r l, (m ((c.tc : Thread nD τ).loc main_arg4) : S8192x1024.Idx → EReal) (ix2 r l) = Y r l

variable {m : (ℓ : Loc nD τ sig) → Buf (Elt Ideal) ℓ} {c : Dev nD} {A : Fin 8192 → Fin 2816 → EReal} {W : Fin 2816 → Fin 1024 → EReal}
    {X Y : Fin 8192 → Fin 1024 → EReal} {G : Fin 1024 → EReal}

/-- The rows of tile `t` of an array. -/
def tile {n : Nat} (A : Fin 8192 → Fin n → EReal) (t : Fin 16) (r : Fin 512) (k : Fin n) : EReal := A (row t r) k

theorem i0 (hg : Given m c A W X Y G) (t : Fin cfg0.N) (r : Fin 512) (k : Fin 2816) :
    (iblk m c 0 t : S512x2816.Idx → EReal) (ix2 r k) = tile A t r k := by
  refine Eq.trans ?_ (hg.a _ _)
  blk_point [iblk, V, idx t, row]
theorem i1 (hg : Given m c A W X Y G) (t : Fin cfg0.N) (k : Fin 2816) (l : Fin 1024) :
    (iblk m c 1 t : S2816x1024.Idx → EReal) (ix2 k l) = W k l := by
  refine Eq.trans ?_ (hg.w _ _)
  blk_point [iblk, V, idx t]
theorem i2 (hg : Given m c A W X Y G) (t : Fin cfg0.N) (r : Fin 512) (l : Fin 1024) :
    (iblk m c 2 t : S512x1024.Idx → EReal) (ix2 r l) = tile X t r l := by
  refine Eq.trans ?_ (hg.x _ _)
  blk_point [iblk, V, idx t, row]
theorem i3 (hg : Given m c A W X Y G) (t : Fin cfg0.N) (l : Fin 1024) :
    (iblk m c 3 t : S1x1024.Idx → EReal) (ix2 0 l) = G l := by
  refine Eq.trans ?_ (hg.g _)
  blk_point [iblk, V, idx t]
theorem i4 (hg : Given m c A W X Y G) (t : Fin cfg0.N) (r : Fin 512) (l : Fin 1024) :
    (iblk m c 4 t : S512x1024.Idx → EReal) (ix2 r l) = tile Y t r l := by
  refine Eq.trans ?_ (hg.y _ _)
  blk_point [iblk, V, idx t, row]

theorem point5 (hg : Given m c A W X Y G) (t : Fin cfg0.N) (r : Fin 512) (l : Fin 1024) :
    (outsAt0 m c t.val t.isLt).1 (ix2 r l) = dx A W X Y G (row t r) l := by
  by_cases h : t.val % 16 = 0
  on_goal 1 => rw [outsAt0_A m c t h]
  on_goal 2 => rw [outsAt0_B m c t h]
  all_goals
    frame_out
    exact pay11_at (i2 hg t) (i0 hg t) (i1 hg t) (i3 hg t) (i4 hg t) (i3 hg t) r l

theorem point6 (hg : Given m c A W X Y G) (t : Fin cfg0.N) (r : Fin 512) (l : Fin 1024) :
    (outsAt0 m c t.val t.isLt).2.1 (ix2 r l) = dx A W X Y G (row t r) l := by
  by_cases h : t.val % 16 = 0
  on_goal 1 => rw [outsAt0_A m c t h]
  on_goal 2 => rw [outsAt0_B m c t h]
  all_goals
    frame_out
    exact pay11_at (i2 hg t) (i0 hg t) (i1 hg t) (i3 hg t) (i4 hg t) (i3 hg t) r l

theorem final5 (hg : Given m c A W X Y G) : (dats m 0 c).arrAt 5 cfg0.N
    = fun y : S8192x1024.Idx => (dx A W X Y G (y 0) (y 1) : EReal) := by
  refine (dats m 0 c).arrAt_eq_of_covers 5 _ (by decide +kernel) fun t hf y => ?_
  blk_simp
  rw [after0_5]
  obtain ⟨r, l, rfl⟩ : ∃ (r : Fin 512) (l : Fin 1024), y = ix2 r l := ⟨y 0, y 1, eq_ix2 y⟩
  rw [point5 hg]
  have e0 : (win0_5.blk t).view.emb (ix2 r l) 0 = row t r := Fin.ext (by blk_simp [idx t, row])
  have e1 : (win0_5.blk t).view.emb (ix2 r l) 1 = l := Fin.ext (by blk_simp [idx t])
  rw [e0, e1]

theorem final6 (hg : Given m c A W X Y G) : (dats m 0 c).arrAt 6 cfg0.N
    = fun y : S8192x1024.Idx => (dx A W X Y G (y 0) (y 1) : EReal) := by
  refine (dats m 0 c).arrAt_eq_of_covers 6 _ (by decide +kernel) fun t hf y => ?_
  blk_simp
  rw [after0_6]
  obtain ⟨r, l, rfl⟩ : ∃ (r : Fin 512) (l : Fin 1024), y = ix2 r l := ⟨y 0, y 1, eq_ix2 y⟩
  rw [point6 hg]
  have e0 : (win0_6.blk t).view.emb (ix2 r l) 0 = row t r := Fin.ext (by blk_simp [idx t, row])
  have e1 : (win0_6.blk t).view.emb (ix2 r l) 1 = l := Fin.ext (by blk_simp [idx t])
  rw [e0, e1]

theorem eq_one_row (j : S1x1024.Idx) : ∃ l : Fin 1024, j = ix2 (0 : Fin 1) l := by
  refine ⟨j 1, (eq_ix2 j).trans ?_⟩
  congr 1
  exact Subsingleton.elim (α := Fin 1) _ _

theorem eq_one (j : S1x1.Idx) : j = ix2 (0 : Fin 1) (0 : Fin 1) :=
  (eq_ix2 j).trans (congrArg₂ ix2 (Subsingleton.elim (α := Fin 1) _ _) (Subsingleton.elim (α := Fin 1) _ _))

theorem final7 (hg : Given m c A W X Y G) : (dats m 0 c).arrAt 7 cfg0.N
    = fun y : S1x1024.Idx => (∑ t, dgT A W X Y G t (y 1) : EReal) := by
  refine (dats m 0 c).arrAt_eq_of_after_last 7 t0_15 (by decide +kernel) _ fun j => ?_
  blk_simp
  rw [after0_7, Pipeline.eq_sum_fin_of_reset_step_apply_last (fun n h => (outsAt0 m c n h).2.2.1) 16 (fun _ => 0)
    (fun t y => (dgT A W X Y G t (y 1) : EReal))
    (fun t h j => by
      obtain ⟨l, rfl⟩ := eq_one_row j
      rw [outsAt0_A m c t h]
      frame_open
      simp (disch := decide) only [↓ View.readCov_skip, ↓ View.readCov_cons_toLoadRect, ↓ View.readCov_fill]
      frame_out
      refine Eq.trans (pay4_at (pay8_at (i2 hg t) (i0 hg t) (i1 hg t)) (pay10_at (i2 hg t) (i0 hg t) (i1 hg t) (i3 hg t) (i4 hg t)) _ _) ?_
      rw [pay2_at]; rfl)
    (fun t h j => by
      obtain ⟨l, rfl⟩ := eq_one_row j
      rw [outsAt0_B m c t h]
      frame_out
      exact pay4_at (pay8_at (i2 hg t) (i0 hg t) (i1 hg t)) (pay10_at (i2 hg t) (i0 hg t) (i1 hg t) (i3 hg t) (i4 hg t)) _ _)
    (le_of_eq N_0) t0_15 rfl j, zero_add]
  rfl

theorem final8 (hg : Given m c A W X Y G) : (dats m 0 c).arrAt 8 cfg0.N
    = fun _ : S1x1.Idx => (∑ t, lossT A W X Y G t : EReal) := by
  refine (dats m 0 c).arrAt_eq_of_after_last 8 t0_15 (by decide +kernel) _ fun j => ?_
  blk_simp
  rw [after0_8, Pipeline.eq_sum_fin_of_reset_step_apply_last (fun n h => (outsAt0 m c n h).2.2.2) 16 (fun _ => 0)
    (fun t _ => (lossT A W X Y G t : EReal))
    (fun t h j => by
      obtain rfl := eq_one j
      rw [outsAt0_A m c t h]
      frame_open
      simp (disch := decide) only [↓ View.readCov_skip, ↓ View.readCov_cons_toLoadRect, ↓ View.readCov_fill]
      frame_out
      refine Eq.trans (pay5_at (pay9_at (i2 hg t) (i0 hg t) (i1 hg t) (i3 hg t) (i4 hg t)) _) ?_
      rw [pay3_at]; rfl)
    (fun t h j => by
      obtain rfl := eq_one j
      rw [outsAt0_B m c t h]
      frame_out
      exact pay5_at (pay9_at (i2 hg t) (i0 hg t) (i1 hg t) (i3 hg t) (i4 hg t)) _)
    (le_of_eq N_0) t0_15 rfl j, zero_add]
  rfl

end

/-! What the reference computes. -/

section

open Cert.Reference13Ideal Cert.Reference13Ideal.Gen

/-- The rows after the down projection. -/
def qx (a : Vec Ideal S8192x2816 .bf16) (w : Vec Ideal S2816x1024 .bf16) (x : FVec Ideal S8192x1024 .f32) : FVec Ideal S8192x1024 .f32 :=
  addf x (Host.dotGeneral dot_S8192x2816_S2816x1024_S8192x1024_1_0_0_1_n_n none (extf .f32 a bitsLt_bf16_f32) (extf .f32 w bitsLt_bf16_f32))

/-- The errors. -/
def qe (h : FVec Ideal S8192x1024 .f32) (g : FVec Ideal S1024 .f32) (y : FVec Ideal S8192x1024 .f32) : FVec Ideal S8192x1024 .f32 :=
  subf (Cert.Up.qu h g) y

/-- The cotangent of the normalised rows times the gain. -/
def qd (e : FVec Ideal S8192x1024 .f32) : FVec Ideal S8192x1024 .f32 :=
  mulf (broadcastInDim S8192x1024 ![0] bcast_S8192_S8192x1024_0 (Host.divf (broadcastInDim S8192 ![] bcast_S_S8192 (mulf (constant S_ .f32 0x3F000000#32) (constant S_ .f32 0x3F800000#32)))
    (broadcastInDim S8192 ![] bcast_S_S8192 (constant S_ .f32 0x44800000#32)))) (mulf (broadcastInDim S8192x1024 ![] bcast_S_S8192x1024 (constant S_ .f32 0x40000000#32)) e)

/-- The gradient of the rows. -/
def qg (x u k : FVec Ideal S8192x1024 .f32) (v : FVec Ideal S8192x1 .f32) : FVec Ideal S8192x1024 .f32 :=
  addf (addf (mulf u (broadcastInDim S8192x1024 ![0, 1] bcast_S8192x1_S8192x1024_0_1 (Host.rsqrt v))) (mulf x k)) (mulf k x)

/-- The loss. -/
def ql (e : FVec Ideal S8192x1024 .f32) : FVec Ideal S1x1 .f32 :=
  broadcastInDim S1x1 ![] bcast_S_S1x1 (mulf (constant S_ .f32 0x3F000000#32) (Host.reduceAdd (Host.divf (Host.reduceAdd (mulf e e) (constant S_ .f32 0x00000000#32) reducesTo_S8192x1024_S8192_d1 h_S_)
    (broadcastInDim S8192 ![] bcast_S_S8192 (constant S_ .f32 0x44800000#32))) (constant S_ .f32 0x00000000#32) reducesTo_S8192_S_d0 h_S_))

section

variable {x y u k e h : FVec Ideal S8192x1024 .f32} {v : FVec Ideal S8192x1 .f32} {g : FVec Ideal S1024 .f32} {X D E : Fin 8192 → Fin 1024 → EReal} {G : Fin 1024 → EReal}

theorem qx_at {a : Vec Ideal S8192x2816 .bf16} {w : Vec Ideal S2816x1024 .bf16} {A : Fin 8192 → Fin 2816 → EReal} {W : Fin 2816 → Fin 1024 → EReal}
    (ha : ∀ r k, a (ix2 r k) = A r k) (hw : ∀ k l, w (ix2 k l) = W k l) (hx : ∀ r l, x (ix2 r l) = X r l) (r : Fin 8192) (l : Fin 1024) :
    qx a w x (ix2 r l) = xs A W X r l := by
  pointwise [qx]
  simp only [ha, hw, hx]
  rfl

theorem qe_at {N Y : Fin 8192 → Fin 1024 → EReal} (hh : ∀ r l, h (ix2 r l) = N r l) (hg : ∀ l, g (ix1 l) = G l) (hy : ∀ r l, y (ix2 r l) = Y r l)
    (r : Fin 8192) (l : Fin 1024) : qe h g y (ix2 r l) = N r l * G l - Y r l := by
  pointwise [qe]
  rw [Cert.Up.qu_at hh hg, hy]

theorem qd_at (he : ∀ r l, e (ix2 r l) = E r l) (r : Fin 8192) (l : Fin 1024) : qd e (ix2 r l) = E r l * ((1 / 1024 : ℝ) : EReal) := by
  pointwise [qd]
  simp only [he, ofBits_half, ofBits_two, ofBits_1024]
  exact scale _

theorem qg_at (hx : ∀ r l, x (ix2 r l) = X r l) (hu : ∀ r l, u (ix2 r l) = D r l * G l)
    (hk : ∀ r l, k (ix2 r l) = kr G (X r) (D r)) (hv : ∀ r z, v (ix2 r z) = ms (X r)) (i : Fin 8192) (l : Fin 1024) :
    qg x u k v (ix2 i l) = dn G (X i) (D i) l := by
  pointwise [qg]
  simp only [hx, hu, hk, hv]
  have := dn_eq G (X i) (D i) l 0
  rw [zero_add, zero_add] at this
  exact this

theorem ql_at (he : ∀ r l, e (ix2 r l) = E r l) : ql e (ix2 0 0) = ∑ t, ((1 / 2048 : ℝ) : EReal) * ∑ r, ∑ l, E (row t r) l * E (row t r) l := by
  pointwise [ql]
  simp only [he, ofBits_half, ofBits_1024, div_1024]
  rw [sum_tile, mul_sum_real _ (by norm_num)]
  refine Finset.sum_congr rfl fun t _ => ?_
  rw [mul_sum_real _ (by norm_num), mul_sum_real _ (by norm_num)]
  refine Finset.sum_congr rfl fun r _ => ?_
  rw [mul_comm (∑ l, _), ← mul_assoc, ← EReal.coe_mul]
  congr 2; norm_num

end

section

variable (m : (ℓ : Loc nD τ sig) → Buf (Elt Ideal) ℓ) (c : Dev nD)

/-- The stages at the arguments. -/
def aX : FVec Ideal S8192x1024 .f32 := qx (m ((c.tc : Thread nD τ).loc main_arg0)) (m ((c.tc : Thread nD τ).loc main_arg1)) (m ((c.tc : Thread nD τ).loc main_arg2))
def aV : FVec Ideal S8192x1 .f32 := Cert.Up.qms (aX m c)
def aH : FVec Ideal S8192x1024 .f32 := Cert.Up.qhat (aX m c) (aV m c)
def aE : FVec Ideal S8192x1024 .f32 := qe (aH m c) (m ((c.tc : Thread nD τ).loc main_arg3)) (m ((c.tc : Thread nD τ).loc main_arg4))
def aD : FVec Ideal S8192x1024 .f32 := qd (aE m c)
def aU : FVec Ideal S8192x1024 .f32 := Cert.Up.qu (aD m c) (m ((c.tc : Thread nD τ).loc main_arg3))
def aK : FVec Ideal S8192x1024 .f32 := Cert.Up.qk (aX m c) (aU m c) (aV m c)

theorem res0 : Value.res_out0 m c = qg (aX m c) (aU m c) (aK m c) (aV m c) := rfl
theorem res1 : Value.res_out1 m c = truncf (F := Ideal) .bf16 (qg (aX m c) (aU m c) (aK m c) (aV m c)) bitsLt_bf16_f32 := rfl

end

/-- The reference's arguments hold the numbers `A`, `W`, `X`, `G` and `Y`. -/
structure GivenR (m : (ℓ : Loc nD τ sig) → Buf (Elt Ideal) ℓ) (c : Dev nD) (A : Fin 8192 → Fin 2816 → EReal) (W : Fin 2816 → Fin 1024 → EReal)
    (X Y : Fin 8192 → Fin 1024 → EReal) (G : Fin 1024 → EReal) : Prop where
  a : ∀ r k, (m ((c.tc : Thread nD τ).loc main_arg0) : S8192x2816.Idx → EReal) (ix2 r k) = A r k
  w : ∀ k l, (m ((c.tc : Thread nD τ).loc main_arg1) : S2816x1024.Idx → EReal) (ix2 k l) = W k l
  x : ∀ r l, (m ((c.tc : Thread nD τ).loc main_arg2) : S8192x1024.Idx → EReal) (ix2 r l) = X r l
  g : ∀ l, (m ((c.tc : Thread nD τ).loc main_arg3) : S1024.Idx → EReal) (ix1 l) = G l
  y : ∀ r l, (m ((c.tc : Thread nD τ).loc main_arg4) : S8192x1024.Idx → EReal) (ix2 r l) = Y r l

variable {m : (ℓ : Loc nD τ sig) → Buf (Elt Ideal) ℓ} {c : Dev nD} {A : Fin 8192 → Fin 2816 → EReal} {W : Fin 2816 → Fin 1024 → EReal}
    {X Y : Fin 8192 → Fin 1024 → EReal} {G : Fin 1024 → EReal}

section

variable (hg : GivenR m c A W X Y G)
include hg

theorem aX_at (r : Fin 8192) (l : Fin 1024) : aX m c (ix2 r l) = xs A W X r l := qx_at hg.a hg.w hg.x r l
theorem aV_at (r : Fin 8192) (z : Fin 1) : aV m c (ix2 r z) = ms (xs A W X r) := Cert.Up.qms_at (aX_at hg) r z
theorem aH_at (r : Fin 8192) (l : Fin 1024) : aH m c (ix2 r l) = xn A W X r l := Cert.Up.qhat_at (aX_at hg) (aV_at hg) r l
theorem aE_at (r : Fin 8192) (l : Fin 1024) : aE m c (ix2 r l) = er A W X Y G r l := qe_at (aH_at hg) hg.g hg.y r l
theorem aD_at (r : Fin 8192) (l : Fin 1024) : aD m c (ix2 r l) = dy A W X Y G r l := qd_at (aE_at hg) r l
theorem aU_at (r : Fin 8192) (l : Fin 1024) : aU m c (ix2 r l) = dy A W X Y G r l * G l := Cert.Up.qu_at (aD_at hg) hg.g r l
theorem aK_at (r : Fin 8192) (l : Fin 1024) : aK m c (ix2 r l) = kr G (xs A W X r) (dy A W X Y G r) :=
  Cert.Up.qk_at (aX_at hg) (aU_at hg) (aV_at hg) r l

/-- The gradient of the rows, and the same rounded. -/
theorem ref0 : Value.res_out0 m c = fun y : S8192x1024.Idx => (dx A W X Y G (y 0) (y 1) : EReal) := by
  funext y
  obtain ⟨r, l, rfl⟩ : ∃ (r : Fin 8192) (l : Fin 1024), y = ix2 r l := ⟨y 0, y 1, eq_ix2 y⟩
  exact (congrFun (res0 m c) _).trans (qg_at (aX_at hg) (aU_at hg) (aK_at hg) (aV_at hg) r l)
theorem ref1 : Value.res_out1 m c = fun y : S8192x1024.Idx => (dx A W X Y G (y 0) (y 1) : EReal) := by
  funext y
  obtain ⟨r, l, rfl⟩ : ∃ (r : Fin 8192) (l : Fin 1024), y = ix2 r l := ⟨y 0, y 1, eq_ix2 y⟩
  exact (congrFun (res1 m c) _).trans (qg_at (aX_at hg) (aU_at hg) (aK_at hg) (aV_at hg) r l)

/-- The gradient of the gain. -/
theorem ref2 : Cert.Up.qsum (mulf (F := Ideal) (φ := .f32) (aH m c) (aD m c))
    = fun y : S1x1024.Idx => (∑ t, dgT A W X Y G t (y 1) : EReal) := by
  funext y
  obtain ⟨l, rfl⟩ := eq_one_row y
  have hs : ∀ r l, mulf (F := Ideal) (φ := .f32) (aH m c) (aD m c) (ix2 r l) = dy A W X Y G r l * xn A W X r l := fun r l => by
    rw [mul_comm]
    exact congrArg₂ (· * ·) (aH_at hg r l) (aD_at hg r l)
  exact (Cert.Up.qsum_at hs 0 l).trans (sum_tile _)

/-- The loss. -/
theorem ref3 : ql (aE m c) = fun _ : S1x1.Idx => (∑ t, lossT A W X Y G t : EReal) := by
  funext y
  obtain rfl := eq_one y
  exact ql_at (aE_at hg)

end

end

theorem frame_p : Cert.quiescent_Kernel13 := fun m ρ _ => Cert.Kernel13.Gen.frame m ρ
theorem frame_pi : Cert.quiescent_Kernel13Ideal := fun m ρ _ => Cert.Kernel13Ideal.Gen.frame m ρ
theorem frame_ri : Cert.quiescent_Reference13Ideal := fun m ρ _ =>
  (θ_run Cert.Reference13Ideal.defs _ _).mono (fun r h => ⟨fun c => (h c).2.2.2.2, sem_eq_zero_of_no_sems (by decide) r.2⟩)
    (Cert.Reference13Ideal.Value.run (F := Ideal) m ρ)

theorem preserves : Cert.preserves_Kernel13_Kernel13Ideal := trivial

theorem algebraic : Cert.algebraic_Kernel13Ideal_Reference13Ideal := by
  intro m ρ m' ρ' _ hag
  have hk : ∀ c, ∃ A W X Y G, Given m c A W X Y G ∧ GivenR m' c A W X Y G := fun c => by
    obtain ⟨a0, a1, a2, a3, a4⟩ := hag c
    exact ⟨_, _, _, _, _, ⟨fun _ _ => rfl, fun _ _ => rfl, fun _ _ => rfl, fun _ => rfl, fun _ _ => rfl⟩,
      ⟨fun _ _ => congrFun a0 _, fun _ _ => congrFun a1 _, fun _ _ => congrFun a2 _, fun _ => congrFun a3 _, fun _ _ => congrFun a4 _⟩⟩
  refine ⟨_, _, _, _, Cert.Kernel13Ideal.Value.run_blocks (F := Ideal) m ρ, ?_⟩
  refine (θ_run Cert.Reference13Ideal.defs _ _).mono (fun r h c => ?_) (Cert.Reference13Ideal.Value.run (F := Ideal) m' ρ')
  obtain ⟨A, W, X, Y, G, hg, hr⟩ := hk c
  exact ⟨(h c).1.trans ((ref0 hr).trans (final5 hg).symm), (h c).2.1.trans ((ref1 hr).trans (final6 hg).symm),
    (h c).2.2.1.trans ((ref2 hr).trans (final7 hg).symm), (h c).2.2.2.1.trans ((ref3 hr).trans (final8 hg).symm), (h c).2.2.2.2⟩

end Cert.Loss

end
-- ==== Proof.AFwd.lean ====
/- Mixer A forward: the short gated convolution, at every value of the arguments. -/
module

public import proofs.«01_k».proof.Defs
public import proofs.«01_k».proof.Proof.Gen.Kernel16.Frame
public import proofs.«01_k».proof.Proof.Gen.Kernel16Ideal.Frame
public import proofs.«01_k».proof.Proof.Gen.Kernel16Ideal.Value
public import proofs.«01_k».proof.Proof.Gen.Reference16Ideal.Run
public import Idealize.ShloMosaic.Lib.Pointwise
public import Idealize.ShloMosaic.Lib.Pipeline.ValueKit
public import Idealize.ShloMosaic.Lib.Pipeline.ReadBack
public import Idealize.ShloMosaic.Adequacy
public import Idealize.ShloMosaic.Init

@[expose] public section

set_option maxRecDepth 16384

noncomputable section

namespace Cert.AFwd

open Idealize.ShloMosaic Idealize.SL.Sem
open TcCoe

/-- Row `s` of example `e`. -/
def ex (e : Fin 4) (s : Fin 2048) : Fin 8192 := ⟨e.val * 2048 + s.val, by omega⟩

/-- A sequence of an example moved down by `k` rows, zeros coming in. -/
def dn (z : Fin 2048 → EReal) (k : Nat) (s : Fin 2048) : EReal := if h : k ≤ s.val then z ⟨s.val - k, by omega⟩ else 0

/-- A sequence of an example with eight zeros after it. -/
def padz (z : Fin 2048 → EReal) (r : Fin 2056) : EReal := if h : r.val < 2048 then z ⟨r, h⟩ else 0

/-- Moving the padded sequence around its end by one row or by two brings zeros in. -/
theorem padz_0 (z : Fin 2048 → EReal) (s : Fin 2048) : padz z ⟨s, by omega⟩ = z s := by simp [padz]
theorem padz_1 (z : Fin 2048 → EReal) (s : Fin 2048) : padz z ⟨(s.val + 2056 - 1) % 2056, by omega⟩ = dn z 1 s := by
  unfold padz dn
  by_cases h : 1 ≤ s.val
  · rw [dif_pos h, dif_pos (show (s.val + 2056 - 1) % 2056 < 2048 by omega)]
    exact congrArg z (Fin.ext (by show (s.val + 2056 - 1) % 2056 = s.val - 1; omega))
  · rw [dif_neg h, dif_neg (show ¬ (s.val + 2056 - 1) % 2056 < 2048 by omega)]
theorem padz_2 (z : Fin 2048 → EReal) (s : Fin 2048) : padz z ⟨((s.val + 2056 - 1) % 2056 + 2056 - 1) % 2056, by omega⟩ = dn z 2 s := by
  unfold padz dn
  by_cases h : 2 ≤ s.val
  · rw [dif_pos h, dif_pos (show ((s.val + 2056 - 1) % 2056 + 2056 - 1) % 2056 < 2048 by omega)]
    exact congrArg z (Fin.ext (by show ((s.val + 2056 - 1) % 2056 + 2056 - 1) % 2056 = s.val - 2; omega))
  · rw [dif_neg h, dif_neg (show ¬ ((s.val + 2056 - 1) % 2056 + 2056 - 1) % 2056 < 2048 by omega)]

/-- The mixer: the three parts of a row at its columns, and the taps. -/
def mix (A : Fin 8192 → Fin 2560 → EReal) (w : Fin 3 → Fin 256 → EReal) (e : Fin 4) (s : Fin 2048) (l : Fin 256) : EReal :=
  let z : Fin 2048 → EReal := fun s => A (ex e s) ⟨256 + l, by omega⟩ * A (ex e s) ⟨512 + l, by omega⟩
  A (ex e s) ⟨l, by omega⟩ * (w 0 l * dn z 2 s + w 1 l * dn z 1 s + w 2 l * z s)

/-- Every row is a row of one example. -/
theorem eq_ex (r : Fin 8192) : ∃ e s, r = ex e s :=
  ⟨⟨r.val / 2048, by omega⟩, ⟨r.val % 2048, by omega⟩, Fin.ext (by show r.val = r.val / 2048 * 2048 + r.val % 2048; omega)⟩

/-- The mixer at a row of all examples. -/
def mixr (A : Fin 8192 → Fin 2560 → EReal) (w : Fin 3 → Fin 256 → EReal) (r : Fin 8192) (l : Fin 256) : EReal :=
  mix A w ⟨r.val / 2048, by omega⟩ ⟨r.val % 2048, by omega⟩ l

theorem mixr_ex (A : Fin 8192 → Fin 2560 → EReal) (w : Fin 3 → Fin 256 → EReal) (e : Fin 4) (s : Fin 2048) (l : Fin 256) :
    mixr A w (ex e s) l = mix A w e s l := by
  have h0 : (⟨(ex e s).val / 2048, by omega⟩ : Fin 4) = e := Fin.ext (by show (e.val * 2048 + s.val) / 2048 = e.val; omega)
  have h1 : (⟨(ex e s).val % 2048, by omega⟩ : Fin 2048) = s := Fin.ext (by show (e.val * 2048 + s.val) % 2048 = s.val; omega)
  rw [mixr, h0, h1]

/-! What the kernel computes. -/

section

open Cert.Kernel16Ideal Cert.Kernel16Ideal.Gen

theorem pay1_at (v0 v2 v21 : Vec Ideal S2048x256 .bf16) (v9 v12 v16 : Vec Ideal S1x256 .f32) (s : Fin 2048) (l : Fin 256) :
    k0_pay1 (F := Ideal) v0 v2 v9 v12 v16 v21 (ix2 s l) = v21 (ix2 s l) *
      (v9 (ix2 0 l) * (v0 (ix2 s l) * v2 (ix2 s l)) + v12 (ix2 0 l) * dn (fun s => v0 (ix2 s l) * v2 (ix2 s l)) 1 s
        + v16 (ix2 0 l) * dn (fun s => v0 (ix2 s l) * v2 (ix2 s l)) 2 s) := by
  pointwise [k0_pay1]
  refine congrArg₂ (· * ·) rfl (congrArg₂ (· + ·) (congrArg₂ (· + ·) rfl (congrArg₂ (· * ·) rfl ?_)) (congrArg₂ (· * ·) rfl ?_))
  · exact padz_1 (fun s => v0 (ix2 s l) * v2 (ix2 s l)) s
  · exact padz_2 (fun s => v0 (ix2 s l) * v2 (ix2 s l)) s

/-- Which block of its array each window holds at each grid point. -/
theorem idx : ∀ t : Fin cfg0.N, win0_0.index t = ![t.val, 0] ∧ win0_1.index t = ![t.val, 1] ∧ win0_2.index t = ![t.val, 2]
    ∧ win0_3.index t = ![0, 0] ∧ win0_4.index t = ![t.val, 0] ∧ t.val < 4 :=
  (by decide +kernel : ∀ t : Fin grid0.N, _)

/-- The example of a grid point. -/
def ti (t : Fin cfg0.N) : Fin 4 := ⟨t.val, (idx t).2.2.2.2.2⟩

/-- The arguments hold the numbers `A` and `W`. -/
structure Given (m : (ℓ : Loc nD τ sig) → Buf (Elt Ideal) ℓ) (c : Dev nD) (A : Fin 8192 → Fin 2560 → EReal) (W : Fin 3 → Fin 256 → EReal) : Prop where
  a : ∀ r k, (m ((c.tc : Thread nD τ).loc main_arg0) : S8192x2560.Idx → EReal) (ix2 r k) = A r k
  w : ∀ k l, (m ((c.tc : Thread nD τ).loc main_arg1) : S3x256.Idx → EReal) (ix2 k l) = W k l

variable {m : (ℓ : Loc nD τ sig) → Buf (Elt Ideal) ℓ} {c : Dev nD} {A : Fin 8192 → Fin 2560 → EReal} {W : Fin 3 → Fin 256 → EReal}

theorem i0 (hg : Given m c A W) (t : Fin cfg0.N) (s : Fin 2048) (l : Fin 256) :
    (iblk m c 0 t : S2048x256.Idx → EReal) (ix2 s l) = A (ex (ti t) s) ⟨l, by omega⟩ := by
  refine Eq.trans ?_ (hg.a _ _)
  blk_point [iblk, V, idx t, ex, ti]
theorem i1 (hg : Given m c A W) (t : Fin cfg0.N) (s : Fin 2048) (l : Fin 256) :
    (iblk m c 1 t : S2048x256.Idx → EReal) (ix2 s l) = A (ex (ti t) s) ⟨256 + l, by omega⟩ := by
  refine Eq.trans ?_ (hg.a _ _)
  blk_point [iblk, V, idx t, ex, ti]
theorem i2 (hg : Given m c A W) (t : Fin cfg0.N) (s : Fin 2048) (l : Fin 256) :
    (iblk m c 2 t : S2048x256.Idx → EReal) (ix2 s l) = A (ex (ti t) s) ⟨512 + l, by omega⟩ := by
  refine Eq.trans ?_ (hg.a _ _)
  blk_point [iblk, V, idx t, ex, ti]
theorem i3 (hg : Given m c A W) (t : Fin cfg0.N) (k : Fin 3) (l : Fin 256) :
    (iblk m c 3 t : S3x256.Idx → EReal) (ix2 k l) = W k l := by
  refine Eq.trans ?_ (hg.w _ _)
  blk_point [iblk, V, idx t]

/-- A part of the rows read whole. -/
theorem ld_whole (X : Vec Ideal S2048x256 .bf16) (s : Fin 2048) (l : Fin 256) :
    View.ld (Val := Elt Ideal) (S := S2048x256) (e' := .bf16) X r0_0 (ix2 s l : S2048x256.Idx) = X (ix2 s l) :=
  View.ld_unit_apply_of _ _ _ _ _ (ix2 (n0 := 2048) s l) fun d => match d with
    | 0 => (Nat.zero_add _).symm
    | 1 => (Nat.zero_add _).symm

/-- A tap. -/
theorem ld_tap (Y : FVec Ideal S3x256 .f32) (o : Nat) (h : ∀ a, (![o, 0] : Fin 2 → Nat) a + S1x256.size a ≤ S3x256.size a) (k : Fin 3) (hk : o = k.val) (l : Fin 256) :
    View.ld (Val := Elt Ideal) (S := S3x256) (e' := .f32) Y (Rect.unit (s := S3x256) ![o, 0] S1x256.size h) (ix2 0 l : S1x256.Idx) = Y (ix2 k l) :=
  View.ld_unit_apply_of _ _ _ _ _ (ix2 (n0 := 3) k l) fun d => match d with
    | 0 => hk.symm
    | 1 => (Nat.zero_add _).symm

/-- The three terms may be added in either order. -/
theorem regroup (a b c : EReal) : a + b + c = c + b + a := by
  rw [add_comm, add_comm a, ← add_assoc]

theorem out_at (hg : Given m c A W) (t : Fin cfg0.N) (y : S2048x256.Idx) :
    out0_4 (F := Ideal) (iblk m c 0 t) (iblk m c 1 t) (iblk m c 2 t) (iblk m c 3 t) y = mix A W (ti t) (y 0) (y 1) := by
  unfold out0_4
  canon_tiles x q
  obtain ⟨s, l, rfl⟩ : ∃ (s : Fin 2048) (l : Fin 256), x = ix2 s l := ⟨x 0, x 1, eq_ix2 x⟩
  obtain rfl : y 0 = s := Fin.ext q0
  obtain rfl : y 1 = l := Fin.ext q1
  refine (pay1_at _ _ _ _ _ _ (y 0) (y 1)).trans ?_
  have e0 := fun s l => (ld_whole (iblk m c 0 t) s l).trans (i0 hg t s l)
  have e1 := fun s l => (ld_whole (iblk m c 1 t) s l).trans (i1 hg t s l)
  have e2 := fun s l => (ld_whole (iblk m c 2 t) s l).trans (i2 hg t s l)
  have e9 := fun l => (ld_tap (iblk m c 3 t) 2 inb_S3x256_S1x256_2_0 2 rfl l).trans (i3 hg t 2 l)
  have e12 := fun l => (ld_tap (iblk m c 3 t) 1 inb_S3x256_S1x256_1_0 1 rfl l).trans (i3 hg t 1 l)
  have e16 := fun l => (ld_tap (iblk m c 3 t) 0 inb_S3x256_S1x256_0_0 0 rfl l).trans (i3 hg t 0 l)
  have ez : (fun s => (View.ld (Val := Elt Ideal) (S := S2048x256) (e' := .bf16) (iblk m c 1 t) r0_0 : S2048x256.Idx → EReal) (ix2 s (y 1))
      * (View.ld (Val := Elt Ideal) (S := S2048x256) (e' := .bf16) (iblk m c 2 t) r0_0 : S2048x256.Idx → EReal) (ix2 s (y 1)))
      = fun s => A (ex (ti t) s) ⟨256 + (y 1).val, by omega⟩ * A (ex (ti t) s) ⟨512 + (y 1).val, by omega⟩ := funext fun s => congrArg₂ (· * ·) (e1 s _) (e2 s _)
  refine congrArg₂ (· * ·) (e0 _ _) (Eq.trans (congrArg₂ (· + ·) (congrArg₂ (· + ·) (congrArg₂ (· * ·) (e9 _) (congrFun ez _)) (congrArg₂ (· * ·) (e12 _) (congrArg (fun z => dn z 1 (y 0)) ez)))
    (congrArg₂ (· * ·) (e16 _) (congrArg (fun z => dn z 2 (y 0)) ez))) ?_)
  exact regroup _ _ _

theorem final (hg : Given m c A W) : (dats m 0 c).arrAt 4 cfg0.N = fun y : S8192x256.Idx => mixr A W (y 0) (y 1) := by
  refine (dats m 0 c).arrAt_eq_of_covers 4 _ (by decide +kernel) fun t hf y => ?_
  blk_simp
  rw [after0_4]
  obtain ⟨i, j, rfl⟩ : ∃ (i : Fin 2048) (j : Fin 256), y = ix2 i j := ⟨y 0, y 1, eq_ix2 y⟩
  refine (out_at hg t (ix2 i j)).trans ?_
  have e0 : (win0_4.blk t).view.emb (ix2 i j) 0 = ex (ti t) i := Fin.ext (by blk_simp [idx t, ex, ti])
  have e1 : (win0_4.blk t).view.emb (ix2 i j) 1 = j := Fin.ext (by blk_simp [idx t])
  rw [e0, e1]
  exact (mixr_ex A W _ i j).symm

end

/-! What the reference computes. -/

section

open Cert.Reference16Ideal Cert.Reference16Ideal.Gen

/-- The three parts of the rows, by example. -/
def qp (a : Vec Ideal S8192x2560 .bf16) : FVec Ideal S4x2048x768 .f32 :=
  shapeCast _ (extf .f32 (extractStridedSlice S8192x768 ![0, 0] a slices_S8192x2560_S8192x768_0_0) bitsLt_bf16_f32) shapeCasts_S8192x768_S4x2048x768

/-- The product that goes into the convolution. -/
def qz (p : FVec Ideal S4x2048x768 .f32) : FVec Ideal S4x2048x256 .f32 :=
  mulf (extractStridedSlice S4x2048x256 ![0, 0, 256] p slices_S4x2048x768_S4x2048x256_0_0_256) (extractStridedSlice S4x2048x256 ![0, 0, 512] p slices_S4x2048x768_S4x2048x256_0_0_512)

/-- Two rows of zeros before each example. -/
def qpad (z : FVec Ideal S4x2048x256 .f32) : FVec Ideal S4x2050x256 .f32 :=
  concatenate S4x2050x256 1 [⟨S4x2x256, (broadcastInDim S4x2x256 ![] bcast_S_S4x2x256 (constant S_ .f32 0x00000000#32))⟩, ⟨S4x2048x256, z⟩] concatenates_S4x2x256_S4x2048x256_S4x2050x256_d1

/-- One tap of the convolution, along all rows. -/
def qw0 (w : FVec Ideal S3x256 .f32) : FVec Ideal S4x2048x256 .f32 :=
  broadcastInDim S4x2048x256 ![0, 1, 2] bcast_S1x1x256_S4x2048x256_0_1_2 (broadcastInDim S1x1x256 ![2] bcast_S256_S1x1x256_2 (shapeCast _ (extractStridedSlice S1x256 ![0, 0] w slices_S3x256_S1x256_0_0) shapeCasts_S1x256_S256))
def qw1 (w : FVec Ideal S3x256 .f32) : FVec Ideal S4x2048x256 .f32 :=
  broadcastInDim S4x2048x256 ![0, 1, 2] bcast_S1x1x256_S4x2048x256_0_1_2 (broadcastInDim S1x1x256 ![2] bcast_S256_S1x1x256_2 (shapeCast _ (extractStridedSlice S1x256 ![1, 0] w slices_S3x256_S1x256_1_0) shapeCasts_S1x256_S256))
def qw2 (w : FVec Ideal S3x256 .f32) : FVec Ideal S4x2048x256 .f32 :=
  broadcastInDim S4x2048x256 ![0, 1, 2] bcast_S1x1x256_S4x2048x256_0_1_2 (broadcastInDim S1x1x256 ![2] bcast_S256_S1x1x256_2 (shapeCast _ (extractStridedSlice S1x256 ![2, 0] w slices_S3x256_S1x256_2_0) shapeCasts_S1x256_S256))

/-- The convolution. -/
def qc (x : FVec Ideal S4x2050x256 .f32) (w : FVec Ideal S3x256 .f32) : FVec Ideal S4x2048x256 .f32 :=
  addf (addf (addf (broadcastInDim S4x2048x256 ![] bcast_S_S4x2048x256 (constant S_ .f32 0x00000000#32)) (mulf (qw0 w) (extractStridedSlice S4x2048x256 ![0, 0, 0] x slices_S4x2050x256_S4x2048x256_0_0_0)))
    (mulf (qw1 w) (extractStridedSlice S4x2048x256 ![0, 1, 0] x slices_S4x2050x256_S4x2048x256_0_1_0))) (mulf (qw2 w) (extractStridedSlice S4x2048x256 ![0, 2, 0] x slices_S4x2050x256_S4x2048x256_0_2_0))

/-- The convolution times its gate, as rows. -/
def qo (p : FVec Ideal S4x2048x768 .f32) (v : FVec Ideal S4x2048x256 .f32) : Vec Ideal S8192x256 .bf16 :=
  truncf (F := Ideal) .bf16 (shapeCast _ (mulf (extractStridedSlice S4x2048x256 ![0, 0, 0] p slices_S4x2048x768_S4x2048x256_0_0_0) v) shapeCasts_S4x2048x256_S8192x256) bitsLt_bf16_f32

theorem qp_at {a : Vec Ideal S8192x2560 .bf16} {A : Fin 8192 → Fin 2560 → EReal} (ha : ∀ r k, a (ix2 r k) = A r k) (e : Fin 4) (s : Fin 2048) (j : Fin 768) :
    qp a (ix3 e s j) = A (ex e s) ⟨j, by omega⟩ := by
  pointwise [qp]
  exact ha _ _

theorem qz_at {p : FVec Ideal S4x2048x768 .f32} (e : Fin 4) (s : Fin 2048) (l : Fin 256) :
    qz p (ix3 e s l) = p (ix3 e s ⟨256 + l, by omega⟩) * p (ix3 e s ⟨512 + l, by omega⟩) := by
  pointwise [qz]

theorem qpad_at {z : FVec Ideal S4x2048x256 .f32} {Z : Fin 4 → Fin 2048 → Fin 256 → EReal} (hz : ∀ e s l, z (ix3 e s l) = Z e s l) (e : Fin 4) (s : Fin 2050) (l : Fin 256) :
    qpad z (ix3 e s l) = if h : 2 ≤ s.val then Z e ⟨s - 2, by omega⟩ l else 0 := by
  pointwise [qpad]
  by_cases h : 2 ≤ s.val
  · rw [dif_pos h, dif_neg (by omega)]
    exact hz _ _ _
  · rw [dif_neg h, dif_pos (by omega)]

theorem qw0_at (w : FVec Ideal S3x256 .f32) (e : Fin 4) (s : Fin 2048) (l : Fin 256) : qw0 w (ix3 e s l) = w (ix2 0 l) := by
  pointwise [qw0]
theorem qw1_at (w : FVec Ideal S3x256 .f32) (e : Fin 4) (s : Fin 2048) (l : Fin 256) : qw1 w (ix3 e s l) = w (ix2 1 l) := by
  pointwise [qw1]
theorem qw2_at (w : FVec Ideal S3x256 .f32) (e : Fin 4) (s : Fin 2048) (l : Fin 256) : qw2 w (ix3 e s l) = w (ix2 2 l) := by
  pointwise [qw2]

theorem qc_at (x : FVec Ideal S4x2050x256 .f32) (w : FVec Ideal S3x256 .f32) (e : Fin 4) (s : Fin 2048) (l : Fin 256) :
    qc x w (ix3 e s l) = w (ix2 0 l) * x (ix3 e ⟨s, by omega⟩ l) + w (ix2 1 l) * x (ix3 e ⟨1 + s, by omega⟩ l) + w (ix2 2 l) * x (ix3 e ⟨2 + s, by omega⟩ l) := by
  pointwise [qc]
  simp only [qw0_at, qw1_at, qw2_at]

theorem qo_at (p : FVec Ideal S4x2048x768 .f32) (v : FVec Ideal S4x2048x256 .f32) (e : Fin 4) (s : Fin 2048) (l : Fin 256) :
    qo p v (ix2 (ex e s) l) = p (ix3 e s ⟨l, by omega⟩) * v (ix3 e s l) := by
  pointwise [qo]
  have h0 : (⟨(ex e s).val / 2048, by omega⟩ : Fin 4) = e := Fin.ext (by show (e.val * 2048 + s.val) / 2048 = e.val; omega)
  have h1 : (⟨(ex e s).val % 2048, by omega⟩ : Fin 2048) = s := Fin.ext (by show (e.val * 2048 + s.val) % 2048 = s.val; omega)
  rw [h0, h1]

/-- The reference's result at its arguments. -/
theorem ref_at {a : Vec Ideal S8192x2560 .bf16} {w : FVec Ideal S3x256 .f32} {A : Fin 8192 → Fin 2560 → EReal} {W : Fin 3 → Fin 256 → EReal}
    (ha : ∀ r k, a (ix2 r k) = A r k) (hw : ∀ k l, w (ix2 k l) = W k l) :
    qo (qp a) (qc (qpad (qz (qp a))) w) = fun y : S8192x256.Idx => mixr A W (y 0) (y 1) := by
  funext y
  obtain ⟨r, l, rfl⟩ : ∃ (r : Fin 8192) (l : Fin 256), y = ix2 r l := ⟨y 0, y 1, eq_ix2 y⟩
  obtain ⟨e, s, rfl⟩ := eq_ex r
  have hz : ∀ e s l, qz (qp a) (ix3 e s l) = A (ex e s) ⟨256 + l, by omega⟩ * A (ex e s) ⟨512 + l, by omega⟩ := fun e s l => by
    rw [qz_at, qp_at ha, qp_at ha]
  refine Eq.trans ?_ (mixr_ex A W e s l).symm
  rw [qo_at, qp_at ha, qc_at, qpad_at hz, qpad_at hz, qpad_at hz, hw, hw, hw, mix]
  refine congrArg₂ (· * ·) rfl (congrArg₂ (· + ·) (congrArg₂ (· + ·) (congrArg₂ (· * ·) rfl ?_) (congrArg₂ (· * ·) rfl ?_)) (congrArg₂ (· * ·) rfl ?_))
  · rfl
  · unfold dn
    by_cases h : 1 ≤ s.val
    · rw [dif_pos h, dif_pos (show 2 ≤ 1 + s.val by omega)]
      have : (⟨1 + s.val - 2, by omega⟩ : Fin 2048) = ⟨s.val - 1, by omega⟩ := Fin.ext (by show 1 + s.val - 2 = s.val - 1; omega)
      rw [this]
    · rw [dif_neg h, dif_neg (show ¬ 2 ≤ 1 + s.val by omega)]
  · rw [dif_pos (show 2 ≤ 2 + s.val by omega)]
    have : (⟨2 + s.val - 2, by omega⟩ : Fin 2048) = s := Fin.ext (by show 2 + s.val - 2 = s.val; omega)
    rw [this]

end

theorem frame_p : Cert.quiescent_Kernel16 := fun m ρ _ => Cert.Kernel16.Gen.frame m ρ
theorem frame_pi : Cert.quiescent_Kernel16Ideal := fun m ρ _ => Cert.Kernel16Ideal.Gen.frame m ρ
theorem frame_ri : Cert.quiescent_Reference16Ideal := fun m ρ _ =>
  (θ_run Cert.Reference16Ideal.defs _ _).mono (fun r h => ⟨fun c => (h c).2, sem_eq_zero_of_no_sems (by decide) r.2⟩)
    (Cert.Reference16Ideal.Value.run (F := Ideal) m ρ)

theorem preserves : Cert.preserves_Kernel16_Kernel16Ideal := trivial

theorem algebraic : Cert.algebraic_Kernel16Ideal_Reference16Ideal := by
  intro m ρ m' ρ' _ hag
  refine ⟨_, Cert.Kernel16Ideal.Value.run_blocks (F := Ideal) m ρ, ?_⟩
  refine (θ_run Cert.Reference16Ideal.defs _ _).mono (fun r h c => ?_) (Cert.Reference16Ideal.Value.run (F := Ideal) m' ρ')
  obtain ⟨a0, a1⟩ := hag c
  exact ⟨(h c).1.trans ((ref_at (fun _ _ => congrFun a0 _) (fun _ _ => congrFun a1 _)).trans
    (final (A := fun _ _ => _) (W := fun _ _ => _) ⟨fun _ _ => rfl, fun _ _ => rfl⟩).symm), (h c).2⟩

end Cert.AFwd

end
-- ==== Proof.ABwd.lean ====
/- The gradient of mixer A, the short gated convolution, at every value of the arguments. -/
module

public import proofs.«01_k».proof.Defs
public import proofs.«01_k».proof.Proof.Gen.Kernel14.Frame
public import proofs.«01_k».proof.Proof.Gen.Kernel14Ideal.Frame
public import proofs.«01_k».proof.Proof.Gen.Kernel14Ideal.Value
public import proofs.«01_k».proof.Proof.Gen.Reference14Ideal.Run
public import proofs.«01_k».proof.Proof.AFwd
public import Idealize.ShloMosaic.Lib.Pointwise
public import Idealize.ShloMosaic.Lib.KernelVsHost
public import Idealize.ShloMosaic.Lib.Pipeline.ValueKit
public import Idealize.ShloMosaic.Lib.Pipeline.ReadBack
public import Idealize.ShloMosaic.Adequacy
public import Idealize.ShloMosaic.Init

@[expose] public section

set_option maxRecDepth 16384

noncomputable section

namespace Cert.ABwd

open Idealize.ShloMosaic Idealize.SL.Sem
open TcCoe
open Cert.AFwd (ex eq_ex dn padz padz_0 padz_1 padz_2 regroup qp qz qpad qp_at qz_at qpad_at qc qc_at qw0 qw1 qw2 qw0_at qw1_at qw2_at)

/-- A sequence of an example moved up by `k` rows, zeros coming in. -/
def up (z : Fin 2048 → EReal) (k : Nat) (s : Fin 2048) : EReal := if h : s.val + k < 2048 then z ⟨s.val + k, h⟩ else 0

/-- Moving the padded sequence up by one row or by two brings zeros in. -/
theorem padz_u1 (z : Fin 2048 → EReal) (s : Fin 2048) : padz z ⟨(s.val + 2056 - 2055) % 2056, by omega⟩ = up z 1 s := by
  unfold padz up
  by_cases h : s.val + 1 < 2048
  · rw [dif_pos h, dif_pos (show (s.val + 2056 - 2055) % 2056 < 2048 by omega)]
    exact congrArg z (Fin.ext (by show (s.val + 2056 - 2055) % 2056 = s.val + 1; omega))
  · rw [dif_neg h, dif_neg (show ¬ (s.val + 2056 - 2055) % 2056 < 2048 by omega)]
theorem padz_u2 (z : Fin 2048 → EReal) (s : Fin 2048) : padz z ⟨((s.val + 2056 - 2055) % 2056 + 2056 - 2055) % 2056, by omega⟩ = up z 2 s := by
  unfold padz up
  by_cases h : s.val + 2 < 2048
  · rw [dif_pos h, dif_pos (show ((s.val + 2056 - 2055) % 2056 + 2056 - 2055) % 2056 < 2048 by omega)]
    exact congrArg z (Fin.ext (by show ((s.val + 2056 - 2055) % 2056 + 2056 - 2055) % 2056 = s.val + 2; omega))
  · rw [dif_neg h, dif_neg (show ¬ ((s.val + 2056 - 2055) % 2056 + 2056 - 2055) % 2056 < 2048 by omega)]

/-- The padded rows of a factor add nothing to a sum. -/
theorem sum_padz (d : Fin 2048 → EReal) (f : Fin 2056 → EReal) (g : Fin 2048 → EReal) (h : ∀ s : Fin 2048, f ⟨s, by omega⟩ = g s) :
    ∑ r, padz d r * f r = ∑ s, d s * g s := by
  refine (Fin.sum_univ_add (a := 2048) (b := 8) fun r : Fin 2056 => padz d r * f r).trans ?_
  have h8 : ∀ i : Fin 8, padz d (Fin.natAdd 2048 i : Fin 2056) * f (Fin.natAdd 2048 i : Fin 2056) = 0 := fun i => by
    have : padz d (Fin.natAdd 2048 i : Fin 2056) = 0 := dif_neg (by simp only [Fin.val_natAdd]; omega)
    rw [this, zero_mul]
  rw [Finset.sum_eq_zero (s := (Finset.univ : Finset (Fin 8))) fun i _ => h8 i, add_zero]
  refine Finset.sum_congr rfl fun s _ => congrArg₂ (· * ·) ?_ (h s)
  exact padz_0 d s

section

variable (A : Fin 8192 → Fin 2560 → EReal) (w : Fin 3 → Fin 256 → EReal) (D : Fin 8192 → Fin 1024 → EReal) (e : Fin 4)

/-- The product that goes into the convolution, and the gradient of the convolution, along an example. -/
def zz (l : Fin 256) (s : Fin 2048) : EReal := A (ex e s) ⟨256 + l, by omega⟩ * A (ex e s) ⟨512 + l, by omega⟩
def dc (l : Fin 256) (s : Fin 2048) : EReal := D (ex e s) ⟨l, by omega⟩ * A (ex e s) ⟨l, by omega⟩

/-- The convolution, and the gradient of the product that goes into it. -/
def cv (s : Fin 2048) (l : Fin 256) : EReal := w 2 l * zz A e l s + w 1 l * dn (zz A e l) 1 s + w 0 l * dn (zz A e l) 2 s
def du (s : Fin 2048) (l : Fin 256) : EReal := w 2 l * dc A D e l s + w 1 l * up (dc A D e l) 1 s + w 0 l * up (dc A D e l) 2 s

/-- The gradient of an example's part of the projection. -/
def dp (s : Fin 2048) (k : Fin 768) : EReal :=
  if h : k.val < 256 then D (ex e s) ⟨k, by omega⟩ * cv A w e s ⟨k, h⟩
  else if h' : k.val < 512 then du A w D e s ⟨k - 256, by omega⟩ * A (ex e s) ⟨256 + k, by omega⟩
  else du A w D e s ⟨k - 512, by omega⟩ * A (ex e s) ⟨k - 256, by omega⟩

/-- An example's part of the gradient of the taps. -/
def dw (k : Fin 3) (l : Fin 256) : EReal := ∑ s, dc A D e l s * dn (zz A e l) (2 - k.val) s

end

theorem dn_0 (z : Fin 2048 → EReal) (s : Fin 2048) : dn z 0 s = z s := dif_pos (Nat.zero_le _)

/-- The gradient of the projection at a row of all examples. -/
def dpr (A : Fin 8192 → Fin 2560 → EReal) (w : Fin 3 → Fin 256 → EReal) (D : Fin 8192 → Fin 1024 → EReal) (r : Fin 8192) (k : Fin 768) : EReal :=
  dp A w D ⟨r.val / 2048, by omega⟩ ⟨r.val % 2048, by omega⟩ k

theorem dpr_ex (A : Fin 8192 → Fin 2560 → EReal) (w : Fin 3 → Fin 256 → EReal) (D : Fin 8192 → Fin 1024 → EReal) (e : Fin 4) (s : Fin 2048) (k : Fin 768) :
    dpr A w D (ex e s) k = dp A w D e s k := by
  have h0 : (⟨(ex e s).val / 2048, by omega⟩ : Fin 4) = e := Fin.ext (by show (e.val * 2048 + s.val) / 2048 = e.val; omega)
  have h1 : (⟨(ex e s).val % 2048, by omega⟩ : Fin 2048) = s := Fin.ext (by show (e.val * 2048 + s.val) % 2048 = s.val; omega)
  rw [dpr, h0, h1]

section

variable (A : Fin 8192 → Fin 2560 → EReal) (w : Fin 3 → Fin 256 → EReal) (D : Fin 8192 → Fin 1024 → EReal) (e : Fin 4) (s : Fin 2048) (k : Fin 768) (l : Fin 256)

theorem dp_0 (hk : k.val = l.val) : dp A w D e s k = D (ex e s) ⟨l, by omega⟩ * cv A w e s l := by
  obtain ⟨k, hk'⟩ := k
  obtain rfl : k = l.val := hk
  exact dif_pos l.isLt
theorem dp_1 (hk : k.val = 256 + l.val) : dp A w D e s k = du A w D e s l * A (ex e s) ⟨512 + l, by omega⟩ := by
  have e1 : (⟨k.val - 256, by omega⟩ : Fin 256) = l := Fin.ext (by show k.val - 256 = l.val; omega)
  have e2 : (⟨256 + k.val, by omega⟩ : Fin 2560) = ⟨512 + l, by omega⟩ := Fin.ext (by show 256 + k.val = 512 + l.val; omega)
  rw [dp, dif_neg (by omega), dif_pos (by omega), e1, e2]
theorem dp_2 (hk : k.val = 512 + l.val) : dp A w D e s k = du A w D e s l * A (ex e s) ⟨256 + l, by omega⟩ := by
  have e1 : (⟨k.val - 512, by omega⟩ : Fin 256) = l := Fin.ext (by show k.val - 512 = l.val; omega)
  have e2 : (⟨k.val - 256, by omega⟩ : Fin 2560) = ⟨256 + l, by omega⟩ := Fin.ext (by show k.val - 256 = 256 + l.val; omega)
  rw [dp, dif_neg (by omega), dif_neg (by omega), e1, e2]

end

/-! What the kernel computes. -/

section

open Cert.Kernel14Ideal Cert.Kernel14Ideal.Gen

section

variable {v0 v2 v21 v23 : Vec Ideal S2048x256 .bf16} {v9 v12 v16 v29 v32 v36 : Vec Ideal S1x256 .f32}
  {A : Fin 8192 → Fin 2560 → EReal} {w : Fin 3 → Fin 256 → EReal} {D : Fin 8192 → Fin 1024 → EReal} {e : Fin 4}

theorem pay4_at (h0 : ∀ s l, v0 (ix2 s l) = A (ex e s) ⟨256 + l, by omega⟩) (h2 : ∀ s l, v2 (ix2 s l) = A (ex e s) ⟨512 + l, by omega⟩)
    (r : Fin 2056) (l : Fin 256) : k0_pay4 (F := Ideal) v0 v2 (ix2 r l) = padz (zz A e l) r := by
  pointwise [k0_pay4, k0_pay2, k0_pay3]
  simp only [h0, h2]
  rfl

theorem pay5_at (h0 : ∀ s l, v0 (ix2 s l) = A (ex e s) ⟨256 + l, by omega⟩) (h2 : ∀ s l, v2 (ix2 s l) = A (ex e s) ⟨512 + l, by omega⟩)
    (r : Fin 2056) (l : Fin 256) : k0_pay5 (F := Ideal) v0 v2 (ix2 r l) = padz (zz A e l) ⟨(r.val + 2056 - 1) % 2056, by omega⟩ := by
  pointwise [k0_pay5]
  exact pay4_at h0 h2 _ l

theorem pay6_at (h0 : ∀ s l, v0 (ix2 s l) = A (ex e s) ⟨256 + l, by omega⟩) (h2 : ∀ s l, v2 (ix2 s l) = A (ex e s) ⟨512 + l, by omega⟩)
    (r : Fin 2056) (l : Fin 256) : k0_pay6 (F := Ideal) v0 v2 (ix2 r l) = padz (zz A e l) ⟨((r.val + 2056 - 1) % 2056 + 2056 - 1) % 2056, by omega⟩ := by
  pointwise [k0_pay6]
  exact pay5_at h0 h2 _ l

theorem pay7_at (h0 : ∀ s l, v0 (ix2 s l) = A (ex e s) ⟨256 + l, by omega⟩) (h2 : ∀ s l, v2 (ix2 s l) = A (ex e s) ⟨512 + l, by omega⟩)
    (h9 : ∀ l, v9 (ix2 0 l) = w 2 l) (h12 : ∀ l, v12 (ix2 0 l) = w 1 l) (h16 : ∀ l, v16 (ix2 0 l) = w 0 l)
    (s : Fin 2048) (l : Fin 256) : k0_pay7 (F := Ideal) v0 v2 v9 v12 v16 (ix2 s l) = cv A w e s l := by
  pointwise [k0_pay7]
  refine congrArg₂ (· + ·) (congrArg₂ (· + ·) (congrArg₂ (· * ·) (h9 l) ?_) (congrArg₂ (· * ·) (h12 l) ?_)) (congrArg₂ (· * ·) (h16 l) ?_)
  · exact (pay4_at h0 h2 _ l).trans (padz_0 _ s)
  · exact (pay5_at h0 h2 _ l).trans (padz_1 _ s)
  · exact (pay6_at h0 h2 _ l).trans (padz_2 _ s)

theorem pay9_at (h21 : ∀ s l, v21 (ix2 s l) = D (ex e s) ⟨l, by omega⟩) (h23 : ∀ s l, v23 (ix2 s l) = A (ex e s) ⟨l, by omega⟩)
    (r : Fin 2056) (l : Fin 256) : k0_pay9 (F := Ideal) v21 v23 (ix2 r l) = padz (dc A D e l) r := by
  pointwise [k0_pay9, k0_pay8]
  simp only [h21, h23]
  rfl

theorem pay10_at (h21 : ∀ s l, v21 (ix2 s l) = D (ex e s) ⟨l, by omega⟩) (h23 : ∀ s l, v23 (ix2 s l) = A (ex e s) ⟨l, by omega⟩)
    (r : Fin 2056) (l : Fin 256) : k0_pay10 (F := Ideal) v21 v23 (ix2 r l) = padz (dc A D e l) ⟨(r.val + 2056 - 2055) % 2056, by omega⟩ := by
  pointwise [k0_pay10]
  exact pay9_at h21 h23 _ l

theorem pay12_at (h21 : ∀ s l, v21 (ix2 s l) = D (ex e s) ⟨l, by omega⟩) (h23 : ∀ s l, v23 (ix2 s l) = A (ex e s) ⟨l, by omega⟩)
    (h29 : ∀ l, v29 (ix2 0 l) = w 2 l) (h32 : ∀ l, v32 (ix2 0 l) = w 1 l) (h36 : ∀ l, v36 (ix2 0 l) = w 0 l)
    (s : Fin 2048) (l : Fin 256) : k0_pay12 (F := Ideal) (k0_pay10 v21 v23) (k0_pay11 v21 v23 v29 v32) v36 (ix2 s l) = du A w D e s l := by
  pointwise [k0_pay12, k0_pay11]
  refine congrArg₂ (· + ·) (congrArg₂ (· + ·) (congrArg₂ (· * ·) (h29 l) ?_) (congrArg₂ (· * ·) (h32 l) ?_)) (congrArg₂ (· * ·) (h36 l) ?_)
  · exact (pay9_at h21 h23 _ l).trans (padz_0 _ s)
  · exact (pay10_at h21 h23 _ l).trans (padz_u1 _ s)
  · exact (pay10_at h21 h23 _ l).trans (padz_u2 _ s)

theorem pay13_at (h0 : ∀ s l, v0 (ix2 s l) = A (ex e s) ⟨256 + l, by omega⟩) (h2 : ∀ s l, v2 (ix2 s l) = A (ex e s) ⟨512 + l, by omega⟩)
    (h9 : ∀ l, v9 (ix2 0 l) = w 2 l) (h12 : ∀ l, v12 (ix2 0 l) = w 1 l) (h16 : ∀ l, v16 (ix2 0 l) = w 0 l)
    (h21 : ∀ s l, v21 (ix2 s l) = D (ex e s) ⟨l, by omega⟩) (s : Fin 2048) (l : Fin 256) :
    k0_pay13 (F := Ideal) (k0_pay7 v0 v2 v9 v12 v16) (k0_pay8 v21) (ix2 s l) = D (ex e s) ⟨l, by omega⟩ * cv A w e s l := by
  pointwise [k0_pay13, k0_pay8]
  rw [h21, pay7_at h0 h2 h9 h12 h16]

theorem pay14_at (h2 : ∀ s l, v2 (ix2 s l) = A (ex e s) ⟨512 + l, by omega⟩)
    (h21 : ∀ s l, v21 (ix2 s l) = D (ex e s) ⟨l, by omega⟩) (h23 : ∀ s l, v23 (ix2 s l) = A (ex e s) ⟨l, by omega⟩)
    (h29 : ∀ l, v29 (ix2 0 l) = w 2 l) (h32 : ∀ l, v32 (ix2 0 l) = w 1 l) (h36 : ∀ l, v36 (ix2 0 l) = w 0 l) (s : Fin 2048) (l : Fin 256) :
    k0_pay14 (F := Ideal) (k0_pay3 v2) (k0_pay10 v21 v23) (k0_pay11 v21 v23 v29 v32) v36 (ix2 s l)
      = du A w D e s l * A (ex e s) ⟨512 + l, by omega⟩ := by
  pointwise [k0_pay14, k0_pay3]
  rw [h2, pay12_at h21 h23 h29 h32 h36]

theorem pay15_at (h0 : ∀ s l, v0 (ix2 s l) = A (ex e s) ⟨256 + l, by omega⟩)
    (h21 : ∀ s l, v21 (ix2 s l) = D (ex e s) ⟨l, by omega⟩) (h23 : ∀ s l, v23 (ix2 s l) = A (ex e s) ⟨l, by omega⟩)
    (h29 : ∀ l, v29 (ix2 0 l) = w 2 l) (h32 : ∀ l, v32 (ix2 0 l) = w 1 l) (h36 : ∀ l, v36 (ix2 0 l) = w 0 l) (s : Fin 2048) (l : Fin 256) :
    k0_pay15 (F := Ideal) (k0_pay2 v0) (k0_pay10 v21 v23) (k0_pay11 v21 v23 v29 v32) v36 (ix2 s l)
      = du A w D e s l * A (ex e s) ⟨256 + l, by omega⟩ := by
  pointwise [k0_pay15, k0_pay2]
  rw [h0, pay12_at h21 h23 h29 h32 h36]

theorem pay18_at (h0 : ∀ s l, v0 (ix2 s l) = A (ex e s) ⟨256 + l, by omega⟩) (h2 : ∀ s l, v2 (ix2 s l) = A (ex e s) ⟨512 + l, by omega⟩)
    (h21 : ∀ s l, v21 (ix2 s l) = D (ex e s) ⟨l, by omega⟩) (h23 : ∀ s l, v23 (ix2 s l) = A (ex e s) ⟨l, by omega⟩) (y : Vec Ideal S1x256 .f32) (l : Fin 256) :
    k0_pay18 (F := Ideal) (k0_pay6 v0 v2) (k0_pay9 v21 v23) y (ix2 0 l) = y (ix2 0 l) + dw A D e 0 l := by
  pointwise [k0_pay18]
  simp only [pay9_at h21 h23]
  exact congrArg₂ (· + ·) rfl (sum_padz _ _ _ fun s => (pay6_at h0 h2 _ l).trans (padz_2 _ s))

theorem pay19_at (h0 : ∀ s l, v0 (ix2 s l) = A (ex e s) ⟨256 + l, by omega⟩) (h2 : ∀ s l, v2 (ix2 s l) = A (ex e s) ⟨512 + l, by omega⟩)
    (h21 : ∀ s l, v21 (ix2 s l) = D (ex e s) ⟨l, by omega⟩) (h23 : ∀ s l, v23 (ix2 s l) = A (ex e s) ⟨l, by omega⟩) (y : Vec Ideal S1x256 .f32) (l : Fin 256) :
    k0_pay19 (F := Ideal) (k0_pay5 v0 v2) (k0_pay9 v21 v23) y (ix2 0 l) = y (ix2 0 l) + dw A D e 1 l := by
  pointwise [k0_pay19]
  simp only [pay9_at h21 h23]
  exact congrArg₂ (· + ·) rfl (sum_padz _ _ _ fun s => (pay5_at h0 h2 _ l).trans (padz_1 _ s))

theorem pay1_at (h0 : ∀ s l, v0 (ix2 s l) = A (ex e s) ⟨256 + l, by omega⟩) (h2 : ∀ s l, v2 (ix2 s l) = A (ex e s) ⟨512 + l, by omega⟩)
    (h21 : ∀ s l, v21 (ix2 s l) = D (ex e s) ⟨l, by omega⟩) (h23 : ∀ s l, v23 (ix2 s l) = A (ex e s) ⟨l, by omega⟩) (y : Vec Ideal S1x256 .f32) (l : Fin 256) :
    k0_pay1 (F := Ideal) (k0_pay17 (k0_pay4 v0 v2) (k0_pay9 v21 v23)) y (ix2 0 l) = y (ix2 0 l) + dw A D e 2 l := by
  pointwise [k0_pay1, k0_pay17]
  simp only [pay9_at h21 h23]
  exact congrArg₂ (· + ·) rfl (sum_padz _ _ _ fun s => (pay4_at h0 h2 _ l).trans ((padz_0 _ s).trans (dn_0 _ s).symm))

theorem pay16_at (y : S3x256.Idx) : k0_pay16 (F := Ideal) y = (0 : EReal) := by pointwise [k0_pay16]

end

/-- Which block of its array each window holds at each grid point. -/
theorem idx : ∀ t : Fin cfg0.N, win0_0.index t = ![t.val, 0] ∧ win0_1.index t = ![t.val, 1] ∧ win0_2.index t = ![t.val, 2]
    ∧ win0_3.index t = ![0, 0] ∧ win0_4.index t = ![t.val, 0] ∧ win0_5.index t = ![t.val, 0] ∧ t.val < 4 :=
  (by decide +kernel : ∀ t : Fin grid0.N, _)

/-- The example of a grid point. -/
def ti (t : Fin cfg0.N) : Fin 4 := ⟨t.val, (idx t).2.2.2.2.2.2⟩

/-- The arguments hold the numbers `A`, `W` and `D`. -/
structure Given (m : (ℓ : Loc nD τ sig) → Buf (Elt Ideal) ℓ) (c : Dev nD) (A : Fin 8192 → Fin 2560 → EReal) (W : Fin 3 → Fin 256 → EReal)
    (D : Fin 8192 → Fin 1024 → EReal) : Prop where
  a : ∀ r k, (m ((c.tc : Thread nD τ).loc main_arg0) : S8192x2560.Idx → EReal) (ix2 r k) = A r k
  w : ∀ k l, (m ((c.tc : Thread nD τ).loc main_arg1) : S3x256.Idx → EReal) (ix2 k l) = W k l
  d : ∀ r k, (m ((c.tc : Thread nD τ).loc main_arg2) : S8192x1024.Idx → EReal) (ix2 r k) = D r k

variable {m : (ℓ : Loc nD τ sig) → Buf (Elt Ideal) ℓ} {c : Dev nD} {A : Fin 8192 → Fin 2560 → EReal} {W : Fin 3 → Fin 256 → EReal}
  {D : Fin 8192 → Fin 1024 → EReal}

/-- A tap. -/
theorem ld_tap (Y : S3x256.Idx → EReal) (o : Nat) (h : ∀ a, (![o, 0] : Fin 2 → Nat) a + S1x256.size a ≤ S3x256.size a) (k : Fin 3) (hk : o = k.val) (l : Fin 256) :
    View.ld (Val := Elt Ideal) (S := S3x256) (e' := .f32) Y (Rect.unit (s := S3x256) ![o, 0] S1x256.size h) (ix2 0 l : S1x256.Idx) = Y (ix2 k l) :=
  View.ld_unit_apply_of _ _ _ _ _ (ix2 (n0 := 3) k l) fun d => match d with
    | 0 => hk.symm
    | 1 => (Nat.zero_add _).symm

theorem i0 (hg : Given m c A W D) (t : Fin cfg0.N) (s : Fin 2048) (l : Fin 256) :
    (iblk m c 0 t : S2048x256.Idx → EReal) (ix2 s l) = A (ex (ti t) s) ⟨l, by omega⟩ := by
  refine Eq.trans ?_ (hg.a _ _)
  blk_point [iblk, V, idx t, ex, ti]
theorem i1 (hg : Given m c A W D) (t : Fin cfg0.N) (s : Fin 2048) (l : Fin 256) :
    (iblk m c 1 t : S2048x256.Idx → EReal) (ix2 s l) = A (ex (ti t) s) ⟨256 + l, by omega⟩ := by
  refine Eq.trans ?_ (hg.a _ _)
  blk_point [iblk, V, idx t, ex, ti]
theorem i2 (hg : Given m c A W D) (t : Fin cfg0.N) (s : Fin 2048) (l : Fin 256) :
    (iblk m c 2 t : S2048x256.Idx → EReal) (ix2 s l) = A (ex (ti t) s) ⟨512 + l, by omega⟩ := by
  refine Eq.trans ?_ (hg.a _ _)
  blk_point [iblk, V, idx t, ex, ti]
theorem i3 (hg : Given m c A W D) (t : Fin cfg0.N) (k : Fin 3) (l : Fin 256) :
    (iblk m c 3 t : S3x256.Idx → EReal) (ix2 k l) = W k l := by
  refine Eq.trans ?_ (hg.w _ _)
  blk_point [iblk, V, idx t]
theorem i4 (hg : Given m c A W D) (t : Fin cfg0.N) (s : Fin 2048) (l : Fin 256) :
    (iblk m c 4 t : S2048x256.Idx → EReal) (ix2 s l) = D (ex (ti t) s) ⟨l, by omega⟩ := by
  refine Eq.trans ?_ (hg.d _ _)
  blk_point [iblk, V, idx t, ex, ti]

/-- A tap of the block. -/
theorem tap (hg : Given m c A W D) (t : Fin cfg0.N) (o : Nat) (h : ∀ a, (![o, 0] : Fin 2 → Nat) a + S1x256.size a ≤ S3x256.size a) (k : Fin 3) (hk : o = k.val) (l : Fin 256) :
    View.ld (Val := Elt Ideal) (S := S3x256) (e' := .f32) (iblk m c 3 t) (Rect.unit (s := S3x256) ![o, 0] S1x256.size h) (ix2 0 l : S1x256.Idx) = W k l :=
  (ld_tap _ o h k hk l).trans (i3 hg t k l)

theorem point5 (hg : Given m c A W D) (t : Fin cfg0.N) (y : S2048x768.Idx) :
    (outsAt0 m c t.val t.isLt).1 y = dp A W D (ti t) (y 0) (y 1) := by
  by_cases h : t.val % 4 = 0
  on_goal 1 => rw [outsAt0_A m c t h]
  on_goal 2 => rw [outsAt0_B m c t h]
  all_goals
    frame_out
    canon_tiles x q
    all_goals
      obtain ⟨s, l, rfl⟩ : ∃ (s : Fin 2048) (l : Fin 256), x = ix2 s l := ⟨x 0, x 1, eq_ix2 x⟩
      obtain rfl : y 0 = s := Fin.ext q0
    case piece0 =>
      exact (pay15_at (i1 hg t) (i4 hg t) (i0 hg t) (tap hg t 2 _ 2 rfl) (tap hg t 1 _ 1 rfl) (tap hg t 0 _ 0 rfl) (y 0) l).trans
        (dp_2 A W D (ti t) (y 0) (y 1) l q1).symm
    case piece1 =>
      exact (pay14_at (i2 hg t) (i4 hg t) (i0 hg t) (tap hg t 2 _ 2 rfl) (tap hg t 1 _ 1 rfl) (tap hg t 0 _ 0 rfl) (y 0) l).trans
        (dp_1 A W D (ti t) (y 0) (y 1) l q1).symm
    case piece2 =>
      exact (pay13_at (i1 hg t) (i2 hg t) (tap hg t 2 _ 2 rfl) (tap hg t 1 _ 1 rfl) (tap hg t 0 _ 0 rfl) (i4 hg t) (y 0) l).trans
        (dp_0 A W D (ti t) (y 0) (y 1) l q1).symm

theorem final5 (hg : Given m c A W D) : (dats m 0 c).arrAt 5 cfg0.N = fun y : S8192x768.Idx => dpr A W D (y 0) (y 1) := by
  refine (dats m 0 c).arrAt_eq_of_covers 5 _ (by decide +kernel) fun t hf y => ?_
  blk_simp
  rw [after0_5, point5 hg]
  obtain ⟨i, j, rfl⟩ : ∃ (i : Fin 2048) (j : Fin 768), y = ix2 i j := ⟨y 0, y 1, eq_ix2 y⟩
  have e0 : (win0_5.blk t).view.emb (ix2 i j) 0 = ex (ti t) i := Fin.ext (by blk_simp [idx t, ex, ti])
  have e1 : (win0_5.blk t).view.emb (ix2 i j) 1 = j := Fin.ext (by blk_simp [idx t])
  rw [e0, e1]
  exact (dpr_ex A W D _ i j).symm

theorem eq_one_row (j : S1x256.Idx) : ∃ l : Fin 256, j = ix2 (0 : Fin 1) l := by
  refine ⟨j 1, (eq_ix2 j).trans ?_⟩
  congr 1
  exact Subsingleton.elim (α := Fin 1) _ _

/-- Three rows with numbers added: at an index of one of them. -/
def acc (Y f : S3x256.Idx → EReal) (j : S3x256.Idx) : EReal := Y j + f j

theorem acc_at (Y f : S3x256.Idx → EReal) (o : Nat) (h : ∀ a, (![o, 0] : Fin 2 → Nat) a + S1x256.size a ≤ S3x256.size a) (k : Fin 3) (hk : o = k.val) (l : Fin 256) :
    acc Y f ((Rect.unit (s := S3x256) ![o, 0] S1x256.size h).emb (ix2 (0 : Fin 1) l : S1x256.Idx))
      = View.ld (Val := Elt Ideal) (S := S3x256) (e' := .f32) Y (Rect.unit (s := S3x256) ![o, 0] S1x256.size h) (ix2 (0 : Fin 1) l : S1x256.Idx) + f (ix2 k l) := by
  rw [ld_tap Y o h k hk l]; exact ld_tap (acc Y f) o h k hk l

theorem final6 (hg : Given m c A W D) : (dats m 0 c).arrAt 6 cfg0.N = fun y : S3x256.Idx => ∑ e, dw A D e (y 0) (y 1) := by
  refine (dats m 0 c).arrAt_eq_of_after_last 6 t0_3 (by decide +kernel) _ fun j => ?_
  blk_simp
  rw [after0_6, Pipeline.eq_sum_fin_of_reset_step_apply_last (fun n h => (outsAt0 m c n h).2) 4 (fun _ => 0)
    (fun e y => dw A D e (y 0) (y 1))
    (fun t h j => by
      rw [outsAt0_A m c t h, ← pay16_at j]
      frame_open
      simp (disch := decide) only [↓ View.readCov_skip, ↓ View.readCov_cons_toLoadRect, ↓ View.readCov_fill]
      frame_out
      refine View.canon_append_of_piecesOf (Val := Elt Ideal) (e := .f32) (s := S3x256)
        (acc (k0_pay16 (F := Ideal)) fun j => dw A D (ti t) (j 0) (j 1)) [_] [_, _, _]
        ⟨fun x => ?_, fun x => ?_, fun x => ?_, trivial⟩ j (View.cover_of_tiledL _ ![1, 256] (by sl_kernel_rfl) j)
      · obtain ⟨l, rfl⟩ := eq_one_row x
        exact (pay1_at (i1 hg t) (i2 hg t) (i4 hg t) (i0 hg t) _ l).trans (acc_at _ (fun j => dw A D (ti t) (j 0) (j 1)) 2 _ 2 rfl l).symm
      · obtain ⟨l, rfl⟩ := eq_one_row x
        exact (pay19_at (i1 hg t) (i2 hg t) (i4 hg t) (i0 hg t) _ l).trans (acc_at _ (fun j => dw A D (ti t) (j 0) (j 1)) 1 _ 1 rfl l).symm
      · obtain ⟨l, rfl⟩ := eq_one_row x
        exact (pay18_at (i1 hg t) (i2 hg t) (i4 hg t) (i0 hg t) _ l).trans (acc_at _ (fun j => dw A D (ti t) (j 0) (j 1)) 0 _ 0 rfl l).symm)
    (fun t h j => by
      rw [outsAt0_B m c t h]
      frame_out
      refine View.canon_append_of_piecesOf (Val := Elt Ideal) (e := .f32) (s := S3x256)
        (acc (outsAt0 m c (t.val - 1) (Nat.lt_of_le_of_lt (Nat.sub_le _ _) t.isLt)).2 fun j => dw A D (ti t) (j 0) (j 1)) [] [_, _, _]
        ⟨fun x => ?_, fun x => ?_, fun x => ?_, trivial⟩ j (View.cover_of_tiledL _ ![1, 256] (by sl_kernel_rfl) j)
      · obtain ⟨l, rfl⟩ := eq_one_row x
        exact (pay1_at (i1 hg t) (i2 hg t) (i4 hg t) (i0 hg t) _ l).trans (acc_at _ (fun j => dw A D (ti t) (j 0) (j 1)) 2 _ 2 rfl l).symm
      · obtain ⟨l, rfl⟩ := eq_one_row x
        exact (pay19_at (i1 hg t) (i2 hg t) (i4 hg t) (i0 hg t) _ l).trans (acc_at _ (fun j => dw A D (ti t) (j 0) (j 1)) 1 _ 1 rfl l).symm
      · obtain ⟨l, rfl⟩ := eq_one_row x
        exact (pay18_at (i1 hg t) (i2 hg t) (i4 hg t) (i0 hg t) _ l).trans (acc_at _ (fun j => dw A D (ti t) (j 0) (j 1)) 0 _ 0 rfl l).symm)
    (le_of_eq N_0) t0_3 rfl j, zero_add]
  rfl

end

/-! What the reference computes. -/

section

open Cert.Reference14Ideal Cert.Reference14Ideal.Gen

/-- The incoming gradient, by example. -/
def qy (d : Vec Ideal S8192x1024 .bf16) : FVec Ideal S4x2048x256 .f32 :=
  shapeCast _ (extf .f32 (extractStridedSlice S8192x256 ![0, 0] d slices_S8192x1024_S8192x256_0_0) bitsLt_bf16_f32) shapeCasts_S8192x256_S4x2048x256

/-- The gradient of the convolution. -/
def qd (p : FVec Ideal S4x2048x768 .f32) (y : FVec Ideal S4x2048x256 .f32) : FVec Ideal S4x2048x256 .f32 :=
  mulf (extractStridedSlice S4x2048x256 ![0, 0, 0] p slices_S4x2048x768_S4x2048x256_0_0_0) y

/-- Two rows of zeros, before, around or after each example. -/
def qa2 (x : FVec Ideal S4x2048x256 .f32) : FVec Ideal S4x2050x256 .f32 :=
  pad S4x2050x256 ![0, 2, 0] ![0, 0, 0] ![0, 0, 0] x (constant (F := Ideal) S_ .f32 0x00000000#32) pads_S4x2048x256_S4x2050x256_000_200_000 h_S_
def qa1 (x : FVec Ideal S4x2048x256 .f32) : FVec Ideal S4x2050x256 .f32 :=
  pad S4x2050x256 ![0, 1, 0] ![0, 1, 0] ![0, 0, 0] x (constant (F := Ideal) S_ .f32 0x00000000#32) pads_S4x2048x256_S4x2050x256_000_110_000 h_S_
def qa0 (x : FVec Ideal S4x2048x256 .f32) : FVec Ideal S4x2050x256 .f32 :=
  pad S4x2050x256 ![0, 0, 0] ![0, 2, 0] ![0, 0, 0] x (constant (F := Ideal) S_ .f32 0x00000000#32) pads_S4x2048x256_S4x2050x256_000_020_000 h_S_

/-- The gradient of the product that goes into the convolution. -/
def qu (w : FVec Ideal S3x256 .f32) (g : FVec Ideal S4x2048x256 .f32) : FVec Ideal S4x2048x256 .f32 :=
  extractStridedSlice S4x2048x256 ![0, 2, 0] (addf (addf (qa2 (mulf (qw2 w) g)) (qa1 (mulf (qw1 w) g))) (qa0 (mulf (qw0 w) g))) slices_S4x2050x256_S4x2048x256_0_2_0

/-- The three parts side by side, and as rows. -/
def qj (x y z : FVec Ideal S4x2048x256 .f32) : FVec Ideal S4x2048x768 .f32 :=
  concatenate S4x2048x768 2 [⟨S4x2048x256, x⟩, ⟨S4x2048x256, y⟩, ⟨S4x2048x256, z⟩] concatenates_S4x2048x256_S4x2048x256_S4x2048x256_S4x2048x768_d2
def qr (x : FVec Ideal S4x2048x768 .f32) : Vec Ideal S8192x768 .bf16 :=
  truncf (F := Ideal) .bf16 (shapeCast _ x shapeCasts_S4x2048x768_S8192x768) bitsLt_bf16_f32

/-- The three parts of the gradient. -/
def qt0 (w : FVec Ideal S3x256 .f32) (p : FVec Ideal S4x2048x768 .f32) (y : FVec Ideal S4x2048x256 .f32) : FVec Ideal S4x2048x256 .f32 :=
  mulf y (qc (qpad (qz p)) w)
def qt1 (w : FVec Ideal S3x256 .f32) (p : FVec Ideal S4x2048x768 .f32) (y : FVec Ideal S4x2048x256 .f32) : FVec Ideal S4x2048x256 .f32 :=
  mulf (qu w (qd p y)) (extractStridedSlice S4x2048x256 ![0, 0, 512] p slices_S4x2048x768_S4x2048x256_0_0_512)
def qt2 (w : FVec Ideal S3x256 .f32) (p : FVec Ideal S4x2048x768 .f32) (y : FVec Ideal S4x2048x256 .f32) : FVec Ideal S4x2048x256 .f32 :=
  mulf (extractStridedSlice S4x2048x256 ![0, 0, 256] p slices_S4x2048x768_S4x2048x256_0_0_256) (qu w (qd p y))

/-- A product with the rows of one tap, and its sum over all rows. -/
def qm2 (g : FVec Ideal S4x2048x256 .f32) (x : FVec Ideal S4x2050x256 .f32) : FVec Ideal S4x2048x256 .f32 :=
  mulf g (extractStridedSlice S4x2048x256 ![0, 2, 0] x slices_S4x2050x256_S4x2048x256_0_2_0)
def qm1 (g : FVec Ideal S4x2048x256 .f32) (x : FVec Ideal S4x2050x256 .f32) : FVec Ideal S4x2048x256 .f32 :=
  mulf g (extractStridedSlice S4x2048x256 ![0, 1, 0] x slices_S4x2050x256_S4x2048x256_0_1_0)
def qm0 (g : FVec Ideal S4x2048x256 .f32) (x : FVec Ideal S4x2050x256 .f32) : FVec Ideal S4x2048x256 .f32 :=
  mulf g (extractStridedSlice S4x2048x256 ![0, 0, 0] x slices_S4x2050x256_S4x2048x256_0_0_0)
def qs (x : FVec Ideal S4x2048x256 .f32) : FVec Ideal S1x256 .f32 :=
  broadcastInDim S1x256 ![1] bcast_S256_S1x256_1 (Host.reduceAdd (shapeCast _ (Host.reduceAdd x (constant (F := Ideal) S_ .f32 0x00000000#32) reducesTo_S4x2048x256_S256_d0_1 h_S_) shapeCasts_S256_S1x1x256) (constant (F := Ideal) S_ .f32 0x00000000#32) reducesTo_S1x1x256_S256_d0_1 h_S_)

/-- A row in its place. -/
def qb2 (x : FVec Ideal S1x256 .f32) : FVec Ideal S3x256 .f32 :=
  pad S3x256 ![2, 0] ![0, 0] ![0, 0] x (constant (F := Ideal) S_ .f32 0x00000000#32) pads_S1x256_S3x256_200_000 h_S_
def qb1 (x : FVec Ideal S1x256 .f32) : FVec Ideal S3x256 .f32 :=
  pad S3x256 ![1, 0] ![1, 0] ![0, 0] x (constant (F := Ideal) S_ .f32 0x00000000#32) pads_S1x256_S3x256_110_000 h_S_
def qb0 (x : FVec Ideal S1x256 .f32) : FVec Ideal S3x256 .f32 :=
  pad S3x256 ![0, 0] ![2, 0] ![0, 0] x (constant (F := Ideal) S_ .f32 0x00000000#32) pads_S1x256_S3x256_020_000 h_S_

/-- The gradient of the taps. -/
def qw (g : FVec Ideal S4x2048x256 .f32) (x : FVec Ideal S4x2050x256 .f32) : FVec Ideal S3x256 .f32 :=
  addf (addf (qb2 (qs (qm2 g x))) (qb1 (qs (qm1 g x)))) (qb0 (qs (qm0 g x)))

/-- The padding value. -/
theorem zero_at (y : S_.Idx) : constant (F := Ideal) S_ .f32 0x00000000#32 y = (0 : EReal) := by pointwise

/-- Rows with zeros about them. -/
theorem rows_at (o q : Nat) (x : FVec Ideal S4x2048x256 .f32) (h : S4x2048x256.Pads (![0, o, 0] : Fin 3 → Nat) ![0, q, 0] ![0, 0, 0] S4x2050x256)
    (e : Fin 4) (r : Fin 2050) (l : Fin 256) :
    pad S4x2050x256 ![0, o, 0] ![0, q, 0] ![0, 0, 0] x (constant (F := Ideal) S_ .f32 0x00000000#32) h h_S_ (ix3 e r l)
      = if hr : o ≤ r.val ∧ r.val - o < 2048 then x (ix3 e ⟨r.val - o, hr.2⟩ l) else (0 : EReal) := by
  by_cases hr : o ≤ r.val ∧ r.val - o < 2048
  · rw [dif_pos hr]
    refine pad_apply_of_inside _ _ _ x _ h h_S_ (ix3 e r l) (ix3 e ⟨r.val - o, hr.2⟩ l) fun a => ?_
    match a with
    | 0 => show e.val = 0 + e.val * (0 + 1); omega
    | 1 => show r.val = o + (r.val - o) * (0 + 1); omega
    | 2 => show l.val = 0 + l.val * (0 + 1); omega
  · rw [dif_neg hr]
    refine (pad_apply_of_not_inside _ _ _ x _ h h_S_ (ix3 e r l) (1 : Fin 3) fun hin => hr ⟨hin.1, ?_⟩).trans (zero_at _)
    have h2 : (r.val - o) / (0 + 1) < 2048 := hin.2.2
    omega

/-- A row in its place. -/
theorem row_at (o q : Nat) (x : FVec Ideal S1x256 .f32) (h : S1x256.Pads (![o, 0] : Fin 2 → Nat) ![q, 0] ![0, 0] S3x256) (k : Fin 3) (l : Fin 256) :
    pad S3x256 ![o, 0] ![q, 0] ![0, 0] x (constant (F := Ideal) S_ .f32 0x00000000#32) h h_S_ (ix2 k l)
      = if k.val = o then x (ix2 0 l) else (0 : EReal) := by
  by_cases hk : k.val = o
  · rw [if_pos hk]
    refine pad_apply_of_inside _ _ _ x _ h h_S_ (ix2 k l) (ix2 0 l) fun a => ?_
    match a with
    | 0 => show k.val = o + 0 * (0 + 1); omega
    | 1 => show l.val = 0 + l.val * (0 + 1); omega
  · rw [if_neg hk]
    refine (pad_apply_of_not_inside _ _ _ x _ h h_S_ (ix2 k l) (0 : Fin 2) fun hin => hk ?_).trans (zero_at _)
    have h1 : o ≤ k.val := hin.1
    have h2 : (k.val - o) / (0 + 1) < 1 := hin.2.2
    omega

section

variable {a : Vec Ideal S8192x2560 .bf16} {w : FVec Ideal S3x256 .f32} {d : Vec Ideal S8192x1024 .bf16} {g : FVec Ideal S4x2048x256 .f32}
  {A : Fin 8192 → Fin 2560 → EReal} {W : Fin 3 → Fin 256 → EReal} {D : Fin 8192 → Fin 1024 → EReal}

theorem qy_at (hd : ∀ r k, d (ix2 r k) = D r k) (e : Fin 4) (s : Fin 2048) (l : Fin 256) : qy d (ix3 e s l) = D (ex e s) ⟨l, by omega⟩ := by
  pointwise [qy]
  exact hd _ _

theorem qd_at (ha : ∀ r k, a (ix2 r k) = A r k) (hd : ∀ r k, d (ix2 r k) = D r k) (e : Fin 4) (s : Fin 2048) (l : Fin 256) :
    qd (qp a) (qy d) (ix3 e s l) = dc A D e l s := by
  pointwise [qd]
  rw [qy_at hd, qp_at ha, mul_comm]
  rfl

/-- The rows of the three taps, moved back. -/
theorem up_2 (x : FVec Ideal S4x2048x256 .f32) (e : Fin 4) (s : Fin 2048) (l : Fin 256) : qa2 x (ix3 e ⟨2 + s.val, by omega⟩ l) = x (ix3 e s l) := by
  refine (rows_at 2 0 x _ e _ l).trans ((dif_pos (show 2 ≤ 2 + s.val ∧ 2 + s.val - 2 < 2048 by omega)).trans ?_)
  exact congrArg (fun s => x (ix3 e s l)) (Fin.ext (by show 2 + s.val - 2 = s.val; omega))
theorem up_1 (x : FVec Ideal S4x2048x256 .f32) (e : Fin 4) (s : Fin 2048) (l : Fin 256) :
    qa1 x (ix3 e ⟨2 + s.val, by omega⟩ l) = up (fun s => x (ix3 e s l)) 1 s := by
  refine (rows_at 1 1 x _ e _ l).trans ?_
  unfold up
  by_cases h : s.val + 1 < 2048
  · rw [dif_pos h, dif_pos (show 1 ≤ 2 + s.val ∧ 2 + s.val - 1 < 2048 by omega)]
    exact congrArg (fun s => x (ix3 e s l)) (Fin.ext (by show 2 + s.val - 1 = s.val + 1; omega))
  · rw [dif_neg h, dif_neg (show ¬ (1 ≤ 2 + s.val ∧ 2 + s.val - 1 < 2048) by omega)]
theorem up_0 (x : FVec Ideal S4x2048x256 .f32) (e : Fin 4) (s : Fin 2048) (l : Fin 256) :
    qa0 x (ix3 e ⟨2 + s.val, by omega⟩ l) = up (fun s => x (ix3 e s l)) 2 s := by
  refine (rows_at 0 2 x _ e _ l).trans ?_
  unfold up
  by_cases h : s.val + 2 < 2048
  · rw [dif_pos h, dif_pos (show 0 ≤ 2 + s.val ∧ 2 + s.val - 0 < 2048 by omega)]
    exact congrArg (fun s => x (ix3 e s l)) (Fin.ext (by show 2 + s.val - 0 = s.val + 2; omega))
  · rw [dif_neg h, dif_neg (show ¬ (0 ≤ 2 + s.val ∧ 2 + s.val - 0 < 2048) by omega)]

/-- A factor goes through a move. -/
theorem up_mul (c : EReal) (z : Fin 2048 → EReal) (k : Nat) (s : Fin 2048) : up (fun s => c * z s) k s = c * up z k s := by
  unfold up
  by_cases h : s.val + k < 2048
  · rw [dif_pos h, dif_pos h]
  · rw [dif_neg h, dif_neg h, mul_zero]

theorem qu_at (hw : ∀ k l, w (ix2 k l) = W k l) (hg : ∀ e s l, g (ix3 e s l) = dc A D e l s) (e : Fin 4) (s : Fin 2048) (l : Fin 256) :
    qu w g (ix3 e s l) = du A W D e s l := by
  have h2 : (fun s => mulf (F := Ideal) (φ := .f32) (qw2 w) g (ix3 e s l)) = fun s => W 2 l * dc A D e l s := funext fun s =>
    congrArg₂ (· * ·) ((qw2_at w e s l).trans (hw 2 l)) (hg e s l)
  have h1 : (fun s => mulf (F := Ideal) (φ := .f32) (qw1 w) g (ix3 e s l)) = fun s => W 1 l * dc A D e l s := funext fun s =>
    congrArg₂ (· * ·) ((qw1_at w e s l).trans (hw 1 l)) (hg e s l)
  have h0 : (fun s => mulf (F := Ideal) (φ := .f32) (qw0 w) g (ix3 e s l)) = fun s => W 0 l * dc A D e l s := funext fun s =>
    congrArg₂ (· * ·) ((qw0_at w e s l).trans (hw 0 l)) (hg e s l)
  pointwise [qu]
  refine congrArg₂ (· + ·) (congrArg₂ (· + ·) ?_ ?_) ?_
  · exact (up_2 _ e s l).trans (congrFun h2 s)
  · exact (up_1 _ e s l).trans ((congrArg (fun z => up z 1 s) h1).trans (up_mul _ _ _ _))
  · exact (up_0 _ e s l).trans ((congrArg (fun z => up z 2 s) h0).trans (up_mul _ _ _ _))

/-- The padded product read at the rows of each tap. -/
theorem qx_at (ha : ∀ r k, a (ix2 r k) = A r k) (e : Fin 4) (s : Fin 2048) (l : Fin 256) :
    qpad (qz (qp a)) (ix3 e ⟨s, by omega⟩ l) = dn (zz A e l) 2 s
    ∧ qpad (qz (qp a)) (ix3 e ⟨1 + s, by omega⟩ l) = dn (zz A e l) 1 s
    ∧ qpad (qz (qp a)) (ix3 e ⟨2 + s, by omega⟩ l) = zz A e l s := by
  have hz : ∀ e s l, qz (qp a) (ix3 e s l) = zz A e l s := fun e s l => by
    rw [qz_at, qp_at ha, qp_at ha]
    rfl
  refine ⟨(qpad_at hz _ _ _).trans rfl, (qpad_at hz _ _ _).trans ?_, (qpad_at hz _ _ _).trans ?_⟩
  · unfold dn
    by_cases h : 1 ≤ s.val
    · rw [dif_pos h, dif_pos (show 2 ≤ 1 + s.val by omega)]
      exact congrArg (zz A e l) (Fin.ext (by show 1 + s.val - 2 = s.val - 1; omega))
    · rw [dif_neg h, dif_neg (show ¬ 2 ≤ 1 + s.val by omega)]
  · rw [dif_pos (show 2 ≤ 2 + s.val by omega)]
    exact congrArg (zz A e l) (Fin.ext (by show 2 + s.val - 2 = s.val; omega))

theorem qc_eq (ha : ∀ r k, a (ix2 r k) = A r k) (hw : ∀ k l, w (ix2 k l) = W k l) (e : Fin 4) (s : Fin 2048) (l : Fin 256) :
    qc (qpad (qz (qp a))) w (ix3 e s l) = cv A W e s l := by
  obtain ⟨h0, h1, h2⟩ := qx_at ha e s l
  rw [qc_at, h0, h1, h2, hw, hw, hw]
  exact regroup _ _ _

theorem qt0_at (ha : ∀ r k, a (ix2 r k) = A r k) (hw : ∀ k l, w (ix2 k l) = W k l) (hd : ∀ r k, d (ix2 r k) = D r k) (e : Fin 4) (s : Fin 2048) (l : Fin 256) :
    qt0 w (qp a) (qy d) (ix3 e s l) = D (ex e s) ⟨l, by omega⟩ * cv A W e s l := by
  exact congrArg₂ (· * ·) (qy_at hd e s l) (qc_eq ha hw e s l)
theorem qt1_at (ha : ∀ r k, a (ix2 r k) = A r k) (hw : ∀ k l, w (ix2 k l) = W k l) (hd : ∀ r k, d (ix2 r k) = D r k) (e : Fin 4) (s : Fin 2048) (l : Fin 256) :
    qt1 w (qp a) (qy d) (ix3 e s l) = du A W D e s l * A (ex e s) ⟨512 + l, by omega⟩ := by
  pointwise [qt1]
  rw [qu_at hw (qd_at ha hd), qp_at ha]
theorem qt2_at (ha : ∀ r k, a (ix2 r k) = A r k) (hw : ∀ k l, w (ix2 k l) = W k l) (hd : ∀ r k, d (ix2 r k) = D r k) (e : Fin 4) (s : Fin 2048) (l : Fin 256) :
    qt2 w (qp a) (qy d) (ix3 e s l) = du A W D e s l * A (ex e s) ⟨256 + l, by omega⟩ := by
  pointwise [qt2]
  rw [qu_at hw (qd_at ha hd), qp_at ha, mul_comm]

theorem qj_0 (x y z : FVec Ideal S4x2048x256 .f32) (e : Fin 4) (s : Fin 2048) (l : Fin 256) : qj x y z (ix3 e s ⟨0 + l.val, by omega⟩) = x (ix3 e s l) :=
  concatenate_apply_piece (t := S4x2048x768) 2 _ _ (ix3 (n2 := 768) e s ⟨0 + l.val, by omega⟩) 0 (by show 0 < 3; omega) S4x2048x256 x rfl rfl 0 rfl (ix3 e s l)
    (fun b hb => by
      match b with
      | 0 => rfl
      | 1 => rfl
      | 2 => exact absurd rfl hb) rfl
theorem qj_1 (x y z : FVec Ideal S4x2048x256 .f32) (e : Fin 4) (s : Fin 2048) (l : Fin 256) : qj x y z (ix3 e s ⟨256 + l.val, by omega⟩) = y (ix3 e s l) :=
  concatenate_apply_piece (t := S4x2048x768) 2 _ _ (ix3 (n2 := 768) e s ⟨256 + l.val, by omega⟩) 1 (by show 1 < 3; omega) S4x2048x256 y rfl rfl 256 rfl (ix3 e s l)
    (fun b hb => by
      match b with
      | 0 => rfl
      | 1 => rfl
      | 2 => exact absurd rfl hb) rfl
theorem qj_2 (x y z : FVec Ideal S4x2048x256 .f32) (e : Fin 4) (s : Fin 2048) (l : Fin 256) : qj x y z (ix3 e s ⟨512 + l.val, by omega⟩) = z (ix3 e s l) :=
  concatenate_apply_piece (t := S4x2048x768) 2 _ _ (ix3 (n2 := 768) e s ⟨512 + l.val, by omega⟩) 2 (by show 2 < 3; omega) S4x2048x256 z rfl rfl 512 rfl (ix3 e s l)
    (fun b hb => by
      match b with
      | 0 => rfl
      | 1 => rfl
      | 2 => exact absurd rfl hb) rfl

theorem qr_at (x : FVec Ideal S4x2048x768 .f32) (e : Fin 4) (s : Fin 2048) (k : Fin 768) : qr x (ix2 (ex e s) k) = x (ix3 e s k) := by
  pointwise [qr]
  have h0 : (⟨(ex e s).val / 2048, by omega⟩ : Fin 4) = e := Fin.ext (by show (e.val * 2048 + s.val) / 2048 = e.val; omega)
  have h1 : (⟨(ex e s).val % 2048, by omega⟩ : Fin 2048) = s := Fin.ext (by show (e.val * 2048 + s.val) % 2048 = s.val; omega)
  rw [h0, h1]

/-- The gradient of the projection. -/
theorem ref0 (ha : ∀ r k, a (ix2 r k) = A r k) (hw : ∀ k l, w (ix2 k l) = W k l) (hd : ∀ r k, d (ix2 r k) = D r k) :
    qr (qj (qt0 w (qp a) (qy d)) (qt1 w (qp a) (qy d)) (qt2 w (qp a) (qy d))) = fun y : S8192x768.Idx => dpr A W D (y 0) (y 1) := by
  funext y
  obtain ⟨r, k, rfl⟩ : ∃ (r : Fin 8192) (k : Fin 768), y = ix2 r k := ⟨y 0, y 1, eq_ix2 y⟩
  obtain ⟨e, s, rfl⟩ := eq_ex r
  refine (qr_at _ e s k).trans (Eq.trans ?_ (dpr_ex A W D e s k).symm)
  have hc : (∃ l : Fin 256, k = ⟨0 + l.val, by omega⟩) ∨ (∃ l : Fin 256, k = ⟨256 + l.val, by omega⟩) ∨ ∃ l : Fin 256, k = ⟨512 + l.val, by omega⟩ := by
    by_cases h : k.val < 256
    · exact .inl ⟨⟨k, h⟩, Fin.ext (Nat.zero_add _).symm⟩
    · by_cases h' : k.val < 512
      · exact .inr (.inl ⟨⟨k - 256, by omega⟩, Fin.ext (by show k.val = 256 + (k.val - 256); omega)⟩)
      · exact .inr (.inr ⟨⟨k - 512, by omega⟩, Fin.ext (by show k.val = 512 + (k.val - 512); omega)⟩)
  obtain ⟨l, rfl⟩ | ⟨l, rfl⟩ | ⟨l, rfl⟩ := hc
  · exact (qj_0 _ _ _ e s l).trans ((qt0_at ha hw hd e s l).trans (dp_0 A W D e s _ l (Nat.zero_add _)).symm)
  · exact (qj_1 _ _ _ e s l).trans ((qt1_at ha hw hd e s l).trans (dp_1 A W D e s _ l rfl).symm)
  · exact (qj_2 _ _ _ e s l).trans ((qt2_at ha hw hd e s l).trans (dp_2 A W D e s _ l rfl).symm)

/-- Summing the first two of three axes. -/
theorem reduce2 {n0 n1 n2 : Nat} (hr : (⟨3, ![n0, n1, n2]⟩ : Shape).ReducesTo [0, 1] ⟨1, ![n2]⟩) (v : (⟨3, ![n0, n1, n2]⟩ : Shape).Idx → EReal) (l : Fin n2) :
    Ideal.hostReduceAdd hr v 0 (ix1 l) = ∑ e : Fin n0, ∑ s : Fin n1, v (ix3 e s l) := by
  refine (zero_add _).trans ?_
  refine (Finset.sum_filter_eq_sum_of_fiber _ (fun k : Fin n0 × Fin n1 => ix3 k.1 k.2 l)
    (fun _ _ e => Prod.ext (congrFun e 0) (congrFun e 1)) (fun i => ⟨fun e => ?_, ?_⟩) v).trans ?_
  · refine ⟨(i 0, i 1), ?_⟩
    funext a; apply Fin.ext
    match a with
    | ⟨0, _⟩ => rfl
    | ⟨1, _⟩ => rfl
    | ⟨2, _⟩ => exact (congrArg Fin.val (congrFun e 0)).symm
  · rintro ⟨k, rfl⟩
    funext b; apply Fin.ext
    match b with
    | ⟨0, _⟩ => rfl
  · simp only [Fintype.sum_prod_type]

theorem qs_at (x : FVec Ideal S4x2048x256 .f32) (l : Fin 256) : qs x (ix2 0 l) = ∑ e, ∑ s, x (ix3 e s l) := by
  pointwise [qs]
  refine (reduce2 reducesTo_S1x1x256_S256_d0_1 _ l).trans ?_
  simp only [Finset.univ_unique, Finset.sum_singleton]
  pointwise
  exact reduce2 reducesTo_S4x2048x256_S256_d0_1 x l

/-- Of three numbers with zeros for the others, the one in its place. -/
theorem pick (k : Fin 3) (f : Fin 3 → EReal) :
    (if k.val = 2 then f 2 else 0) + (if k.val = 1 then f 1 else 0) + (if k.val = 0 then f 0 else 0) = f k := by
  match k with
  | 0 => simp
  | 1 => simp
  | 2 => simp

/-- The gradient of the taps. -/
theorem ref1 (ha : ∀ r k, a (ix2 r k) = A r k) (hd : ∀ r k, d (ix2 r k) = D r k) :
    qw (qd (qp a) (qy d)) (qpad (qz (qp a))) = fun y : S3x256.Idx => ∑ e, dw A D e (y 0) (y 1) := by
  funext y
  obtain ⟨k, l, rfl⟩ : ∃ (k : Fin 3) (l : Fin 256), y = ix2 k l := ⟨y 0, y 1, eq_ix2 y⟩
  have h2 : qs (qm2 (qd (qp a) (qy d)) (qpad (qz (qp a)))) (ix2 0 l) = ∑ e, dw A D e 2 l := by
    rw [qs_at]
    refine Finset.sum_congr rfl fun e _ => Finset.sum_congr rfl fun s _ => ?_
    pointwise [qm2]
    exact congrArg₂ (· * ·) (qd_at ha hd e s l) ((qx_at ha e s l).2.2.trans (dn_0 _ _).symm)
  have h1 : qs (qm1 (qd (qp a) (qy d)) (qpad (qz (qp a)))) (ix2 0 l) = ∑ e, dw A D e 1 l := by
    rw [qs_at]
    refine Finset.sum_congr rfl fun e _ => Finset.sum_congr rfl fun s _ => ?_
    pointwise [qm1]
    exact congrArg₂ (· * ·) (qd_at ha hd e s l) (qx_at ha e s l).2.1
  have h0 : qs (qm0 (qd (qp a) (qy d)) (qpad (qz (qp a)))) (ix2 0 l) = ∑ e, dw A D e 0 l := by
    rw [qs_at]
    refine Finset.sum_congr rfl fun e _ => Finset.sum_congr rfl fun s _ => ?_
    pointwise [qm0]
    exact congrArg₂ (· * ·) (qd_at ha hd e s l) (qx_at ha e s l).1
  have hb : qw (qd (qp a) (qy d)) (qpad (qz (qp a))) (ix2 k l) = (if k.val = 2 then ∑ e, dw A D e 2 l else 0) + (if k.val = 1 then ∑ e, dw A D e 1 l else 0)
      + (if k.val = 0 then ∑ e, dw A D e 0 l else 0) := by
    rw [← h2, ← h1, ← h0]
    exact congrArg₂ (· + ·) (congrArg₂ (· + ·) (row_at 2 0 _ _ k l) (row_at 1 1 _ _ k l)) (row_at 0 2 _ _ k l)
  exact hb.trans (pick k fun k => ∑ e, dw A D e k l)

end

section

variable (m : (ℓ : Loc nD τ sig) → Buf (Elt Ideal) ℓ) (c : Dev nD)

/-- The arguments' stages: the three parts of the rows, the incoming gradient. -/
def aP : FVec Ideal S4x2048x768 .f32 := qp (m ((c.tc : Thread nD τ).loc main_arg0))
def aY : FVec Ideal S4x2048x256 .f32 := qy (m ((c.tc : Thread nD τ).loc main_arg2))

theorem res0 : Value.res_main_v75 m c = qr (qj (qt0 (m ((c.tc : Thread nD τ).loc main_arg1)) (aP m c) (aY m c))
    (qt1 (m ((c.tc : Thread nD τ).loc main_arg1)) (aP m c) (aY m c)) (qt2 (m ((c.tc : Thread nD τ).loc main_arg1)) (aP m c) (aY m c))) := rfl
theorem res1 : Value.res_main_v68 m c = qw (qd (aP m c) (aY m c)) (qpad (qz (aP m c))) := rfl

end

end

theorem frame_p : Cert.quiescent_Kernel14 := fun m ρ _ => Cert.Kernel14.Gen.frame m ρ
theorem frame_pi : Cert.quiescent_Kernel14Ideal := fun m ρ _ => Cert.Kernel14Ideal.Gen.frame m ρ
theorem frame_ri : Cert.quiescent_Reference14Ideal := fun m ρ _ =>
  (θ_run Cert.Reference14Ideal.defs _ _).mono (fun r h => ⟨fun c => (h c).2.2, sem_eq_zero_of_no_sems (by decide) r.2⟩)
    (Cert.Reference14Ideal.Value.run (F := Ideal) m ρ)

theorem preserves : Cert.preserves_Kernel14_Kernel14Ideal := trivial

theorem algebraic : Cert.algebraic_Kernel14Ideal_Reference14Ideal := by
  intro m ρ m' ρ' _ hag
  refine ⟨_, _, Cert.Kernel14Ideal.Value.run_blocks (F := Ideal) m ρ, ?_⟩
  refine (θ_run Cert.Reference14Ideal.defs _ _).mono (fun r h c => ?_) (Cert.Reference14Ideal.Value.run (F := Ideal) m' ρ')
  obtain ⟨a0, a1, a2⟩ := hag c
  have hk : ∃ A W D, Given m c A W D ∧ (∀ r k, (m' ((c.tc : Thread Cert.Reference14Ideal.nD Cert.Reference14Ideal.τ).loc Cert.Reference14Ideal.main_arg0) : Cert.Reference14Ideal.S8192x2560.Idx → EReal) (ix2 r k) = A r k)
      ∧ (∀ k l, (m' ((c.tc : Thread Cert.Reference14Ideal.nD Cert.Reference14Ideal.τ).loc Cert.Reference14Ideal.main_arg1) : Cert.Reference14Ideal.S3x256.Idx → EReal) (ix2 k l) = W k l)
      ∧ (∀ r k, (m' ((c.tc : Thread Cert.Reference14Ideal.nD Cert.Reference14Ideal.τ).loc Cert.Reference14Ideal.main_arg2) : Cert.Reference14Ideal.S8192x1024.Idx → EReal) (ix2 r k) = D r k) :=
    ⟨_, _, _, ⟨fun _ _ => rfl, fun _ _ => rfl, fun _ _ => rfl⟩, fun _ _ => congrFun a0 _, fun _ _ => congrFun a1 _, fun _ _ => congrFun a2 _⟩
  obtain ⟨A, W, D, hg, ha, hw, hd⟩ := hk
  exact ⟨(h c).1.trans ((res0 m' c).trans ((ref0 ha hw hd).trans (final5 hg).symm)),
    (h c).2.1.trans ((res1 m' c).trans ((ref1 ha hd).trans (final6 hg).symm)), (h c).2.2⟩

end Cert.ABwd

end
-- ==== Proof.Mid.lean ====
/- The gated convolution of the feed-forward block, forward: its three results, at every value of the arguments. -/
module

public import proofs.«01_k».proof.Defs
public import proofs.«01_k».proof.Proof.AFwd
public import proofs.«01_k».proof.Proof.Gen.Kernel15.Frame
public import proofs.«01_k».proof.Proof.Gen.Kernel15Ideal.Frame
public import proofs.«01_k».proof.Proof.Gen.Kernel15Ideal.Value
public import proofs.«01_k».proof.Proof.Gen.Reference15Ideal.Run
public import Idealize.ShloMosaic.Lib.Pointwise
public import Idealize.ShloMosaic.Lib.Pipeline.ValueKit
public import Idealize.ShloMosaic.Lib.Pipeline.ReadBack
public import Idealize.ShloMosaic.Adequacy
public import Idealize.ShloMosaic.Init

@[expose] public section

set_option maxRecDepth 16384

noncomputable section

namespace Cert.Mid

open Idealize.ShloMosaic Idealize.SL.Sem
open TcCoe
open Cert.AFwd (ex dn padz padz_1 padz_2 regroup eq_ex)

/-- A convolution of three taps along a sequence, zeros before it. -/
def cv (z : Fin 2048 → EReal) (w0 w1 w2 : EReal) (s : Fin 2048) : EReal := w0 * dn z 2 s + w1 * dn z 1 s + w2 * z s

/-- The convolution of column `k` of example `e`. -/
def conv (A : Fin 8192 → Fin 5632 → EReal) (W : Fin 3 → Fin 5632 → EReal) (e : Fin 4) (s : Fin 2048) (k : Fin 5632) : EReal :=
  cv (fun s => A (ex e s) k) (W 0 k) (W 1 k) (W 2 k) s

/-- The gate's activation. -/
def sl (g : EReal) : EReal := g * Ideal.div 1 (1 + Ideal.exp (-g))

theorem sl_of (g : EReal) : g * Ideal.div 1 (1 + Ideal.exp (0 - g)) = sl g := by rw [sl, zero_sub]

/-- The two halves of the columns. -/
def lo (l : Fin 2816) : Fin 5632 := ⟨l, by omega⟩
def hi (l : Fin 2816) : Fin 5632 := ⟨2816 + l, by omega⟩

/-- The gated convolution. -/
def act (A : Fin 8192 → Fin 5632 → EReal) (W : Fin 3 → Fin 5632 → EReal) (e : Fin 4) (s : Fin 2048) (l : Fin 2816) : EReal :=
  sl (conv A W e s (lo l)) * conv A W e s (hi l)

/-- A function of the rows of every example, as a function of all rows. -/
def rows (f : Fin 4 → Fin 2048 → Fin 2816 → EReal) (r : Fin 8192) (l : Fin 2816) : EReal :=
  f ⟨r.val / 2048, by omega⟩ ⟨r.val % 2048, by omega⟩ l

theorem rows_ex (f : Fin 4 → Fin 2048 → Fin 2816 → EReal) (e : Fin 4) (s : Fin 2048) (l : Fin 2816) : rows f (ex e s) l = f e s l := by
  have h0 : (⟨(ex e s).val / 2048, by omega⟩ : Fin 4) = e := Fin.ext (by show (e.val * 2048 + s.val) / 2048 = e.val; omega)
  have h1 : (⟨(ex e s).val % 2048, by omega⟩ : Fin 2048) = s := Fin.ext (by show (e.val * 2048 + s.val) % 2048 = s.val; omega)
  rw [rows, h0, h1]

/-! What the kernel computes. -/

section

open Cert.Kernel15Ideal Cert.Kernel15Ideal.Gen

/-! The convolution of each half of the columns, at each example. -/

theorem g0 (x : Vec Ideal S2048x256 .bf16) (a b d : Vec Ideal S1x256 .f32) (s : Fin 2048) (l : Fin 256) :
    k0_pay5 (F := Ideal) x a b d (ix2 s l) = cv (fun s => x (ix2 s l)) (d (ix2 0 l)) (b (ix2 0 l)) (a (ix2 0 l)) s := by
  pointwise [k0_pay5]
  refine Eq.trans ?_ (regroup _ _ _)
  refine congrArg₂ (· + ·) (congrArg₂ (· + ·) rfl (congrArg₂ (· * ·) rfl ?_)) (congrArg₂ (· * ·) rfl ?_)
  · exact padz_1 (fun s => x (ix2 s l)) s
  · exact padz_2 (fun s => x (ix2 s l)) s
theorem g1 (x : Vec Ideal S2048x256 .bf16) (a b d : Vec Ideal S1x256 .f32) (s : Fin 2048) (l : Fin 256) :
    k0_pay10 (F := Ideal) x a b d (ix2 s l) = cv (fun s => x (ix2 s l)) (d (ix2 0 l)) (b (ix2 0 l)) (a (ix2 0 l)) s := by
  pointwise [k0_pay10]
  refine Eq.trans ?_ (regroup _ _ _)
  refine congrArg₂ (· + ·) (congrArg₂ (· + ·) rfl (congrArg₂ (· * ·) rfl ?_)) (congrArg₂ (· * ·) rfl ?_)
  · exact padz_1 (fun s => x (ix2 s l)) s
  · exact padz_2 (fun s => x (ix2 s l)) s
theorem g2 (x : Vec Ideal S2048x256 .bf16) (a b d : Vec Ideal S1x256 .f32) (s : Fin 2048) (l : Fin 256) :
    k0_pay17 (F := Ideal) (k0_pay16 (F := Ideal) x) 1#32 a b d (ix2 s l) = cv (fun s => x (ix2 s l)) (d (ix2 0 l)) (b (ix2 0 l)) (a (ix2 0 l)) s := by
  pointwise [k0_pay17, k0_pay16]
  refine Eq.trans ?_ (regroup _ _ _)
  refine congrArg₂ (· + ·) (congrArg₂ (· + ·) rfl (congrArg₂ (· * ·) rfl ?_)) (congrArg₂ (· * ·) rfl ?_)
  · exact padz_1 (fun s => x (ix2 s l)) s
  · exact padz_2 (fun s => x (ix2 s l)) s
theorem g3 (x : Vec Ideal S2048x256 .bf16) (a b d : Vec Ideal S1x256 .f32) (s : Fin 2048) (l : Fin 256) :
    k0_pay23 (F := Ideal) x a b d (ix2 s l) = cv (fun s => x (ix2 s l)) (d (ix2 0 l)) (b (ix2 0 l)) (a (ix2 0 l)) s := by
  pointwise [k0_pay23]
  refine Eq.trans ?_ (regroup _ _ _)
  refine congrArg₂ (· + ·) (congrArg₂ (· + ·) rfl (congrArg₂ (· * ·) rfl ?_)) (congrArg₂ (· * ·) rfl ?_)
  · exact padz_1 (fun s => x (ix2 s l)) s
  · exact padz_2 (fun s => x (ix2 s l)) s
theorem v0 (x : Vec Ideal S2048x256 .bf16) (a b d : Vec Ideal S1x256 .f32) (s : Fin 2048) (l : Fin 256) :
    k0_pay6 (F := Ideal) x a b d (ix2 s l) = cv (fun s => x (ix2 s l)) (d (ix2 0 l)) (b (ix2 0 l)) (a (ix2 0 l)) s := by
  pointwise [k0_pay6]
  refine Eq.trans ?_ (regroup _ _ _)
  refine congrArg₂ (· + ·) (congrArg₂ (· + ·) rfl (congrArg₂ (· * ·) rfl ?_)) (congrArg₂ (· * ·) rfl ?_)
  · exact padz_1 (fun s => x (ix2 s l)) s
  · exact padz_2 (fun s => x (ix2 s l)) s
theorem v1 (x : Vec Ideal S2048x256 .bf16) (a b d : Vec Ideal S1x256 .f32) (s : Fin 2048) (l : Fin 256) :
    k0_pay12 (F := Ideal) (k0_pay11 (F := Ideal) x) a b d (ix2 s l) = cv (fun s => x (ix2 s l)) (d (ix2 0 l)) (b (ix2 0 l)) (a (ix2 0 l)) s := by
  pointwise [k0_pay12, k0_pay11]
  refine Eq.trans ?_ (regroup _ _ _)
  refine congrArg₂ (· + ·) (congrArg₂ (· + ·) rfl (congrArg₂ (· * ·) rfl ?_)) (congrArg₂ (· * ·) rfl ?_)
  · exact padz_1 (fun s => x (ix2 s l)) s
  · exact padz_2 (fun s => x (ix2 s l)) s
theorem v2 (x : Vec Ideal S2048x256 .bf16) (a b d : Vec Ideal S1x256 .f32) (s : Fin 2048) (l : Fin 256) :
    k0_pay18 (F := Ideal) x a b d (ix2 s l) = cv (fun s => x (ix2 s l)) (d (ix2 0 l)) (b (ix2 0 l)) (a (ix2 0 l)) s := by
  pointwise [k0_pay18]
  refine Eq.trans ?_ (regroup _ _ _)
  refine congrArg₂ (· + ·) (congrArg₂ (· + ·) rfl (congrArg₂ (· * ·) rfl ?_)) (congrArg₂ (· * ·) rfl ?_)
  · exact padz_1 (fun s => x (ix2 s l)) s
  · exact padz_2 (fun s => x (ix2 s l)) s
theorem v3 (x : Vec Ideal S2048x256 .bf16) (a b d : Vec Ideal S1x256 .f32) (s : Fin 2048) (l : Fin 256) :
    k0_pay1 (F := Ideal) (k0_pay24 (F := Ideal) x) (k0_pay25 (F := Ideal) x) (k0_pay26 (F := Ideal) x) a b d (ix2 s l) = cv (fun s => x (ix2 s l)) (d (ix2 0 l)) (b (ix2 0 l)) (a (ix2 0 l)) s := by
  pointwise [k0_pay1, k0_pay24, k0_pay25, k0_pay26]
  refine Eq.trans ?_ (regroup _ _ _)
  refine congrArg₂ (· + ·) (congrArg₂ (· + ·) rfl (congrArg₂ (· * ·) rfl ?_)) (congrArg₂ (· * ·) rfl ?_)
  · exact padz_1 (fun s => x (ix2 s l)) s
  · exact padz_2 (fun s => x (ix2 s l)) s

/-! The gated product, at each example. -/

theorem a0 (g v : FVec Ideal S2048x256 .f32) (s : Fin 2048) (l : Fin 256) : k0_pay7 (F := Ideal) g v (ix2 s l) = sl (g (ix2 s l)) * v (ix2 s l) := by
  pointwise [k0_pay7]
  exact congrArg (· * v (ix2 s l)) (sl_of _)
theorem a1 (g x : FVec Ideal S2048x256 .f32) (a b d : Vec Ideal S1x256 .f32) (s : Fin 2048) (l : Fin 256) :
    k0_pay13 (F := Ideal) g x a b d (ix2 s l) = sl (g (ix2 s l)) * k0_pay12 (F := Ideal) x a b d (ix2 s l) := by
  pointwise [k0_pay13]
  exact congrArg (· * k0_pay12 (F := Ideal) x a b d (ix2 s l)) (sl_of _)
theorem a2 (y : FVec Ideal S2056x256 .f32) (n : BitVec 32) (v : FVec Ideal S2048x256 .f32) (a b d : Vec Ideal S1x256 .f32) (s : Fin 2048) (l : Fin 256) :
    k0_pay20 (F := Ideal) (k0_pay17 (F := Ideal) y n a b d) v (k0_pay19 (F := Ideal) y n a b d) (ix2 s l) = sl (k0_pay17 (F := Ideal) y n a b d (ix2 s l)) * v (ix2 s l) := by
  pointwise [k0_pay20, k0_pay19]
  exact congrArg (· * v (ix2 s l)) (sl_of _)
theorem a3 (g : FVec Ideal S2048x256 .f32) (x y z : FVec Ideal S2056x256 .f32) (a b d : Vec Ideal S1x256 .f32) (s : Fin 2048) (l : Fin 256) :
    k0_pay2 (F := Ideal) g x y z a b d (ix2 s l) = sl (g (ix2 s l)) * k0_pay1 (F := Ideal) x y z a b d (ix2 s l) := by
  pointwise [k0_pay2]
  exact congrArg (· * k0_pay1 (F := Ideal) x y z a b d (ix2 s l)) (sl_of _)

/-- Which block of its array each window holds at each grid point. -/
theorem idx : ∀ t : Fin cfg0.N, win0_0.index t = ![0, t.val] ∧ win0_1.index t = ![0, t.val + 11] ∧ win0_2.index t = ![0, t.val]
    ∧ win0_3.index t = ![0, t.val + 11] ∧ win0_4.index t = ![0, t.val] ∧ win0_5.index t = ![0, t.val] ∧ win0_6.index t = ![0, t.val] ∧ t.val < 11 :=
  (by decide +kernel : ∀ t : Fin grid0.N, _)

/-- The column of a grid point's block. -/
def ci (t : Fin cfg0.N) (l : Fin 256) : Fin 2816 := ⟨t.val * 256 + l.val, by have := (idx t).2.2.2.2.2.2.2; omega⟩

/-- The arguments hold the numbers `A` and `W`. -/
structure Given (m : (ℓ : Loc nD τ sig) → Buf (Elt Ideal) ℓ) (c : Dev nD) (A : Fin 8192 → Fin 5632 → EReal) (W : Fin 3 → Fin 5632 → EReal) : Prop where
  a : ∀ r k, (m ((c.tc : Thread nD τ).loc main_arg0) : S8192x5632.Idx → EReal) (ix2 r k) = A r k
  w : ∀ k l, (m ((c.tc : Thread nD τ).loc main_arg1) : S3x5632.Idx → EReal) (ix2 k l) = W k l

variable {m : (ℓ : Loc nD τ sig) → Buf (Elt Ideal) ℓ} {c : Dev nD} {A : Fin 8192 → Fin 5632 → EReal} {W : Fin 3 → Fin 5632 → EReal}

theorem i0 (hg : Given m c A W) (t : Fin cfg0.N) (r : Fin 8192) (l : Fin 256) : (iblk m c 0 t : S8192x256.Idx → EReal) (ix2 r l) = A r (lo (ci t l)) := by
  refine Eq.trans ?_ (hg.a _ _)
  blk_point [iblk, V, idx t, lo, ci]
theorem i1 (hg : Given m c A W) (t : Fin cfg0.N) (r : Fin 8192) (l : Fin 256) : (iblk m c 1 t : S8192x256.Idx → EReal) (ix2 r l) = A r (hi (ci t l)) := by
  refine Eq.trans ?_ (hg.a _ _)
  blk_point [iblk, V, idx t, hi, ci]
theorem i2 (hg : Given m c A W) (t : Fin cfg0.N) (k : Fin 3) (l : Fin 256) : (iblk m c 2 t : S3x256.Idx → EReal) (ix2 k l) = W k (lo (ci t l)) := by
  refine Eq.trans ?_ (hg.w _ _)
  blk_point [iblk, V, idx t, lo, ci]
theorem i3 (hg : Given m c A W) (t : Fin cfg0.N) (k : Fin 3) (l : Fin 256) : (iblk m c 3 t : S3x256.Idx → EReal) (ix2 k l) = W k (hi (ci t l)) := by
  refine Eq.trans ?_ (hg.w _ _)
  blk_point [iblk, V, idx t, hi, ci]

/-- The rows of an example. -/
theorem ld_rows (X : Vec Ideal S8192x256 .bf16) (o : Nat) (h : ∀ a, (![o, 0] : Fin 2 → Nat) a + S2048x256.size a ≤ S8192x256.size a) (e : Fin 4) (ho : o = e.val * 2048) (s : Fin 2048) (l : Fin 256) :
    View.ld (Val := Elt Ideal) (S := S8192x256) (e' := .bf16) X (Rect.unit (s := S8192x256) ![o, 0] S2048x256.size h) (ix2 s l : S2048x256.Idx) = X (ix2 (ex e s) l) :=
  View.ld_unit_apply_of _ _ _ _ _ (ix2 (n0 := 8192) (ex e s) l) fun d => match d with
    | 0 => congrArg (· + s.val) ho.symm
    | 1 => (Nat.zero_add _).symm

/-- A tap. -/
theorem ld_tap (Y : FVec Ideal S3x256 .f32) (o : Nat) (h : ∀ a, (![o, 0] : Fin 2 → Nat) a + S1x256.size a ≤ S3x256.size a) (k : Fin 3) (hk : o = k.val) (l : Fin 256) :
    View.ld (Val := Elt Ideal) (S := S3x256) (e' := .f32) Y (Rect.unit (s := S3x256) ![o, 0] S1x256.size h) (ix2 0 l : S1x256.Idx) = Y (ix2 k l) :=
  View.ld_unit_apply_of _ _ _ _ _ (ix2 (n0 := 3) k l) fun d => match d with
    | 0 => hk.symm
    | 1 => (Nat.zero_add _).symm

theorem conv_g (hg : Given m c A W) (t : Fin cfg0.N) (o : Nat) (h : ∀ a, (![o, 0] : Fin 2 → Nat) a + S2048x256.size a ≤ S8192x256.size a) (e : Fin 4) (ho : o = e.val * 2048) (s : Fin 2048) (l : Fin 256) :
    cv (fun s => (View.ld (Val := Elt Ideal) (S := S8192x256) (e' := .bf16) (iblk m c 0 t) (Rect.unit (s := S8192x256) ![o, 0] S2048x256.size h) : S2048x256.Idx → EReal) (ix2 s l))
      ((View.ld (Val := Elt Ideal) (S := S3x256) (e' := .f32) (iblk m c 2 t) r0_3 : S1x256.Idx → EReal) (ix2 0 l))
      ((View.ld (Val := Elt Ideal) (S := S3x256) (e' := .f32) (iblk m c 2 t) r0_2 : S1x256.Idx → EReal) (ix2 0 l))
      ((View.ld (Val := Elt Ideal) (S := S3x256) (e' := .f32) (iblk m c 2 t) r0_1 : S1x256.Idx → EReal) (ix2 0 l)) s = conv A W e s (lo (ci t l)) := by
  have e0 := (ld_tap (iblk m c 2 t) 0 inb_S3x256_S1x256_0_0 0 rfl l).trans (i2 hg t 0 l)
  have e1 := (ld_tap (iblk m c 2 t) 1 inb_S3x256_S1x256_1_0 1 rfl l).trans (i2 hg t 1 l)
  have e2 := (ld_tap (iblk m c 2 t) 2 inb_S3x256_S1x256_2_0 2 rfl l).trans (i2 hg t 2 l)
  have ez := funext fun s => (ld_rows (iblk m c 0 t) o h e ho s l).trans (i0 hg t (ex e s) l)
  unfold conv
  exact congr (congr (congr (congr (congrArg cv ez) e0) e1) e2) rfl

theorem conv_v (hg : Given m c A W) (t : Fin cfg0.N) (o : Nat) (h : ∀ a, (![o, 0] : Fin 2 → Nat) a + S2048x256.size a ≤ S8192x256.size a) (e : Fin 4) (ho : o = e.val * 2048) (s : Fin 2048) (l : Fin 256) :
    cv (fun s => (View.ld (Val := Elt Ideal) (S := S8192x256) (e' := .bf16) (iblk m c 1 t) (Rect.unit (s := S8192x256) ![o, 0] S2048x256.size h) : S2048x256.Idx → EReal) (ix2 s l))
      ((View.ld (Val := Elt Ideal) (S := S3x256) (e' := .f32) (iblk m c 3 t) r0_3 : S1x256.Idx → EReal) (ix2 0 l))
      ((View.ld (Val := Elt Ideal) (S := S3x256) (e' := .f32) (iblk m c 3 t) r0_2 : S1x256.Idx → EReal) (ix2 0 l))
      ((View.ld (Val := Elt Ideal) (S := S3x256) (e' := .f32) (iblk m c 3 t) r0_1 : S1x256.Idx → EReal) (ix2 0 l)) s = conv A W e s (hi (ci t l)) := by
  have e0 := (ld_tap (iblk m c 3 t) 0 inb_S3x256_S1x256_0_0 0 rfl l).trans (i3 hg t 0 l)
  have e1 := (ld_tap (iblk m c 3 t) 1 inb_S3x256_S1x256_1_0 1 rfl l).trans (i3 hg t 1 l)
  have e2 := (ld_tap (iblk m c 3 t) 2 inb_S3x256_S1x256_2_0 2 rfl l).trans (i3 hg t 2 l)
  have ez := funext fun s => (ld_rows (iblk m c 1 t) o h e ho s l).trans (i1 hg t (ex e s) l)
  unfold conv
  exact congr (congr (congr (congr (congrArg cv ez) e0) e1) e2) rfl

/-- A row is a row of one example only. -/
theorem row_of (e : Fin 4) (s i : Fin 2048) (n : Nat) (hn : n < 4) (h : e.val * 2048 + s.val = n * 2048 + i.val) : e = ⟨n, hn⟩ ∧ s = i :=
  ⟨Fin.ext (by show e.val = n; omega), Fin.ext (by omega)⟩

theorem out4_at (hg : Given m c A W) (t : Fin cfg0.N) (e : Fin 4) (s : Fin 2048) (l : Fin 256) :
    out0_4 (F := Ideal) (iblk m c 0 t) (iblk m c 1 t) (iblk m c 2 t) (iblk m c 3 t) (ix2 (ex e s) l) = act A W e s (ci t l) := by
  unfold_out out0_4
  canon_tiles x q
  case piece0 =>
    obtain ⟨i, j, rfl⟩ : ∃ (i : Fin 2048) (j : Fin 256), x = ix2 i j := ⟨x 0, x 1, eq_ix2 x⟩
    obtain ⟨rfl, rfl⟩ := row_of e s i 3 (by decide) (by have h : e.val * 2048 + s.val = 6144 + i.val := q0; omega)
    obtain rfl : l = j := Fin.ext q1
    exact (a3 _ _ _ _ _ _ _ s l).trans (congrArg₂ (fun g v => sl g * v) ((g3 _ _ _ _ s l).trans (conv_g hg t 6144 inb_S8192x256_S2048x256_6144_0 3 rfl s l)) ((v3 _ _ _ _ s l).trans (conv_v hg t 6144 inb_S8192x256_S2048x256_6144_0 3 rfl s l)))
  case piece1 =>
    obtain ⟨i, j, rfl⟩ : ∃ (i : Fin 2048) (j : Fin 256), x = ix2 i j := ⟨x 0, x 1, eq_ix2 x⟩
    obtain ⟨rfl, rfl⟩ := row_of e s i 2 (by decide) (by have h : e.val * 2048 + s.val = 4096 + i.val := q0; omega)
    obtain rfl : l = j := Fin.ext q1
    exact (a2 _ _ _ _ _ _ s l).trans (congrArg₂ (fun g v => sl g * v) ((g2 _ _ _ _ s l).trans (conv_g hg t 4096 inb_S8192x256_S2048x256_4096_0 2 rfl s l)) ((v2 _ _ _ _ s l).trans (conv_v hg t 4096 inb_S8192x256_S2048x256_4096_0 2 rfl s l)))
  case piece2 =>
    obtain ⟨i, j, rfl⟩ : ∃ (i : Fin 2048) (j : Fin 256), x = ix2 i j := ⟨x 0, x 1, eq_ix2 x⟩
    obtain ⟨rfl, rfl⟩ := row_of e s i 1 (by decide) (by have h : e.val * 2048 + s.val = 2048 + i.val := q0; omega)
    obtain rfl : l = j := Fin.ext q1
    exact (a1 _ _ _ _ _ s l).trans (congrArg₂ (fun g v => sl g * v) ((g1 _ _ _ _ s l).trans (conv_g hg t 2048 inb_S8192x256_S2048x256_2048_0 1 rfl s l)) ((v1 _ _ _ _ s l).trans (conv_v hg t 2048 inb_S8192x256_S2048x256_2048_0 1 rfl s l)))
  case piece3 =>
    obtain ⟨i, j, rfl⟩ : ∃ (i : Fin 2048) (j : Fin 256), x = ix2 i j := ⟨x 0, x 1, eq_ix2 x⟩
    obtain ⟨rfl, rfl⟩ := row_of e s i 0 (by decide) (by have h : e.val * 2048 + s.val = i.val := q0; omega)
    obtain rfl : l = j := Fin.ext q1
    exact (a0 _ _ s l).trans (congrArg₂ (fun g v => sl g * v) ((g0 _ _ _ _ s l).trans (conv_g hg t 0 inb_S8192x256_S2048x256_0_0 0 rfl s l)) ((v0 _ _ _ _ s l).trans (conv_v hg t 0 inb_S8192x256_S2048x256_0_0 0 rfl s l)))

theorem out5_at (hg : Given m c A W) (t : Fin cfg0.N) (e : Fin 4) (s : Fin 2048) (l : Fin 256) :
    out0_5 (F := Ideal) (iblk m c 0 t) (iblk m c 1 t) (iblk m c 2 t) (iblk m c 3 t) (ix2 (ex e s) l) = conv A W e s (lo (ci t l)) := by
  unfold_out out0_5
  canon_tiles x q
  case piece0 =>
    obtain ⟨i, j, rfl⟩ : ∃ (i : Fin 2048) (j : Fin 256), x = ix2 i j := ⟨x 0, x 1, eq_ix2 x⟩
    obtain ⟨rfl, rfl⟩ := row_of e s i 3 (by decide) (by have h : e.val * 2048 + s.val = 6144 + i.val := q0; omega)
    obtain rfl : l = j := Fin.ext q1
    exact (g3 _ _ _ _ s l).trans (conv_g hg t 6144 inb_S8192x256_S2048x256_6144_0 3 rfl s l)
  case piece1 =>
    obtain ⟨i, j, rfl⟩ : ∃ (i : Fin 2048) (j : Fin 256), x = ix2 i j := ⟨x 0, x 1, eq_ix2 x⟩
    obtain ⟨rfl, rfl⟩ := row_of e s i 2 (by decide) (by have h : e.val * 2048 + s.val = 4096 + i.val := q0; omega)
    obtain rfl : l = j := Fin.ext q1
    exact (g2 _ _ _ _ s l).trans (conv_g hg t 4096 inb_S8192x256_S2048x256_4096_0 2 rfl s l)
  case piece2 =>
    obtain ⟨i, j, rfl⟩ : ∃ (i : Fin 2048) (j : Fin 256), x = ix2 i j := ⟨x 0, x 1, eq_ix2 x⟩
    obtain ⟨rfl, rfl⟩ := row_of e s i 1 (by decide) (by have h : e.val * 2048 + s.val = 2048 + i.val := q0; omega)
    obtain rfl : l = j := Fin.ext q1
    exact (g1 _ _ _ _ s l).trans (conv_g hg t 2048 inb_S8192x256_S2048x256_2048_0 1 rfl s l)
  case piece3 =>
    obtain ⟨i, j, rfl⟩ : ∃ (i : Fin 2048) (j : Fin 256), x = ix2 i j := ⟨x 0, x 1, eq_ix2 x⟩
    obtain ⟨rfl, rfl⟩ := row_of e s i 0 (by decide) (by have h : e.val * 2048 + s.val = i.val := q0; omega)
    obtain rfl : l = j := Fin.ext q1
    exact (g0 _ _ _ _ s l).trans (conv_g hg t 0 inb_S8192x256_S2048x256_0_0 0 rfl s l)

theorem out6_at (hg : Given m c A W) (t : Fin cfg0.N) (e : Fin 4) (s : Fin 2048) (l : Fin 256) :
    out0_6 (F := Ideal) (iblk m c 0 t) (iblk m c 1 t) (iblk m c 2 t) (iblk m c 3 t) (ix2 (ex e s) l) = conv A W e s (hi (ci t l)) := by
  unfold_out out0_6
  canon_tiles x q
  case piece0 =>
    obtain ⟨i, j, rfl⟩ : ∃ (i : Fin 2048) (j : Fin 256), x = ix2 i j := ⟨x 0, x 1, eq_ix2 x⟩
    obtain ⟨rfl, rfl⟩ := row_of e s i 3 (by decide) (by have h : e.val * 2048 + s.val = 6144 + i.val := q0; omega)
    obtain rfl : l = j := Fin.ext q1
    exact (v3 _ _ _ _ s l).trans (conv_v hg t 6144 inb_S8192x256_S2048x256_6144_0 3 rfl s l)
  case piece1 =>
    obtain ⟨i, j, rfl⟩ : ∃ (i : Fin 2048) (j : Fin 256), x = ix2 i j := ⟨x 0, x 1, eq_ix2 x⟩
    obtain ⟨rfl, rfl⟩ := row_of e s i 2 (by decide) (by have h : e.val * 2048 + s.val = 4096 + i.val := q0; omega)
    obtain rfl : l = j := Fin.ext q1
    exact (v2 _ _ _ _ s l).trans (conv_v hg t 4096 inb_S8192x256_S2048x256_4096_0 2 rfl s l)
  case piece2 =>
    obtain ⟨i, j, rfl⟩ : ∃ (i : Fin 2048) (j : Fin 256), x = ix2 i j := ⟨x 0, x 1, eq_ix2 x⟩
    obtain ⟨rfl, rfl⟩ := row_of e s i 1 (by decide) (by have h : e.val * 2048 + s.val = 2048 + i.val := q0; omega)
    obtain rfl : l = j := Fin.ext q1
    exact (v1 _ _ _ _ s l).trans (conv_v hg t 2048 inb_S8192x256_S2048x256_2048_0 1 rfl s l)
  case piece3 =>
    obtain ⟨i, j, rfl⟩ : ∃ (i : Fin 2048) (j : Fin 256), x = ix2 i j := ⟨x 0, x 1, eq_ix2 x⟩
    obtain ⟨rfl, rfl⟩ := row_of e s i 0 (by decide) (by have h : e.val * 2048 + s.val = i.val := q0; omega)
    obtain rfl : l = j := Fin.ext q1
    exact (v0 _ _ _ _ s l).trans (conv_v hg t 0 inb_S8192x256_S2048x256_0_0 0 rfl s l)

theorem final4 (hg : Given m c A W) : (dats m 0 c).arrAt 4 cfg0.N = fun y : S8192x2816.Idx => rows (act A W) (y 0) (y 1) := by
  refine (dats m 0 c).arrAt_eq_of_covers 4 _ (by decide +kernel) fun t hf y => ?_
  blk_simp
  rw [after0_4]
  obtain ⟨i, j, rfl⟩ : ∃ (i : Fin 8192) (j : Fin 256), y = ix2 i j := ⟨y 0, y 1, eq_ix2 y⟩
  obtain ⟨e, s, rfl⟩ := eq_ex i
  refine (out4_at hg t e s j).trans ?_
  have e0 : (win0_4.blk t).view.emb (ix2 (ex e s) j) 0 = ex e s := Fin.ext (by blk_simp [idx t])
  have e1 : (win0_4.blk t).view.emb (ix2 (ex e s) j) 1 = ci t j := Fin.ext (by blk_simp [idx t, ci])
  rw [e0, e1]
  exact (rows_ex (act A W) e s _).symm

theorem final5 (hg : Given m c A W) : (dats m 0 c).arrAt 5 cfg0.N = fun y : S8192x2816.Idx => rows (fun e s l => conv A W e s (lo l)) (y 0) (y 1) := by
  refine (dats m 0 c).arrAt_eq_of_covers 5 _ (by decide +kernel) fun t hf y => ?_
  blk_simp
  rw [after0_5]
  obtain ⟨i, j, rfl⟩ : ∃ (i : Fin 8192) (j : Fin 256), y = ix2 i j := ⟨y 0, y 1, eq_ix2 y⟩
  obtain ⟨e, s, rfl⟩ := eq_ex i
  refine (out5_at hg t e s j).trans ?_
  have e0 : (win0_5.blk t).view.emb (ix2 (ex e s) j) 0 = ex e s := Fin.ext (by blk_simp [idx t])
  have e1 : (win0_5.blk t).view.emb (ix2 (ex e s) j) 1 = ci t j := Fin.ext (by blk_simp [idx t, ci])
  rw [e0, e1]
  exact (rows_ex (fun e s l => conv A W e s (lo l)) e s _).symm

theorem final6 (hg : Given m c A W) : (dats m 0 c).arrAt 6 cfg0.N = fun y : S8192x2816.Idx => rows (fun e s l => conv A W e s (hi l)) (y 0) (y 1) := by
  refine (dats m 0 c).arrAt_eq_of_covers 6 _ (by decide +kernel) fun t hf y => ?_
  blk_simp
  rw [after0_6]
  obtain ⟨i, j, rfl⟩ : ∃ (i : Fin 8192) (j : Fin 256), y = ix2 i j := ⟨y 0, y 1, eq_ix2 y⟩
  obtain ⟨e, s, rfl⟩ := eq_ex i
  refine (out6_at hg t e s j).trans ?_
  have e0 : (win0_6.blk t).view.emb (ix2 (ex e s) j) 0 = ex e s := Fin.ext (by blk_simp [idx t])
  have e1 : (win0_6.blk t).view.emb (ix2 (ex e s) j) 1 = ci t j := Fin.ext (by blk_simp [idx t, ci])
  rw [e0, e1]
  exact (rows_ex (fun e s l => conv A W e s (hi l)) e s _).symm

end

/-! What the reference computes. -/

section

open Cert.Reference15Ideal Cert.Reference15Ideal.Gen

/-- The rows, by example. -/
def qx (a : Vec Ideal S8192x5632 .bf16) : FVec Ideal S4x2048x5632 .f32 :=
  shapeCast _ (extf (F := Ideal) .f32 a bitsLt_bf16_f32) shapeCasts_S8192x5632_S4x2048x5632

/-- Two rows of zeros before each example. -/
def qpad (z : FVec Ideal S4x2048x5632 .f32) : FVec Ideal S4x2050x5632 .f32 :=
  concatenate S4x2050x5632 1 [⟨S4x2x5632, (broadcastInDim S4x2x5632 ![] bcast_S_S4x2x5632 (constant S_ .f32 0x00000000#32))⟩, ⟨S4x2048x5632, z⟩] concatenates_S4x2x5632_S4x2048x5632_S4x2050x5632_d1

/-- One tap of the convolution, along all rows. -/
def qw0 (w : FVec Ideal S3x5632 .f32) : FVec Ideal S4x2048x5632 .f32 :=
  broadcastInDim S4x2048x5632 ![0, 1, 2] bcast_S1x1x5632_S4x2048x5632_0_1_2 (broadcastInDim S1x1x5632 ![2] bcast_S5632_S1x1x5632_2 (shapeCast _ (extractStridedSlice S1x5632 ![0, 0] w slices_S3x5632_S1x5632_0_0) shapeCasts_S1x5632_S5632))
def qw1 (w : FVec Ideal S3x5632 .f32) : FVec Ideal S4x2048x5632 .f32 :=
  broadcastInDim S4x2048x5632 ![0, 1, 2] bcast_S1x1x5632_S4x2048x5632_0_1_2 (broadcastInDim S1x1x5632 ![2] bcast_S5632_S1x1x5632_2 (shapeCast _ (extractStridedSlice S1x5632 ![1, 0] w slices_S3x5632_S1x5632_1_0) shapeCasts_S1x5632_S5632))
def qw2 (w : FVec Ideal S3x5632 .f32) : FVec Ideal S4x2048x5632 .f32 :=
  broadcastInDim S4x2048x5632 ![0, 1, 2] bcast_S1x1x5632_S4x2048x5632_0_1_2 (broadcastInDim S1x1x5632 ![2] bcast_S5632_S1x1x5632_2 (shapeCast _ (extractStridedSlice S1x5632 ![2, 0] w slices_S3x5632_S1x5632_2_0) shapeCasts_S1x5632_S5632))

/-- The convolution. -/
def qc (x : FVec Ideal S4x2050x5632 .f32) (w : FVec Ideal S3x5632 .f32) : FVec Ideal S4x2048x5632 .f32 :=
  addf (addf (addf (broadcastInDim S4x2048x5632 ![] bcast_S_S4x2048x5632 (constant S_ .f32 0x00000000#32)) (mulf (qw0 w) (extractStridedSlice S4x2048x5632 ![0, 0, 0] x slices_S4x2050x5632_S4x2048x5632_0_0_0)))
    (mulf (qw1 w) (extractStridedSlice S4x2048x5632 ![0, 1, 0] x slices_S4x2050x5632_S4x2048x5632_0_1_0))) (mulf (qw2 w) (extractStridedSlice S4x2048x5632 ![0, 2, 0] x slices_S4x2050x5632_S4x2048x5632_0_2_0))

/-- The gate's half, by example, and its activation. -/
def qg (v : FVec Ideal S4x2048x5632 .f32) : FVec Ideal S4x2048x2816 .f32 := extractStridedSlice S4x2048x2816 ![0, 0, 0] v slices_S4x2048x5632_S4x2048x2816_0_0_0
def qs (g : FVec Ideal S4x2048x2816 .f32) : FVec Ideal S4x2048x2816 .f32 :=
  mulf g (Host.divf (broadcastInDim S4x2048x2816 ![] bcast_S_S4x2048x2816 (constant S_ .f32 0x3F800000#32)) (addf (broadcastInDim S4x2048x2816 ![] bcast_S_S4x2048x2816 (constant S_ .f32 0x3F800000#32)) (Host.exp (Host.negf g))))

/-- The three results. -/
def qa (v : FVec Ideal S4x2048x5632 .f32) : Vec Ideal S8192x2816 .bf16 :=
  truncf (F := Ideal) .bf16 (shapeCast _ (mulf (qs (qg v)) (extractStridedSlice S4x2048x2816 ![0, 0, 2816] v slices_S4x2048x5632_S4x2048x2816_0_0_2816)) shapeCasts_S4x2048x2816_S8192x2816) bitsLt_bf16_f32
def ql (v : FVec Ideal S4x2048x5632 .f32) : Vec Ideal S8192x2816 .bf16 :=
  truncf (F := Ideal) .bf16 (extractStridedSlice S8192x2816 ![0, 0] (shapeCast _ v shapeCasts_S4x2048x5632_S8192x5632) slices_S8192x5632_S8192x2816_0_0) bitsLt_bf16_f32
def qh (v : FVec Ideal S4x2048x5632 .f32) : Vec Ideal S8192x2816 .bf16 :=
  truncf (F := Ideal) .bf16 (extractStridedSlice S8192x2816 ![0, 2816] (shapeCast _ v shapeCasts_S4x2048x5632_S8192x5632) slices_S8192x5632_S8192x2816_0_2816) bitsLt_bf16_f32

theorem qx_at {a : Vec Ideal S8192x5632 .bf16} {A : Fin 8192 → Fin 5632 → EReal} (ha : ∀ r k, a (ix2 r k) = A r k) (e : Fin 4) (s : Fin 2048) (j : Fin 5632) :
    qx a (ix3 e s j) = A (ex e s) j := by
  pointwise [qx]
  exact ha _ _

theorem qpad_at {z : FVec Ideal S4x2048x5632 .f32} {Z : Fin 4 → Fin 2048 → Fin 5632 → EReal} (hz : ∀ e s l, z (ix3 e s l) = Z e s l) (e : Fin 4) (s : Fin 2050) (l : Fin 5632) :
    qpad z (ix3 e s l) = if h : 2 ≤ s.val then Z e ⟨s - 2, by omega⟩ l else 0 := by
  pointwise [qpad]
  by_cases h : 2 ≤ s.val
  · rw [dif_pos h, dif_neg (by omega)]
    exact hz _ _ _
  · rw [dif_neg h, dif_pos (by omega)]

theorem qw0_at (w : FVec Ideal S3x5632 .f32) (e : Fin 4) (s : Fin 2048) (l : Fin 5632) : qw0 w (ix3 e s l) = w (ix2 0 l) := by
  pointwise [qw0]
theorem qw1_at (w : FVec Ideal S3x5632 .f32) (e : Fin 4) (s : Fin 2048) (l : Fin 5632) : qw1 w (ix3 e s l) = w (ix2 1 l) := by
  pointwise [qw1]
theorem qw2_at (w : FVec Ideal S3x5632 .f32) (e : Fin 4) (s : Fin 2048) (l : Fin 5632) : qw2 w (ix3 e s l) = w (ix2 2 l) := by
  pointwise [qw2]

theorem qc_of (x : FVec Ideal S4x2050x5632 .f32) (w : FVec Ideal S3x5632 .f32) (e : Fin 4) (s : Fin 2048) (l : Fin 5632) :
    qc x w (ix3 e s l) = w (ix2 0 l) * x (ix3 e ⟨s, by omega⟩ l) + w (ix2 1 l) * x (ix3 e ⟨1 + s, by omega⟩ l) + w (ix2 2 l) * x (ix3 e ⟨2 + s, by omega⟩ l) := by
  pointwise [qc]
  simp only [qw0_at, qw1_at, qw2_at]

theorem qs_at (g : FVec Ideal S4x2048x2816 .f32) (e : Fin 4) (s : Fin 2048) (l : Fin 2816) : qs g (ix3 e s l) = sl (g (ix3 e s l)) := by
  pointwise [qs]
  rfl

theorem qg_at (v : FVec Ideal S4x2048x5632 .f32) (e : Fin 4) (s : Fin 2048) (l : Fin 2816) : qg v (ix3 e s l) = v (ix3 e s (lo l)) := by
  pointwise [qg]
  rfl

theorem ex_div (e : Fin 4) (s : Fin 2048) : (⟨(ex e s).val / 2048, by omega⟩ : Fin 4) = e := Fin.ext (by show (e.val * 2048 + s.val) / 2048 = e.val; omega)
theorem ex_mod (e : Fin 4) (s : Fin 2048) : (⟨(ex e s).val % 2048, by omega⟩ : Fin 2048) = s := Fin.ext (by show (e.val * 2048 + s.val) % 2048 = s.val; omega)

theorem qa_at (v : FVec Ideal S4x2048x5632 .f32) (e : Fin 4) (s : Fin 2048) (l : Fin 2816) :
    qa v (ix2 (ex e s) l) = sl (v (ix3 e s (lo l))) * v (ix3 e s (hi l)) := by
  pointwise [qa]
  rw [ex_div, ex_mod, qs_at, qg_at]
  rfl
theorem ql_at (v : FVec Ideal S4x2048x5632 .f32) (e : Fin 4) (s : Fin 2048) (l : Fin 2816) : ql v (ix2 (ex e s) l) = v (ix3 e s (lo l)) := by
  pointwise [ql]
  rw [ex_div, ex_mod]
  rfl
theorem qh_at (v : FVec Ideal S4x2048x5632 .f32) (e : Fin 4) (s : Fin 2048) (l : Fin 2816) : qh v (ix2 (ex e s) l) = v (ix3 e s (hi l)) := by
  pointwise [qh]
  rw [ex_div, ex_mod]
  rfl

/-- The reference's convolution of its arguments. -/
theorem qc_at {a : Vec Ideal S8192x5632 .bf16} {w : FVec Ideal S3x5632 .f32} {A : Fin 8192 → Fin 5632 → EReal} {W : Fin 3 → Fin 5632 → EReal}
    (ha : ∀ r k, a (ix2 r k) = A r k) (hw : ∀ k l, w (ix2 k l) = W k l) (e : Fin 4) (s : Fin 2048) (l : Fin 5632) :
    qc (qpad (qx a)) w (ix3 e s l) = conv A W e s l := by
  have hz : ∀ e s l, qx a (ix3 e s l) = A (ex e s) l := fun e s l => qx_at ha e s l
  rw [qc_of, qpad_at hz, qpad_at hz, qpad_at hz, hw, hw, hw, conv, cv]
  refine congrArg₂ (· + ·) (congrArg₂ (· + ·) (congrArg₂ (· * ·) rfl ?_) (congrArg₂ (· * ·) rfl ?_)) (congrArg₂ (· * ·) rfl ?_)
  · rfl
  · unfold dn
    by_cases h : 1 ≤ s.val
    · rw [dif_pos h, dif_pos (show 2 ≤ 1 + s.val by omega)]
      have : (⟨1 + s.val - 2, by omega⟩ : Fin 2048) = ⟨s.val - 1, by omega⟩ := Fin.ext (by show 1 + s.val - 2 = s.val - 1; omega)
      rw [this]
    · rw [dif_neg h, dif_neg (show ¬ 2 ≤ 1 + s.val by omega)]
  · rw [dif_pos (show 2 ≤ 2 + s.val by omega)]
    have : (⟨2 + s.val - 2, by omega⟩ : Fin 2048) = s := Fin.ext (by show 2 + s.val - 2 = s.val; omega)
    rw [this]

/-- A result that is known at the rows of every example. -/
theorem rows_of {u : Vec Ideal S8192x2816 .bf16} {f : Fin 4 → Fin 2048 → Fin 2816 → EReal} (h : ∀ e s l, u (ix2 (ex e s) l) = f e s l) :
    u = fun y : S8192x2816.Idx => rows f (y 0) (y 1) := by
  funext y
  obtain ⟨r, l, rfl⟩ : ∃ (r : Fin 8192) (l : Fin 2816), y = ix2 r l := ⟨y 0, y 1, eq_ix2 y⟩
  obtain ⟨e, s, rfl⟩ := eq_ex r
  exact (h e s l).trans (rows_ex f e s l).symm

/-- The reference's results at its arguments. -/
theorem ref_at {a : Vec Ideal S8192x5632 .bf16} {w : FVec Ideal S3x5632 .f32} {A : Fin 8192 → Fin 5632 → EReal} {W : Fin 3 → Fin 5632 → EReal}
    (ha : ∀ r k, a (ix2 r k) = A r k) (hw : ∀ k l, w (ix2 k l) = W k l) :
    (qa (qc (qpad (qx a)) w) = fun y : S8192x2816.Idx => rows (act A W) (y 0) (y 1))
    ∧ (ql (qc (qpad (qx a)) w) = fun y : S8192x2816.Idx => rows (fun e s l => conv A W e s (lo l)) (y 0) (y 1))
    ∧ (qh (qc (qpad (qx a)) w) = fun y : S8192x2816.Idx => rows (fun e s l => conv A W e s (hi l)) (y 0) (y 1)) :=
  ⟨rows_of fun e s l => (qa_at _ e s l).trans (congrArg₂ (fun g v => sl g * v) (qc_at ha hw e s _) (qc_at ha hw e s _)),
    rows_of fun e s l => (ql_at _ e s l).trans (qc_at ha hw e s _), rows_of fun e s l => (qh_at _ e s l).trans (qc_at ha hw e s _)⟩

end

theorem frame_p : Cert.quiescent_Kernel15 := fun m ρ _ => Cert.Kernel15.Gen.frame m ρ
theorem frame_pi : Cert.quiescent_Kernel15Ideal := fun m ρ _ => Cert.Kernel15Ideal.Gen.frame m ρ
theorem frame_ri : Cert.quiescent_Reference15Ideal := fun m ρ _ =>
  (θ_run Cert.Reference15Ideal.defs _ _).mono (fun r h => ⟨fun c => (h c).2.2.2, sem_eq_zero_of_no_sems (by decide) r.2⟩)
    (Cert.Reference15Ideal.Value.run (F := Ideal) m ρ)

theorem preserves : Cert.preserves_Kernel15_Kernel15Ideal := trivial

theorem algebraic : Cert.algebraic_Kernel15Ideal_Reference15Ideal := by
  intro m ρ m' ρ' _ hag
  refine ⟨_, _, _, Cert.Kernel15Ideal.Value.run_blocks (F := Ideal) m ρ, ?_⟩
  refine (θ_run Cert.Reference15Ideal.defs _ _).mono (fun r h c => ?_) (Cert.Reference15Ideal.Value.run (F := Ideal) m' ρ')
  obtain ⟨a0, a1⟩ := hag c
  have hr := ref_at (A := fun _ _ => _) (W := fun _ _ => _) (fun _ _ => congrFun a0 _) (fun _ _ => congrFun a1 _)
  have hk : Given m c (fun _ _ => _) (fun _ _ => _) := ⟨fun _ _ => rfl, fun _ _ => rfl⟩
  exact ⟨(h c).1.trans (hr.1.trans (final4 hk).symm), (h c).2.1.trans (hr.2.1.trans (final5 hk).symm), (h c).2.2.1.trans (hr.2.2.trans (final6 hk).symm), (h c).2.2.2⟩

end Cert.Mid

end
-- ==== Proof.Ref.lean ====
/- The reference's values, one stage at a time: every stage is a function of the arrays the stages before it left. -/
module

public import proofs.«01_k».proof.Proof.Gen.ReferenceIdeal.Run
public import proofs.«01_k».proof.Proof.Lift

@[expose] public section

set_option maxRecDepth 16384

noncomputable section

namespace Cert.Sgu

open Idealize.ShloMosaic Cert.ReferenceIdeal Cert.ReferenceIdeal.Gen

/-- Arrays of the reference's shapes. -/
abbrev A512 := FVec Ideal S8192x512 .f32
abbrev A256 := FVec Ideal S8192x256 .f32
abbrev A1 := FVec Ideal S8192x1 .f32
abbrev A5 := FVec Ideal S4x16x128x4x64 .f32
abbrev AW := FVec Ideal S4x128x128 .f32

/-- The mixer's columns of the projection. -/
def qx (a : Vec Ideal S8192x2560 .bf16) : A512 :=
  extf .f32 (extractStridedSlice S8192x512 ![0, 1280] a slices_S8192x2560_S8192x512_0_1280) bitsLt_bf16_f32

/-- The cotangent. -/
def qd (a : Vec Ideal S8192x1024 .bf16) : A256 :=
  extf .f32 (extractStridedSlice S8192x256 ![0, 512] a slices_S8192x1024_S8192x256_0_512) bitsLt_bf16_f32

/-- The lower triangle of ones. -/
def qtri  : FVec Ideal S128x128 .f32 :=
  select (cmpi .sge (addi (iotaInDim S128x128 32 0) (broadcastInDim S128x128 ![] bcast_S_S128x128 (constantI S_ 32 0#32))) (iotaInDim S128x128 32 1))
    (broadcastInDim S128x128 ![] bcast_S_S128x128 (constant (F := Ideal) S_ .f32 0x3F800000#32)) (broadcastInDim S128x128 ![] bcast_S_S128x128 (constant (F := Ideal) S_ .f32 0x00000000#32))

/-- The normal distribution function. -/
def qcdf (x : A512) : A512 :=
  mulf (broadcastInDim S8192x512 ![] bcast_S_S8192x512 (constant (F := Ideal) S_ .f32 0x3F000000#32)) (addf (broadcastInDim S8192x512 ![] bcast_S_S8192x512 (constant (F := Ideal) S_ .f32 0x3F800000#32)) (Host.erf (Host.divf x (broadcastInDim S8192x512 ![] bcast_S_S8192x512 (Host.sqrt (constant (F := Ideal) S_ .f32 0x40000000#32))))))

/-- The gelu. -/
def qact (x : A512) : A512 :=
  mulf x (qcdf x)

/-- Its derivative. -/
def qdact (x : A512) : A512 :=
  addf (qcdf x) (mulf x (Host.divf (Host.exp (mulf (mulf (broadcastInDim S8192x512 ![] bcast_S_S8192x512 (constant (F := Ideal) S_ .f32 0xBF000000#32)) x) x))
    (broadcastInDim S8192x512 ![] bcast_S_S8192x512 (Host.sqrt (mulf (constant (F := Ideal) S_ .f32 0x40000000#32) (Host.acos (constant (F := Ideal) S_ .f32 0xBF800000#32)))))))

/-- The gate's half, and the other half. -/
def qu (y : A512) : A256 :=
  extractStridedSlice S8192x256 ![0, 0] y slices_S8192x512_S8192x256_0_0

def qv (y : A512) : A256 :=
  extractStridedSlice S8192x256 ![0, 256] y slices_S8192x512_S8192x256_0_256

/-- The centred rows. -/
def qcen (v : A256) : A256 :=
  subf v (broadcastInDim S8192x256 ![0, 1] bcast_S8192x1_S8192x256_0_1 (Host.divf (broadcastInDim S8192x1 ![0] bcast_S8192_S8192x1_0 (Host.reduceAdd v (constant (F := Ideal) S_ .f32 0x00000000#32) reducesTo_S8192x256_S8192_d1 h_S_)) (broadcastInDim S8192x1 ![] bcast_S_S8192x1 (constant (F := Ideal) S_ .f32 0x43800000#32))))

/-- The variances, with the small number added. -/
def qvar (xc : A256) : A1 :=
  addf (Host.divf (broadcastInDim S8192x1 ![0] bcast_S8192_S8192x1_0 (Host.reduceAdd (mulf xc xc) (constant (F := Ideal) S_ .f32 0x00000000#32) reducesTo_S8192x256_S8192_d1 h_S_)) (broadcastInDim S8192x1 ![] bcast_S_S8192x1 (constant (F := Ideal) S_ .f32 0x43800000#32))) (broadcastInDim S8192x1 ![] bcast_S_S8192x1 (constant (F := Ideal) S_ .f32 0x3727C5AC#32))

/-- The normalised rows. -/
def qhat (xc : A256) (va : A1) : A256 :=
  mulf xc (broadcastInDim S8192x256 ![0, 1] bcast_S8192x1_S8192x256_0_1 (Host.rsqrt va))

/-- The layer normalisation, by example, chunk, row, head and column. -/
def qnorm (xh : A256) (g b : FVec Ideal S256 .f32) : A5 :=
  shapeCast _ (addf (mulf xh (broadcastInDim S8192x256 ![0, 1] bcast_S1x256_S8192x256_0_1 (broadcastInDim S1x256 ![1] bcast_S256_S1x256_1 g))) (broadcastInDim S8192x256 ![0, 1] bcast_S1x256_S8192x256_0_1 (broadcastInDim S1x256 ![1] bcast_S256_S1x256_1 b))) shapeCasts_S8192x256_S4x16x128x4x64

/-- The triangles of the mixing matrices. -/
def qw (w : AW) : AW :=
  mulf w (broadcastInDim S4x128x128 ![0, 1, 2] bcast_S1x128x128_S4x128x128_0_1_2 (broadcastInDim S1x128x128 ![1, 2] bcast_S128x128_S1x128x128_1_2 qtri))

/-- The mixed rows. -/
def qsp (vl : A5) (wt : AW) (sb : FVec Ideal S4x128 .f32) : A256 :=
  shapeCast _ (addf (transpose S4x16x128x4x64 [1, 2, 4, 0, 3] (Host.dotGeneral dot_S4x16x128x4x64_S4x128x128_S4x4x16x64x128_2_2_014_1_3_0 none vl wt) transposes_S4x4x16x64x128_S4x16x128x4x64_1_2_4_0_3)
    (broadcastInDim S4x16x128x4x64 ![0, 1, 2, 3, 4] bcast_S1x1x128x4x1_S4x16x128x4x64_0_1_2_3_4 (broadcastInDim S1x1x128x4x1 ![2, 3] bcast_S128x4_S1x1x128x4x1_2_3 (transpose S128x4 [1, 0] sb transposes_S4x128_S128x4_1_0)))) shapeCasts_S4x16x128x4x64_S8192x256

/-- The cotangent of the mixed rows. -/
def qdsp (u ct : A256) : A5 :=
  shapeCast _ (mulf u ct) shapeCasts_S8192x256_S4x16x128x4x64

/-- The same with the head first and the row last. -/
def qdspT (e : A5) : FVec Ideal S4x4x16x64x128 .f32 :=
  transpose S4x4x16x64x128 [3, 0, 1, 4, 2] e transposes_S4x16x128x4x64_S4x4x16x64x128_3_0_1_4_2

/-- The gradient of the mixing bias. -/
def qdb (e : A5) : FVec Ideal S128x4 .f32 :=
  transpose S128x4 [1, 0] (transpose S4x128 [1, 0] (Host.reduceAdd (shapeCast _ (Host.reduceAdd e (constant (F := Ideal) S_ .f32 0x00000000#32) reducesTo_S4x16x128x4x64_S128x4_d0_1_4 h_S_) shapeCasts_S128x4_S1x1x128x4x1) (constant (F := Ideal) S_ .f32 0x00000000#32) reducesTo_S1x1x128x4x1_S128x4_d0_1_4 h_S_) transposes_S128x4_S4x128_1_0) transposes_S4x128_S128x4_1_0

/-- The gradient of the mixing matrices. -/
def qdw (f : FVec Ideal S4x4x16x64x128 .f32) (vl : A5) : AW :=
  mulf (Host.dotGeneral dot_S4x4x16x64x128_S4x16x128x4x64_S4x128x128_123_014_4_2_0_3 none f vl) (broadcastInDim S4x128x128 ![0, 1, 2] bcast_S1x128x128_S4x128x128_0_1_2 (broadcastInDim S1x128x128 ![1, 2] bcast_S128x128_S1x128x128_1_2 qtri))

/-- The cotangent of the normalised rows. -/
def qdvl (f : FVec Ideal S4x4x16x64x128 .f32) (wt : AW) : A256 :=
  shapeCast _ (transpose S4x16x128x4x64 [1, 2, 4, 0, 3] (Host.dotGeneral dot_S4x4x16x64x128_S4x128x128_S4x4x16x64x128_4_1_123_2_0_0 none f wt) transposes_S4x4x16x64x128_S4x16x128x4x64_1_2_4_0_3) shapeCasts_S4x16x128x4x64_S8192x256

/-- A column's sum over all rows. -/
def qsum (x : A256) : FVec Ideal S1x256 .f32 :=
  broadcastInDim S1x256 ![1] bcast_S256_S1x256_1 (Host.reduceAdd (shapeCast _ (Host.reduceAdd x (constant (F := Ideal) S_ .f32 0x00000000#32) reducesTo_S8192x256_S256_d0 h_S_) shapeCasts_S256_S1x256) (constant (F := Ideal) S_ .f32 0x00000000#32) reducesTo_S1x256_S256_d0 h_S_)

/-- The cotangent times the gain. -/
def qdx (dv : A256) (g : FVec Ideal S256 .f32) : A256 :=
  mulf dv (broadcastInDim S8192x256 ![0, 1] bcast_S1x256_S8192x256_0_1 (broadcastInDim S1x256 ![1] bcast_S256_S1x256_1 g))

/-- The root's part of the gradient, along each row. -/
def qk (xc dx : A256) (va : A1) : A256 :=
  broadcastInDim S8192x256 ![0] bcast_S8192_S8192x256_0 (Host.reduceAdd (Host.divf (mulf (shapeCast _ (Host.reduceAdd (mulf xc dx) (constant (F := Ideal) S_ .f32 0x00000000#32) reducesTo_S8192x256_S8192_d1 h_S_) shapeCasts_S8192_S8192x1)
    (mulf (broadcastInDim S8192x1 ![] bcast_S_S8192x1 (constant (F := Ideal) S_ .f32 0xBF000000#32)) (Host.divf (Host.rsqrt va) va))) (broadcastInDim S8192x1 ![] bcast_S_S8192x1 (constant (F := Ideal) S_ .f32 0x43800000#32))) (constant (F := Ideal) S_ .f32 0x00000000#32) reducesTo_S8192x1_S8192_d1 h_S_)

/-- The gradient of the centred rows. -/
def qo (xc dx k : A256) (va : A1) : A256 :=
  addf (addf (mulf dx (broadcastInDim S8192x256 ![0, 1] bcast_S8192x1_S8192x256_0_1 (Host.rsqrt va))) (mulf xc k)) (mulf k xc)

/-- The gradient of the rows. -/
def qdv (o : A256) : A256 :=
  addf o (broadcastInDim S8192x256 ![0] bcast_S8192_S8192x256_0 (Host.reduceAdd (Host.divf (shapeCast _ (Host.reduceAdd (Host.negf o) (constant (F := Ideal) S_ .f32 0x00000000#32) reducesTo_S8192x256_S8192_d1 h_S_) shapeCasts_S8192_S8192x1) (broadcastInDim S8192x1 ![] bcast_S_S8192x1 (constant (F := Ideal) S_ .f32 0x43800000#32))) (constant (F := Ideal) S_ .f32 0x00000000#32) reducesTo_S8192x1_S8192_d1 h_S_))

/-- The gradient of the projection. -/
def qdp (du dv : A256) (da : A512) : Vec Ideal S8192x512 .bf16 :=
  truncf .bf16 (mulf (concatenate S8192x512 1 [⟨S8192x256, du⟩, ⟨S8192x256, dv⟩] concatenates_S8192x256_S8192x256_S8192x512_d1) da) bitsLt_bf16_f32

section

variable (m : (ℓ : Loc nD τ sig) → Buf (Elt Ideal) ℓ) (c : Dev nD)

/-- The stages at the arguments. -/
def aX : A512 := qx (m ((c.tc : Thread nD τ).loc main_arg0))
def aD : A256 := qd (m ((c.tc : Thread nD τ).loc main_arg5))
def aV : A256 := qv (qact (aX m c))
def aC : A256 := qcen (aV m c)
def aR : A1 := qvar (aC m c)
def aH : A256 := qhat (aC m c) (aR m c)
def aN : A5 := qnorm (aH m c) (m ((c.tc : Thread nD τ).loc main_arg1)) (m ((c.tc : Thread nD τ).loc main_arg2))
def aW : AW := qw (m ((c.tc : Thread nD τ).loc main_arg3))
def aS : A256 := qsp (aN m c) (aW m c) (m ((c.tc : Thread nD τ).loc main_arg4))
def aE : A5 := qdsp (qu (qact (aX m c))) (aD m c)
def aF : FVec Ideal S4x4x16x64x128 .f32 := qdspT (aE m c)
def aL : A256 := qdvl (aF m c) (aW m c)
def aG : A256 := qdx (aL m c) (m ((c.tc : Thread nD τ).loc main_arg1))
def aK : A256 := qk (aC m c) (aG m c) (aR m c)
def aO : A256 := qo (aC m c) (aG m c) (aK m c) (aR m c)

theorem res0 : Value.res_main_v112 m c = qdp (mulf (aD m c) (aS m c)) (qdv (aO m c)) (qdact (aX m c)) := rfl
theorem res1 : Value.res_main_v113 m c = qsum (mulf (aH m c) (aL m c)) := rfl
theorem res3 : Value.res_main_v77 m c = qdw (aF m c) (aN m c) := rfl

end

end Cert.Sgu

end
-- ==== Proof.Sums.lean ====
module

public import proofs.«01_k».proof.Proof.Ref

/-!
Two sums over several axes of the reference, written over the axes' coordinates: the contraction over example, chunk and
column of a head, and the sum over example, chunk and column of a head. Then the sum over all rows, and over the columns of
a head, as sums over rows and columns.
-/

@[expose] public section

set_option maxRecDepth 16384

noncomputable section

namespace Cert.Sgu

open Idealize.ShloMosaic Cert.ReferenceIdeal Cert.ReferenceIdeal.Gen

/-- The contraction's dimension numbers: example, chunk and column of the head are summed. -/
abbrev dims3 : DotDims S4x4x16x64x128 S4x16x128x4x64 S4x128x128 := dot_S4x4x16x64x128_S4x16x128x4x64_S4x128x128_123_014_4_2_0_3

theorem dims3_size : ∀ p : Fin dims3.contr.rank, (if p.val = 0 then 4 else if p.val = 1 then 16 else 64) = dims3.contr.size p :=
  fun p => match p with
  | ⟨0, _⟩ => rfl
  | ⟨1, _⟩ => rfl
  | ⟨2, _⟩ => rfl

/-- The summed index with the given coordinates. -/
def dims3_at (e : Fin 4) (n : Fin 16) (j : Fin 64) : dims3.contr.Idx := fun p =>
  if h : p.val = 0 then e.cast (by rw [← dims3_size p, if_pos h])
  else if h' : p.val = 1 then n.cast (by rw [← dims3_size p, if_neg h, if_pos h'])
  else j.cast (by rw [← dims3_size p, if_neg h, if_neg h'])

/-- The summed indices are the triples of coordinates. -/
def dims3_equiv : Fin 4 × Fin 16 × Fin 64 ≃ dims3.contr.Idx where
  toFun k := dims3_at k.1 k.2.1 k.2.2
  invFun i := (i (⟨0, by decide⟩ : Fin 3), i (⟨1, by decide⟩ : Fin 3), i (⟨2, by decide⟩ : Fin 3))
  left_inv _ := rfl
  right_inv i := by
    funext p
    match p with
    | ⟨0, _⟩ => rfl
    | ⟨1, _⟩ => rfl
    | ⟨2, _⟩ => rfl

theorem dims3_lhs (h : Fin 4) (t s : Fin 128) (e : Fin 4) (n : Fin 16) (j : Fin 64) :
    dims3.lhsIdx (ix3 h t s) (dims3_at e n j) = ix5 h e n j t := by
  funext a
  match a with
  | ⟨0, _⟩ => rfl
  | ⟨1, _⟩ => rfl
  | ⟨2, _⟩ => rfl
  | ⟨3, _⟩ => rfl
  | ⟨4, _⟩ => rfl
theorem dims3_rhs (h : Fin 4) (t s : Fin 128) (e : Fin 4) (n : Fin 16) (j : Fin 64) :
    dims3.rhsIdx (ix3 h t s) (dims3_at e n j) = ix5 e n s h j := by
  funext a
  match a with
  | ⟨0, _⟩ => rfl
  | ⟨1, _⟩ => rfl
  | ⟨2, _⟩ => rfl
  | ⟨3, _⟩ => rfl
  | ⟨4, _⟩ => rfl

theorem matmul3 (f : S4x4x16x64x128.Idx → EReal) (g : S4x16x128x4x64.Idx → EReal) (h : Fin 4) (t s : Fin 128) :
    Ideal.matmul dims3 f g (fun _ => 0) (ix3 h t s) = ∑ e : Fin 4, ∑ n : Fin 16, ∑ j : Fin 64, f (ix5 h e n j t) * g (ix5 e n s h j) := by
  refine (zero_add _).trans ?_
  rw [← Fintype.sum_equiv dims3_equiv (fun k => f (ix5 h k.1 k.2.1 k.2.2 t) * g (ix5 k.1 k.2.1 s h k.2.2)) _
    fun k => by rw [show dims3_equiv k = dims3_at k.1 k.2.1 k.2.2 from rfl, dims3_lhs, dims3_rhs]]
  simp only [Fintype.sum_prod_type]

section
variable {n0 n1 n2 n3 n4 : Nat}

/-- Summing the first two and the last of five axes. -/
theorem reduce3 (hr : (⟨5, ![n0, n1, n2, n3, n4]⟩ : Shape).ReducesTo [0, 1, 4] ⟨2, ![n2, n3]⟩) (v : (⟨5, ![n0, n1, n2, n3, n4]⟩ : Shape).Idx → EReal)
    (t : Fin n2) (h : Fin n3) :
    Ideal.hostReduceAdd hr v 0 (ix2 t h) = ∑ e : Fin n0, ∑ n : Fin n1, ∑ j : Fin n4, v (ix5 e n t h j) := by
  refine (zero_add _).trans ?_
  refine (Finset.sum_filter_eq_sum_of_fiber _ (fun k : Fin n0 × Fin n1 × Fin n4 => ix5 k.1 k.2.1 t h k.2.2)
    (fun _ _ e => Prod.ext (congrFun e 0) (Prod.ext (congrFun e 1) (congrFun e 4))) (fun i => ⟨fun e => ?_, ?_⟩) v).trans ?_
  · refine ⟨(i 0, i 1, i 4), ?_⟩
    funext a; apply Fin.ext
    match a with
    | ⟨0, _⟩ => rfl
    | ⟨1, _⟩ => rfl
    | ⟨2, _⟩ => exact (congrArg Fin.val (congrFun e 0)).symm
    | ⟨3, _⟩ => exact (congrArg Fin.val (congrFun e 1)).symm
    | ⟨4, _⟩ => rfl
  · rintro ⟨k, rfl⟩
    funext b; apply Fin.ext
    match b with
    | ⟨0, _⟩ => rfl
    | ⟨1, _⟩ => rfl
  · simp only [Fintype.sum_prod_type]

end

/-- Column `j` of head `h`. -/
def col (h : Fin 4) (j : Fin 64) : Fin 256 := ⟨h * 64 + j, by omega⟩
/-- Row `t` of chunk `n` of example `e`. -/
def ro (e : Fin 4) (n : Fin 16) (t : Fin 128) : Fin 8192 := ⟨e * 2048 + n * 128 + t, by omega⟩

/-- The columns of one head, among all columns. -/
theorem sum_col (f : Fin 256 → ℝ) (h : Fin 4) : ∑ j : Fin 64, f (col h j) = ∑ l, if hd l = h then f l else 0 := by
  rw [← Finset.sum_filter]
  refine (Finset.sum_filter_eq_sum_of_fiber _ (fun j : Fin 64 => col h j) (fun a b e => ?_) (fun i => ⟨fun e => ?_, ?_⟩) f).symm
  · have := congrArg Fin.val e
    simp only [col] at this
    exact Fin.ext (by omega)
  · refine ⟨⟨i % 64, by omega⟩, Fin.ext ?_⟩
    have := congrArg Fin.val e
    simp only [hd] at this
    simp only [col]; omega
  · rintro ⟨k, rfl⟩
    apply Fin.ext
    simp only [hd, col]; omega

/-- All rows, as the rows of each example. -/
theorem sum_row (f : Fin 8192 → ℝ) : ∑ r, f r = ∑ e : Fin 4, ∑ r : Fin 2048, f ⟨e * 2048 + r, by omega⟩ := by
  rw [← Fintype.sum_prod_type']
  refine (Fintype.sum_equiv (finProdFinEquiv (m := 4) (n := 2048)) _ _ fun k => congrArg f (Fin.ext ?_)).symm
  simp only [finProdFinEquiv, Equiv.coe_fn_mk]; omega

end Cert.Sgu

end
-- ==== Proof.Block.lean ====
/- What one grid point of the kernel computes, read at an index over the real numbers: each value the body stores, from
   blocks that hold real numbers. -/
module

public import proofs.«01_k».proof.Proof.Gen.KernelIdeal.Skeleton
public import proofs.«01_k».proof.Proof.Lift

@[expose] public section

set_option maxRecDepth 16384

noncomputable section

namespace Cert.Sgu

open Idealize.ShloMosaic Cert.KernelIdeal Cert.KernelIdeal.Gen

theorem named_inv_sqrt2 : (Named.named κ "inv_sqrt2" 0x3F3504F3#32 : Ideal .f32) = (((Real.sqrt 2)⁻¹ : ℝ) : EReal) := rfl

theorem named_inv_sqrt_2pi :
    (Named.named κ "inv_sqrt_2pi" 0x3ECC422A#32 : Ideal .f32) = (((Real.sqrt (2 * Real.pi))⁻¹ : ℝ) : EReal) := rfl

/-- Row `i` of chunk `n` of a block of sixteen chunks. -/
def brow (n : Fin 16) (i : Fin 128) : Fin 2048 := ⟨n * 128 + i, by omega⟩

/-- The chunk a row of the block lies in, and its place there. -/
def bn (r : Fin 2048) : Fin 16 := ⟨r / 128, by omega⟩
def bt (r : Fin 2048) : Fin 128 := ⟨r % 128, by omega⟩

theorem brow_bn_bt (r : Fin 2048) : brow (bn r) (bt r) = r := by
  rw [Fin.ext_iff]; simp only [brow, bn, bt]; omega

/-- Chunk `n` of a block. -/
def ch (U : Fin 2048 → Fin 256 → ℝ) (n : Fin 16) (t : Fin 128) (l : Fin 256) : ℝ := U (brow n t) l

theorem ch_self (U : Fin 2048 → Fin 256 → ℝ) (r : Fin 2048) : ch U (bn r) (bt r) = U r := by
  funext l; rw [ch, brow_bn_bt]

/-- The gelu along a row. -/
def gv (V : Fin 2048 → Fin 256 → ℝ) (r : Fin 2048) (l : Fin 256) : ℝ := gelu (V r l)

theorem select_le_bt (s : Fin 128) (r : Fin 2048) (x y : EReal) :
    Scalar.select (IntOp.cmpi .sle (BitVec.ofNat 32 s) (BitVec.ofNat 32 (r % 128))) x y = if s ≤ bt r then x else y :=
  select_le s (bt r) x y

theorem select_bt_le (t : Fin 128) (r : Fin 2048) (x y : EReal) :
    Scalar.select (IntOp.cmpi .sle (BitVec.ofNat 32 (r % 128)) (BitVec.ofNat 32 t)) x y = if bt r ≤ t then x else y :=
  select_le (bt r) t x y

theorem gelu_eq (x : ℝ) : 1 / 2 * x * (1 + er (x * (Real.sqrt 2)⁻¹)) = gelu x := by
  rw [gelu, div_eq_mul_inv x]; ring

theorem dgelu_eq (x : ℝ) :
    1 / 2 * (1 + er (x * (Real.sqrt 2)⁻¹)) + x * (Real.sqrt (2 * Real.pi))⁻¹ * Real.exp (-(1 / 2) * x * x) = dgelu x := by
  rw [dgelu, div_eq_mul_inv x, div_eq_mul_inv (Real.exp _)]; ring

section

variable {x0 x1 x6 : Vec Ideal S2048x256 .bf16} {U V D : Fin 2048 → Fin 256 → ℝ}

theorem pay8_at (hU : ∀ r l, x0 (ix2 r l) = (U r l : EReal)) (r : Fin 2048) (l : Fin 256) :
    k0_pay8 (F := Ideal) x0 (ix2 r l) = ((gelu (U r l) : ℝ) : EReal) := by
  pointwise [k0_pay8, k0_pay6]
  simp only [hU, ofBits_half, named_inv_sqrt2, ← EReal.coe_one, ← EReal.coe_mul, ← EReal.coe_add, ferf_real, gelu_eq]

theorem pay11_at (hV : ∀ r l, x1 (ix2 r l) = (V r l : EReal)) (r : Fin 2048) (l : Fin 256) :
    k0_pay11 (F := Ideal) x1 (ix2 r l) = ((cen (gv V r) l : ℝ) : EReal) := by
  pointwise [k0_pay11, k0_pay7]
  simp only [hV, ofBits_half, ofBits_256, named_inv_sqrt2, ← EReal.coe_one, ← EReal.coe_mul, ← EReal.coe_add, ferf_real, gelu_eq,
    sum_coe, div_256, ← EReal.coe_sub]
  rfl

theorem pay12_at (hV : ∀ r l, x1 (ix2 r l) = (V r l : EReal)) (r : Fin 2048) :
    k0_pay12 (F := Ideal) x1 (ix2 r 0) = ((var (gv V r) : ℝ) : EReal) := by
  pointwise [k0_pay12]
  simp only [pay11_at hV, ofBits_256, ← EReal.coe_mul, sum_coe, div_256]
  rfl

variable {xc : FVec Ideal S2048x256 .f32} {va : FVec Ideal S2048x1 .f32}

theorem pay13_at (hva : ∀ r, va (ix2 r 0) = ((var (gv V r) : ℝ) : EReal)) (r : Fin 2048) :
    k0_pay13 (F := Ideal) va (ix2 r 0) = ((rstd (gv V r) : ℝ) : EReal) := by
  pointwise [k0_pay13]
  simp only [hva, ofBits_eps, ← EReal.coe_add, rsqrt_var]

theorem pay14_at (hxc : ∀ r l, xc (ix2 r l) = ((cen (gv V r) l : ℝ) : EReal)) (hva : ∀ r, va (ix2 r 0) = ((var (gv V r) : ℝ) : EReal))
    (r : Fin 2048) (l : Fin 256) : k0_pay14 (F := Ideal) xc va (ix2 r l) = ((hat (gv V r) l : ℝ) : EReal) := by
  pointwise [k0_pay14]
  simp only [hxc, pay13_at hva, ← EReal.coe_mul]
  rfl

variable {g2 b2 : Vec Ideal S1x256 .f32} {G B : Fin 256 → ℝ}

theorem pay15_at (hg : ∀ l, g2 (ix2 0 l) = (G l : EReal)) (hb : ∀ l, b2 (ix2 0 l) = (B l : EReal))
    (hxc : ∀ r l, xc (ix2 r l) = ((cen (gv V r) l : ℝ) : EReal)) (hva : ∀ r, va (ix2 r 0) = ((var (gv V r) : ℝ) : EReal))
    (n : Fin 16) (s : Fin 128) (l : Fin 256) :
    k0_pay15 (F := Ideal) (k0_pay9 g2) (k0_pay10 b2) xc va (ix3 n s l) = ((norm G B (gl (ch V n) s) l : ℝ) : EReal) := by
  pointwise [k0_pay15, k0_pay9, k0_pay10]
  simp only [pay14_at hxc hva, hg, hb, ← EReal.coe_mul, ← EReal.coe_add]
  rfl

theorem pay28_at {u : FVec Ideal S2048x256 .f32} (hu : ∀ r l, u (ix2 r l) = ((gelu (U r l) : ℝ) : EReal))
    (hD : ∀ r l, x6 (ix2 r l) = (D r l : EReal)) (n : Fin 16) (s : Fin 128) (l : Fin 256) :
    k0_pay28 (F := Ideal) u x6 (ix3 n s l) = ((dsp (ch U n) (ch D n) s l : ℝ) : EReal) := by
  pointwise [k0_pay28, k0_pay26]
  simp only [hu, hD, ← EReal.coe_mul]
  rfl

variable {w0 w1 w2 w3 : Vec Ideal S1x128x128 .f32} {W : Fin 4 → Fin 128 → Fin 128 → ℝ}

theorem pay27_at {x5 : Vec Ideal S128x256 .f32} {SB : Fin 4 → Fin 128 → ℝ} {X : Fin 16 → Fin 128 → Fin 256 → ℝ}
    {gg bb : FVec Ideal S1x256 .f32}
    (hU : ∀ r l, x0 (ix2 r l) = (U r l : EReal)) (hD : ∀ r l, x6 (ix2 r l) = (D r l : EReal))
    (hX : ∀ n s l, k0_pay15 (F := Ideal) gg bb xc va (ix3 n s l) = (X n s l : EReal))
    (h0 : ∀ t s, w0 (ix3 0 t s) = (W 0 t s : EReal)) (h1 : ∀ t s, w1 (ix3 0 t s) = (W 1 t s : EReal))
    (h2 : ∀ t s, w2 (ix3 0 t s) = (W 2 t s : EReal)) (h3 : ∀ t s, w3 (ix3 0 t s) = (W 3 t s : EReal))
    (h5 : ∀ t l, x5 (ix2 t l) = (SB (hd l) t : EReal)) (r : Fin 2048) (l : Fin 256) :
    k0_pay27 (F := Ideal) (k0_pay6 x0) k0_pay20 (k0_pay21 gg bb xc va)
        (k0_pay24 k0_pay16 k0_pay17 k0_pay18 k0_pay19 (k0_pay21 gg bb xc va) k0_pay22 (k0_pay23 gg bb xc va w0) w1 w2)
        (k0_pay25 k0_pay16 w3) x5 x6 (ix2 r l)
      = ((D r l * (mix W (X (bn r)) (bt r) l + SB (hd l) (bt r)) * dgelu (U r l) : ℝ) : EReal) := by
  pointwise [k0_pay27, k0_pay24, k0_pay23, k0_pay25, k0_pay16, k0_pay17, k0_pay18, k0_pay19, k0_pay20, k0_pay22, k0_pay26, k0_pay6, k0_pay21]
  simp only [hU, hD, hX, h0, h1, h2, h3, h5, select_le_bt, select_head l 0 0#32 64#32 rfl rfl, select_head l 1 64#32 128#32 rfl rfl,
    select_head l 2 128#32 192#32 rfl rfl, select_head l 3 192#32 256#32 rfl rfl, ofBits_half, ofBits_neg_half, named_inv_sqrt2,
    named_inv_sqrt_2pi, ← EReal.coe_one, ← EReal.coe_mul, ← EReal.coe_add, ferf_real, Ideal.exp_coe, dgelu_eq, ite_coe, sum_coe]
  refine congrArg (fun z : ℝ => ((D r l * (z + SB (hd l) (bt r)) * dgelu (U r l) : ℝ) : EReal)) ?_
  exact (pick l fun h => ∑ x, if x ≤ bt r then W h (bt r) x * X (bn r) x l else 0).trans (mix_eq _ _ _ _).symm

theorem pay61_at {dd : FVec Ideal S16x128x256 .f32} {Y : Fin 16 → Fin 128 → Fin 256 → ℝ}
    (hY : ∀ n s l, dd (ix3 n s l) = (Y n s l : EReal))
    (h0 : ∀ t s, w0 (ix3 0 t s) = (W 0 t s : EReal)) (h1 : ∀ t s, w1 (ix3 0 t s) = (W 1 t s : EReal))
    (h2 : ∀ t s, w2 (ix3 0 t s) = (W 2 t s : EReal)) (h3 : ∀ t s, w3 (ix3 0 t s) = (W 3 t s : EReal))
    (r : Fin 2048) (l : Fin 256) :
    k0_pay61 (F := Ideal) k0_pay52 k0_pay56 (k0_pay57 dd)
        (k0_pay60 k0_pay52 k0_pay53 k0_pay54 k0_pay55 (k0_pay57 dd) k0_pay58 (k0_pay59 w0) (FloatOps.ofBits FTy.f32 0#32) w1 w2) w3 (ix2 r l)
      = ((mixT W (Y (bn r)) (bt r) l : ℝ) : EReal) := by
  pointwise [k0_pay61, k0_pay60, k0_pay59, k0_pay58, k0_pay57, k0_pay56, k0_pay55, k0_pay54, k0_pay53, k0_pay52]
  simp only [hY, h0, h1, h2, h3, select_bt_le, select_head l 0 0#32 64#32 rfl rfl, select_head l 1 64#32 128#32 rfl rfl,
    select_head l 2 128#32 192#32 rfl rfl, select_head l 3 192#32 256#32 rfl rfl, ← EReal.coe_mul, ← EReal.coe_add, ite_coe, sum_coe]
  refine congrArg (fun z : ℝ => (z : EReal)) ?_
  exact (pick l fun h => ∑ x, if bt r ≤ x then W h x (bt r) * Y (bn r) x l else 0).trans (mixT_eq _ _ _ _).symm

/-- The same with the zero written as a number. -/
theorem pay61_at' {dd : FVec Ideal S16x128x256 .f32} {Y : Fin 16 → Fin 128 → Fin 256 → ℝ}
    (hY : ∀ n s l, dd (ix3 n s l) = (Y n s l : EReal))
    (h0 : ∀ t s, w0 (ix3 0 t s) = (W 0 t s : EReal)) (h1 : ∀ t s, w1 (ix3 0 t s) = (W 1 t s : EReal))
    (h2 : ∀ t s, w2 (ix3 0 t s) = (W 2 t s : EReal)) (h3 : ∀ t s, w3 (ix3 0 t s) = (W 3 t s : EReal))
    (r : Fin 2048) (l : Fin 256) :
    k0_pay61 (F := Ideal) k0_pay52 k0_pay56 (k0_pay57 dd)
        (k0_pay60 k0_pay52 k0_pay53 k0_pay54 k0_pay55 (k0_pay57 dd) k0_pay58 (k0_pay59 w0) (0 : EReal) w1 w2) w3 (ix2 r l)
      = ((mixT W (Y (bn r)) (bt r) l : ℝ) : EReal) := by
  rw [← pay61_at hY h0 h1 h2 h3 r l]
  have e : (FloatOps.ofBits FTy.f32 0#32 : Ideal .f32) = (0 : EReal) := Ideal.ofBits_zero _
  rw [e]

/-- The block's gradient of the mixing bias, one head: what it held plus the sum over the block's chunks. -/
theorem pay29_at {u : FVec Ideal S2048x256 .f32} (hu : ∀ r l, u (ix2 r l) = ((gelu (U r l) : ℝ) : EReal))
    (hD : ∀ r l, x6 (ix2 r l) = (D r l : EReal)) (s : Fin 128) (l : Fin 256) :
    k0_pay29 (F := Ideal) u x6 (ix2 s l) = ((∑ n, dsp (ch U n) (ch D n) s l : ℝ) : EReal) := by
  pointwise [k0_pay29]
  simp only [pay28_at hu hD, sum_coe]

section

variable {dd : FVec Ideal S16x128x256 .f32} {Y : Fin 16 → Fin 128 → Fin 256 → ℝ} {a : Vec Ideal S1x256 .f32}

theorem pay62_at {xh : FVec Ideal S2048x256 .f32} (hh : ∀ r l, xh (ix2 r l) = ((hat (gv V r) l : ℝ) : EReal))
    (hY : ∀ n s l, dd (ix3 n s l) = (Y n s l : EReal))
    (h0 : ∀ t s, w0 (ix3 0 t s) = (W 0 t s : EReal)) (h1 : ∀ t s, w1 (ix3 0 t s) = (W 1 t s : EReal))
    (h2 : ∀ t s, w2 (ix3 0 t s) = (W 2 t s : EReal)) (h3 : ∀ t s, w3 (ix3 0 t s) = (W 3 t s : EReal)) (l : Fin 256) :
    k0_pay62 (F := Ideal) xh k0_pay52 k0_pay56 (k0_pay57 dd)
        (k0_pay60 k0_pay52 k0_pay53 k0_pay54 k0_pay55 (k0_pay57 dd) k0_pay58 (k0_pay59 w0) (FloatOps.ofBits FTy.f32 0#32) w1 w2) w3 a (ix2 0 l)
      = a (ix2 0 l) + ((∑ r, mixT W (Y (bn r)) (bt r) l * hat (gv V r) l : ℝ) : EReal) := by
  pointwise [k0_pay62]
  simp only [pay61_at' hY h0 h1 h2 h3, hh, ← EReal.coe_mul, sum_coe]

theorem pay63_at
    (hY : ∀ n s l, dd (ix3 n s l) = (Y n s l : EReal))
    (h0 : ∀ t s, w0 (ix3 0 t s) = (W 0 t s : EReal)) (h1 : ∀ t s, w1 (ix3 0 t s) = (W 1 t s : EReal))
    (h2 : ∀ t s, w2 (ix3 0 t s) = (W 2 t s : EReal)) (h3 : ∀ t s, w3 (ix3 0 t s) = (W 3 t s : EReal)) (l : Fin 256) :
    k0_pay63 (F := Ideal) k0_pay52 k0_pay56 (k0_pay57 dd)
        (k0_pay60 k0_pay52 k0_pay53 k0_pay54 k0_pay55 (k0_pay57 dd) k0_pay58 (k0_pay59 w0) (FloatOps.ofBits FTy.f32 0#32) w1 w2) w3 a (ix2 0 l)
      = a (ix2 0 l) + ((∑ r, mixT W (Y (bn r)) (bt r) l : ℝ) : EReal) := by
  pointwise [k0_pay63]
  simp only [pay61_at' hY h0 h1 h2 h3, sum_coe]

theorem pay1_at {xh : FVec Ideal S2048x256 .f32} {rs : FVec Ideal S2048x1 .f32}
    (hV : ∀ r l, x1 (ix2 r l) = (V r l : EReal)) (hrs : ∀ r, rs (ix2 r 0) = ((rstd (gv V r) : ℝ) : EReal))
    (hh : ∀ r l, xh (ix2 r l) = ((hat (gv V r) l : ℝ) : EReal)) (hg : ∀ l, g2 (ix2 0 l) = (G l : EReal))
    (hY : ∀ n s l, dd (ix3 n s l) = (Y n s l : EReal))
    (h0 : ∀ t s, w0 (ix3 0 t s) = (W 0 t s : EReal)) (h1 : ∀ t s, w1 (ix3 0 t s) = (W 1 t s : EReal))
    (h2 : ∀ t s, w2 (ix3 0 t s) = (W 2 t s : EReal)) (h3 : ∀ t s, w3 (ix3 0 t s) = (W 3 t s : EReal)) (r : Fin 2048) (l : Fin 256) :
    k0_pay1 (F := Ideal) (k0_pay7 x1) rs xh
        (k0_pay65 k0_pay52 k0_pay56 (k0_pay57 dd)
          (k0_pay60 k0_pay52 k0_pay53 k0_pay54 k0_pay55 (k0_pay57 dd) k0_pay58 (k0_pay59 w0) (FloatOps.ofBits FTy.f32 0#32) w1 w2) w3 g2)
        (k0_pay66 xh k0_pay52 k0_pay56 (k0_pay57 dd)
          (k0_pay60 k0_pay52 k0_pay53 k0_pay54 k0_pay55 (k0_pay57 dd) k0_pay58 (k0_pay59 w0) (FloatOps.ofBits FTy.f32 0#32) w1 w2) w3 g2)
        (ix2 r l)
      = ((dnorm G (gv V r) (mixT W (Y (bn r)) (bt r)) l * dgelu (V r l) : ℝ) : EReal) := by
  pointwise [k0_pay1, k0_pay65, k0_pay66, k0_pay64, k0_pay7]
  simp only [pay61_at' hY h0 h1 h2 h3, hV, hrs, hh, hg, ofBits_half, ofBits_neg_half, ofBits_256, named_inv_sqrt2,
    named_inv_sqrt_2pi, ← EReal.coe_one, ← EReal.coe_mul, ← EReal.coe_add, ← EReal.coe_sub, ferf_real, Ideal.exp_coe, dgelu_eq, sum_coe, div_256]
  rfl

end

theorem pay39_at {f : FVec Ideal S128x256 .f32} {Z : Fin 128 → Fin 256 → ℝ} (hf : ∀ s l, f (ix2 s l) = (Z s l : EReal))
    (a : Vec Ideal S128x1 .f32) (s : Fin 128) :
    k0_pay39 (F := Ideal) f k0_pay30 k0_pay31 a (ix2 s 0) = a (ix2 s 0) + ((∑ l, (if hd l = 0 then Z s l else 0) : ℝ) : EReal) := by
  pointwise [k0_pay39, k0_pay32, k0_pay31, k0_pay30]
  simp only [hf, select_head _ 0 0#32 64#32 rfl rfl, ite_coe, sum_coe]

theorem pay43_at {f : FVec Ideal S128x256 .f32} {Z : Fin 128 → Fin 256 → ℝ} (hf : ∀ s l, f (ix2 s l) = (Z s l : EReal))
    (a : Vec Ideal S128x1 .f32) (s : Fin 128) :
    k0_pay43 (F := Ideal) f (k0_pay33 (iota .tc S1x256 32 [1] iota_S1x256_d1_w32)) a (ix2 s 0)
      = a (ix2 s 0) + ((∑ l, (if hd l = 1 then Z s l else 0) : ℝ) : EReal) := by
  pointwise [k0_pay43, k0_pay33]
  simp only [hf, select_head _ 1 64#32 128#32 rfl rfl, ite_coe, sum_coe]

theorem pay47_at {f : FVec Ideal S128x256 .f32} {Z : Fin 128 → Fin 256 → ℝ} (hf : ∀ s l, f (ix2 s l) = (Z s l : EReal))
    (a : Vec Ideal S128x1 .f32) (s : Fin 128) :
    k0_pay47 (F := Ideal) f (k0_pay45 a) (FloatOps.ofBits FTy.f32 0#32) (k0_pay46 (k0_pay34 (iota .tc S1x256 32 [1] iota_S1x256_d1_w32))) (ix2 s 0)
      = a (ix2 s 0) + ((∑ l, (if hd l = 2 then Z s l else 0) : ℝ) : EReal) := by
  pointwise [k0_pay47, k0_pay46, k0_pay45, k0_pay34]
  simp only [hf, select_head _ 2 128#32 192#32 rfl rfl, ite_coe, sum_coe]

theorem pay49_at {f : FVec Ideal S128x256 .f32} {Z : Fin 128 → Fin 256 → ℝ} (hf : ∀ s l, f (ix2 s l) = (Z s l : EReal))
    (a : Vec Ideal S128x1 .f32) (s : Fin 128) :
    k0_pay49 (F := Ideal) f (k0_pay35 (iota .tc S1x256 32 [1] iota_S1x256_d1_w32)) a (ix2 s 0)
      = a (ix2 s 0) + ((∑ l, (if hd l = 3 then Z s l else 0) : ℝ) : EReal) := by
  pointwise [k0_pay49, k0_pay35]
  simp only [hf, select_head _ 3 192#32 256#32 rfl rfl, ite_coe, sum_coe]

theorem pay42_at {vl dd : FVec Ideal S16x128x256 .f32} {X Y : Fin 16 → Fin 128 → Fin 256 → ℝ}
    (hX : ∀ n s l, vl (ix3 n s l) = (X n s l : EReal)) (hY : ∀ n s l, dd (ix3 n s l) = (Y n s l : EReal))
    (a : Vec Ideal S1x128x128 .f32) (t s : Fin 128) :
    k0_pay42 (F := Ideal) k0_pay36 (k0_pay40 a) (k0_pay41 vl dd k0_pay30 k0_pay31) (FloatOps.ofBits FTy.f32 0#32) (ix3 0 t s)
      = a (ix3 0 t s) + ((if s ≤ t then ∑ n, ∑ l, (if hd l = 0 then Y n t l * X n s l else 0) else 0 : ℝ) : EReal) := by
  pointwise [k0_pay42, k0_pay41, k0_pay40, k0_pay38, k0_pay37, k0_pay36, k0_pay32, k0_pay31, k0_pay30]
  simp only [hX, hY, select_head _ 0 0#32 64#32 rfl rfl, select_le, ← EReal.coe_mul, ite_coe, sum_coe]

theorem pay44_at {vl dd : FVec Ideal S16x128x256 .f32} {X Y : Fin 16 → Fin 128 → Fin 256 → ℝ}
    (hX : ∀ n s l, vl (ix3 n s l) = (X n s l : EReal)) (hY : ∀ n s l, dd (ix3 n s l) = (Y n s l : EReal))
    (a : Vec Ideal S1x128x128 .f32) (t s : Fin 128) :
    k0_pay44 (F := Ideal) (k0_pay33 (iota .tc S1x256 32 [1] iota_S1x256_d1_w32)) k0_pay36 (k0_pay37 dd) (k0_pay38 vl) a (ix3 0 t s)
      = a (ix3 0 t s) + ((if s ≤ t then ∑ n, ∑ l, (if hd l = 1 then Y n t l * X n s l else 0) else 0 : ℝ) : EReal) := by
  pointwise [k0_pay44, k0_pay38, k0_pay37, k0_pay36, k0_pay33]
  simp only [hX, hY, select_head _ 1 64#32 128#32 rfl rfl, select_le, ← EReal.coe_mul, ite_coe, sum_coe]

theorem pay48_at {vl dd : FVec Ideal S16x128x256 .f32} {X Y : Fin 16 → Fin 128 → Fin 256 → ℝ}
    (hX : ∀ n s l, vl (ix3 n s l) = (X n s l : EReal)) (hY : ∀ n s l, dd (ix3 n s l) = (Y n s l : EReal))
    (a : Vec Ideal S1x128x128 .f32) (t s : Fin 128) :
    k0_pay48 (F := Ideal) (k0_pay34 (iota .tc S1x256 32 [1] iota_S1x256_d1_w32)) k0_pay36 (k0_pay37 dd) (k0_pay38 vl) a (ix3 0 t s)
      = a (ix3 0 t s) + ((if s ≤ t then ∑ n, ∑ l, (if hd l = 2 then Y n t l * X n s l else 0) else 0 : ℝ) : EReal) := by
  pointwise [k0_pay48, k0_pay38, k0_pay37, k0_pay36, k0_pay34]
  simp only [hX, hY, select_head _ 2 128#32 192#32 rfl rfl, select_le, ← EReal.coe_mul, ite_coe, sum_coe]

theorem pay51_at {vl dd : FVec Ideal S16x128x256 .f32} {X Y : Fin 16 → Fin 128 → Fin 256 → ℝ}
    (hX : ∀ n s l, vl (ix3 n s l) = (X n s l : EReal)) (hY : ∀ n s l, dd (ix3 n s l) = (Y n s l : EReal))
    (a : Vec Ideal S1x128x128 .f32) (t s : Fin 128) :
    k0_pay51 (F := Ideal) k0_pay36 (k0_pay38 vl) (k0_pay50 (k0_pay35 (iota .tc S1x256 32 [1] iota_S1x256_d1_w32)) (k0_pay37 dd))
        (constant S16x128x128 FTy.f32 0#32) a (ix3 0 t s)
      = a (ix3 0 t s) + ((if s ≤ t then ∑ n, ∑ l, (if hd l = 3 then Y n t l * X n s l else 0) else 0 : ℝ) : EReal) := by
  pointwise [k0_pay51, k0_pay50, k0_pay38, k0_pay37, k0_pay36, k0_pay35]
  simp only [hX, hY, select_head _ 3 192#32 256#32 rfl rfl, select_le, ← EReal.coe_mul, ite_coe, sum_coe]

end

end Cert.Sgu

end
-- ==== Proof.RefAt.lean ====
module

public import proofs.«01_k».proof.Proof.Sums
public import proofs.«01_k».proof.Proof.Block

/-!
The values of the reference's stages at an index, as real numbers, when the arguments hold real numbers.
-/

@[expose] public section

set_option maxRecDepth 16384

noncomputable section

namespace Cert.Sgu

open Idealize.ShloMosaic Cert.ReferenceIdeal Cert.ReferenceIdeal.Gen

/-- The example, the chunk and the place in the chunk of a row. -/
def re (r : Fin 8192) : Fin 4 := ⟨r / 2048, by omega⟩
def rn (r : Fin 8192) : Fin 16 := ⟨r / 128 % 16, by omega⟩
def rt (r : Fin 8192) : Fin 128 := ⟨r % 128, by omega⟩

theorem qx_at (a : Vec Ideal S8192x2560 .bf16) (r : Fin 8192) (k : Fin 512) : qx a (ix2 r k) = a (ix2 r ⟨1280 + k, by omega⟩) := by
  pointwise [qx]
theorem qd_at (a : Vec Ideal S8192x1024 .bf16) (r : Fin 8192) (k : Fin 256) : qd a (ix2 r k) = a (ix2 r ⟨512 + k, by omega⟩) := by
  pointwise [qd]

theorem qtri_at (t s : Fin 128) : qtri (ix2 t s) = ((if s ≤ t then 1 else 0 : ℝ) : EReal) := by
  pointwise [qtri]
  have e : IntOp.addi (BitVec.ofNat 32 t) 0#32 = BitVec.ofNat 32 t := by simp [IntOp.addi]
  rw [e, WordCmp.cmpi_sge_ofNat (by omega) (by omega)]
  by_cases h : s ≤ t
  · have h' : s.val ≤ t.val := h
    simp [Scalar.select, h, h']
  · have h' : ¬ s.val ≤ t.val := h
    simp [Scalar.select, h, h']

section
variable {x : A512} {X : Fin 8192 → Fin 512 → ℝ} (hx : ∀ r k, x (ix2 r k) = (X r k : EReal))
include hx

theorem qcdf_at (r : Fin 8192) (k : Fin 512) : qcdf x (ix2 r k) = ((1 / 2 * (1 + er (X r k / Real.sqrt 2)) : ℝ) : EReal) := by
  have h2 : Real.sqrt 2 ≠ 0 := by positivity
  pointwise [qcdf]
  simp only [hx, ofBits_half, ofBits_two, Ideal.sqrt_coe, if_neg (show ¬ (2 : ℝ) < 0 by norm_num), div_real _ h2, erf_real,
    ← EReal.coe_one, ← EReal.coe_add, ← EReal.coe_mul]

theorem qact_at (r : Fin 8192) (k : Fin 512) : qact x (ix2 r k) = ((gelu (X r k) : ℝ) : EReal) := by
  pointwise [qact]
  rw [qcdf_at hx, hx, ← EReal.coe_mul, gelu]

theorem qdact_at (r : Fin 8192) (k : Fin 512) : qdact x (ix2 r k) = ((dgelu (X r k) : ℝ) : EReal) := by
  have hp : (0 : ℝ) < 2 * Real.pi := by positivity
  have h2 : Real.sqrt (2 * Real.pi) ≠ 0 := by positivity
  pointwise [qdact, ofBits_two, qcdf_at hx]
  simp only [hx, ofBits_neg_half, ofBits_neg_one, Ideal.acos_coe, if_pos (show (-1 : ℝ) ≤ -1 ∧ (-1 : ℝ) ≤ 1 by norm_num), Real.arccos_neg_one,
    ← EReal.coe_mul, Ideal.sqrt_coe, if_neg (not_lt.2 hp.le), Ideal.exp_coe, div_real _ h2, ← EReal.coe_add]
  rfl
end

theorem qu_at (y : A512) (r : Fin 8192) (l : Fin 256) : qu y (ix2 r l) = y (ix2 r ⟨l, by omega⟩) := by
  pointwise [qu]
theorem qv_at (y : A512) (r : Fin 8192) (l : Fin 256) : qv y (ix2 r l) = y (ix2 r ⟨256 + l, by omega⟩) := by
  pointwise [qv]

section
variable {v xc xh : A256} {va : A1} {V : Fin 8192 → Fin 256 → ℝ}

theorem qcen_at (hv : ∀ r l, v (ix2 r l) = (V r l : EReal)) (r : Fin 8192) (l : Fin 256) :
    qcen v (ix2 r l) = ((cen (V r) l : ℝ) : EReal) := by
  pointwise [qcen]
  simp only [hv, ofBits_256, sum_coe, div_256, ← EReal.coe_sub]
  rfl

theorem qvar_at (hc : ∀ r l, xc (ix2 r l) = (cen (V r) l : EReal)) (r : Fin 8192) (u : Fin 1) :
    qvar xc (ix2 r u) = ((var (V r) + eps : ℝ) : EReal) := by
  pointwise [qvar]
  simp only [hc, ofBits_256, ofBits_eps, ← EReal.coe_mul, sum_coe, div_256, ← EReal.coe_add]
  rfl

variable (hc : ∀ r l, xc (ix2 r l) = (cen (V r) l : EReal)) (ha : ∀ r u, va (ix2 r u) = ((var (V r) + eps : ℝ) : EReal))

include hc ha in
theorem qhat_at (r : Fin 8192) (l : Fin 256) : qhat xc va (ix2 r l) = ((hat (V r) l : ℝ) : EReal) := by
  pointwise [qhat]
  simp only [hc, ha, rsqrt_var, ← EReal.coe_mul]
  rfl

variable {g b : FVec Ideal S256 .f32} {G B : Fin 256 → ℝ} (hg : ∀ l, g (ix1 l) = (G l : EReal)) (hb : ∀ l, b (ix1 l) = (B l : EReal))

include hg hb in
theorem qnorm_at (hh : ∀ r l, xh (ix2 r l) = (hat (V r) l : EReal)) (e : Fin 4) (n : Fin 16) (t : Fin 128) (h : Fin 4) (j : Fin 64) :
    qnorm xh g b (ix5 e n t h j) = ((norm G B (V (ro e n t)) (col h j) : ℝ) : EReal) := by
  pointwise [qnorm]
  simp only [hh, hg, hb, ← EReal.coe_mul, ← EReal.coe_add]
  rfl

/-! The gradient of the layer normalisation, at the cotangent `M`. -/

variable {dl dx k o : A256} {M : Fin 8192 → Fin 256 → ℝ}

include hg in
theorem qdx_at (hm : ∀ r l, dl (ix2 r l) = (M r l : EReal)) (r : Fin 8192) (l : Fin 256) :
    qdx dl g (ix2 r l) = ((M r l * G l : ℝ) : EReal) := by
  pointwise [qdx]
  simp only [hm, hg, ← EReal.coe_mul]

/-- The root's part of the gradient. -/
def kr (G v d : Fin 256 → ℝ) : ℝ := (∑ j, cen v j * (d j * G j)) * (-(1 / 2) * (rstd v / (var v + eps))) / 256
/-- The gradient of the centred row. -/
def og (G v d : Fin 256 → ℝ) (l : Fin 256) : ℝ := d l * G l * rstd v + cen v l * kr G v d + kr G v d * cen v l

include hc ha in
theorem qk_at (hx : ∀ r l, dx (ix2 r l) = ((M r l * G l : ℝ) : EReal)) (r : Fin 8192) (l : Fin 256) :
    qk xc dx va (ix2 r l) = ((kr G (V r) (M r) : ℝ) : EReal) := by
  pointwise [qk]
  simp only [hc, ha, hx, ofBits_256, ofBits_neg_half, rsqrt_var, div_real _ (var_eps_pos _).ne', ← EReal.coe_mul, sum_coe, div_256]
  simp only [Finset.univ_unique, Finset.sum_singleton]
  rfl

include hc ha in
theorem qo_at (hx : ∀ r l, dx (ix2 r l) = ((M r l * G l : ℝ) : EReal)) (hk : ∀ r l, k (ix2 r l) = ((kr G (V r) (M r) : ℝ) : EReal))
    (r : Fin 8192) (l : Fin 256) : qo xc dx k va (ix2 r l) = ((og G (V r) (M r) l : ℝ) : EReal) := by
  pointwise [qo]
  simp only [hc, ha, hx, hk, rsqrt_var, ← EReal.coe_mul, ← EReal.coe_add]
  rfl

theorem qdv_at (ho : ∀ r l, o (ix2 r l) = (og G (V r) (M r) l : EReal)) (r : Fin 8192) (l : Fin 256) :
    qdv o (ix2 r l) = ((dnorm G (V r) (M r) l : ℝ) : EReal) := by
  pointwise [qdv]
  simp only [ho, ofBits_256, ← EReal.coe_neg, sum_coe, div_256, ← EReal.coe_add]
  simp only [Finset.univ_unique, Finset.sum_singleton]
  exact congrArg _ (dnorm_eq G (V r) (M r) l _ rfl _ fun _ => rfl)

end

section
variable {w : AW} {W : Fin 4 → Fin 128 → Fin 128 → ℝ}

theorem qw_at (hw : ∀ h t s, w (ix3 h t s) = (W h t s : EReal)) (h : Fin 4) (t s : Fin 128) :
    qw w (ix3 h t s) = ((tri (W h) t s : ℝ) : EReal) := by
  pointwise [qw]
  rw [hw, qtri_at, ← EReal.coe_mul, tri, mul_ite, mul_one, mul_zero]

variable {vl e : A5} {wt : AW} (ht : ∀ h t s, wt (ix3 h t s) = (tri (W h) t s : EReal))

theorem col_hd (l : Fin 256) : col (hd l) ⟨l % 64, by omega⟩ = l := Fin.ext (by simp only [col, hd]; omega)

include ht in
theorem qsp_at {N : Fin 8192 → Fin 256 → ℝ} (hn : ∀ e n t h j, vl (ix5 e n t h j) = (N (ro e n t) (col h j) : EReal))
    {sb : FVec Ideal S4x128 .f32} {SB : Fin 4 → Fin 128 → ℝ} (hs : ∀ h t, sb (ix2 h t) = (SB h t : EReal)) (r : Fin 8192) (l : Fin 256) :
    qsp vl wt sb (ix2 r l) = ((mix W (fun s => N (ro (re r) (rn r) s)) (rt r) l + SB (hd l) (rt r) : ℝ) : EReal) := by
  pointwise [qsp]
  simp only [hn, ht, hs, ← EReal.coe_mul, sum_coe, ← EReal.coe_add]
  refine congrArg _ (congrArg (· + _) (Finset.sum_congr rfl fun s _ => ?_))
  rw [mul_comm]
  exact congrArg (tri (W (hd l)) (rt r) s * N (ro (re r) (rn r) s) ·) (col_hd l)

theorem qdsp_at {u ct : A256} {U D : Fin 8192 → Fin 256 → ℝ} (hu : ∀ r l, u (ix2 r l) = (U r l : EReal)) (hd : ∀ r l, ct (ix2 r l) = (D r l : EReal))
    (e : Fin 4) (n : Fin 16) (t : Fin 128) (h : Fin 4) (j : Fin 64) :
    qdsp u ct (ix5 e n t h j) = ((D (ro e n t) (col h j) * U (ro e n t) (col h j) : ℝ) : EReal) := by
  pointwise [qdsp]
  simp only [hu, hd, ← EReal.coe_mul]
  rw [mul_comm]; rfl

variable {E : Fin 8192 → Fin 256 → ℝ} (he : ∀ e' n t h j, e (ix5 e' n t h j) = (E (ro e' n t) (col h j) : EReal))

include ht he in
theorem qdvl_at (r : Fin 8192) (l : Fin 256) :
    qdvl (qdspT e) wt (ix2 r l) = ((mixT W (fun t => E (ro (re r) (rn r) t)) (rt r) l : ℝ) : EReal) := by
  pointwise [qdvl, qdspT]
  simp only [he, ht, ← EReal.coe_mul, sum_coe]
  refine congrArg _ (Finset.sum_congr rfl fun s _ => ?_)
  rw [mul_comm]
  exact congrArg (tri (W (hd l)) s (rt r) * E (ro (re r) (rn r) s) ·) (col_hd l)

include he in
theorem qdw_at {N : Fin 8192 → Fin 256 → ℝ} (hn : ∀ e n t h j, vl (ix5 e n t h j) = (N (ro e n t) (col h j) : EReal)) (h : Fin 4) (t s : Fin 128) :
    qdw (qdspT e) vl (ix3 h t s)
      = ((∑ e', if s ≤ t then ∑ n, ∑ l, (if hd l = h then E (ro e' n t) l * N (ro e' n s) l else 0) else 0 : ℝ) : EReal) := by
  pointwise [qdw]
  rw [matmul3, qtri_at]
  have hT : ∀ (h : Fin 4) (e' : Fin 4) (n : Fin 16) (j : Fin 64) (t : Fin 128), qdspT e (ix5 h e' n j t) = (E (ro e' n t) (col h j) : EReal) :=
    fun h e' n j t => by pointwise [qdspT]; exact he _ _ _ _ _
  simp only [hT, hn, ← EReal.coe_mul, sum_coe]
  refine congrArg _ ?_
  rw [Finset.sum_mul]
  refine Finset.sum_congr rfl fun e' _ => ?_
  rw [mul_ite, mul_one, mul_zero]
  exact if_congr Iff.rfl (Finset.sum_congr rfl fun n _ => sum_col (fun l => E (ro e' n t) l * N (ro e' n s) l) h) rfl

include he in
theorem qdb_at (t : Fin 128) (h : Fin 4) :
    qdb e (ix2 t h) = ((∑ e', ∑ l, if hd l = h then ∑ n, E (ro e' n t) l else 0 : ℝ) : EReal) := by
  pointwise [qdb]
  rw [reduce3]
  simp only [Finset.univ_unique, Finset.sum_singleton]
  pointwise []
  rw [reduce3]
  simp only [he, sum_coe]
  refine congrArg _ (Finset.sum_congr rfl fun e' _ => ?_)
  rw [Finset.sum_comm]
  exact sum_col (fun l => ∑ n, E (ro e' n t) l) h
end

theorem qsum_at {x : A256} {X : Fin 8192 → Fin 256 → ℝ} (hx : ∀ r l, x (ix2 r l) = (X r l : EReal)) (u : Fin 1) (l : Fin 256) :
    qsum x (ix2 u l) = ((∑ r, X r l : ℝ) : EReal) := by
  pointwise [qsum]
  simp only [hx, sum_coe]
  simp only [Finset.univ_unique, Finset.sum_singleton]

section
variable {du dv : A256} {da : A512} {DU DV : Fin 8192 → Fin 256 → ℝ} {DA : Fin 8192 → Fin 512 → ℝ}
  (hu : ∀ r l, du (ix2 r l) = (DU r l : EReal)) (hv : ∀ r l, dv (ix2 r l) = (DV r l : EReal)) (ha : ∀ r k, da (ix2 r k) = (DA r k : EReal))
include hu hv ha

theorem qdp_at (r : Fin 8192) (k : Fin 512) : qdp du dv da (ix2 r k)
    = ((if h : k.val < 256 then DU r ⟨k, h⟩ * DA r k else DV r ⟨k - 256, by omega⟩ * DA r k : ℝ) : EReal) := by
  pointwise [qdp]
  rw [ha]
  split
  · rw [hu, EReal.coe_mul]
  · rw [hv, EReal.coe_mul]
end

end Cert.Sgu

end
-- ==== Proof.Reads.lean ====
/- What the kernel's blocks read of its arguments: each block at a grid point, as real numbers. -/
module

public import proofs.«01_k».proof.Proof.Gen.KernelIdeal.Value
public import proofs.«01_k».proof.Proof.Gen.KernelIdeal.Frame
public import proofs.«01_k».proof.Proof.Block
public import Idealize.ShloMosaic.Lib.Pointwise
public import Idealize.ShloMosaic.Lib.Pipeline.ValueKit
@[expose] public section
set_option maxRecDepth 16384
noncomputable section
namespace Cert.Sgu
open Idealize.ShloMosaic Cert.KernelIdeal Cert.KernelIdeal.Gen

/-- Which block of its array each window holds at each grid point. -/
theorem idx : ∀ t : Fin cfg0.N, win0_0.index t = ![t.val, 5] ∧ win0_1.index t = ![t.val, 6] ∧ win0_2.index t = ![0, 0]
    ∧ win0_3.index t = ![0, 0] ∧ win0_4.index t = ![0, 0, 0] ∧ win0_5.index t = ![0, 0] ∧ win0_6.index t = ![t.val, 2]
    ∧ win0_7.index t = ![t.val, 0] ∧ t.val < 4 :=
  (by decide +kernel : ∀ t : Fin grid0.N, _)

/-- Row `r` of example `t`. -/
def row (t : Fin 4) (r : Fin 2048) : Fin 8192 := ⟨t.val * 2048 + r.val, by omega⟩

/-- The arguments hold the real numbers `P`, `G`, `B`, `W`, `SB` and `DM`. -/
structure Given (m : (ℓ : Loc nD τ sig) → Buf (Elt Ideal) ℓ) (c : Dev nD) (P : Fin 8192 → Fin 2560 → ℝ) (G B : Fin 256 → ℝ) (W : Fin 4 → Fin 128 → Fin 128 → ℝ)
    (SB : Fin 4 → Fin 128 → ℝ) (DM : Fin 8192 → Fin 1024 → ℝ) : Prop where
  p : ∀ r l, (m ((c.tc : Thread nD τ).loc main_arg0) : S8192x2560.Idx → EReal) (ix2 r l) = (P r l : EReal)
  g : ∀ l, (m ((c.tc : Thread nD τ).loc main_arg1) : S256.Idx → EReal) (ix1 l) = (G l : EReal)
  b : ∀ l, (m ((c.tc : Thread nD τ).loc main_arg2) : S256.Idx → EReal) (ix1 l) = (B l : EReal)
  w : ∀ h t s, (m ((c.tc : Thread nD τ).loc main_arg3) : S4x128x128.Idx → EReal) (ix3 h t s) = (W h t s : EReal)
  sb : ∀ h t, (m ((c.tc : Thread nD τ).loc main_arg4) : S4x128.Idx → EReal) (ix2 h t) = (SB h t : EReal)
  d : ∀ r l, (m ((c.tc : Thread nD τ).loc main_arg5) : S8192x1024.Idx → EReal) (ix2 r l) = (DM r l : EReal)

variable {m : (ℓ : Loc nD τ sig) → Buf (Elt Ideal) ℓ} {c : Dev nD} {P : Fin 8192 → Fin 2560 → ℝ} {G B : Fin 256 → ℝ} {W : Fin 4 → Fin 128 → Fin 128 → ℝ}
    {SB : Fin 4 → Fin 128 → ℝ} {DM : Fin 8192 → Fin 1024 → ℝ}

/-- One example's gate half and value half of the projection, and its cotangent. -/
def cU (P : Fin 8192 → Fin 2560 → ℝ) (t : Fin 4) (r : Fin 2048) (l : Fin 256) : ℝ := P (row t r) ⟨1280 + l, by omega⟩
def cV (P : Fin 8192 → Fin 2560 → ℝ) (t : Fin 4) (r : Fin 2048) (l : Fin 256) : ℝ := P (row t r) ⟨1536 + l, by omega⟩
def cD (DM : Fin 8192 → Fin 1024 → ℝ) (t : Fin 4) (r : Fin 2048) (l : Fin 256) : ℝ := DM (row t r) ⟨512 + l, by omega⟩

theorem i0 (hg : Given m c P G B W SB DM) (t : Fin cfg0.N) (r : Fin 2048) (l : Fin 256) :
    (iblk m c 0 t : S2048x256.Idx → EReal) (ix2 r l) = (cU P t r l : EReal) := by
  refine Eq.trans ?_ (hg.p _ _)
  blk_point [iblk, V, idx t, row]
theorem i1 (hg : Given m c P G B W SB DM) (t : Fin cfg0.N) (r : Fin 2048) (l : Fin 256) :
    (iblk m c 1 t : S2048x256.Idx → EReal) (ix2 r l) = (cV P t r l : EReal) := by
  refine Eq.trans ?_ (hg.p _ _)
  blk_point [iblk, V, idx t, row]

theorem i2 (hg : Given m c P G B W SB DM) (t : Fin cfg0.N) (l : Fin 256) :
    (iblk m c 2 t : S1x256.Idx → EReal) (ix2 0 l) = (G l : EReal) := by
  refine Eq.trans ?_ (hg.g _)
  blk_point [iblk, V, idx t]

theorem i4 (hg : Given m c P G B W SB DM) (t : Fin cfg0.N) (h : Fin 4) (r : Fin 128) (l : Fin 128) :
    (iblk m c 4 t : S4x128x128.Idx → EReal) (ix3 h r l) = (W h r l : EReal) := by
  refine Eq.trans ?_ (hg.w _ _ _)
  blk_point [iblk, V, idx t]

theorem i5 (hg : Given m c P G B W SB DM) (t : Fin cfg0.N) (r : Fin 128) (l : Fin 256) :
    (iblk m c 5 t : S128x256.Idx → EReal) (ix2 r l) = (SB (hd l) r : EReal) := by
  refine Eq.trans ?_ (hg.sb _ _)
  blk_point [iblk, V, idx t, hd]

theorem i3 (hg : Given m c P G B W SB DM) (t : Fin cfg0.N) (l : Fin 256) :
    (iblk m c 3 t : S1x256.Idx → EReal) (ix2 0 l) = (B l : EReal) := by
  refine Eq.trans ?_ (hg.b _)
  blk_point [iblk, V, idx t]

theorem i6 (hg : Given m c P G B W SB DM) (t : Fin cfg0.N) (r : Fin 2048) (l : Fin 256) :
    (iblk m c 6 t : S2048x256.Idx → EReal) (ix2 r l) = (cD DM t r l : EReal) := by
  refine Eq.trans ?_ (hg.d _ _)
  blk_point [iblk, V, idx t, row]

end Cert.Sgu
end
-- ==== Proof.Arrays.lean ====
/- What the kernel leaves in its five results, over the real numbers: what one grid point stores, and the arrays after
   the last point. -/
module

public import proofs.«01_k».proof.Proof.Reads
public import Idealize.ShloMosaic.Lib.Pipeline.ReadBack

@[expose] public section

set_option maxRecDepth 16384

noncomputable section

namespace Cert.Sgu

open Idealize.ShloMosaic Cert.KernelIdeal Cert.KernelIdeal.Gen

variable {m : (ℓ : Loc nD τ sig) → Buf (Elt Ideal) ℓ} {c : Dev nD} {P : Fin 8192 → Fin 2560 → ℝ} {G B : Fin 256 → ℝ}
    {W : Fin 4 → Fin 128 → Fin 128 → ℝ} {SB : Fin 4 → Fin 128 → ℝ} {DM : Fin 8192 → Fin 1024 → ℝ}

/-- A load of one matrix of a stack of four, and of one column of four, read at an index. -/
theorem ldm0 (X : S4x128x128.Idx → EReal) (a b : Fin 128) :
    View.ld (Val := Elt Ideal) (S := S4x128x128) (e' := .f32) X (Rect.unit (s := S4x128x128) ![0, 0, 0] ![1, 128, 128] inb_S4x128x128_S1x128x128_0_0_0)
      (ix3 (0 : Fin 1) a b : S1x128x128.Idx) = X (ix3 0 a b) :=
  View.ld_unit_apply_of _ _ _ _ _ (ix3 (n0 := 4) 0 a b) fun d => match d with
    | 0 => rfl
    | 1 => (Nat.zero_add _).symm
    | 2 => (Nat.zero_add _).symm

theorem ldm1 (X : S4x128x128.Idx → EReal) (a b : Fin 128) :
    View.ld (Val := Elt Ideal) (S := S4x128x128) (e' := .f32) X (Rect.unit (s := S4x128x128) ![1, 0, 0] ![1, 128, 128] inb_S4x128x128_S1x128x128_1_0_0)
      (ix3 (0 : Fin 1) a b : S1x128x128.Idx) = X (ix3 1 a b) :=
  View.ld_unit_apply_of _ _ _ _ _ (ix3 (n0 := 4) 1 a b) fun d => match d with
    | 0 => rfl
    | 1 => (Nat.zero_add _).symm
    | 2 => (Nat.zero_add _).symm

theorem ldm2 (X : S4x128x128.Idx → EReal) (a b : Fin 128) :
    View.ld (Val := Elt Ideal) (S := S4x128x128) (e' := .f32) X (Rect.unit (s := S4x128x128) ![2, 0, 0] ![1, 128, 128] inb_S4x128x128_S1x128x128_2_0_0)
      (ix3 (0 : Fin 1) a b : S1x128x128.Idx) = X (ix3 2 a b) :=
  View.ld_unit_apply_of _ _ _ _ _ (ix3 (n0 := 4) 2 a b) fun d => match d with
    | 0 => rfl
    | 1 => (Nat.zero_add _).symm
    | 2 => (Nat.zero_add _).symm

theorem ldm3 (X : S4x128x128.Idx → EReal) (a b : Fin 128) :
    View.ld (Val := Elt Ideal) (S := S4x128x128) (e' := .f32) X (Rect.unit (s := S4x128x128) ![3, 0, 0] ![1, 128, 128] inb_S4x128x128_S1x128x128_3_0_0)
      (ix3 (0 : Fin 1) a b : S1x128x128.Idx) = X (ix3 3 a b) :=
  View.ld_unit_apply_of _ _ _ _ _ (ix3 (n0 := 4) 3 a b) fun d => match d with
    | 0 => rfl
    | 1 => (Nat.zero_add _).symm
    | 2 => (Nat.zero_add _).symm

theorem ldc0 (X : S128x4.Idx → EReal) (a : Fin 128) :
    View.ld (Val := Elt Ideal) (S := S128x4) (e' := .f32) X (Rect.unit (s := S128x4) ![0, 0] ![128, 1] inb_S128x4_S128x1_0_0)
      (ix2 a (0 : Fin 1) : S128x1.Idx) = X (ix2 a 0) :=
  View.ld_unit_apply_of _ _ _ _ _ (ix2 (n1 := 4) a 0) fun d => match d with
    | 0 => (Nat.zero_add _).symm
    | 1 => rfl

theorem ldc1 (X : S128x4.Idx → EReal) (a : Fin 128) :
    View.ld (Val := Elt Ideal) (S := S128x4) (e' := .f32) X (Rect.unit (s := S128x4) ![0, 1] ![128, 1] inb_S128x4_S128x1_0_1)
      (ix2 a (0 : Fin 1) : S128x1.Idx) = X (ix2 a 1) :=
  View.ld_unit_apply_of _ _ _ _ _ (ix2 (n1 := 4) a 1) fun d => match d with
    | 0 => (Nat.zero_add _).symm
    | 1 => rfl

theorem ldc2 (X : S128x4.Idx → EReal) (a : Fin 128) :
    View.ld (Val := Elt Ideal) (S := S128x4) (e' := .f32) X (Rect.unit (s := S128x4) ![0, 2] ![128, 1] inb_S128x4_S128x1_0_2)
      (ix2 a (0 : Fin 1) : S128x1.Idx) = X (ix2 a 2) :=
  View.ld_unit_apply_of _ _ _ _ _ (ix2 (n1 := 4) a 2) fun d => match d with
    | 0 => (Nat.zero_add _).symm
    | 1 => rfl

theorem ldc3 (X : S128x4.Idx → EReal) (a : Fin 128) :
    View.ld (Val := Elt Ideal) (S := S128x4) (e' := .f32) X (Rect.unit (s := S128x4) ![0, 3] ![128, 1] inb_S128x4_S128x1_0_3)
      (ix2 a (0 : Fin 1) : S128x1.Idx) = X (ix2 a 3) :=
  View.ld_unit_apply_of _ _ _ _ _ (ix2 (n1 := 4) a 3) fun d => match d with
    | 0 => (Nat.zero_add _).symm
    | 1 => rfl

/-- A stack of matrices, or four columns, with real numbers added: at an index of one of them. -/
def accM (A : S4x128x128.Idx → EReal) (f : S4x128x128.Idx → ℝ) (j : S4x128x128.Idx) : EReal := A j + ((f j : ℝ) : EReal)
def accC (A : S128x4.Idx → EReal) (f : S128x4.Idx → ℝ) (j : S128x4.Idx) : EReal := A j + ((f j : ℝ) : EReal)

theorem accM0 (A : S4x128x128.Idx → EReal) (f : S4x128x128.Idx → ℝ) (a b : Fin 128) :
    accM A f ((Rect.unit (s := S4x128x128) ![0, 0, 0] ![1, 128, 128] inb_S4x128x128_S1x128x128_0_0_0).emb (ix3 (0 : Fin 1) a b : S1x128x128.Idx))
      = View.ld (Val := Elt Ideal) (S := S4x128x128) (e' := .f32) A (Rect.unit (s := S4x128x128) ![0, 0, 0] ![1, 128, 128] inb_S4x128x128_S1x128x128_0_0_0)
      (ix3 (0 : Fin 1) a b : S1x128x128.Idx) + ((f (ix3 0 a b) : ℝ) : EReal) := by
  rw [ldm0]; exact ldm0 (accM A f) a b

theorem accM1 (A : S4x128x128.Idx → EReal) (f : S4x128x128.Idx → ℝ) (a b : Fin 128) :
    accM A f ((Rect.unit (s := S4x128x128) ![1, 0, 0] ![1, 128, 128] inb_S4x128x128_S1x128x128_1_0_0).emb (ix3 (0 : Fin 1) a b : S1x128x128.Idx))
      = View.ld (Val := Elt Ideal) (S := S4x128x128) (e' := .f32) A (Rect.unit (s := S4x128x128) ![1, 0, 0] ![1, 128, 128] inb_S4x128x128_S1x128x128_1_0_0)
      (ix3 (0 : Fin 1) a b : S1x128x128.Idx) + ((f (ix3 1 a b) : ℝ) : EReal) := by
  rw [ldm1]; exact ldm1 (accM A f) a b

theorem accM2 (A : S4x128x128.Idx → EReal) (f : S4x128x128.Idx → ℝ) (a b : Fin 128) :
    accM A f ((Rect.unit (s := S4x128x128) ![2, 0, 0] ![1, 128, 128] inb_S4x128x128_S1x128x128_2_0_0).emb (ix3 (0 : Fin 1) a b : S1x128x128.Idx))
      = View.ld (Val := Elt Ideal) (S := S4x128x128) (e' := .f32) A (Rect.unit (s := S4x128x128) ![2, 0, 0] ![1, 128, 128] inb_S4x128x128_S1x128x128_2_0_0)
      (ix3 (0 : Fin 1) a b : S1x128x128.Idx) + ((f (ix3 2 a b) : ℝ) : EReal) := by
  rw [ldm2]; exact ldm2 (accM A f) a b

theorem accM3 (A : S4x128x128.Idx → EReal) (f : S4x128x128.Idx → ℝ) (a b : Fin 128) :
    accM A f ((Rect.unit (s := S4x128x128) ![3, 0, 0] ![1, 128, 128] inb_S4x128x128_S1x128x128_3_0_0).emb (ix3 (0 : Fin 1) a b : S1x128x128.Idx))
      = View.ld (Val := Elt Ideal) (S := S4x128x128) (e' := .f32) A (Rect.unit (s := S4x128x128) ![3, 0, 0] ![1, 128, 128] inb_S4x128x128_S1x128x128_3_0_0)
      (ix3 (0 : Fin 1) a b : S1x128x128.Idx) + ((f (ix3 3 a b) : ℝ) : EReal) := by
  rw [ldm3]; exact ldm3 (accM A f) a b

theorem accC0 (A : S128x4.Idx → EReal) (f : S128x4.Idx → ℝ) (a : Fin 128) :
    accC A f ((Rect.unit (s := S128x4) ![0, 0] ![128, 1] inb_S128x4_S128x1_0_0).emb (ix2 a (0 : Fin 1) : S128x1.Idx))
      = View.ld (Val := Elt Ideal) (S := S128x4) (e' := .f32) A (Rect.unit (s := S128x4) ![0, 0] ![128, 1] inb_S128x4_S128x1_0_0)
      (ix2 a (0 : Fin 1) : S128x1.Idx) + ((f (ix2 a 0) : ℝ) : EReal) := by
  rw [ldc0]; exact ldc0 (accC A f) a

theorem accC1 (A : S128x4.Idx → EReal) (f : S128x4.Idx → ℝ) (a : Fin 128) :
    accC A f ((Rect.unit (s := S128x4) ![0, 1] ![128, 1] inb_S128x4_S128x1_0_1).emb (ix2 a (0 : Fin 1) : S128x1.Idx))
      = View.ld (Val := Elt Ideal) (S := S128x4) (e' := .f32) A (Rect.unit (s := S128x4) ![0, 1] ![128, 1] inb_S128x4_S128x1_0_1)
      (ix2 a (0 : Fin 1) : S128x1.Idx) + ((f (ix2 a 1) : ℝ) : EReal) := by
  rw [ldc1]; exact ldc1 (accC A f) a

theorem accC2 (A : S128x4.Idx → EReal) (f : S128x4.Idx → ℝ) (a : Fin 128) :
    accC A f ((Rect.unit (s := S128x4) ![0, 2] ![128, 1] inb_S128x4_S128x1_0_2).emb (ix2 a (0 : Fin 1) : S128x1.Idx))
      = View.ld (Val := Elt Ideal) (S := S128x4) (e' := .f32) A (Rect.unit (s := S128x4) ![0, 2] ![128, 1] inb_S128x4_S128x1_0_2)
      (ix2 a (0 : Fin 1) : S128x1.Idx) + ((f (ix2 a 2) : ℝ) : EReal) := by
  rw [ldc2]; exact ldc2 (accC A f) a

theorem accC3 (A : S128x4.Idx → EReal) (f : S128x4.Idx → ℝ) (a : Fin 128) :
    accC A f ((Rect.unit (s := S128x4) ![0, 3] ![128, 1] inb_S128x4_S128x1_0_3).emb (ix2 a (0 : Fin 1) : S128x1.Idx))
      = View.ld (Val := Elt Ideal) (S := S128x4) (e' := .f32) A (Rect.unit (s := S128x4) ![0, 3] ![128, 1] inb_S128x4_S128x1_0_3)
      (ix2 a (0 : Fin 1) : S128x1.Idx) + ((f (ix2 a 3) : ℝ) : EReal) := by
  rw [ldc3]; exact ldc3 (accC A f) a

theorem ldw0 {X : S4x128x128.Idx → EReal} (h : ∀ k a b, X (ix3 k a b) = ((W k a b : ℝ) : EReal)) (a b : Fin 128) :
    View.ld (Val := Elt Ideal) (S := S4x128x128) (e' := .f32) X (Rect.unit (s := S4x128x128) ![0, 0, 0] ![1, 128, 128] inb_S4x128x128_S1x128x128_0_0_0)
      (ix3 (0 : Fin 1) a b : S1x128x128.Idx) = ((W 0 a b : ℝ) : EReal) :=
  (ldm0 X a b).trans (h 0 a b)

theorem ldw1 {X : S4x128x128.Idx → EReal} (h : ∀ k a b, X (ix3 k a b) = ((W k a b : ℝ) : EReal)) (a b : Fin 128) :
    View.ld (Val := Elt Ideal) (S := S4x128x128) (e' := .f32) X (Rect.unit (s := S4x128x128) ![1, 0, 0] ![1, 128, 128] inb_S4x128x128_S1x128x128_1_0_0)
      (ix3 (0 : Fin 1) a b : S1x128x128.Idx) = ((W 1 a b : ℝ) : EReal) :=
  (ldm1 X a b).trans (h 1 a b)

theorem ldw2 {X : S4x128x128.Idx → EReal} (h : ∀ k a b, X (ix3 k a b) = ((W k a b : ℝ) : EReal)) (a b : Fin 128) :
    View.ld (Val := Elt Ideal) (S := S4x128x128) (e' := .f32) X (Rect.unit (s := S4x128x128) ![2, 0, 0] ![1, 128, 128] inb_S4x128x128_S1x128x128_2_0_0)
      (ix3 (0 : Fin 1) a b : S1x128x128.Idx) = ((W 2 a b : ℝ) : EReal) :=
  (ldm2 X a b).trans (h 2 a b)

theorem ldw3 {X : S4x128x128.Idx → EReal} (h : ∀ k a b, X (ix3 k a b) = ((W k a b : ℝ) : EReal)) (a b : Fin 128) :
    View.ld (Val := Elt Ideal) (S := S4x128x128) (e' := .f32) X (Rect.unit (s := S4x128x128) ![3, 0, 0] ![1, 128, 128] inb_S4x128x128_S1x128x128_3_0_0)
      (ix3 (0 : Fin 1) a b : S1x128x128.Idx) = ((W 3 a b : ℝ) : EReal) :=
  (ldm3 X a b).trans (h 3 a b)

/-- One example's gradient of its projection, both halves side by side. -/
def dpB (W : Fin 4 → Fin 128 → Fin 128 → ℝ) (SB : Fin 4 → Fin 128 → ℝ) (G B : Fin 256 → ℝ) (U V D : Fin 2048 → Fin 256 → ℝ)
    (r : Fin 2048) (l : Fin 512) : ℝ :=
  if h : l.val < 256 then du W SB G B (ch U (bn r)) (ch V (bn r)) (ch D (bn r)) (bt r) ⟨l, h⟩
  else dv W G (ch U (bn r)) (ch V (bn r)) (ch D (bn r)) (bt r) ⟨l - 256, by omega⟩

theorem gl_bn (V : Fin 2048 → Fin 256 → ℝ) (r : Fin 2048) : gl (ch V (bn r)) (bt r) = gv V r := by
  funext l
  rw [gl, ch_self]; rfl

section

variable (W : Fin 4 → Fin 128 → Fin 128 → ℝ) (SB : Fin 4 → Fin 128 → ℝ) (G B : Fin 256 → ℝ) (U V D : Fin 2048 → Fin 256 → ℝ)
  (r q : Fin 2048) (l : Fin 256) (k : Fin 512)

theorem dpB_right (hq : q.val = r.val) (hk : k.val = 256 + l.val) :
    dpB W SB G B U V D q k
      = dnorm G (gv V r) (mixT W (dsp (ch U (bn r)) (ch D (bn r))) (bt r)) l * dgelu (V r l) := by
  obtain rfl : q = r := Fin.ext hq
  have e : (⟨k.val - 256, by omega⟩ : Fin 256) = l := Fin.ext (by simp only; omega)
  rw [dpB, dif_neg (by omega), e, dv, ch_self, gl_bn]

theorem dpB_left (hq : q.val = r.val) (hk : k.val = l.val) :
    dpB W SB G B U V D q k
      = D r l * (mix W (fun s => norm G B (gl (ch V (bn r)) s)) (bt r) l + SB (hd l) (bt r)) * dgelu (U r l) := by
  obtain rfl : q = r := Fin.ext hq
  have e : (⟨k.val, by omega⟩ : Fin 256) = l := Fin.ext hk
  rw [dpB, dif_pos (by omega), e, du, ch_self, ch_self]

end

theorem point7 (hg : Given m c P G B W SB DM) (t : Fin cfg0.N) (y : S2048x512.Idx) :
    (outsAt0 m c t.val t.isLt).1 y = ((dpB W SB G B (cU P t) (cV P t) (cD DM t) (y 0) (y 1) : ℝ) : EReal) := by
  have hu := pay8_at (i0 hg t)
  have hxc := pay11_at (i1 hg t)
  have hva := pay12_at (i1 hg t)
  have hvl := pay15_at (i2 hg t) (i3 hg t) hxc hva
  have hdd := pay28_at hu (i6 hg t)
  by_cases h : t.val % 4 = 0
  on_goal 1 => rw [outsAt0_A m c t h]
  on_goal 2 => rw [outsAt0_B m c t h]
  all_goals
    frame_out
    canon_tiles x q
    case piece0 =>
      obtain ⟨r, l, rfl⟩ : ∃ (r : Fin 2048) (l : Fin 256), x = ix2 r l := ⟨x 0, x 1, eq_ix2 x⟩
      refine Eq.trans (pay1_at (W := W) (i1 hg t) (pay13_at hva) (pay14_at hxc hva) (i2 hg t) hdd (ldw0 (i4 hg t)) (ldw1 (i4 hg t))
        (ldw2 (i4 hg t)) (ldw3 (i4 hg t)) _ _) ?_
      exact congrArg _ (dpB_right W SB G B (cU P t) (cV P t) (cD DM t) r _ l _ q0 q1).symm
    case piece1 =>
      obtain ⟨r, l, rfl⟩ : ∃ (r : Fin 2048) (l : Fin 256), x = ix2 r l := ⟨x 0, x 1, eq_ix2 x⟩
      refine Eq.trans (pay27_at (W := W) (i0 hg t) (i6 hg t) hvl (ldw0 (i4 hg t)) (ldw1 (i4 hg t)) (ldw2 (i4 hg t)) (ldw3 (i4 hg t))
        (i5 hg t) _ _) ?_
      exact congrArg _ (dpB_left W SB G B (cU P t) (cV P t) (cD DM t) r _ l _ q0 q1).symm

/-- The example a row belongs to, and its place there. -/
def ex (r : Fin 8192) : Fin 4 := ⟨r / 2048, by omega⟩
def wi (r : Fin 8192) : Fin 2048 := ⟨r % 2048, by omega⟩

theorem ex_row (t : Fin 4) (r : Fin 2048) : ex (row t r) = t := Fin.ext (by simp only [ex, row]; omega)
theorem wi_row (t : Fin 4) (r : Fin 2048) : wi (row t r) = r := Fin.ext (by simp only [wi, row]; omega)

/-- The gradient of the projection: each example's rows. -/
def dpA (W : Fin 4 → Fin 128 → Fin 128 → ℝ) (SB : Fin 4 → Fin 128 → ℝ) (G B : Fin 256 → ℝ) (P : Fin 8192 → Fin 2560 → ℝ)
    (DM : Fin 8192 → Fin 1024 → ℝ) (r : Fin 8192) (l : Fin 512) : ℝ :=
  dpB W SB G B (cU P (ex r)) (cV P (ex r)) (cD DM (ex r)) (wi r) l

theorem dpA_row (W : Fin 4 → Fin 128 → Fin 128 → ℝ) (SB : Fin 4 → Fin 128 → ℝ) (G B : Fin 256 → ℝ) (P : Fin 8192 → Fin 2560 → ℝ)
    (DM : Fin 8192 → Fin 1024 → ℝ) (t : Fin 4) (r : Fin 2048) (l : Fin 512) :
    dpA W SB G B P DM (row t r) l = dpB W SB G B (cU P t) (cV P t) (cD DM t) r l := by
  rw [dpA, ex_row, wi_row]

theorem final7 (hg : Given m c P G B W SB DM) : (dats m 0 c).arrAt 7 cfg0.N
    = fun y : S8192x512.Idx => ((dpA W SB G B P DM (y 0) (y 1) : ℝ) : EReal) := by
  refine (dats m 0 c).arrAt_eq_of_covers 7 _ (by decide +kernel) fun t hf y => ?_
  blk_simp
  rw [after0_7, point7 hg]
  obtain ⟨r, l, rfl⟩ : ∃ (r : Fin 2048) (l : Fin 512), y = ix2 r l := ⟨y 0, y 1, eq_ix2 y⟩
  have e0 : (win0_7.blk t).view.emb (ix2 r l) 0 = row t r := Fin.ext (by blk_simp [idx t, row])
  have e1 : (win0_7.blk t).view.emb (ix2 r l) 1 = l := Fin.ext (by blk_simp [idx t])
  rw [e0, e1]
  exact congrArg _ (dpA_row W SB G B P DM t r l).symm

/-- One example's part of the gradient of the gain, of the bias of the normalisation, of the mixing matrices and of the
    mixing bias. -/
def lgB (W : Fin 4 → Fin 128 → Fin 128 → ℝ) (U V D : Fin 2048 → Fin 256 → ℝ) (l : Fin 256) : ℝ :=
  ∑ r, mixT W (dsp (ch U (bn r)) (ch D (bn r))) (bt r) l * hat (gv V r) l
def lbB (W : Fin 4 → Fin 128 → Fin 128 → ℝ) (U D : Fin 2048 → Fin 256 → ℝ) (l : Fin 256) : ℝ :=
  ∑ r, mixT W (dsp (ch U (bn r)) (ch D (bn r))) (bt r) l
def wsB (G B : Fin 256 → ℝ) (U V D : Fin 2048 → Fin 256 → ℝ) (h : Fin 4) (t s : Fin 128) : ℝ :=
  if s ≤ t then ∑ n, ∑ l, (if hd l = h then dsp (ch U n) (ch D n) t l * norm G B (gl (ch V n) s) l else 0) else 0
def sbB (U D : Fin 2048 → Fin 256 → ℝ) (t : Fin 128) (h : Fin 4) : ℝ :=
  ∑ l, if hd l = h then ∑ n, dsp (ch U n) (ch D n) t l else 0

theorem eq_one_row (j : S1x256.Idx) : ∃ l : Fin 256, j = ix2 (0 : Fin 1) l := by
  refine ⟨j 1, (eq_ix2 j).trans ?_⟩
  congr 1
  exact Subsingleton.elim (α := Fin 1) _ _

theorem eq_one_mat (j : S1x128x128.Idx) : ∃ a b : Fin 128, j = ix3 (0 : Fin 1) a b := by
  refine ⟨j 1, j 2, (eq_ix3 j).trans ?_⟩
  congr 1
  exact Subsingleton.elim (α := Fin 1) _ _

theorem eq_one_col (j : S128x1.Idx) : ∃ a : Fin 128, j = ix2 a (0 : Fin 1) := by
  refine ⟨j 0, (eq_ix2 j).trans ?_⟩
  congr 1
  exact Subsingleton.elim (α := Fin 1) _ _

theorem pay2_at (y : S1x256.Idx) : k0_pay2 (F := Ideal) y = (0 : EReal) := by pointwise [k0_pay2]
theorem pay3_at (y : S1x256.Idx) : k0_pay3 (F := Ideal) y = (0 : EReal) := by pointwise [k0_pay3]

theorem final8 (hg : Given m c P G B W SB DM) : (dats m 0 c).arrAt 8 cfg0.N
    = fun y : S1x256.Idx => ((∑ e, lgB W (cU P e) (cV P e) (cD DM e) (y 1) : ℝ) : EReal) := by
  refine (dats m 0 c).arrAt_eq_of_after_last 8 t0_3 (by decide +kernel) _ fun j => ?_
  blk_simp
  rw [after0_8, Pipeline.eq_sum_fin_of_reset_step_apply_last (fun n h => (outsAt0 m c n h).2.1) 4 (fun _ => 0)
    (fun e y => ((lgB W (cU P e) (cV P e) (cD DM e) (y 1) : ℝ) : EReal))
    (fun t h j => by
      obtain ⟨l, rfl⟩ := eq_one_row j
      rw [outsAt0_A m c t h]
      frame_open
      simp (disch := decide) only [↓ View.readCov_skip, ↓ View.readCov_cons_toLoadRect, ↓ View.readCov_fill]
      frame_out
      refine Eq.trans (pay62_at (W := W) (pay14_at (pay11_at (i1 hg t)) (pay12_at (i1 hg t))) (pay28_at (pay8_at (i0 hg t)) (i6 hg t))
        (ldw0 (i4 hg t)) (ldw1 (i4 hg t)) (ldw2 (i4 hg t)) (ldw3 (i4 hg t)) _) ?_
      rw [pay2_at]; rfl)
    (fun t h j => by
      obtain ⟨l, rfl⟩ := eq_one_row j
      rw [outsAt0_B m c t h]
      frame_out
      exact pay62_at (W := W) (pay14_at (pay11_at (i1 hg t)) (pay12_at (i1 hg t))) (pay28_at (pay8_at (i0 hg t)) (i6 hg t))
        (ldw0 (i4 hg t)) (ldw1 (i4 hg t)) (ldw2 (i4 hg t)) (ldw3 (i4 hg t)) _)
    (le_of_eq N_0) t0_3 rfl j, zero_add]
  exact sum_coe _ _

theorem final9 (hg : Given m c P G B W SB DM) : (dats m 0 c).arrAt 9 cfg0.N
    = fun y : S1x256.Idx => ((∑ e, lbB W (cU P e) (cD DM e) (y 1) : ℝ) : EReal) := by
  refine (dats m 0 c).arrAt_eq_of_after_last 9 t0_3 (by decide +kernel) _ fun j => ?_
  blk_simp
  rw [after0_9, Pipeline.eq_sum_fin_of_reset_step_apply_last (fun n h => (outsAt0 m c n h).2.2.1) 4 (fun _ => 0)
    (fun e y => ((lbB W (cU P e) (cD DM e) (y 1) : ℝ) : EReal))
    (fun t h j => by
      obtain ⟨l, rfl⟩ := eq_one_row j
      rw [outsAt0_A m c t h]
      frame_open
      simp (disch := decide) only [↓ View.readCov_skip, ↓ View.readCov_cons_toLoadRect, ↓ View.readCov_fill]
      frame_out
      refine Eq.trans (pay63_at (W := W) (pay28_at (pay8_at (i0 hg t)) (i6 hg t))
        (ldw0 (i4 hg t)) (ldw1 (i4 hg t)) (ldw2 (i4 hg t)) (ldw3 (i4 hg t)) _) ?_
      rw [pay3_at]; rfl)
    (fun t h j => by
      obtain ⟨l, rfl⟩ := eq_one_row j
      rw [outsAt0_B m c t h]
      frame_out
      exact pay63_at (W := W) (pay28_at (pay8_at (i0 hg t)) (i6 hg t))
        (ldw0 (i4 hg t)) (ldw1 (i4 hg t)) (ldw2 (i4 hg t)) (ldw3 (i4 hg t)) _)
    (le_of_eq N_0) t0_3 rfl j, zero_add]
  exact sum_coe _ _

theorem pay4_at (y : S4x128x128.Idx) : k0_pay4 (F := Ideal) y = (0 : EReal) := by pointwise [k0_pay4]
theorem pay5_at (y : S128x4.Idx) : k0_pay5 (F := Ideal) y = (0 : EReal) := by pointwise [k0_pay5]

theorem final10 (hg : Given m c P G B W SB DM) : (dats m 0 c).arrAt 10 cfg0.N
    = fun y : S4x128x128.Idx => ((∑ e, wsB G B (cU P e) (cV P e) (cD DM e) (y 0) (y 1) (y 2) : ℝ) : EReal) := by
  refine (dats m 0 c).arrAt_eq_of_after_last 10 t0_3 (by decide +kernel) _ fun j => ?_
  blk_simp
  rw [after0_10, Pipeline.eq_sum_fin_of_reset_step_apply_last (fun n h => (outsAt0 m c n h).2.2.2.1) 4 (fun _ => 0)
    (fun e y => ((wsB G B (cU P e) (cV P e) (cD DM e) (y 0) (y 1) (y 2) : ℝ) : EReal))
    (fun t h j => by
      rw [outsAt0_A m c t h, ← pay4_at j]
      frame_open
      simp (disch := decide) only [↓ View.readCov_skip, ↓ View.readCov_cons_toLoadRect, ↓ View.readCov_fill]
      frame_out
      refine View.canon_append_of_piecesOf (Val := Elt Ideal) (e := .f32) (s := S4x128x128)
        (accM (k0_pay4 (F := Ideal)) fun j => wsB G B (cU P t) (cV P t) (cD DM t) (j 0) (j 1) (j 2)) [_] [_, _, _, _]
        ⟨fun x => ?_, fun x => ?_, fun x => ?_, fun x => ?_, trivial⟩ j (View.cover_of_tiledL _ ![1, 128, 128] (by sl_kernel_rfl) j)
      · obtain ⟨a, b, rfl⟩ := eq_one_mat x
        exact (pay51_at (pay15_at (i2 hg t) (i3 hg t) (pay11_at (i1 hg t)) (pay12_at (i1 hg t)))
          (pay28_at (pay8_at (i0 hg t)) (i6 hg t)) _ a b).trans (accM3 _ (fun j => wsB G B (cU P t) (cV P t) (cD DM t) (j 0) (j 1) (j 2)) a b).symm
      · obtain ⟨a, b, rfl⟩ := eq_one_mat x
        exact (pay48_at (pay15_at (i2 hg t) (i3 hg t) (pay11_at (i1 hg t)) (pay12_at (i1 hg t)))
          (pay28_at (pay8_at (i0 hg t)) (i6 hg t)) _ a b).trans (accM2 _ (fun j => wsB G B (cU P t) (cV P t) (cD DM t) (j 0) (j 1) (j 2)) a b).symm
      · obtain ⟨a, b, rfl⟩ := eq_one_mat x
        exact (pay44_at (pay15_at (i2 hg t) (i3 hg t) (pay11_at (i1 hg t)) (pay12_at (i1 hg t)))
          (pay28_at (pay8_at (i0 hg t)) (i6 hg t)) _ a b).trans (accM1 _ (fun j => wsB G B (cU P t) (cV P t) (cD DM t) (j 0) (j 1) (j 2)) a b).symm
      · obtain ⟨a, b, rfl⟩ := eq_one_mat x
        exact (pay42_at (pay15_at (i2 hg t) (i3 hg t) (pay11_at (i1 hg t)) (pay12_at (i1 hg t)))
          (pay28_at (pay8_at (i0 hg t)) (i6 hg t)) _ a b).trans (accM0 _ (fun j => wsB G B (cU P t) (cV P t) (cD DM t) (j 0) (j 1) (j 2)) a b).symm)
    (fun t h j => by
      rw [outsAt0_B m c t h]
      frame_out
      refine View.canon_append_of_piecesOf (Val := Elt Ideal) (e := .f32) (s := S4x128x128)
        (accM (outsAt0 m c (t.val - 1) (Nat.lt_of_le_of_lt (Nat.sub_le _ _) t.isLt)).2.2.2.1 fun j => wsB G B (cU P t) (cV P t) (cD DM t) (j 0) (j 1) (j 2)) [] [_, _, _, _]
        ⟨fun x => ?_, fun x => ?_, fun x => ?_, fun x => ?_, trivial⟩ j (View.cover_of_tiledL _ ![1, 128, 128] (by sl_kernel_rfl) j)
      · obtain ⟨a, b, rfl⟩ := eq_one_mat x
        exact (pay51_at (pay15_at (i2 hg t) (i3 hg t) (pay11_at (i1 hg t)) (pay12_at (i1 hg t)))
          (pay28_at (pay8_at (i0 hg t)) (i6 hg t)) _ a b).trans (accM3 _ (fun j => wsB G B (cU P t) (cV P t) (cD DM t) (j 0) (j 1) (j 2)) a b).symm
      · obtain ⟨a, b, rfl⟩ := eq_one_mat x
        exact (pay48_at (pay15_at (i2 hg t) (i3 hg t) (pay11_at (i1 hg t)) (pay12_at (i1 hg t)))
          (pay28_at (pay8_at (i0 hg t)) (i6 hg t)) _ a b).trans (accM2 _ (fun j => wsB G B (cU P t) (cV P t) (cD DM t) (j 0) (j 1) (j 2)) a b).symm
      · obtain ⟨a, b, rfl⟩ := eq_one_mat x
        exact (pay44_at (pay15_at (i2 hg t) (i3 hg t) (pay11_at (i1 hg t)) (pay12_at (i1 hg t)))
          (pay28_at (pay8_at (i0 hg t)) (i6 hg t)) _ a b).trans (accM1 _ (fun j => wsB G B (cU P t) (cV P t) (cD DM t) (j 0) (j 1) (j 2)) a b).symm
      · obtain ⟨a, b, rfl⟩ := eq_one_mat x
        exact (pay42_at (pay15_at (i2 hg t) (i3 hg t) (pay11_at (i1 hg t)) (pay12_at (i1 hg t)))
          (pay28_at (pay8_at (i0 hg t)) (i6 hg t)) _ a b).trans (accM0 _ (fun j => wsB G B (cU P t) (cV P t) (cD DM t) (j 0) (j 1) (j 2)) a b).symm)
    (le_of_eq N_0) t0_3 rfl j, zero_add]
  exact sum_coe _ _

theorem final11 (hg : Given m c P G B W SB DM) : (dats m 0 c).arrAt 11 cfg0.N
    = fun y : S128x4.Idx => ((∑ e, sbB (cU P e) (cD DM e) (y 0) (y 1) : ℝ) : EReal) := by
  refine (dats m 0 c).arrAt_eq_of_after_last 11 t0_3 (by decide +kernel) _ fun j => ?_
  blk_simp
  rw [after0_11, Pipeline.eq_sum_fin_of_reset_step_apply_last (fun n h => (outsAt0 m c n h).2.2.2.2) 4 (fun _ => 0)
    (fun e y => ((sbB (cU P e) (cD DM e) (y 0) (y 1) : ℝ) : EReal))
    (fun t h j => by
      rw [outsAt0_A m c t h, ← pay5_at j]
      frame_open
      simp (disch := decide) only [↓ View.readCov_skip, ↓ View.readCov_cons_toLoadRect, ↓ View.readCov_fill]
      frame_out
      refine View.canon_append_of_piecesOf (Val := Elt Ideal) (e := .f32) (s := S128x4)
        (accC (k0_pay5 (F := Ideal)) fun j => sbB (cU P t) (cD DM t) (j 0) (j 1)) [_] [_, _, _, _]
        ⟨fun x => ?_, fun x => ?_, fun x => ?_, fun x => ?_, trivial⟩ j (View.cover_of_tiledL _ ![128, 1] (by sl_kernel_rfl) j)
      · obtain ⟨a, rfl⟩ := eq_one_col x
        exact (pay49_at (pay29_at (pay8_at (i0 hg t)) (i6 hg t)) _ a).trans (accC3 _ (fun j => sbB (cU P t) (cD DM t) (j 0) (j 1)) a).symm
      · obtain ⟨a, rfl⟩ := eq_one_col x
        exact (pay47_at (pay29_at (pay8_at (i0 hg t)) (i6 hg t)) _ a).trans (accC2 _ (fun j => sbB (cU P t) (cD DM t) (j 0) (j 1)) a).symm
      · obtain ⟨a, rfl⟩ := eq_one_col x
        exact (pay43_at (pay29_at (pay8_at (i0 hg t)) (i6 hg t)) _ a).trans (accC1 _ (fun j => sbB (cU P t) (cD DM t) (j 0) (j 1)) a).symm
      · obtain ⟨a, rfl⟩ := eq_one_col x
        exact (pay39_at (pay29_at (pay8_at (i0 hg t)) (i6 hg t)) _ a).trans (accC0 _ (fun j => sbB (cU P t) (cD DM t) (j 0) (j 1)) a).symm)
    (fun t h j => by
      rw [outsAt0_B m c t h]
      frame_out
      refine View.canon_append_of_piecesOf (Val := Elt Ideal) (e := .f32) (s := S128x4)
        (accC (outsAt0 m c (t.val - 1) (Nat.lt_of_le_of_lt (Nat.sub_le _ _) t.isLt)).2.2.2.2 fun j => sbB (cU P t) (cD DM t) (j 0) (j 1)) [] [_, _, _, _]
        ⟨fun x => ?_, fun x => ?_, fun x => ?_, fun x => ?_, trivial⟩ j (View.cover_of_tiledL _ ![128, 1] (by sl_kernel_rfl) j)
      · obtain ⟨a, rfl⟩ := eq_one_col x
        exact (pay49_at (pay29_at (pay8_at (i0 hg t)) (i6 hg t)) _ a).trans (accC3 _ (fun j => sbB (cU P t) (cD DM t) (j 0) (j 1)) a).symm
      · obtain ⟨a, rfl⟩ := eq_one_col x
        exact (pay47_at (pay29_at (pay8_at (i0 hg t)) (i6 hg t)) _ a).trans (accC2 _ (fun j => sbB (cU P t) (cD DM t) (j 0) (j 1)) a).symm
      · obtain ⟨a, rfl⟩ := eq_one_col x
        exact (pay43_at (pay29_at (pay8_at (i0 hg t)) (i6 hg t)) _ a).trans (accC1 _ (fun j => sbB (cU P t) (cD DM t) (j 0) (j 1)) a).symm
      · obtain ⟨a, rfl⟩ := eq_one_col x
        exact (pay39_at (pay29_at (pay8_at (i0 hg t)) (i6 hg t)) _ a).trans (accC0 _ (fun j => sbB (cU P t) (cD DM t) (j 0) (j 1)) a).symm)
    (le_of_eq N_0) t0_3 rfl j, zero_add]
  exact sum_coe _ _

end Cert.Sgu

end
-- ==== Proof.Equation.lean ====
module

public import proofs.«01_k».proof.Proof.RefAt
public import proofs.«01_k».proof.Proof.Arrays

/-!
The reference's five results are the arrays the kernel leaves, when the arguments hold real numbers.
-/

@[expose] public section

set_option maxRecDepth 16384

noncomputable section

namespace Cert.Sgu

open Idealize.ShloMosaic Cert.ReferenceIdeal Cert.ReferenceIdeal.Gen

/-- The arguments of the reference hold the real numbers `P`, `G`, `B`, `W`, `SB` and `DM`. -/
structure GivenR (m : (ℓ : Loc nD τ sig) → Buf (Elt Ideal) ℓ) (c : Dev nD) (P : Fin 8192 → Fin 2560 → ℝ) (G B : Fin 256 → ℝ)
    (W : Fin 4 → Fin 128 → Fin 128 → ℝ) (SB : Fin 4 → Fin 128 → ℝ) (DM : Fin 8192 → Fin 1024 → ℝ) : Prop where
  p : ∀ r l, (m ((c.tc : Thread nD τ).loc main_arg0) : S8192x2560.Idx → EReal) (ix2 r l) = (P r l : EReal)
  g : ∀ l, (m ((c.tc : Thread nD τ).loc main_arg1) : S256.Idx → EReal) (ix1 l) = (G l : EReal)
  b : ∀ l, (m ((c.tc : Thread nD τ).loc main_arg2) : S256.Idx → EReal) (ix1 l) = (B l : EReal)
  w : ∀ h t s, (m ((c.tc : Thread nD τ).loc main_arg3) : S4x128x128.Idx → EReal) (ix3 h t s) = (W h t s : EReal)
  sb : ∀ h t, (m ((c.tc : Thread nD τ).loc main_arg4) : S4x128.Idx → EReal) (ix2 h t) = (SB h t : EReal)
  d : ∀ r l, (m ((c.tc : Thread nD τ).loc main_arg5) : S8192x1024.Idx → EReal) (ix2 r l) = (DM r l : EReal)

/-- The mixer's columns, the rows before the normalisation, and the cotangent of the mixed rows. -/
def x8 (P : Fin 8192 → Fin 2560 → ℝ) (r : Fin 8192) (k : Fin 512) : ℝ := P r ⟨1280 + k, by omega⟩
def v8 (P : Fin 8192 → Fin 2560 → ℝ) (r : Fin 8192) (l : Fin 256) : ℝ := gelu (P r ⟨1536 + l, by omega⟩)
def u8 (P : Fin 8192 → Fin 2560 → ℝ) (r : Fin 8192) (l : Fin 256) : ℝ := gelu (P r ⟨1280 + l, by omega⟩)
def d8 (DM : Fin 8192 → Fin 1024 → ℝ) (r : Fin 8192) (l : Fin 256) : ℝ := DM r ⟨512 + l, by omega⟩
def e8 (P : Fin 8192 → Fin 2560 → ℝ) (DM : Fin 8192 → Fin 1024 → ℝ) (r : Fin 8192) (l : Fin 256) : ℝ := d8 DM r l * u8 P r l
def s8 (W : Fin 4 → Fin 128 → Fin 128 → ℝ) (SB : Fin 4 → Fin 128 → ℝ) (G B : Fin 256 → ℝ) (P : Fin 8192 → Fin 2560 → ℝ)
    (r : Fin 8192) (l : Fin 256) : ℝ :=
  mix W (fun s => norm G B (v8 P (ro (re r) (rn r) s))) (rt r) l + SB (hd l) (rt r)
def m8 (W : Fin 4 → Fin 128 → Fin 128 → ℝ) (P : Fin 8192 → Fin 2560 → ℝ) (DM : Fin 8192 → Fin 1024 → ℝ) (r : Fin 8192) (l : Fin 256) : ℝ :=
  mixT W (fun t => e8 P DM (ro (re r) (rn r) t)) (rt r) l

theorem re_row (e : Fin 4) (x : Fin 2048) : re (row e x) = e := Fin.ext (by simp only [re, row]; omega)
theorem rn_row (e : Fin 4) (x : Fin 2048) : rn (row e x) = bn x := Fin.ext (by simp only [rn, bn, row]; omega)
theorem rt_row (e : Fin 4) (x : Fin 2048) : rt (row e x) = bt x := Fin.ext (by simp only [rt, bt, row]; omega)
theorem row_ex_wi (r : Fin 8192) : row (ex r) (wi r) = r := Fin.ext (by simp only [ex, wi, row]; omega)
theorem ro_eq (e : Fin 4) (n : Fin 16) (t : Fin 128) : ro e n t = row e (brow n t) := Fin.ext (by simp only [ro, row, brow]; omega)

section
variable (P : Fin 8192 → Fin 2560 → ℝ) (G B : Fin 256 → ℝ) (W : Fin 4 → Fin 128 → Fin 128 → ℝ) (SB : Fin 4 → Fin 128 → ℝ)
  (DM : Fin 8192 → Fin 1024 → ℝ)

theorem v8_ro (e : Fin 4) (n : Fin 16) : (fun t => v8 P (ro e n t)) = gl (ch (cV P e) n) := by
  funext t l; rw [ro_eq]; rfl
theorem e8_ro (e : Fin 4) (n : Fin 16) : (fun t => e8 P DM (ro e n t)) = dsp (ch (cU P e) n) (ch (cD DM e) n) := by
  funext t l; rw [ro_eq]; rfl
theorem s8_row (e : Fin 4) (x : Fin 2048) (l : Fin 256) : s8 W SB G B P (row e x) l
    = mix W (fun s => norm G B (gl (ch (cV P e) (bn x)) s)) (bt x) l + SB (hd l) (bt x) := by
  simp only [s8, re_row, rn_row, rt_row, ← v8_ro]
theorem m8_row (e : Fin 4) (x : Fin 2048) : m8 W P DM (row e x) = mixT W (dsp (ch (cU P e) (bn x)) (ch (cD DM e) (bn x))) (bt x) := by
  funext l
  simp only [m8, re_row, rn_row, rt_row, e8_ro]
end

section
variable {m : (ℓ : Loc nD τ sig) → Buf (Elt Ideal) ℓ} {c : Dev nD} {P : Fin 8192 → Fin 2560 → ℝ} {G B : Fin 256 → ℝ}
  {W : Fin 4 → Fin 128 → Fin 128 → ℝ} {SB : Fin 4 → Fin 128 → ℝ} {DM : Fin 8192 → Fin 1024 → ℝ}
  (hg : GivenR m c P G B W SB DM)
include hg

theorem aX_at (r : Fin 8192) (k : Fin 512) : aX m c (ix2 r k) = (x8 P r k : EReal) := (qx_at _ r k).trans (hg.p _ _)
theorem aD_at (r : Fin 8192) (l : Fin 256) : aD m c (ix2 r l) = (d8 DM r l : EReal) := (qd_at _ r l).trans (hg.d _ _)
theorem aU_at (r : Fin 8192) (l : Fin 256) : qu (qact (aX m c)) (ix2 r l) = (u8 P r l : EReal) :=
  (qu_at _ r l).trans (qact_at (aX_at hg) _ _)
theorem aV_at (r : Fin 8192) (l : Fin 256) : aV m c (ix2 r l) = (v8 P r l : EReal) := by
  refine (qv_at _ r l).trans ((qact_at (aX_at hg) _ _).trans (congrArg (fun k => ((gelu (P r k) : ℝ) : EReal)) (Fin.ext ?_)))
  show 1280 + (256 + l.val) = 1536 + l.val
  omega
theorem aC_at (r : Fin 8192) (l : Fin 256) : aC m c (ix2 r l) = (cen (v8 P r) l : EReal) := qcen_at (aV_at hg) r l
theorem aR_at (r : Fin 8192) (u : Fin 1) : aR m c (ix2 r u) = ((var (v8 P r) + eps : ℝ) : EReal) := qvar_at (aC_at hg) r u
theorem aH_at (r : Fin 8192) (l : Fin 256) : aH m c (ix2 r l) = (hat (v8 P r) l : EReal) := qhat_at (aC_at hg) (aR_at hg) r l
theorem aN_at (e : Fin 4) (n : Fin 16) (t : Fin 128) (h : Fin 4) (j : Fin 64) :
    aN m c (ix5 e n t h j) = (norm G B (v8 P (ro e n t)) (col h j) : EReal) := qnorm_at hg.g hg.b (aH_at hg) e n t h j
theorem aW_at (h : Fin 4) (t s : Fin 128) : aW m c (ix3 h t s) = (tri (W h) t s : EReal) := qw_at hg.w h t s
theorem aS_at (r : Fin 8192) (l : Fin 256) : aS m c (ix2 r l) = (s8 W SB G B P r l : EReal) :=
  qsp_at (aW_at hg) (N := fun r => norm G B (v8 P r)) (aN_at hg) hg.sb r l
theorem aE_at (e : Fin 4) (n : Fin 16) (t : Fin 128) (h : Fin 4) (j : Fin 64) :
    aE m c (ix5 e n t h j) = (e8 P DM (ro e n t) (col h j) : EReal) := qdsp_at (aU_at hg) (aD_at hg) e n t h j
theorem aL_at (r : Fin 8192) (l : Fin 256) : aL m c (ix2 r l) = (m8 W P DM r l : EReal) := qdvl_at (aW_at hg) (aE_at hg) r l
theorem aG_at (r : Fin 8192) (l : Fin 256) : aG m c (ix2 r l) = ((m8 W P DM r l * G l : ℝ) : EReal) := qdx_at hg.g (aL_at hg) r l
theorem aK_at (r : Fin 8192) (l : Fin 256) : aK m c (ix2 r l) = ((kr G (v8 P r) (m8 W P DM r) : ℝ) : EReal) :=
  qk_at (aC_at hg) (aR_at hg) (aG_at hg) r l
theorem aO_at (r : Fin 8192) (l : Fin 256) : aO m c (ix2 r l) = ((og G (v8 P r) (m8 W P DM r) l : ℝ) : EReal) :=
  qo_at (aC_at hg) (aR_at hg) (aG_at hg) (aK_at hg) r l

/-- The gradient of the projection. -/
theorem ref7 : Value.res_main_v112 m c = fun y : S8192x512.Idx => ((dpA W SB G B P DM (y 0) (y 1) : ℝ) : EReal) := by
  funext y
  obtain ⟨r, k, rfl⟩ : ∃ (r : Fin 8192) (k : Fin 512), y = ix2 r k := ⟨y 0, y 1, eq_ix2 y⟩
  obtain ⟨e, x, rfl⟩ : ∃ (e : Fin 4) (x : Fin 2048), r = row e x := ⟨ex r, wi r, (row_ex_wi r).symm⟩
  have hs : ∀ r l, mulf (φ := .f32) (aD m c) (aS m c) (ix2 r l) = ((d8 DM r l * s8 W SB G B P r l : ℝ) : EReal) := fun r l => by
    refine (congrArg₂ (· * ·) (aD_at hg r l) (aS_at hg r l)).trans (EReal.coe_mul _ _).symm
  rw [res0]
  refine (qdp_at hs (qdv_at (aO_at hg)) (qdact_at (aX_at hg)) (row e x) k).trans (congrArg _ ?_)
  show _ = dpA W SB G B P DM (row e x) k
  rw [dpA_row]
  split
  case isTrue h =>
    rw [dpB_left W SB G B (cU P e) (cV P e) (cD DM e) x x ⟨k, h⟩ k rfl rfl, s8_row]; rfl
  case isFalse h =>
    rw [dpB_right W SB G B (cU P e) (cV P e) (cD DM e) x x ⟨k - 256, by omega⟩ k rfl (by simp only; omega), m8_row]
    refine congrArg₂ (· * ·) rfl (congrArg (fun j => dgelu (P (row e x) j)) (Fin.ext ?_))
    simp only; omega

/-- The gradient of the gain. -/
theorem ref8 : Value.res_main_v113 m c = fun y : S1x256.Idx => ((∑ e, lgB W (cU P e) (cV P e) (cD DM e) (y 1) : ℝ) : EReal) := by
  funext y
  obtain ⟨l, rfl⟩ := eq_one_row y
  have hs : ∀ r l, mulf (φ := .f32) (aH m c) (aL m c) (ix2 r l) = ((hat (v8 P r) l * m8 W P DM r l : ℝ) : EReal) := fun r l => by
    refine (congrArg₂ (· * ·) (aH_at hg r l) (aL_at hg r l)).trans (EReal.coe_mul _ _).symm
  rw [res1]
  refine (qsum_at hs 0 l).trans (congrArg _ ((sum_row _).trans (Finset.sum_congr rfl fun e _ => Finset.sum_congr rfl fun x _ => ?_)))
  rw [mul_comm]
  exact congrArg (· * _) (congrFun (m8_row P W DM e x) l)

/-- The gradient of the bias. -/
theorem ref9 : qsum (aL m c) = fun y : S1x256.Idx => ((∑ e, lbB W (cU P e) (cD DM e) (y 1) : ℝ) : EReal) := by
  funext y
  obtain ⟨l, rfl⟩ := eq_one_row y
  refine (qsum_at (aL_at hg) 0 l).trans (congrArg _ ((sum_row _).trans (Finset.sum_congr rfl fun e _ => Finset.sum_congr rfl fun x _ => ?_)))
  exact congrFun (m8_row P W DM e x) l

/-- The gradient of the mixing matrices. -/
theorem ref10 : Value.res_main_v77 m c
    = fun y : S4x128x128.Idx => ((∑ e, wsB G B (cU P e) (cV P e) (cD DM e) (y 0) (y 1) (y 2) : ℝ) : EReal) := by
  funext y
  obtain ⟨h, t, s, rfl⟩ : ∃ (h : Fin 4) (t s : Fin 128), y = ix3 h t s := ⟨y 0, y 1, y 2, eq_ix3 y⟩
  rw [res3]
  refine (qdw_at (aE_at hg) (N := fun r => norm G B (v8 P r)) (aN_at hg) h t s).trans (congrArg _ (Finset.sum_congr rfl fun e _ => ?_))
  show _ = wsB G B (cU P e) (cV P e) (cD DM e) h t s
  refine if_congr Iff.rfl (Finset.sum_congr rfl fun n _ => Finset.sum_congr rfl fun l _ => if_congr Iff.rfl ?_ rfl) rfl
  exact congrArg₂ (fun a b => a t l * norm G B (b s) l) (e8_ro P DM e n) (v8_ro P e n)

/-- The gradient of the mixing bias. -/
theorem ref11 : qdb (aE m c) = fun y : S128x4.Idx => ((∑ e, sbB (cU P e) (cD DM e) (y 0) (y 1) : ℝ) : EReal) := by
  funext y
  obtain ⟨t, h, rfl⟩ : ∃ (t : Fin 128) (h : Fin 4), y = ix2 t h := ⟨y 0, y 1, eq_ix2 y⟩
  refine (qdb_at (aE_at hg) t h).trans (congrArg _ (Finset.sum_congr rfl fun e _ => ?_))
  show _ = sbB (cU P e) (cD DM e) t h
  refine Finset.sum_congr rfl fun l _ => if_congr Iff.rfl ?_ rfl
  exact Finset.sum_congr rfl fun n _ => congrArg (fun a => a t l) (e8_ro P DM e n)

end

end Cert.Sgu

end
-- ==== Proof.CFwd.lean ====
/- Mixer C forward: the chunked spatial gating unit, at every value of the arguments. -/
module

public import proofs.«01_k».proof.Defs
public import proofs.«01_k».proof.Proof.Gen.Kernel17.Frame
public import proofs.«01_k».proof.Proof.Gen.Kernel17Ideal.Frame
public import proofs.«01_k».proof.Proof.Gen.Kernel17Ideal.Value
public import proofs.«01_k».proof.Proof.Gen.Reference17Ideal.Run
public import proofs.«01_k».proof.Proof.Equation
public import Idealize.ShloMosaic.Lib.Pointwise
public import Idealize.ShloMosaic.Lib.Pipeline.ValueKit
public import Idealize.ShloMosaic.Lib.Pipeline.ReadBack
public import Idealize.ShloMosaic.Adequacy
public import Idealize.ShloMosaic.Init

@[expose] public section

set_option maxRecDepth 16384

noncomputable section

namespace Cert.CFwd

open Idealize.ShloMosaic Idealize.SL.Sem
open TcCoe
open Cert.Sgu (bn bt brow hd col ro re rn rt row ex wi)

/-- The gelu. -/
def gelu (x : EReal) : EReal := x * (((1 / 2 : ℝ) : EReal) * (1 + Ideal.erf (Ideal.div x ((Real.sqrt 2 : ℝ) : EReal))))

/-- A centred row, one over its standard deviation, and its layer normalisation. -/
def cen (v : Fin 256 → EReal) (l : Fin 256) : EReal := v l - Ideal.div (∑ j, v j) ((256 : ℝ) : EReal)
def rstd (v : Fin 256 → EReal) : EReal := Ideal.rsqrt (Ideal.div (∑ j, cen v j * cen v j) ((256 : ℝ) : EReal) + (Cert.Sgu.eps : EReal))
def norm (G B v : Fin 256 → EReal) (l : Fin 256) : EReal := cen v l * rstd v * G l + B l

/-- The mixed rows of a chunk: each column with the lower triangle of its head's matrix. -/
def mix (W : Fin 4 → Fin 128 → Fin 128 → EReal) (X : Fin 128 → Fin 256 → EReal) (t : Fin 128) (l : Fin 256) : EReal :=
  ∑ s, if s ≤ t then W (hd l) t s * X s l else 0

/-- The mixer's result, at row `r` of example `e`. -/
def gate (P : Fin 8192 → Fin 2560 → EReal) (G B : Fin 256 → EReal) (W : Fin 4 → Fin 128 → Fin 128 → EReal) (SB : Fin 4 → Fin 128 → EReal)
    (e : Fin 4) (r : Fin 2048) (l : Fin 256) : EReal :=
  gelu (P (row e r) ⟨1280 + l, by omega⟩)
    * (mix W (fun s => norm G B (fun j => gelu (P (row e (brow (bn r) s)) ⟨1536 + j, by omega⟩))) (bt r) l + SB (hd l) (bt r))

/-- The product with one over the root of two is the quotient by the root. -/
theorem gelu_eq (x : EReal) :
    ((1 / 2 : ℝ) : EReal) * x * (1 + FloatOps.erf (F := Ideal) (φ := .f32) (x * (((Real.sqrt 2)⁻¹ : ℝ) : EReal) : EReal)) = gelu x := by
  have h2 : Real.sqrt 2 ≠ 0 := by positivity
  rw [gelu, Ideal.div_coe h2, one_div (Real.sqrt 2), mul_comm (((1 / 2 : ℝ) : EReal)) x, mul_assoc]
  rfl

/-- One number for each head, chosen by the column's head. -/
theorem pick (l : Fin 256) (a : Fin 4 → EReal) :
    (if hd l = 0 then a 0 else 0) + (if hd l = 1 then a 1 else 0) + (if hd l = 2 then a 2 else 0) + (if hd l = 3 then a 3 else 0)
      = a (hd l) := by
  generalize hd l = k
  fin_cases k <;> simp

/-! What the kernel computes. -/

section

open Cert.Kernel17Ideal Cert.Kernel17Ideal.Gen

theorem named_inv_sqrt2 : (Named.named κ "inv_sqrt2" 0x3F3504F3#32 : Ideal .f32) = (((Real.sqrt 2)⁻¹ : ℝ) : EReal) := rfl

theorem pay2_at (x : Vec Ideal S2048x256 .bf16) (r : Fin 2048) (l : Fin 256) : k0_pay2 (F := Ideal) x (ix2 r l) = gelu (x (ix2 r l)) := by
  pointwise [k0_pay2]
  simp only [Cert.Sgu.ofBits_half, named_inv_sqrt2, gelu_eq]

theorem pay5_at (x : Vec Ideal S2048x256 .bf16) (r : Fin 2048) (l : Fin 256) :
    k0_pay5 (F := Ideal) x (ix2 r l) = cen (fun j => gelu (x (ix2 r j))) l * rstd (fun j => gelu (x (ix2 r j))) := by
  pointwise [k0_pay5]
  simp only [Cert.Sgu.ofBits_half, Cert.Sgu.ofBits_256, Cert.Sgu.ofBits_eps, named_inv_sqrt2, gelu_eq]
  rfl

theorem pay10_at (x : Vec Ideal S2048x256 .bf16) {g b : Vec Ideal S1x256 .f32} {G B : Fin 256 → EReal} (hg : ∀ l, g (ix2 0 l) = G l) (hb : ∀ l, b (ix2 0 l) = B l)
    (n : Fin 16) (s : Fin 128) (l : Fin 256) :
    k0_pay10 (F := Ideal) (k0_pay3 g) (k0_pay4 b) (k0_pay5 x) (ix3 n s l) = norm G B (fun j => gelu (x (ix2 (brow n s) j))) l := by
  pointwise [k0_pay10, k0_pay3, k0_pay4]
  simp only [pay5_at, hg, hb]
  rfl

theorem pay1_at {x0 : Vec Ideal S2048x256 .bf16} {x5 : Vec Ideal S128x256 .f32} {SB : Fin 4 → Fin 128 → EReal} {X : Fin 16 → Fin 128 → Fin 256 → EReal}
    {gg bb : FVec Ideal S1x256 .f32} {xc : FVec Ideal S2048x256 .f32} {w0 w1 w2 w3 : Vec Ideal S1x128x128 .f32} {W : Fin 4 → Fin 128 → Fin 128 → EReal}
    (hX : ∀ n s l, k0_pay10 (F := Ideal) gg bb xc (ix3 n s l) = X n s l)
    (h0 : ∀ t s, w0 (ix3 0 t s) = W 0 t s) (h1 : ∀ t s, w1 (ix3 0 t s) = W 1 t s)
    (h2 : ∀ t s, w2 (ix3 0 t s) = W 2 t s) (h3 : ∀ t s, w3 (ix3 0 t s) = W 3 t s)
    (h5 : ∀ t l, x5 (ix2 t l) = SB (hd l) t) (r : Fin 2048) (l : Fin 256) :
    k0_pay1 (F := Ideal) (k0_pay2 x0)
        (k0_pay13 k0_pay6 k0_pay7 k0_pay8 (k0_pay10 gg bb xc) (k0_pay11 (F := Ideal)) (k0_pay12 gg bb xc w0) w1 w2)
        (k0_pay14 k0_pay6 (k0_pay10 gg bb xc) w3) (Scalar.ofBits .f32 0x00000000#32) (k0_pay15 k0_pay9) x5 (ix2 r l)
      = gelu (x0 (ix2 r l)) * (mix W (X (bn r)) (bt r) l + SB (hd l) (bt r)) := by
  pointwise [k0_pay1, k0_pay6, k0_pay7, k0_pay8, k0_pay9, k0_pay11, k0_pay12, k0_pay13, k0_pay14, k0_pay15]
  simp only [pay2_at, hX, h0, h1, h2, h3, h5, Cert.Sgu.select_le_bt, Cert.Sgu.select_head l 0 0#32 64#32 rfl rfl,
    Cert.Sgu.select_head l 1 64#32 128#32 rfl rfl, Cert.Sgu.select_head l 2 128#32 192#32 rfl rfl, Cert.Sgu.select_head l 3 192#32 256#32 rfl rfl]
  exact congrArg (fun z => gelu (x0 (ix2 r l)) * (z + SB (hd l) (bt r))) (pick l fun h => ∑ x, if x ≤ bt r then W h (bt r) x * X (bn r) x l else 0)

/-- Which block of its array each window holds at each grid point. -/
theorem idx : ∀ t : Fin cfg0.N, win0_0.index t = ![t.val, 5] ∧ win0_1.index t = ![t.val, 6] ∧ win0_2.index t = ![0, 0]
    ∧ win0_3.index t = ![0, 0] ∧ win0_4.index t = ![0, 0, 0] ∧ win0_5.index t = ![0, 0] ∧ win0_6.index t = ![t.val, 0] ∧ t.val < 4 :=
  (by decide +kernel : ∀ t : Fin grid0.N, _)

/-- The example of a grid point. -/
def ti (t : Fin cfg0.N) : Fin 4 := ⟨t.val, (idx t).2.2.2.2.2.2.2⟩

/-- The arguments hold the numbers `P`, `G`, `B`, `W` and `SB`. -/
structure Given (m : (ℓ : Loc nD τ sig) → Buf (Elt Ideal) ℓ) (c : Dev nD) (P : Fin 8192 → Fin 2560 → EReal) (G B : Fin 256 → EReal)
    (W : Fin 4 → Fin 128 → Fin 128 → EReal) (SB : Fin 4 → Fin 128 → EReal) : Prop where
  p : ∀ r l, (m ((c.tc : Thread nD τ).loc main_arg0) : S8192x2560.Idx → EReal) (ix2 r l) = P r l
  g : ∀ l, (m ((c.tc : Thread nD τ).loc main_arg1) : S256.Idx → EReal) (ix1 l) = G l
  b : ∀ l, (m ((c.tc : Thread nD τ).loc main_arg2) : S256.Idx → EReal) (ix1 l) = B l
  w : ∀ h t s, (m ((c.tc : Thread nD τ).loc main_arg3) : S4x128x128.Idx → EReal) (ix3 h t s) = W h t s
  sb : ∀ h t, (m ((c.tc : Thread nD τ).loc main_arg4) : S4x128.Idx → EReal) (ix2 h t) = SB h t

variable {m : (ℓ : Loc nD τ sig) → Buf (Elt Ideal) ℓ} {c : Dev nD} {P : Fin 8192 → Fin 2560 → EReal} {G B : Fin 256 → EReal}
  {W : Fin 4 → Fin 128 → Fin 128 → EReal} {SB : Fin 4 → Fin 128 → EReal}

theorem i0 (hg : Given m c P G B W SB) (t : Fin cfg0.N) (r : Fin 2048) (l : Fin 256) :
    (iblk m c 0 t : S2048x256.Idx → EReal) (ix2 r l) = P (row (ti t) r) ⟨1280 + l, by omega⟩ := by
  refine Eq.trans ?_ (hg.p _ _)
  blk_point [iblk, V, idx t, row, ti]
theorem i1 (hg : Given m c P G B W SB) (t : Fin cfg0.N) (r : Fin 2048) (l : Fin 256) :
    (iblk m c 1 t : S2048x256.Idx → EReal) (ix2 r l) = P (row (ti t) r) ⟨1536 + l, by omega⟩ := by
  refine Eq.trans ?_ (hg.p _ _)
  blk_point [iblk, V, idx t, row, ti]
theorem i2 (hg : Given m c P G B W SB) (t : Fin cfg0.N) (l : Fin 256) : (iblk m c 2 t : S1x256.Idx → EReal) (ix2 0 l) = G l := by
  refine Eq.trans ?_ (hg.g _)
  blk_point [iblk, V, idx t]
theorem i3 (hg : Given m c P G B W SB) (t : Fin cfg0.N) (l : Fin 256) : (iblk m c 3 t : S1x256.Idx → EReal) (ix2 0 l) = B l := by
  refine Eq.trans ?_ (hg.b _)
  blk_point [iblk, V, idx t]
theorem i4 (hg : Given m c P G B W SB) (t : Fin cfg0.N) (h : Fin 4) (r l : Fin 128) :
    (iblk m c 4 t : S4x128x128.Idx → EReal) (ix3 h r l) = W h r l := by
  refine Eq.trans ?_ (hg.w _ _ _)
  blk_point [iblk, V, idx t]
theorem i5 (hg : Given m c P G B W SB) (t : Fin cfg0.N) (r : Fin 128) (l : Fin 256) :
    (iblk m c 5 t : S128x256.Idx → EReal) (ix2 r l) = SB (hd l) r := by
  refine Eq.trans ?_ (hg.sb _ _)
  blk_point [iblk, V, idx t, hd]

/-- A part of the rows read whole, and likewise the normalisation's row and the bias. -/
theorem ld_rows (X : Vec Ideal S2048x256 .bf16) (s : Fin 2048) (l : Fin 256) :
    View.ld (Val := Elt Ideal) (S := S2048x256) (e' := .bf16) X r0_0 (ix2 s l : S2048x256.Idx) = X (ix2 s l) :=
  View.ld_unit_apply_of _ _ _ _ _ (ix2 (n0 := 2048) s l) fun d => match d with
    | 0 => (Nat.zero_add _).symm
    | 1 => (Nat.zero_add _).symm
theorem ld_row (X : Vec Ideal S1x256 .f32) (l : Fin 256) :
    View.ld (Val := Elt Ideal) (S := S1x256) (e' := .f32) X r0_1 (ix2 0 l : S1x256.Idx) = X (ix2 0 l) :=
  View.ld_unit_apply_of _ _ _ _ _ (ix2 (n0 := 1) 0 l) fun d => match d with
    | 0 => (Nat.zero_add _).symm
    | 1 => (Nat.zero_add _).symm
theorem ld_bias (X : Vec Ideal S128x256 .f32) (s : Fin 128) (l : Fin 256) :
    View.ld (Val := Elt Ideal) (S := S128x256) (e' := .f32) X r0_6 (ix2 s l : S128x256.Idx) = X (ix2 s l) :=
  View.ld_unit_apply_of _ _ _ _ _ (ix2 (n0 := 128) s l) fun d => match d with
    | 0 => (Nat.zero_add _).symm
    | 1 => (Nat.zero_add _).symm

/-- One head's matrix. -/
theorem ld_mat (Y : FVec Ideal S4x128x128 .f32) (o : Nat) (h : ∀ a, (![o, 0, 0] : Fin 3 → Nat) a + S1x128x128.size a ≤ S4x128x128.size a) (k : Fin 4) (hk : o = k.val) (t s : Fin 128) :
    View.ld (Val := Elt Ideal) (S := S4x128x128) (e' := .f32) Y (Rect.unit (s := S4x128x128) ![o, 0, 0] S1x128x128.size h) (ix3 0 t s : S1x128x128.Idx) = Y (ix3 k t s) :=
  View.ld_unit_apply_of _ _ _ _ _ (ix3 (n0 := 4) k t s) fun d => match d with
    | 0 => hk.symm
    | 1 => (Nat.zero_add _).symm
    | 2 => (Nat.zero_add _).symm

theorem out_at (hg : Given m c P G B W SB) (t : Fin cfg0.N) (y : S2048x256.Idx) :
    out0_6 (F := Ideal) (iblk m c 0 t) (iblk m c 1 t) (iblk m c 2 t) (iblk m c 3 t) (iblk m c 4 t) (iblk m c 5 t) y = gate P G B W SB (ti t) (y 0) (y 1) := by
  unfold_out out0_6
  canon_tiles x q
  obtain ⟨s, l, rfl⟩ : ∃ (s : Fin 2048) (l : Fin 256), x = ix2 s l := ⟨x 0, x 1, eq_ix2 x⟩
  obtain rfl : y 0 = s := Fin.ext q0
  obtain rfl : y 1 = l := Fin.ext q1
  have e0 := fun s l => (ld_rows (iblk m c 0 t) s l).trans (i0 hg t s l)
  have e1 := fun s l => (ld_rows (iblk m c 1 t) s l).trans (i1 hg t s l)
  have eX := fun n s l => pay10_at (View.ld (Val := Elt Ideal) (S := S2048x256) (e' := .bf16) (iblk m c 1 t) r0_0)
    (fun l => (ld_row (iblk m c 2 t) l).trans (i2 hg t l)) (fun l => (ld_row (iblk m c 3 t) l).trans (i3 hg t l)) n s l
  refine (pay1_at eX (fun a b => (ld_mat (iblk m c 4 t) 0 inb_S4x128x128_S1x128x128_0_0_0 0 rfl a b).trans (i4 hg t 0 a b))
    (fun a b => (ld_mat (iblk m c 4 t) 1 inb_S4x128x128_S1x128x128_1_0_0 1 rfl a b).trans (i4 hg t 1 a b))
    (fun a b => (ld_mat (iblk m c 4 t) 2 inb_S4x128x128_S1x128x128_2_0_0 2 rfl a b).trans (i4 hg t 2 a b))
    (fun a b => (ld_mat (iblk m c 4 t) 3 inb_S4x128x128_S1x128x128_3_0_0 3 rfl a b).trans (i4 hg t 3 a b))
    (fun a b => (ld_bias (iblk m c 5 t) a b).trans (i5 hg t a b)) (y 0) (y 1)).trans ?_
  have ev : ∀ s : Fin 128, (fun j : Fin 256 => gelu ((View.ld (Val := Elt Ideal) (S := S2048x256) (e' := .bf16) (iblk m c 1 t) r0_0 : S2048x256.Idx → EReal) (ix2 (brow (bn (y 0)) s) j)))
      = fun j => gelu (P (row (ti t) (brow (bn (y 0)) s)) ⟨1536 + j.val, by omega⟩) := fun s => funext fun j => congrArg gelu (e1 _ _)
  exact congrArg₂ (· * ·) (congrArg gelu (e0 _ _)) (congrArg (fun X => mix W X (bt (y 0)) (y 1) + SB (hd (y 1)) (bt (y 0)))
    (funext fun s => congrArg (norm G B) (ev s)))

theorem final (hg : Given m c P G B W SB) : (dats m 0 c).arrAt 6 cfg0.N = fun y : S8192x256.Idx => gate P G B W SB (ex (y 0)) (wi (y 0)) (y 1) := by
  refine (dats m 0 c).arrAt_eq_of_covers 6 _ (by decide +kernel) fun t hf y => ?_
  blk_simp
  rw [after0_6]
  obtain ⟨i, j, rfl⟩ : ∃ (i : Fin 2048) (j : Fin 256), y = ix2 i j := ⟨y 0, y 1, eq_ix2 y⟩
  refine (out_at hg t (ix2 i j)).trans ?_
  have e0 : (win0_6.blk t).view.emb (ix2 i j) 0 = row (ti t) i := Fin.ext (by blk_simp [idx t, row, ti])
  have e1 : (win0_6.blk t).view.emb (ix2 i j) 1 = j := Fin.ext (by blk_simp [idx t])
  rw [e0, e1, Cert.Sgu.ex_row, Cert.Sgu.wi_row]
  rfl

end

/-! What the reference computes: the stages are those of the forward pass in `Ref`. -/

section

open Cert.ReferenceIdeal Cert.ReferenceIdeal.Gen Cert.Sgu

theorem qact_at (x : A512) (r : Fin 8192) (k : Fin 512) : qact x (ix2 r k) = CFwd.gelu (x (ix2 r k)) := by
  pointwise [qact, qcdf]
  simp only [ofBits_half, ofBits_two, Ideal.sqrt_coe, if_neg (show ¬ (2 : ℝ) < 0 by norm_num)]
  rfl

theorem qcen_at {v : A256} {V : Fin 8192 → Fin 256 → EReal} (hv : ∀ r l, v (ix2 r l) = V r l) (r : Fin 8192) (l : Fin 256) :
    qcen v (ix2 r l) = CFwd.cen (V r) l := by
  pointwise [qcen]
  simp only [hv, ofBits_256]
  rfl

theorem qhat_at {xc : A256} {V : Fin 8192 → Fin 256 → EReal} (hc : ∀ r l, xc (ix2 r l) = CFwd.cen (V r) l) (r : Fin 8192) (l : Fin 256) :
    qhat xc (qvar xc) (ix2 r l) = CFwd.cen (V r) l * CFwd.rstd (V r) := by
  pointwise [qhat, qvar]
  simp only [hc, ofBits_256, ofBits_eps]
  rfl

theorem qnorm_at {xh : A256} {g b : FVec Ideal S256 .f32} {G B : Fin 256 → EReal} {V : Fin 8192 → Fin 256 → EReal} (hg : ∀ l, g (ix1 l) = G l) (hb : ∀ l, b (ix1 l) = B l)
    (hh : ∀ r l, xh (ix2 r l) = CFwd.cen (V r) l * CFwd.rstd (V r)) (e : Fin 4) (n : Fin 16) (t : Fin 128) (h : Fin 4) (j : Fin 64) :
    qnorm xh g b (ix5 e n t h j) = CFwd.norm G B (V (ro e n t)) (col h j) := by
  pointwise [qnorm]
  simp only [hh, hg, hb]
  rfl

theorem qw_at {w : AW} {W : Fin 4 → Fin 128 → Fin 128 → EReal} (hw : ∀ h t s, w (ix3 h t s) = W h t s) (h : Fin 4) (t s : Fin 128) :
    qw w (ix3 h t s) = if s ≤ t then W h t s else 0 := by
  pointwise [qw]
  rw [hw, qtri_at]
  by_cases hs : s ≤ t <;> simp [hs]

theorem qsp_at {vl : A5} {wt : AW} {W : Fin 4 → Fin 128 → Fin 128 → EReal} (ht : ∀ h t s, wt (ix3 h t s) = if s ≤ t then W h t s else 0)
    {N : Fin 8192 → Fin 256 → EReal} (hn : ∀ e n t h j, vl (ix5 e n t h j) = N (ro e n t) (col h j))
    {sb : FVec Ideal S4x128 .f32} {SB : Fin 4 → Fin 128 → EReal} (hs : ∀ h t, sb (ix2 h t) = SB h t) (r : Fin 8192) (l : Fin 256) :
    qsp vl wt sb (ix2 r l) = CFwd.mix W (fun s => N (ro (re r) (rn r) s)) (rt r) l + SB (hd l) (rt r) := by
  pointwise [qsp]
  simp only [hn, ht, hs]
  refine congrArg (· + _) (Finset.sum_congr rfl fun s _ => ?_)
  rw [mul_comm, ite_mul, zero_mul]
  exact congrArg (fun k => if s ≤ rt r then W (hd l) (rt r) s * N (ro (re r) (rn r) s) k else 0) (col_hd l)

/-- The gate times the mixed rows. -/
def qout (y : A512) (sp : A256) : Vec Ideal S8192x256 .bf16 := truncf (F := Ideal) .bf16 (mulf (qu y) sp) bitsLt_bf16_f32

theorem qout_at (y : A512) (sp : A256) (r : Fin 8192) (l : Fin 256) : qout y sp (ix2 r l) = y (ix2 r ⟨l, by omega⟩) * sp (ix2 r l) := by
  pointwise [qout]
  rw [qu_at]

/-- The reference's result, from its arguments. -/
def qres (a : Vec Ideal S8192x2560 .bf16) (g b : FVec Ideal S256 .f32) (w : AW) (sb : FVec Ideal S4x128 .f32) : Vec Ideal S8192x256 .bf16 :=
  qout (qact (qx a)) (qsp (qnorm (qhat (qcen (qv (qact (qx a)))) (qvar (qcen (qv (qact (qx a)))))) g b) (qw w) sb)

theorem ref_at {a : Vec Ideal S8192x2560 .bf16} {g b : FVec Ideal S256 .f32} {w : AW} {sb : FVec Ideal S4x128 .f32} {P : Fin 8192 → Fin 2560 → EReal}
    {G B : Fin 256 → EReal} {W : Fin 4 → Fin 128 → Fin 128 → EReal} {SB : Fin 4 → Fin 128 → EReal}
    (ha : ∀ r k, a (ix2 r k) = P r k) (hg : ∀ l, g (ix1 l) = G l) (hb : ∀ l, b (ix1 l) = B l) (hw : ∀ h t s, w (ix3 h t s) = W h t s)
    (hs : ∀ h t, sb (ix2 h t) = SB h t) :
    qres a g b w sb = fun y : S8192x256.Idx => gate P G B W SB (Sgu.ex (y 0)) (wi (y 0)) (y 1) := by
  funext y
  obtain ⟨r, l, rfl⟩ : ∃ (r : Fin 8192) (l : Fin 256), y = ix2 r l := ⟨y 0, y 1, eq_ix2 y⟩
  have hx : ∀ r k, qact (qx a) (ix2 r k) = CFwd.gelu (P r ⟨1280 + k.val, by omega⟩) := fun r k => by rw [qact_at, qx_at, ha]
  have hv : ∀ r l, qv (qact (qx a)) (ix2 r l) = CFwd.gelu (P r ⟨1536 + l.val, by omega⟩) := fun r l => by
    rw [qv_at, hx]
    exact congrArg (fun k => CFwd.gelu (P r k)) (Fin.ext (by show 1280 + (256 + l.val) = 1536 + l.val; omega))
  have hn := qnorm_at hg hb (qhat_at (qcen_at (V := fun r l => CFwd.gelu (P r ⟨1536 + l.val, by omega⟩)) hv))
  have er : row (Sgu.ex r) (wi r) = r := row_ex_wi r
  have en : rn r = bn (wi r) := (congrArg rn er.symm).trans (rn_row _ _)
  have et : rt r = bt (wi r) := (congrArg rt er.symm).trans (rt_row _ _)
  have ee : re r = Sgu.ex r := (congrArg re er.symm).trans (re_row _ _)
  refine (qout_at _ _ r l).trans ?_
  rw [hx, qsp_at (qw_at hw) (N := fun r l => CFwd.norm G B (fun l => CFwd.gelu (P r ⟨1536 + l.val, by omega⟩)) l) hn hs, en, et, ee]
  show _ = gate P G B W SB (Sgu.ex r) (wi r) l
  rw [gate, er]
  simp only [ro_eq]

end

theorem frame_p : Cert.quiescent_Kernel17 := fun m ρ _ => Cert.Kernel17.Gen.frame m ρ
theorem frame_pi : Cert.quiescent_Kernel17Ideal := fun m ρ _ => Cert.Kernel17Ideal.Gen.frame m ρ
theorem frame_ri : Cert.quiescent_Reference17Ideal := fun m ρ _ =>
  (θ_run Cert.Reference17Ideal.defs _ _).mono (fun r h => ⟨fun c => (h c).2, sem_eq_zero_of_no_sems (by decide) r.2⟩)
    (Cert.Reference17Ideal.Value.run (F := Ideal) m ρ)

theorem preserves : Cert.preserves_Kernel17_Kernel17Ideal :=
  IdealRules.named_const.statement Cert.Kernel17Ideal.κ "inv_sqrt2" .f32 0x3F3504F3#32 (((Real.sqrt 2)⁻¹ : ℝ) : EReal) rfl

/-- The printed value is the stages' composition. -/
theorem res (m : (ℓ : Loc Cert.Reference17Ideal.nD Cert.Reference17Ideal.τ Cert.Reference17Ideal.sig) → Buf (Elt Ideal) ℓ) (c : Dev Cert.Reference17Ideal.nD) :
    Cert.Reference17Ideal.Value.res_main_v49 m c = qres (m ((c.tc : Thread Cert.Reference17Ideal.nD Cert.Reference17Ideal.τ).loc Cert.Reference17Ideal.main_arg0))
      (m ((c.tc : Thread Cert.Reference17Ideal.nD Cert.Reference17Ideal.τ).loc Cert.Reference17Ideal.main_arg1))
      (m ((c.tc : Thread Cert.Reference17Ideal.nD Cert.Reference17Ideal.τ).loc Cert.Reference17Ideal.main_arg2))
      (m ((c.tc : Thread Cert.Reference17Ideal.nD Cert.Reference17Ideal.τ).loc Cert.Reference17Ideal.main_arg3))
      (m ((c.tc : Thread Cert.Reference17Ideal.nD Cert.Reference17Ideal.τ).loc Cert.Reference17Ideal.main_arg4)) := rfl

theorem algebraic : Cert.algebraic_Kernel17Ideal_Reference17Ideal := by
  intro m ρ m' ρ' _ hag
  refine ⟨_, Cert.Kernel17Ideal.Value.run_blocks (F := Ideal) m ρ, ?_⟩
  refine (θ_run Cert.Reference17Ideal.defs _ _).mono (fun r h c => ?_) (Cert.Reference17Ideal.Value.run (F := Ideal) m' ρ')
  obtain ⟨a0, a1, a2, a3, a4⟩ := hag c
  exact ⟨(h c).1.trans ((res m' c).trans ((ref_at (fun _ _ => congrFun a0 _) (fun _ => congrFun a1 _) (fun _ => congrFun a2 _) (fun _ _ _ => congrFun a3 _)
    (fun _ _ => congrFun a4 _)).trans
    (final (P := fun _ _ => _) (G := fun _ => _) (B := fun _ => _) (W := fun _ _ _ => _) (SB := fun _ _ => _)
      ⟨fun _ _ => rfl, fun _ => rfl, fun _ => rfl, fun _ _ _ => rfl, fun _ _ => rfl⟩).symm)), (h c).2⟩

end Cert.CFwd

end
-- ==== Proof.Finite.lean ====
module

public import proofs.«01_k».proof.Defs
public import proofs.«01_k».proof.Proof.Gen.Pre_finite
public import proofs.«01_k».proof.Proof.Equation
public import Idealize.ShloMosaic.Lib.ReduceAll

/-!
Under the precondition every argument holds real numbers.
-/

@[expose] public section

set_option maxRecDepth 16384

noncomputable section

namespace Cert.Sgu

open Idealize.ShloMosaic Cert.Pre_finite Cert.Pre_finite.Gen

theorem ofBits_inf : Ideal.ofBits .f32 0x7F800000#32 = (⊤ : EReal) := by
  simp [Ideal.ofBits, Ideal.ieee]

/-- An extended real whose absolute value is below the top is a real number. -/
theorem real_of_abs (x : EReal) (h : max x (-x) < ⊤) : x = ((x.toReal : ℝ) : EReal) := by
  refine (EReal.coe_toReal ?_ ?_).symm
  · rintro rfl; simp at h
  · rintro rfl; simp at h

/-- The only index of an array of no axes. -/
abbrev j0 : S_.Idx := fun a => a.elim0

/-- The test of an array that all its entries are below infinity in absolute value. -/
theorem real_of_test {s : Shape} {axes : List (Fin s.rank)} (x : s.Idx → EReal) (h : s.ReducesTo axes S_) (hb : S_.BroadcastsInDim s ![])
    (e : Host.reduce IntOp.andi (cmpf (F := Ideal) (φ := .f32) .olt (Host.absf x) (broadcastInDim s ![] hb (constant (F := Ideal) S_ .f32 0x7F800000#32)))
      (constantI S_ 1 1#1) h h_S_ j0 = 1#1) (i : s.Idx) : x i = (((x i).toReal : ℝ) : EReal) := by
  have hs : Subsingleton S_.Idx := ⟨fun a b => funext fun k => k.elim0⟩
  have hi : Ideal.cmp .olt (max (x i) (-(x i))) (Ideal.ofBits .f32 0x7F800000#32) = 1#1 := Host.reduce_andi_all _ _ h h_S_ j0 e i
  refine real_of_abs _ ?_
  rw [ofBits_inf] at hi
  by_contra hn
  simp [Ideal.cmp, hn] at hi

section
variable (x0 : S8192x2560.Idx → EReal) (x1 x2 : S256.Idx → EReal) (x3 : S4x128x128.Idx → EReal) (x4 : S4x128.Idx → EReal)
  (x5 : S8192x1024.Idx → EReal)

/-- Under the precondition every argument's entries are real numbers. -/
theorem real_of_finite (h : Cert.Pre_finite.fn (F := Ideal) x0 x1 x2 x3 x4 x5 = fun _ => 1#1) :
    (∀ i, x0 i = (((x0 i).toReal : ℝ) : EReal)) ∧ (∀ i, x1 i = (((x1 i).toReal : ℝ) : EReal)) ∧ (∀ i, x2 i = (((x2 i).toReal : ℝ) : EReal))
      ∧ (∀ i, x3 i = (((x3 i).toReal : ℝ) : EReal)) ∧ (∀ i, x4 i = (((x4 i).toReal : ℝ) : EReal)) ∧ (∀ i, x5 i = (((x5 i).toReal : ℝ) : EReal)) := by
  have e := congrFun h j0
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨real_of_test x0 _ _ e0, real_of_test x1 _ _ e1, real_of_test x2 _ _ e2, real_of_test x3 _ _ e3, real_of_test x4 _ _ e4, real_of_test x5 _ _ e5⟩
end

end Cert.Sgu

end
-- ==== Proof.Claims.lean ====
module

public import proofs.«01_k».proof.Proof.Finite
public import proofs.«01_k».proof.Proof.Gen.Kernel.Frame
public import proofs.«01_k».proof.Proof.Gen.KernelIdeal.Frame
public import Idealize.ShloMosaic.Adequacy
public import Idealize.ShloMosaic.Init

/-!
The claims: what each program does with memory, the named constants, and the equality of the results.
-/

@[expose] public section

set_option maxRecDepth 16384

noncomputable section

namespace Cert.Sgu

open Idealize.ShloMosaic Idealize.SL.Sem
open TcCoe

theorem frame_p : Cert.quiescent_Kernel := fun m ρ _ => Cert.Kernel.Gen.frame m ρ
theorem frame_pi : Cert.quiescent_KernelIdeal := fun m ρ _ => Cert.KernelIdeal.Gen.frame m ρ
theorem frame_pi_pre : Cert.quiescent_KernelIdeal_pre_finite := fun m ρ _ => Cert.KernelIdeal.Gen.frame m ρ
theorem frame_ri : Cert.quiescent_ReferenceIdeal := fun m ρ _ =>
  (θ_run Cert.ReferenceIdeal.defs _ _).mono (fun r h => ⟨fun c => (h c).2.2.2.2.2, sem_eq_zero_of_no_sems (by decide) r.2⟩)
    (Cert.ReferenceIdeal.Value.run (F := Ideal) m ρ)
theorem frame_ri_pre : Cert.quiescent_ReferenceIdeal_pre_finite := fun m ρ _ => frame_ri m ρ trivial

theorem preserves : Cert.preserves_Kernel_KernelIdeal :=
  ⟨IdealRules.named_const.statement Cert.KernelIdeal.κ "inv_sqrt2" .f32 0x3F3504F3#32 (((Real.sqrt 2)⁻¹ : ℝ) : EReal) rfl,
    IdealRules.named_const.statement Cert.KernelIdeal.κ "inv_sqrt_2pi" .f32 0x3ECC422A#32 (((Real.sqrt (2 * Real.pi))⁻¹ : ℝ) : EReal) rfl⟩

theorem algebraic : Cert.algebraic_KernelIdeal_ReferenceIdeal_pre_finite := by
  intro m ρ m' ρ' hpre hag
  have hk : ∀ c, ∃ P G B W SB DM, Given m c P G B W SB DM ∧ GivenR m' c P G B W SB DM := fun c => by
    obtain ⟨h0, h1, h2, h3, h4, h5⟩ := real_of_finite _ _ _ _ _ _ (hpre c)
    obtain ⟨a0, a1, a2, a3, a4, a5⟩ := hag c
    refine ⟨fun r l => EReal.toReal ((m ((c.tc : Thread Cert.KernelIdeal.nD Cert.KernelIdeal.τ).loc Cert.KernelIdeal.main_arg0) : Cert.KernelIdeal.S8192x2560.Idx → EReal) (ix2 r l)),
      fun l => EReal.toReal ((m ((c.tc : Thread Cert.KernelIdeal.nD Cert.KernelIdeal.τ).loc Cert.KernelIdeal.main_arg1) : Cert.KernelIdeal.S256.Idx → EReal) (ix1 l)),
      fun l => EReal.toReal ((m ((c.tc : Thread Cert.KernelIdeal.nD Cert.KernelIdeal.τ).loc Cert.KernelIdeal.main_arg2) : Cert.KernelIdeal.S256.Idx → EReal) (ix1 l)),
      fun h t s => EReal.toReal ((m ((c.tc : Thread Cert.KernelIdeal.nD Cert.KernelIdeal.τ).loc Cert.KernelIdeal.main_arg3) : Cert.KernelIdeal.S4x128x128.Idx → EReal) (ix3 h t s)),
      fun h t => EReal.toReal ((m ((c.tc : Thread Cert.KernelIdeal.nD Cert.KernelIdeal.τ).loc Cert.KernelIdeal.main_arg4) : Cert.KernelIdeal.S4x128.Idx → EReal) (ix2 h t)),
      fun r l => EReal.toReal ((m ((c.tc : Thread Cert.KernelIdeal.nD Cert.KernelIdeal.τ).loc Cert.KernelIdeal.main_arg5) : Cert.KernelIdeal.S8192x1024.Idx → EReal) (ix2 r l)),
      ⟨fun _ _ => h0 _, fun _ => h1 _, fun _ => h2 _, fun _ _ _ => h3 _, fun _ _ => h4 _, fun _ _ => h5 _⟩,
      ⟨fun _ _ => (congrFun a0 _).trans (h0 _), fun _ => (congrFun a1 _).trans (h1 _), fun _ => (congrFun a2 _).trans (h2 _),
        fun _ _ _ => (congrFun a3 _).trans (h3 _), fun _ _ => (congrFun a4 _).trans (h4 _), fun _ _ => (congrFun a5 _).trans (h5 _)⟩⟩
  refine ⟨_, _, _, _, _, Cert.KernelIdeal.Value.run_blocks (F := Ideal) m ρ, ?_⟩
  refine (θ_run Cert.ReferenceIdeal.defs _ _).mono (fun r h c => ?_) (Cert.ReferenceIdeal.Value.run (F := Ideal) m' ρ')
  obtain ⟨P, G, B, W, SB, DM, hg, hr⟩ := hk c
  exact ⟨(h c).1.trans ((ref7 hr).trans (final7 hg).symm), (h c).2.1.trans ((ref8 hr).trans (final8 hg).symm),
    (h c).2.2.1.trans ((ref9 hr).trans (final9 hg).symm), (h c).2.2.2.1.trans ((ref10 hr).trans (final10 hg).symm),
    (h c).2.2.2.2.1.trans ((ref11 hr).trans (final11 hg).symm), (h c).2.2.2.2.2⟩

end Cert.Sgu

end
-- ==== Proof.UpBlock.lean ====
/- What one grid point of the up projection's input gradient computes, read at an index over the extended reals. -/
module

public import proofs.«01_k».proof.Proof.Gen.Kernel2Ideal.Skeleton
public import proofs.«01_k».proof.Proof.NormReals

@[expose] public section

set_option maxRecDepth 16384

noncomputable section

namespace Cert.Up

open Idealize.ShloMosaic Cert.Kernel2Ideal Cert.Kernel2Ideal.Gen Cert.Norm

section

variable {v0 v3 : Vec Ideal S512x2816 .bf16} {v1 v4 : Vec Ideal S2816x1024 .bf16} {v7 v22 : Vec Ideal S512x1024 .f32} {v18 : Vec Ideal S1x1024 .f32}
  {A B : Fin 512 → Fin 2816 → EReal} {U V : Fin 2816 → Fin 1024 → EReal} {X R : Fin 512 → Fin 1024 → EReal} {G : Fin 1024 → EReal}

/-- The cotangent of the normalised rows: two products, added. -/
def dh {n : Nat} (A B : Fin n → Fin 2816 → EReal) (U V : Fin 2816 → Fin 1024 → EReal) (r : Fin n) (l : Fin 1024) : EReal :=
  ∑ k, A r k * U k l + ∑ k, B r k * V k l

theorem pay4_at (h0 : ∀ r k, v0 (ix2 r k) = A r k) (h1 : ∀ k l, v1 (ix2 k l) = U k l)
    (h3 : ∀ r k, v3 (ix2 r k) = B r k) (h4 : ∀ k l, v4 (ix2 k l) = V k l) (r : Fin 512) (l : Fin 1024) :
    k0_pay4 (F := Ideal) v0 v1 v3 v4 (ix2 r l) = dh A B U V r l := by
  pointwise [k0_pay4]
  simp only [h0, h1, h3, h4]
  rfl

theorem pay5_at (h7 : ∀ r l, v7 (ix2 r l) = X r l) (r : Fin 512) : k0_pay5 (F := Ideal) v7 (ix2 r 0) = rs (X r) := by
  pointwise [k0_pay5]
  simp only [h7, ofBits_1024, ofBits_eps]
  rfl

theorem pay6_at (h7 : ∀ r l, v7 (ix2 r l) = X r l) (r : Fin 512) (l : Fin 1024) :
    k0_pay6 (F := Ideal) v7 (ix2 r l) = X r l * rs (X r) := by
  pointwise [k0_pay6]
  simp only [h7, pay5_at h7]

theorem pay7_at (h0 : ∀ r k, v0 (ix2 r k) = A r k) (h1 : ∀ k l, v1 (ix2 k l) = U k l)
    (h3 : ∀ r k, v3 (ix2 r k) = B r k) (h4 : ∀ k l, v4 (ix2 k l) = V k l) (h7 : ∀ r l, v7 (ix2 r l) = X r l)
    (h18 : ∀ l, v18 (ix2 0 l) = G l) (h22 : ∀ r l, v22 (ix2 r l) = R r l) (r : Fin 512) (l : Fin 1024) :
    k0_pay7 (F := Ideal) v0 v1 v3 v4 v7 v18 v22 (ix2 r l) = R r l + dn G (X r) (dh A B U V r) l := by
  pointwise [k0_pay7]
  simp only [pay4_at h0 h1 h3 h4, pay5_at h7, pay6_at h7, h18, h22, ofBits_1024]
  rfl

theorem pay3_at {v6 v17 : FVec Ideal S512x1024 .f32} {D N : Fin 512 → Fin 1024 → EReal} (h6 : ∀ r l, v6 (ix2 r l) = D r l)
    (h17 : ∀ r l, v17 (ix2 r l) = N r l) (v40 : Vec Ideal S1x1024 .f32) (l : Fin 1024) :
    k0_pay3 (F := Ideal) v6 v17 v40 (ix2 0 l) = v40 (ix2 0 l) + ∑ r, D r l * N r l := by
  pointwise [k0_pay3]
  simp only [h6, h17]

theorem pay2_at (y : S1x1024.Idx) : k0_pay2 (F := Ideal) y = (0 : EReal) := by pointwise [k0_pay2]

end

end Cert.Up

end
-- ==== Proof.UpArrays.lean ====
/- What the up projection's input gradient leaves in its three results: the blocks each grid point reads, what it stores,
   and the arrays after the last point. -/
module

public import proofs.«01_k».proof.Proof.Gen.Kernel2Ideal.Value
public import proofs.«01_k».proof.Proof.Gen.Kernel2Ideal.Frame
public import proofs.«01_k».proof.Proof.UpBlock
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Up

open Idealize.ShloMosaic Cert.Kernel2Ideal Cert.Kernel2Ideal.Gen Cert.Norm

/-- Which block of its array each window holds at each grid point. -/
theorem idx : ∀ t : Fin cfg0.N, win0_0.index t = ![t.val, 0] ∧ win0_1.index t = ![t.val, 0] ∧ win0_2.index t = ![0, 0]
    ∧ win0_3.index t = ![t.val, 0] ∧ win0_4.index t = ![0, 0] ∧ win0_5.index t = ![t.val, 0] ∧ win0_6.index t = ![t.val, 0]
    ∧ win0_7.index t = ![t.val, 0] ∧ t.val < 16 :=
  (by decide +kernel : ∀ t : Fin grid0.N, _)

/-- Row `r` of tile `t`. -/
def row (t : Fin 16) (r : Fin 512) : Fin 8192 := ⟨t.val * 512 + r.val, by omega⟩

/-- Rows of the upper and of the lower half of the weights. -/
def lo (k : Fin 2816) : Fin 5632 := ⟨k, by omega⟩
def hi (k : Fin 2816) : Fin 5632 := ⟨2816 + k, by omega⟩

/-- The arguments hold the numbers `A`, `B`, `W`, `X`, `G` and `R`. -/
structure Given (m : (ℓ : Loc nD τ sig) → Buf (Elt Ideal) ℓ) (c : Dev nD) (A B : Fin 8192 → Fin 2816 → EReal) (W : Fin 5632 → Fin 1024 → EReal)
    (X : Fin 8192 → Fin 1024 → EReal) (G : Fin 1024 → EReal) (R : Fin 8192 → Fin 1024 → EReal) : Prop where
  a : ∀ r k, (m ((c.tc : Thread nD τ).loc main_arg0) : S8192x2816.Idx → EReal) (ix2 r k) = A r k
  b : ∀ r k, (m ((c.tc : Thread nD τ).loc main_arg1) : S8192x2816.Idx → EReal) (ix2 r k) = B r k
  w : ∀ k l, (m ((c.tc : Thread nD τ).loc main_arg2) : S5632x1024.Idx → EReal) (ix2 k l) = W k l
  x : ∀ r l, (m ((c.tc : Thread nD τ).loc main_arg3) : S8192x1024.Idx → EReal) (ix2 r l) = X r l
  g : ∀ l, (m ((c.tc : Thread nD τ).loc main_arg4) : S1024.Idx → EReal) (ix1 l) = G l
  r : ∀ r l, (m ((c.tc : Thread nD τ).loc main_arg5) : S8192x1024.Idx → EReal) (ix2 r l) = R r l

variable {m : (ℓ : Loc nD τ sig) → Buf (Elt Ideal) ℓ} {c : Dev nD} {A B : Fin 8192 → Fin 2816 → EReal} {W : Fin 5632 → Fin 1024 → EReal}
    {X : Fin 8192 → Fin 1024 → EReal} {G : Fin 1024 → EReal} {R : Fin 8192 → Fin 1024 → EReal}

/-- The rows of tile `t` of an array. -/
def tile {n : Nat} (A : Fin 8192 → Fin n → EReal) (t : Fin 16) (r : Fin 512) (k : Fin n) : EReal := A (row t r) k

theorem i0 (hg : Given m c A B W X G R) (t : Fin cfg0.N) (r : Fin 512) (k : Fin 2816) :
    (iblk m c 0 t : S512x2816.Idx → EReal) (ix2 r k) = tile A t r k := by
  refine Eq.trans ?_ (hg.a _ _)
  blk_point [iblk, V, idx t, row]
theorem i1 (hg : Given m c A B W X G R) (t : Fin cfg0.N) (r : Fin 512) (k : Fin 2816) :
    (iblk m c 1 t : S512x2816.Idx → EReal) (ix2 r k) = tile B t r k := by
  refine Eq.trans ?_ (hg.b _ _)
  blk_point [iblk, V, idx t, row]
theorem i2 (hg : Given m c A B W X G R) (t : Fin cfg0.N) (k : Fin 5632) (l : Fin 1024) :
    (iblk m c 2 t : S5632x1024.Idx → EReal) (ix2 k l) = W k l := by
  refine Eq.trans ?_ (hg.w _ _)
  blk_point [iblk, V, idx t]
theorem i3 (hg : Given m c A B W X G R) (t : Fin cfg0.N) (r : Fin 512) (l : Fin 1024) :
    (iblk m c 3 t : S512x1024.Idx → EReal) (ix2 r l) = tile X t r l := by
  refine Eq.trans ?_ (hg.x _ _)
  blk_point [iblk, V, idx t, row]
theorem i4 (hg : Given m c A B W X G R) (t : Fin cfg0.N) (l : Fin 1024) :
    (iblk m c 4 t : S1x1024.Idx → EReal) (ix2 0 l) = G l := by
  refine Eq.trans ?_ (hg.g _)
  blk_point [iblk, V, idx t]
theorem i5 (hg : Given m c A B W X G R) (t : Fin cfg0.N) (r : Fin 512) (l : Fin 1024) :
    (iblk m c 5 t : S512x1024.Idx → EReal) (ix2 r l) = tile R t r l := by
  refine Eq.trans ?_ (hg.r _ _)
  blk_point [iblk, V, idx t, row]

/-- A load of the upper and of the lower half of the weights, read at an index. -/
theorem ldlo0 (Y : S5632x1024.Idx → EReal) (k : Fin 2816) (l : Fin 1024) :
    View.ld (Val := Elt Ideal) (S := S5632x1024) (e' := .bf16) Y
      (Rect.unit (s := S5632x1024) ![0, 0] S2816x1024.size inb_S5632x1024_S2816x1024_0_0) (ix2 k l : S2816x1024.Idx) = Y (ix2 (lo k) l) :=
  View.ld_unit_apply_of _ _ _ _ _ (ix2 (n0 := 5632) (lo k) l) fun d => match d with
    | 0 => (Nat.zero_add _).symm
    | 1 => (Nat.zero_add _).symm
theorem ldhi0 (Y : S5632x1024.Idx → EReal) (k : Fin 2816) (l : Fin 1024) :
    View.ld (Val := Elt Ideal) (S := S5632x1024) (e' := .bf16) Y
      (Rect.unit (s := S5632x1024) ![2816, 0] S2816x1024.size inb_S5632x1024_S2816x1024_2816_0) (ix2 k l : S2816x1024.Idx) = Y (ix2 (hi k) l) :=
  View.ld_unit_apply_of _ _ _ _ _ (ix2 (n0 := 5632) (hi k) l) fun d => match d with
    | 0 => rfl
    | 1 => (Nat.zero_add _).symm
theorem ldlo {Y : S5632x1024.Idx → EReal} (h : ∀ k l, Y (ix2 k l) = W k l) (k : Fin 2816) (l : Fin 1024) :
    View.ld (Val := Elt Ideal) (S := S5632x1024) (e' := .bf16) Y
      (Rect.unit (s := S5632x1024) ![0, 0] S2816x1024.size inb_S5632x1024_S2816x1024_0_0) (ix2 k l : S2816x1024.Idx) = W (lo k) l :=
  (ldlo0 Y k l).trans (h _ _)
theorem ldhi {Y : S5632x1024.Idx → EReal} (h : ∀ k l, Y (ix2 k l) = W k l) (k : Fin 2816) (l : Fin 1024) :
    View.ld (Val := Elt Ideal) (S := S5632x1024) (e' := .bf16) Y
      (Rect.unit (s := S5632x1024) ![2816, 0] S2816x1024.size inb_S5632x1024_S2816x1024_2816_0) (ix2 k l : S2816x1024.Idx) = W (hi k) l :=
  (ldhi0 Y k l).trans (h _ _)

/-- The cotangent of the normalised rows, and the gradient of the rows. -/
def dhA (A B : Fin 8192 → Fin 2816 → EReal) (W : Fin 5632 → Fin 1024 → EReal) : Fin 8192 → Fin 1024 → EReal := dh A B (fun k => W (lo k)) fun k => W (hi k)
def dxA (A B : Fin 8192 → Fin 2816 → EReal) (W : Fin 5632 → Fin 1024 → EReal) (X : Fin 8192 → Fin 1024 → EReal) (G : Fin 1024 → EReal)
    (R : Fin 8192 → Fin 1024 → EReal) (r : Fin 8192) (l : Fin 1024) : EReal :=
  R r l + dn G (X r) (dhA A B W r) l

theorem point6 (hg : Given m c A B W X G R) (t : Fin cfg0.N) (r : Fin 512) (l : Fin 1024) :
    (outsAt0 m c t.val t.isLt).1 (ix2 r l) = dxA A B W X G R (row t r) l := by
  by_cases h : t.val % 16 = 0
  on_goal 1 => rw [outsAt0_A m c t h]
  on_goal 2 => rw [outsAt0_B m c t h]
  all_goals
    frame_out
    exact pay7_at (i0 hg t) (ldlo (i2 hg t)) (i1 hg t) (ldhi (i2 hg t)) (i3 hg t) (i4 hg t) (i5 hg t) r l

theorem point7 (hg : Given m c A B W X G R) (t : Fin cfg0.N) (r : Fin 512) (l : Fin 1024) :
    (outsAt0 m c t.val t.isLt).2.1 (ix2 r l) = dxA A B W X G R (row t r) l := by
  by_cases h : t.val % 16 = 0
  on_goal 1 => rw [outsAt0_A m c t h]
  on_goal 2 => rw [outsAt0_B m c t h]
  all_goals
    frame_out
    exact pay7_at (i0 hg t) (ldlo (i2 hg t)) (i1 hg t) (ldhi (i2 hg t)) (i3 hg t) (i4 hg t) (i5 hg t) r l

theorem final6 (hg : Given m c A B W X G R) : (dats m 0 c).arrAt 6 cfg0.N
    = fun y : S8192x1024.Idx => (dxA A B W X G R (y 0) (y 1) : EReal) := by
  refine (dats m 0 c).arrAt_eq_of_covers 6 _ (by decide +kernel) fun t hf y => ?_
  blk_simp
  rw [after0_6]
  obtain ⟨r, l, rfl⟩ : ∃ (r : Fin 512) (l : Fin 1024), y = ix2 r l := ⟨y 0, y 1, eq_ix2 y⟩
  rw [point6 hg]
  have e0 : (win0_6.blk t).view.emb (ix2 r l) 0 = row t r := Fin.ext (by blk_simp [idx t, row])
  have e1 : (win0_6.blk t).view.emb (ix2 r l) 1 = l := Fin.ext (by blk_simp [idx t])
  rw [e0, e1]

theorem final7 (hg : Given m c A B W X G R) : (dats m 0 c).arrAt 7 cfg0.N
    = fun y : S8192x1024.Idx => (dxA A B W X G R (y 0) (y 1) : EReal) := by
  refine (dats m 0 c).arrAt_eq_of_covers 7 _ (by decide +kernel) fun t hf y => ?_
  blk_simp
  rw [after0_7]
  obtain ⟨r, l, rfl⟩ : ∃ (r : Fin 512) (l : Fin 1024), y = ix2 r l := ⟨y 0, y 1, eq_ix2 y⟩
  rw [point7 hg]
  have e0 : (win0_7.blk t).view.emb (ix2 r l) 0 = row t r := Fin.ext (by blk_simp [idx t, row])
  have e1 : (win0_7.blk t).view.emb (ix2 r l) 1 = l := Fin.ext (by blk_simp [idx t])
  rw [e0, e1]

theorem eq_one_row (j : S1x1024.Idx) : ∃ l : Fin 1024, j = ix2 (0 : Fin 1) l := by
  refine ⟨j 1, (eq_ix2 j).trans ?_⟩
  congr 1
  exact Subsingleton.elim (α := Fin 1) _ _

/-- One tile's part of the gradient of the gain. -/
def dgT (A B : Fin 8192 → Fin 2816 → EReal) (W : Fin 5632 → Fin 1024 → EReal) (X : Fin 8192 → Fin 1024 → EReal) (t : Fin 16) (l : Fin 1024) : EReal :=
  ∑ r, dhA A B W (row t r) l * (X (row t r) l * rs (X (row t r)))

theorem final8 (hg : Given m c A B W X G R) : (dats m 0 c).arrAt 8 cfg0.N
    = fun y : S1x1024.Idx => (∑ t, dgT A B W X t (y 1) : EReal) := by
  refine (dats m 0 c).arrAt_eq_of_after_last 8 t0_15 (by decide +kernel) _ fun j => ?_
  blk_simp
  rw [after0_8, Pipeline.eq_sum_fin_of_reset_step_apply_last (fun n h => (outsAt0 m c n h).2.2) 16 (fun _ => 0)
    (fun t y => (dgT A B W X t (y 1) : EReal))
    (fun t h j => by
      obtain ⟨l, rfl⟩ := eq_one_row j
      rw [outsAt0_A m c t h]
      frame_open
      simp (disch := decide) only [↓ View.readCov_skip, ↓ View.readCov_cons_toLoadRect, ↓ View.readCov_fill]
      frame_out
      refine Eq.trans (pay3_at (pay4_at (i0 hg t) (ldlo (i2 hg t)) (i1 hg t) (ldhi (i2 hg t))) (pay6_at (i3 hg t)) _ _) ?_
      rw [pay2_at]; rfl)
    (fun t h j => by
      obtain ⟨l, rfl⟩ := eq_one_row j
      rw [outsAt0_B m c t h]
      frame_out
      exact pay3_at (pay4_at (i0 hg t) (ldlo (i2 hg t)) (i1 hg t) (ldhi (i2 hg t))) (pay6_at (i3 hg t)) _ _)
    (le_of_eq N_0) t0_15 rfl j, zero_add]
  rfl

end Cert.Up

end
-- ==== Proof.UpClaims.lean ====
/- The up projection's input gradient: the reference's results are the arrays the kernel leaves, and the claims. -/
module

public import proofs.«01_k».proof.Defs
public import proofs.«01_k».proof.Proof.UpRef
public import proofs.«01_k».proof.Proof.UpArrays
public import proofs.«01_k».proof.Proof.Gen.Kernel2.Frame
public import Idealize.ShloMosaic.Adequacy
public import Idealize.ShloMosaic.Init

@[expose] public section

set_option maxRecDepth 16384

noncomputable section

namespace Cert.Up

open Idealize.ShloMosaic Idealize.SL.Sem Cert.Norm
open TcCoe

/-- A product over both cotangents side by side is the two products, added. -/
theorem sum_cat (A B : Fin 2816 → EReal) (w : Fin 5632 → EReal) :
    ∑ k : Fin 5632, (if h : k.val < 2816 then A ⟨k, h⟩ else B ⟨k - 2816, by omega⟩) * w k = ∑ k, A k * w (lo k) + ∑ k, B k * w (hi k) := by
  refine (Fin.sum_univ_add (a := 2816) (b := 2816) fun k : Fin (2816 + 2816) =>
    (if h : k.val < 2816 then A ⟨k, h⟩ else B ⟨k - 2816, by omega⟩) * w k).trans (congrArg₂ (· + ·) ?_ ?_)
  · refine Finset.sum_congr rfl fun k _ => ?_
    rw [dif_pos (show (Fin.castAdd 2816 k).val < 2816 from k.isLt)]
    rfl
  · refine Finset.sum_congr rfl fun k _ => ?_
    rw [dif_neg (show ¬ (Fin.natAdd 2816 k).val < 2816 by simp)]
    refine congrArg₂ (· * ·) (congrArg B (Fin.ext ?_)) rfl
    simp

/-- All rows, as the rows of each tile. -/
theorem sum_tile (f : Fin 8192 → EReal) : ∑ r, f r = ∑ t : Fin 16, ∑ r : Fin 512, f (row t r) := by
  rw [← Fintype.sum_prod_type']
  refine (Fintype.sum_equiv (finProdFinEquiv (m := 16) (n := 512)) _ _ fun k => congrArg f (Fin.ext ?_)).symm
  simp only [finProdFinEquiv, Equiv.coe_fn_mk, row]; omega

section

open Cert.Reference2Ideal Cert.Reference2Ideal.Gen

/-- The reference's arguments hold the numbers `A`, `B`, `W`, `X`, `G` and `R`. -/
structure GivenR (m : (ℓ : Loc nD τ sig) → Buf (Elt Ideal) ℓ) (c : Dev nD) (A B : Fin 8192 → Fin 2816 → EReal) (W : Fin 5632 → Fin 1024 → EReal)
    (X : Fin 8192 → Fin 1024 → EReal) (G : Fin 1024 → EReal) (R : Fin 8192 → Fin 1024 → EReal) : Prop where
  a : ∀ r k, (m ((c.tc : Thread nD τ).loc main_arg0) : S8192x2816.Idx → EReal) (ix2 r k) = A r k
  b : ∀ r k, (m ((c.tc : Thread nD τ).loc main_arg1) : S8192x2816.Idx → EReal) (ix2 r k) = B r k
  w : ∀ k l, (m ((c.tc : Thread nD τ).loc main_arg2) : S5632x1024.Idx → EReal) (ix2 k l) = W k l
  x : ∀ r l, (m ((c.tc : Thread nD τ).loc main_arg3) : S8192x1024.Idx → EReal) (ix2 r l) = X r l
  g : ∀ l, (m ((c.tc : Thread nD τ).loc main_arg4) : S1024.Idx → EReal) (ix1 l) = G l
  r : ∀ r l, (m ((c.tc : Thread nD τ).loc main_arg5) : S8192x1024.Idx → EReal) (ix2 r l) = R r l

variable {m : (ℓ : Loc nD τ sig) → Buf (Elt Ideal) ℓ} {c : Dev nD} {A B : Fin 8192 → Fin 2816 → EReal} {W : Fin 5632 → Fin 1024 → EReal}
    {X : Fin 8192 → Fin 1024 → EReal} {G : Fin 1024 → EReal} {R : Fin 8192 → Fin 1024 → EReal} (hg : GivenR m c A B W X G R)
include hg

theorem aD_at (r : Fin 8192) (l : Fin 1024) : aD m c (ix2 r l) = dhA A B W r l := by
  refine (qdh_at (qcat_at hg.a hg.b) hg.w r l).trans ?_
  exact sum_cat (A r) (B r) fun k => W k l
theorem aV_at (r : Fin 8192) (z : Fin 1) : aV m c (ix2 r z) = ms (X r) := qms_at hg.x r z
theorem aU_at (r : Fin 8192) (l : Fin 1024) : aU m c (ix2 r l) = dhA A B W r l * G l := qu_at (aD_at hg) hg.g r l
theorem aK_at (r : Fin 8192) (l : Fin 1024) : aK m c (ix2 r l) = kr G (X r) (dhA A B W r) :=
  qk_at hg.x (aU_at hg) (aV_at hg) r l

/-- The gradient of the rows, and the same rounded. -/
theorem ref0 : Value.res_main_v42 m c = fun y : S8192x1024.Idx => (dxA A B W X G R (y 0) (y 1) : EReal) := by
  funext y
  obtain ⟨r, l, rfl⟩ : ∃ (r : Fin 8192) (l : Fin 1024), y = ix2 r l := ⟨y 0, y 1, eq_ix2 y⟩
  exact qdx_at hg.r hg.x (aU_at hg) (aK_at hg) (aV_at hg) r l
theorem ref1 : Value.res_main_v43 m c = fun y : S8192x1024.Idx => (dxA A B W X G R (y 0) (y 1) : EReal) := by
  funext y
  obtain ⟨r, l, rfl⟩ : ∃ (r : Fin 8192) (l : Fin 1024), y = ix2 r l := ⟨y 0, y 1, eq_ix2 y⟩
  exact qdx_at hg.r hg.x (aU_at hg) (aK_at hg) (aV_at hg) r l

/-- The gradient of the gain. -/
theorem ref2 : qsum (mulf (φ := .f32) (qhat (aX m c) (aV m c)) (aD m c)) = fun y : S1x1024.Idx => (∑ t, dgT A B W X t (y 1) : EReal) := by
  funext y
  obtain ⟨l, rfl⟩ := eq_one_row y
  have hs : ∀ r l, mulf (φ := .f32) (qhat (aX m c) (aV m c)) (aD m c) (ix2 r l) = dhA A B W r l * (X r l * rs (X r)) := fun r l => by
    rw [mul_comm]
    exact congrArg₂ (· * ·) (qhat_at hg.x (aV_at hg) r l) (aD_at hg r l)
  refine (qsum_at hs 0 l).trans ?_
  exact sum_tile _

end

theorem frame_p : Cert.quiescent_Kernel2 := fun m ρ _ => Cert.Kernel2.Gen.frame m ρ
theorem frame_pi : Cert.quiescent_Kernel2Ideal := fun m ρ _ => Cert.Kernel2Ideal.Gen.frame m ρ
theorem frame_ri : Cert.quiescent_Reference2Ideal := fun m ρ _ =>
  (θ_run Cert.Reference2Ideal.defs _ _).mono (fun r h => ⟨fun c => (h c).2.2.2, sem_eq_zero_of_no_sems (by decide) r.2⟩)
    (Cert.Reference2Ideal.Value.run (F := Ideal) m ρ)

theorem preserves : Cert.preserves_Kernel2_Kernel2Ideal := trivial

theorem algebraic : Cert.algebraic_Kernel2Ideal_Reference2Ideal := by
  intro m ρ m' ρ' _ hag
  have hk : ∀ c, ∃ A B W X G R, Given m c A B W X G R ∧ GivenR m' c A B W X G R := fun c => by
    obtain ⟨a0, a1, a2, a3, a4, a5⟩ := hag c
    exact ⟨_, _, _, _, _, _, ⟨fun _ _ => rfl, fun _ _ => rfl, fun _ _ => rfl, fun _ _ => rfl, fun _ => rfl, fun _ _ => rfl⟩,
      ⟨fun _ _ => congrFun a0 _, fun _ _ => congrFun a1 _, fun _ _ => congrFun a2 _, fun _ _ => congrFun a3 _, fun _ => congrFun a4 _,
        fun _ _ => congrFun a5 _⟩⟩
  refine ⟨_, _, _, Cert.Kernel2Ideal.Value.run_blocks (F := Ideal) m ρ, ?_⟩
  refine (θ_run Cert.Reference2Ideal.defs _ _).mono (fun r h c => ?_) (Cert.Reference2Ideal.Value.run (F := Ideal) m' ρ')
  obtain ⟨A, B, W, X, G, R, hg, hr⟩ := hk c
  exact ⟨(h c).1.trans ((ref0 hr).trans (final6 hg).symm), (h c).2.1.trans ((ref1 hr).trans (final7 hg).symm),
    (h c).2.2.1.trans ((ref2 hr).trans (final8 hg).symm), (h c).2.2.2⟩

end Cert.Up

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.KernelIdeal.Value
public import proofs.«01_k».proof.Proof.Gen.ReferenceIdeal.Run
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Kernel16
public import proofs.«01_k».proof.Proof.Gen.Kernel16.Frame
public import proofs.«01_k».proof.Proof.Gen.Kernel16Ideal
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Kernel17
public import proofs.«01_k».proof.Proof.Gen.Kernel17.Frame
public import proofs.«01_k».proof.Proof.Gen.Kernel17Ideal
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.UpW
public import proofs.«01_k».proof.Proof.DownW
public import proofs.«01_k».proof.Proof.DownX
public import proofs.«01_k».proof.Proof.InClaims
public import proofs.«01_k».proof.Proof.InW
public import proofs.«01_k».proof.Proof.OutX
public import proofs.«01_k».proof.Proof.OutW
public import proofs.«01_k».proof.Proof.OutUp
public import proofs.«01_k».proof.Proof.InFwd
public import proofs.«01_k».proof.Proof.DownFwd
public import proofs.«01_k».proof.Proof.Loss
public import proofs.«01_k».proof.Proof.ABwd
public import proofs.«01_k».proof.Proof.Mid
public import proofs.«01_k».proof.Proof.AFwd
public import proofs.«01_k».proof.Proof.CFwd
public import proofs.«01_k».proof.Proof.Claims
public import proofs.«01_k».proof.Proof.UpClaims
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, Cert.Kernel17.Gen.facts, Cert.Kernel17Ideal.Gen.facts, Cert.Reference17Ideal.Gen.facts, Cert.Pre_finite.Gen.facts, Sgu.frame_p, Sgu.frame_pi, Sgu.frame_pi_pre, Sgu.frame_ri, Sgu.frame_ri_pre, Up.frame_p, Up.frame_pi, Up.frame_ri, UpW.frame_p, UpW.frame_pi, UpW.frame_ri, DownW.frame_p, DownW.frame_pi, DownW.frame_ri, DownX.frame_p, DownX.frame_pi, DownX.frame_ri, InX.frame_p, InX.frame_pi, InX.frame_ri, InW.frame_p, InW.frame_pi, InW.frame_ri, OutX.frame_p, OutX.frame_pi, OutX.frame_ri, OutW.frame_p, OutW.frame_pi, OutW.frame_ri, OutUp.frame_p, OutUp.frame_pi, OutUp.frame_ri, InFwd.frame_p, InFwd.frame_pi, InFwd.frame_ri, DownFwd.frame_p, DownFwd.frame_pi, DownFwd.frame_ri, Loss.frame_p, Loss.frame_pi, Loss.frame_ri, ABwd.frame_p, ABwd.frame_pi, ABwd.frame_ri, Mid.frame_p, Mid.frame_pi, Mid.frame_ri, AFwd.frame_p, AFwd.frame_pi, AFwd.frame_ri, CFwd.frame_p, CFwd.frame_pi, CFwd.frame_ri, Sgu.preserves, Sgu.algebraic, Up.preserves, Up.algebraic, UpW.preserves, UpW.algebraic, DownW.preserves, DownW.algebraic, DownX.preserves, DownX.algebraic, InX.preserves, InX.algebraic, InW.preserves, InW.algebraic, OutX.preserves, OutX.algebraic, OutW.preserves, OutW.algebraic, OutUp.preserves, OutUp.algebraic, InFwd.preserves, InFwd.algebraic, DownFwd.preserves, DownFwd.algebraic, Loss.preserves, Loss.algebraic, ABwd.preserves, ABwd.algebraic, Mid.preserves, Mid.algebraic, AFwd.preserves, AFwd.algebraic, CFwd.preserves, CFwd.algebraic⟩

end Cert.Proof

end
